-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownReferenceIdeal (hDownReferenceIdeal := hDownReferenceIdeal)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownReferenceIdeal (hDownIdeal := hDownIdeal) (hDownReferenceIdeal := hDownReferenceIdeal)
-- ==== Kernel.lean ====
abbrev S224x4096 : Shape := ⟨2, ![224, 4096]⟩
abbrev S2x112 : Shape := ⟨2, ![2, 112]⟩
abbrev S4096x14336 : Shape := ⟨2, ![4096, 14336]⟩
abbrev S14336 : Shape := ⟨1, ![14336]⟩
abbrev S224 : Shape := ⟨1, ![224]⟩
abbrev S224x1 : Shape := ⟨2, ![224, 1]⟩
abbrev S224x128 : Shape := ⟨2, ![224, 128]⟩
abbrev S1x14336 : Shape := ⟨2, ![1, 14336]⟩
abbrev S28x8x14336 : Shape := ⟨3, ![28, 8, 14336]⟩
abbrev S16x4096x512 : Shape := ⟨3, ![16, 4096, 512]⟩
abbrev S4x224x3584 : Shape := ⟨3, ![4, 224, 3584]⟩
abbrev S112x224x128 : Shape := ⟨3, ![112, 224, 128]⟩
abbrev S28x8x4096 : Shape := ⟨3, ![28, 8, 4096]⟩
abbrev S16 : Shape := ⟨1, ![16]⟩
abbrev S7 : Shape := ⟨1, ![7]⟩
abbrev S1 : Shape := ⟨1, ![1]⟩
abbrev S_ : Shape := ⟨0, ![]⟩
abbrev S1x4096x256 : Shape := ⟨3, ![1, 4096, 256]⟩
abbrev S4096x256 : Shape := ⟨2, ![4096, 256]⟩
abbrev S112x112 : Shape := ⟨2, ![112, 112]⟩
abbrev S1x4096x512 : Shape := ⟨3, ![1, 4096, 512]⟩
abbrev S4096x512 : Shape := ⟨2, ![4096, 512]⟩
abbrev S224x512 : Shape := ⟨2, ![224, 512]⟩
abbrev S224x256 : Shape := ⟨2, ![224, 256]⟩
abbrev S1x256 : Shape := ⟨2, ![1, 256]⟩
abbrev S1x224x128 : Shape := ⟨3, ![1, 224, 128]⟩
abbrev S112x128 : Shape := ⟨2, ![112, 128]⟩
abbrev S112 : Shape := ⟨1, ![112]⟩
abbrev S1x112 : Shape := ⟨2, ![1, 112]⟩
abbrev S28x8x512 : Shape := ⟨3, ![28, 8, 512]⟩
abbrev S1x224x512 : Shape := ⟨3, ![1, 224, 512]⟩

abbrev nBuf : Space → Nat
  | .hbm => 13
  | .vmem => 11
  | .smem => 0
  | _ => 0

abbrev bufTy : (tb : Table) → Fin (tcTables nBuf tb) → BufTy
  | .hbm, ⟨0, _⟩ => ⟨S224x4096, .fp8e4m3⟩
  | .hbm, ⟨1, _⟩ => ⟨S2x112, .f32⟩
  | .hbm, ⟨2, _⟩ => ⟨S4096x14336, .fp8e4m3⟩
  | .hbm, ⟨3, _⟩ => ⟨S14336, .f32⟩
  | .hbm, ⟨4, _⟩ => ⟨S4096x14336, .fp8e4m3⟩
  | .hbm, ⟨5, _⟩ => ⟨S14336, .f32⟩
  | .hbm, ⟨6, _⟩ => ⟨S224, .f32⟩
  | .hbm, ⟨7, _⟩ => ⟨S224x1, .f32⟩
  | .hbm, ⟨8, _⟩ => ⟨S224x128, .f32⟩
  | .hbm, ⟨9, _⟩ => ⟨S1x14336, .f32⟩
  | .hbm, ⟨10, _⟩ => ⟨S1x14336, .f32⟩
  | .hbm, ⟨11, _⟩ => ⟨S28x8x14336, .fp8e4m3⟩
  | .hbm, ⟨12, _⟩ => ⟨S2x112, .f32⟩
  | .local _ .vmem, ⟨0, _⟩ => ⟨S224x4096, .fp8e4m3⟩
  | .local _ .vmem, ⟨1, _⟩ => ⟨S224x128, .f32⟩
  | .local _ .vmem, ⟨2, _⟩ => ⟨S1x14336, .f32⟩
  | .local _ .vmem, ⟨3, _⟩ => ⟨S1x14336, .f32⟩
  | .local _ .vmem, ⟨4, _⟩ => ⟨S2x112, .f32⟩
  | .local _ .vmem, ⟨5, _⟩ => ⟨S16x4096x512, .fp8e4m3⟩
  | .local _ .vmem, ⟨6, _⟩ => ⟨S4x224x3584, .fp8e4m3⟩
  | .local _ .vmem, ⟨7, _⟩ => ⟨S112x224x128, .f32⟩
  | .local _ .vmem, ⟨8, _⟩ => ⟨S28x8x4096, .fp8e4m3⟩
  | .local _ .vmem, ⟨9, _⟩ => ⟨S224x128, .f32⟩
  | .local _ .vmem, ⟨10, _⟩ => ⟨S224x128, .f32⟩
  | _, _ => ⟨S224x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_cond1 : BitVec 1 :=
  let c21_i32_0 : BitVec 32 := 21#32
  let c21_i32_1 : BitVec 32 := 21#32
  let v1 : BitVec 1 := Scalar.cmpi .sge c21_i32_0 c21_i32_1
  let c21_i32_2 : BitVec 32 := 21#32
  let c77_i32 : BitVec 32 := 77#32
  let v2 : BitVec 1 := Scalar.cmpi .slt c21_i32_2 c77_i32
  let v3 : BitVec 1 := Scalar.andi v1 v2
  let v4 : BitVec 32 := Scalar.extui v3
  let c0_i32 : BitVec 32 := 0#32
  let v5 : BitVec 1 := Scalar.cmpi .ne v4 c0_i32
  v5

def k0_mult1 : BitVec 32 :=
  let c21_i32_3 : BitVec 32 := 21#32
  let c21_i32_182 : BitVec 32 := 21#32
  let v188 : BitVec 32 := Scalar.subi c21_i32_3 c21_i32_182
  let c256_i32 : BitVec 32 := 256#32
  let v189 : BitVec 32 := Scalar.muli v188 c256_i32
  v189
def k0_off1 : Fin 1 → Nat :=
  let c21_i32 : BitVec 32 := 21#32
  let c15_i32 : BitVec 32 := 15#32
  let v0 : BitVec 32 := Scalar.andi c21_i32 c15_i32
  ![v0.toNat]
def k0_off2 : Fin 3 → Nat :=
  let c21_i32 : BitVec 32 := 21#32
  let c15_i32 : BitVec 32 := 15#32
  let v0 : BitVec 32 := Scalar.andi c21_i32 c15_i32
  let c0_i32_183 : BitVec 32 := 0#32
  let c0_i32_184 : BitVec 32 := 0#32
  ![v0.toNat, 0, 0]
def k0_off3 : Fin 2 → Nat :=
  let c0_i32_185 : BitVec 32 := 0#32
  let c21_i32_3 : BitVec 32 := 21#32
  let c21_i32_182 : BitVec 32 := 21#32
  let v188 : BitVec 32 := Scalar.subi c21_i32_3 c21_i32_182
  let c256_i32 : BitVec 32 := 256#32
  let v189 : BitVec 32 := Scalar.muli v188 c256_i32
  let v190 : BitVec 32 := v189
  ![0, v190.toNat]
def k0_off4 : Fin 3 → Nat :=
  let c21_i32 : BitVec 32 := 21#32
  let c15_i32 : BitVec 32 := 15#32
  let v0 : BitVec 32 := Scalar.andi c21_i32 c15_i32
  let c0_i32_186 : BitVec 32 := 0#32
  let c256_i32_187 : BitVec 32 := 256#32
  ![v0.toNat, 0, 256]
def k0_cond2 : BitVec 1 :=
  let c22_i32_5 : BitVec 32 := 22#32
  let c21_i32_6 : BitVec 32 := 21#32
  let v7 : BitVec 1 := Scalar.cmpi .sge c22_i32_5 c21_i32_6
  let c22_i32_7 : BitVec 32 := 22#32
  let c77_i32_8 : BitVec 32 := 77#32
  let v8 : BitVec 1 := Scalar.cmpi .slt c22_i32_7 c77_i32_8
  let v9 : BitVec 1 := Scalar.andi v7 v8
  let v10 : BitVec 32 := Scalar.extui v9
  let c0_i32_10 : BitVec 32 := 0#32
  let v11 : BitVec 1 := Scalar.cmpi .ne v10 c0_i32_10
  v11

def k0_mult2 : BitVec 32 :=
  let c22_i32_9 : BitVec 32 := 22#32
  let c21_i32_182 : BitVec 32 := 21#32
  let v188 : BitVec 32 := Scalar.subi c22_i32_9 c21_i32_182
  let c256_i32 : BitVec 32 := 256#32
  let v189 : BitVec 32 := Scalar.muli v188 c256_i32
  v189
def k0_off5 : Fin 1 → Nat :=
  let c22_i32 : BitVec 32 := 22#32
  let c15_i32_4 : BitVec 32 := 15#32
  let v6 : BitVec 32 := Scalar.andi c22_i32 c15_i32_4
  ![v6.toNat]
def k0_off6 : Fin 3 → Nat :=
  let c22_i32 : BitVec 32 := 22#32
  let c15_i32_4 : BitVec 32 := 15#32
  let v6 : BitVec 32 := Scalar.andi c22_i32 c15_i32_4
  let c0_i32_183 : BitVec 32 := 0#32
  let c0_i32_184 : BitVec 32 := 0#32
  ![v6.toNat, 0, 0]
def k0_off7 : Fin 2 → Nat :=
  let c0_i32_185 : BitVec 32 := 0#32
  let c22_i32_9 : BitVec 32 := 22#32
  let c21_i32_182 : BitVec 32 := 21#32
  let v188 : BitVec 32 := Scalar.subi c22_i32_9 c21_i32_182
  let c256_i32 : BitVec 32 := 256#32
  let v189 : BitVec 32 := Scalar.muli v188 c256_i32
  let v190 : BitVec 32 := v189
  ![0, v190.toNat]
def k0_off8 : Fin 3 → Nat :=
  let c22_i32 : BitVec 32 := 22#32
  let c15_i32_4 : BitVec 32 := 15#32
  let v6 : BitVec 32 := Scalar.andi c22_i32 c15_i32_4
  let c0_i32_186 : BitVec 32 := 0#32
  let c256_i32_187 : BitVec 32 := 256#32
  ![v6.toNat, 0, 256]
def k0_cond3 : BitVec 1 :=
  let c23_i32_12 : BitVec 32 := 23#32
  let c21_i32_13 : BitVec 32 := 21#32
  let v13 : BitVec 1 := Scalar.cmpi .sge c23_i32_12 c21_i32_13
  let c23_i32_14 : BitVec 32 := 23#32
  let c77_i32_15 : BitVec 32 := 77#32
  let v14 : BitVec 1 := Scalar.cmpi .slt c23_i32_14 c77_i32_15
  let v15 : BitVec 1 := Scalar.andi v13 v14
  let v16 : BitVec 32 := Scalar.extui v15
  let c0_i32_17 : BitVec 32 := 0#32
  let v17 : BitVec 1 := Scalar.cmpi .ne v16 c0_i32_17
  v17

def k0_mult3 : BitVec 32 :=
  let c23_i32_16 : BitVec 32 := 23#32
  let c21_i32_182 : BitVec 32 := 21#32
  let v188 : BitVec 32 := Scalar.subi c23_i32_16 c21_i32_182
  let c256_i32 : BitVec 32 := 256#32
  let v189 : BitVec 32 := Scalar.muli v188 c256_i32
  v189
def k0_off9 : Fin 1 → Nat :=
  let c23_i32 : BitVec 32 := 23#32
  let c15_i32_11 : BitVec 32 := 15#32
  let v12 : BitVec 32 := Scalar.andi c23_i32 c15_i32_11
  ![v12.toNat]
def k0_off10 : Fin 3 → Nat :=
  let c23_i32 : BitVec 32 := 23#32
  let c15_i32_11 : BitVec 32 := 15#32
  let v12 : BitVec 32 := Scalar.andi c23_i32 c15_i32_11
  let c0_i32_183 : BitVec 32 := 0#32
  let c0_i32_184 : BitVec 32 := 0#32
  ![v12.toNat, 0, 0]
def k0_off11 : Fin 2 → Nat :=
  let c0_i32_185 : BitVec 32 := 0#32
  let c23_i32_16 : BitVec 32 := 23#32
  let c21_i32_182 : BitVec 32 := 21#32
  let v188 : BitVec 32 := Scalar.subi c23_i32_16 c21_i32_182
  let c256_i32 : BitVec 32 := 256#32
  let v189 : BitVec 32 := Scalar.muli v188 c256_i32
  let v190 : BitVec 32 := v189
  ![0, v190.toNat]
def k0_off12 : Fin 3 → Nat :=
  let c23_i32 : BitVec 32 := 23#32
  let c15_i32_11 : BitVec 32 := 15#32
  let v12 : BitVec 32 := Scalar.andi c23_i32 c15_i32_11
  let c0_i32_186 : BitVec 32 := 0#32
  let c256_i32_187 : BitVec 32 := 256#32
  ![v12.toNat, 0, 256]
def k0_cond4 : BitVec 1 :=
  let c24_i32_19 : BitVec 32 := 24#32
  let c21_i32_20 : BitVec 32 := 21#32
  let v19 : BitVec 1 := Scalar.cmpi .sge c24_i32_19 c21_i32_20
  let c24_i32_21 : BitVec 32 := 24#32
  let c77_i32_22 : BitVec 32 := 77#32
  let v20 : BitVec 1 := Scalar.cmpi .slt c24_i32_21 c77_i32_22
  let v21 : BitVec 1 := Scalar.andi v19 v20
  let v22 : BitVec 32 := Scalar.extui v21
  let c0_i32_24 : BitVec 32 := 0#32
  let v23 : BitVec 1 := Scalar.cmpi .ne v22 c0_i32_24
  v23

def k0_mult4 : BitVec 32 :=
  let c24_i32_23 : BitVec 32 := 24#32
  let c21_i32_182 : BitVec 32 := 21#32
  let v188 : BitVec 32 := Scalar.subi c24_i32_23 c21_i32_182
  let c256_i32 : BitVec 32 := 256#32
  let v189 : BitVec 32 := Scalar.muli v188 c256_i32
  v189
def k0_off13 : Fin 1 → Nat :=
  let c24_i32 : BitVec 32 := 24#32
  let c15_i32_18 : BitVec 32 := 15#32
  let v18 : BitVec 32 := Scalar.andi c24_i32 c15_i32_18
  ![v18.toNat]
def k0_off14 : Fin 3 → Nat :=
  let c24_i32 : BitVec 32 := 24#32
  let c15_i32_18 : BitVec 32 := 15#32
  let v18 : BitVec 32 := Scalar.andi c24_i32 c15_i32_18
  let c0_i32_183 : BitVec 32 := 0#32
  let c0_i32_184 : BitVec 32 := 0#32
  ![v18.toNat, 0, 0]
def k0_off15 : Fin 2 → Nat :=
  let c0_i32_185 : BitVec 32 := 0#32
  let c24_i32_23 : BitVec 32 := 24#32
  let c21_i32_182 : BitVec 32 := 21#32
  let v188 : BitVec 32 := Scalar.subi c24_i32_23 c21_i32_182
  let c256_i32 : BitVec 32 := 256#32
  let v189 : BitVec 32 := Scalar.muli v188 c256_i32
  let v190 : BitVec 32 := v189
  ![0, v190.toNat]
def k0_off16 : Fin 3 → Nat :=
  let c24_i32 : BitVec 32 := 24#32
  let c15_i32_18 : BitVec 32 := 15#32
  let v18 : BitVec 32 := Scalar.andi c24_i32 c15_i32_18
  let c0_i32_186 : BitVec 32 := 0#32
  let c256_i32_187 : BitVec 32 := 256#32
  ![v18.toNat, 0, 256]
def k0_cond5 : BitVec 1 :=
  let c25_i32_26 : BitVec 32 := 25#32
  let c21_i32_27 : BitVec 32 := 21#32
  let v25 : BitVec 1 := Scalar.cmpi .sge c25_i32_26 c21_i32_27
  let c25_i32_28 : BitVec 32 := 25#32
  let c77_i32_29 : BitVec 32 := 77#32
  let v26 : BitVec 1 := Scalar.cmpi .slt c25_i32_28 c77_i32_29
  let v27 : BitVec 1 := Scalar.andi v25 v26
  let v28 : BitVec 32 := Scalar.extui v27
  let c0_i32_31 : BitVec 32 := 0#32
  let v29 : BitVec 1 := Scalar.cmpi .ne v28 c0_i32_31
  v29

def k0_mult5 : BitVec 32 :=
  let c25_i32_30 : BitVec 32 := 25#32
  let c21_i32_182 : BitVec 32 := 21#32
  let v188 : BitVec 32 := Scalar.subi c25_i32_30 c21_i32_182
  let c256_i32 : BitVec 32 := 256#32
  let v189 : BitVec 32 := Scalar.muli v188 c256_i32
  v189
def k0_off17 : Fin 1 → Nat :=
  let c25_i32 : BitVec 32 := 25#32
  let c15_i32_25 : BitVec 32 := 15#32
  let v24 : BitVec 32 := Scalar.andi c25_i32 c15_i32_25
  ![v24.toNat]
def k0_off18 : Fin 3 → Nat :=
  let c25_i32 : BitVec 32 := 25#32
  let c15_i32_25 : BitVec 32 := 15#32
  let v24 : BitVec 32 := Scalar.andi c25_i32 c15_i32_25
  let c0_i32_183 : BitVec 32 := 0#32
  let c0_i32_184 : BitVec 32 := 0#32
  ![v24.toNat, 0, 0]
def k0_off19 : Fin 2 → Nat :=
  let c0_i32_185 : BitVec 32 := 0#32
  let c25_i32_30 : BitVec 32 := 25#32
  let c21_i32_182 : BitVec 32 := 21#32
  let v188 : BitVec 32 := Scalar.subi c25_i32_30 c21_i32_182
  let c256_i32 : BitVec 32 := 256#32
  let v189 : BitVec 32 := Scalar.muli v188 c256_i32
  let v190 : BitVec 32 := v189
  ![0, v190.toNat]
def k0_off20 : Fin 3 → Nat :=
  let c25_i32 : BitVec 32 := 25#32
  let c15_i32_25 : BitVec 32 := 15#32
  let v24 : BitVec 32 := Scalar.andi c25_i32 c15_i32_25
  let c0_i32_186 : BitVec 32 := 0#32
  let c256_i32_187 : BitVec 32 := 256#32
  ![v24.toNat, 0, 256]
def k0_cond6 : BitVec 1 :=
  let c26_i32_33 : BitVec 32 := 26#32
  let c21_i32_34 : BitVec 32 := 21#32
  let v31 : BitVec 1 := Scalar.cmpi .sge c26_i32_33 c21_i32_34
  let c26_i32_35 : BitVec 32 := 26#32
  let c77_i32_36 : BitVec 32 := 77#32
  let v32 : BitVec 1 := Scalar.cmpi .slt c26_i32_35 c77_i32_36
  let v33 : BitVec 1 := Scalar.andi v31 v32
  let v34 : BitVec 32 := Scalar.extui v33
  let c0_i32_38 : BitVec 32 := 0#32
  let v35 : BitVec 1 := Scalar.cmpi .ne v34 c0_i32_38
  v35

def k0_mult6 : BitVec 32 :=
  let c26_i32_37 : BitVec 32 := 26#32
  let c21_i32_182 : BitVec 32 := 21#32
  let v188 : BitVec 32 := Scalar.subi c26_i32_37 c21_i32_182
  let c256_i32 : BitVec 32 := 256#32
  let v189 : BitVec 32 := Scalar.muli v188 c256_i32
  v189
def k0_off21 : Fin 1 → Nat :=
  let c26_i32 : BitVec 32 := 26#32
  let c15_i32_32 : BitVec 32 := 15#32
  let v30 : BitVec 32 := Scalar.andi c26_i32 c15_i32_32
  ![v30.toNat]
def k0_off22 : Fin 3 → Nat :=
  let c26_i32 : BitVec 32 := 26#32
  let c15_i32_32 : BitVec 32 := 15#32
  let v30 : BitVec 32 := Scalar.andi c26_i32 c15_i32_32
  let c0_i32_183 : BitVec 32 := 0#32
  let c0_i32_184 : BitVec 32 := 0#32
  ![v30.toNat, 0, 0]
def k0_off23 : Fin 2 → Nat :=
  let c0_i32_185 : BitVec 32 := 0#32
  let c26_i32_37 : BitVec 32 := 26#32
  let c21_i32_182 : BitVec 32 := 21#32
  let v188 : BitVec 32 := Scalar.subi c26_i32_37 c21_i32_182
  let c256_i32 : BitVec 32 := 256#32
  let v189 : BitVec 32 := Scalar.muli v188 c256_i32
  let v190 : BitVec 32 := v189
  ![0, v190.toNat]
def k0_off24 : Fin 3 → Nat :=
  let c26_i32 : BitVec 32 := 26#32
  let c15_i32_32 : BitVec 32 := 15#32
  let v30 : BitVec 32 := Scalar.andi c26_i32 c15_i32_32
  let c0_i32_186 : BitVec 32 := 0#32
  let c256_i32_187 : BitVec 32 := 256#32
  ![v30.toNat, 0, 256]
def k0_cond7 : BitVec 1 :=
  let c27_i32_40 : BitVec 32 := 27#32
  let c21_i32_41 : BitVec 32 := 21#32
  let v37 : BitVec 1 := Scalar.cmpi .sge c27_i32_40 c21_i32_41
  let c27_i32_42 : BitVec 32 := 27#32
  let c77_i32_43 : BitVec 32 := 77#32
  let v38 : BitVec 1 := Scalar.cmpi .slt c27_i32_42 c77_i32_43
  let v39 : BitVec 1 := Scalar.andi v37 v38
  let v40 : BitVec 32 := Scalar.extui v39
  let c0_i32_45 : BitVec 32 := 0#32
  let v41 : BitVec 1 := Scalar.cmpi .ne v40 c0_i32_45
  v41

def k0_mult7 : BitVec 32 :=
  let c27_i32_44 : BitVec 32 := 27#32
  let c21_i32_182 : BitVec 32 := 21#32
  let v188 : BitVec 32 := Scalar.subi c27_i32_44 c21_i32_182
  let c256_i32 : BitVec 32 := 256#32
  let v189 : BitVec 32 := Scalar.muli v188 c256_i32
  v189
def k0_off25 : Fin 1 → Nat :=
  let c27_i32 : BitVec 32 := 27#32
  let c15_i32_39 : BitVec 32 := 15#32
  let v36 : BitVec 32 := Scalar.andi c27_i32 c15_i32_39
  ![v36.toNat]
def k0_off26 : Fin 3 → Nat :=
  let c27_i32 : BitVec 32 := 27#32
  let c15_i32_39 : BitVec 32 := 15#32
  let v36 : BitVec 32 := Scalar.andi c27_i32 c15_i32_39
  let c0_i32_183 : BitVec 32 := 0#32
  let c0_i32_184 : BitVec 32 := 0#32
  ![v36.toNat, 0, 0]
def k0_off27 : Fin 2 → Nat :=
  let c0_i32_185 : BitVec 32 := 0#32
  let c27_i32_44 : BitVec 32 := 27#32
  let c21_i32_182 : BitVec 32 := 21#32
  let v188 : BitVec 32 := Scalar.subi c27_i32_44 c21_i32_182
  let c256_i32 : BitVec 32 := 256#32
  let v189 : BitVec 32 := Scalar.muli v188 c256_i32
  let v190 : BitVec 32 := v189
  ![0, v190.toNat]
def k0_off28 : Fin 3 → Nat :=
  let c27_i32 : BitVec 32 := 27#32
  let c15_i32_39 : BitVec 32 := 15#32
  let v36 : BitVec 32 := Scalar.andi c27_i32 c15_i32_39
  let c0_i32_186 : BitVec 32 := 0#32
  let c256_i32_187 : BitVec 32 := 256#32
  ![v36.toNat, 0, 256]
def k0_cond8 : BitVec 1 :=
  let c28_i32_47 : BitVec 32 := 28#32
  let c21_i32_48 : BitVec 32 := 21#32
  let v43 : BitVec 1 := Scalar.cmpi .sge c28_i32_47 c21_i32_48
  let c28_i32_49 : BitVec 32 := 28#32
  let c77_i32_50 : BitVec 32 := 77#32
  let v44 : BitVec 1 := Scalar.cmpi .slt c28_i32_49 c77_i32_50
  let v45 : BitVec 1 := Scalar.andi v43 v44
  let v46 : BitVec 32 := Scalar.extui v45
  let c0_i32_52 : BitVec 32 := 0#32
  let v47 : BitVec 1 := Scalar.cmpi .ne v46 c0_i32_52
  v47

def k0_mult8 : BitVec 32 :=
  let c28_i32_51 : BitVec 32 := 28#32
  let c21_i32_182 : BitVec 32 := 21#32
  let v188 : BitVec 32 := Scalar.subi c28_i32_51 c21_i32_182
  let c256_i32 : BitVec 32 := 256#32
  let v189 : BitVec 32 := Scalar.muli v188 c256_i32
  v189
def k0_off29 : Fin 1 → Nat :=
  let c28_i32 : BitVec 32 := 28#32
  let c15_i32_46 : BitVec 32 := 15#32
  let v42 : BitVec 32 := Scalar.andi c28_i32 c15_i32_46
  ![v42.toNat]
def k0_off30 : Fin 3 → Nat :=
  let c28_i32 : BitVec 32 := 28#32
  let c15_i32_46 : BitVec 32 := 15#32
  let v42 : BitVec 32 := Scalar.andi c28_i32 c15_i32_46
  let c0_i32_183 : BitVec 32 := 0#32
  let c0_i32_184 : BitVec 32 := 0#32
  ![v42.toNat, 0, 0]
def k0_off31 : Fin 2 → Nat :=
  let c0_i32_185 : BitVec 32 := 0#32
  let c28_i32_51 : BitVec 32 := 28#32
  let c21_i32_182 : BitVec 32 := 21#32
  let v188 : BitVec 32 := Scalar.subi c28_i32_51 c21_i32_182
  let c256_i32 : BitVec 32 := 256#32
  let v189 : BitVec 32 := Scalar.muli v188 c256_i32
  let v190 : BitVec 32 := v189
  ![0, v190.toNat]
def k0_off32 : Fin 3 → Nat :=
  let c28_i32 : BitVec 32 := 28#32
  let c15_i32_46 : BitVec 32 := 15#32
  let v42 : BitVec 32 := Scalar.andi c28_i32 c15_i32_46
  let c0_i32_186 : BitVec 32 := 0#32
  let c256_i32_187 : BitVec 32 := 256#32
  ![v42.toNat, 0, 256]
def k0_cond9 : BitVec 1 :=
  let c29_i32_54 : BitVec 32 := 29#32
  let c21_i32_55 : BitVec 32 := 21#32
  let v49 : BitVec 1 := Scalar.cmpi .sge c29_i32_54 c21_i32_55
  let c29_i32_56 : BitVec 32 := 29#32
  let c77_i32_57 : BitVec 32 := 77#32
  let v50 : BitVec 1 := Scalar.cmpi .slt c29_i32_56 c77_i32_57
  let v51 : BitVec 1 := Scalar.andi v49 v50
  let v52 : BitVec 32 := Scalar.extui v51
  let c0_i32_59 : BitVec 32 := 0#32
  let v53 : BitVec 1 := Scalar.cmpi .ne v52 c0_i32_59
  v53

def k0_mult9 : BitVec 32 :=
  let c29_i32_58 : BitVec 32 := 29#32
  let c21_i32_182 : BitVec 32 := 21#32
  let v188 : BitVec 32 := Scalar.subi c29_i32_58 c21_i32_182
  let c256_i32 : BitVec 32 := 256#32
  let v189 : BitVec 32 := Scalar.muli v188 c256_i32
  v189
def k0_off33 : Fin 1 → Nat :=
  let c29_i32 : BitVec 32 := 29#32
  let c15_i32_53 : BitVec 32 := 15#32
  let v48 : BitVec 32 := Scalar.andi c29_i32 c15_i32_53
  ![v48.toNat]
def k0_off34 : Fin 3 → Nat :=
  let c29_i32 : BitVec 32 := 29#32
  let c15_i32_53 : BitVec 32 := 15#32
  let v48 : BitVec 32 := Scalar.andi c29_i32 c15_i32_53
  let c0_i32_183 : BitVec 32 := 0#32
  let c0_i32_184 : BitVec 32 := 0#32
  ![v48.toNat, 0, 0]
def k0_off35 : Fin 2 → Nat :=
  let c0_i32_185 : BitVec 32 := 0#32
  let c29_i32_58 : BitVec 32 := 29#32
  let c21_i32_182 : BitVec 32 := 21#32
  let v188 : BitVec 32 := Scalar.subi c29_i32_58 c21_i32_182
  let c256_i32 : BitVec 32 := 256#32
  let v189 : BitVec 32 := Scalar.muli v188 c256_i32
  let v190 : BitVec 32 := v189
  ![0, v190.toNat]
def k0_off36 : Fin 3 → Nat :=
  let c29_i32 : BitVec 32 := 29#32
  let c15_i32_53 : BitVec 32 := 15#32
  let v48 : BitVec 32 := Scalar.andi c29_i32 c15_i32_53
  let c0_i32_186 : BitVec 32 := 0#32
  let c256_i32_187 : BitVec 32 := 256#32
  ![v48.toNat, 0, 256]
def k0_cond10 : BitVec 1 :=
  let c30_i32_61 : BitVec 32 := 30#32
  let c21_i32_62 : BitVec 32 := 21#32
  let v55 : BitVec 1 := Scalar.cmpi .sge c30_i32_61 c21_i32_62
  let c30_i32_63 : BitVec 32 := 30#32
  let c77_i32_64 : BitVec 32 := 77#32
  let v56 : BitVec 1 := Scalar.cmpi .slt c30_i32_63 c77_i32_64
  let v57 : BitVec 1 := Scalar.andi v55 v56
  let v58 : BitVec 32 := Scalar.extui v57
  let c0_i32_66 : BitVec 32 := 0#32
  let v59 : BitVec 1 := Scalar.cmpi .ne v58 c0_i32_66
  v59

def k0_mult10 : BitVec 32 :=
  let c30_i32_65 : BitVec 32 := 30#32
  let c21_i32_182 : BitVec 32 := 21#32
  let v188 : BitVec 32 := Scalar.subi c30_i32_65 c21_i32_182
  let c256_i32 : BitVec 32 := 256#32
  let v189 : BitVec 32 := Scalar.muli v188 c256_i32
  v189
def k0_off37 : Fin 1 → Nat :=
  let c30_i32 : BitVec 32 := 30#32
  let c15_i32_60 : BitVec 32 := 15#32
  let v54 : BitVec 32 := Scalar.andi c30_i32 c15_i32_60
  ![v54.toNat]
def k0_off38 : Fin 3 → Nat :=
  let c30_i32 : BitVec 32 := 30#32
  let c15_i32_60 : BitVec 32 := 15#32
  let v54 : BitVec 32 := Scalar.andi c30_i32 c15_i32_60
  let c0_i32_183 : BitVec 32 := 0#32
  let c0_i32_184 : BitVec 32 := 0#32
  ![v54.toNat, 0, 0]
def k0_off39 : Fin 2 → Nat :=
  let c0_i32_185 : BitVec 32 := 0#32
  let c30_i32_65 : BitVec 32 := 30#32
  let c21_i32_182 : BitVec 32 := 21#32
  let v188 : BitVec 32 := Scalar.subi c30_i32_65 c21_i32_182
  let c256_i32 : BitVec 32 := 256#32
  let v189 : BitVec 32 := Scalar.muli v188 c256_i32
  let v190 : BitVec 32 := v189
  ![0, v190.toNat]
def k0_off40 : Fin 3 → Nat :=
  let c30_i32 : BitVec 32 := 30#32
  let c15_i32_60 : BitVec 32 := 15#32
  let v54 : BitVec 32 := Scalar.andi c30_i32 c15_i32_60
  let c0_i32_186 : BitVec 32 := 0#32
  let c256_i32_187 : BitVec 32 := 256#32
  ![v54.toNat, 0, 256]
def k0_cond11 : BitVec 1 :=
  let c31_i32_68 : BitVec 32 := 31#32
  let c21_i32_69 : BitVec 32 := 21#32
  let v61 : BitVec 1 := Scalar.cmpi .sge c31_i32_68 c21_i32_69
  let c31_i32_70 : BitVec 32 := 31#32
  let c77_i32_71 : BitVec 32 := 77#32
  let v62 : BitVec 1 := Scalar.cmpi .slt c31_i32_70 c77_i32_71
  let v63 : BitVec 1 := Scalar.andi v61 v62
  let v64 : BitVec 32 := Scalar.extui v63
  let c0_i32_73 : BitVec 32 := 0#32
  let v65 : BitVec 1 := Scalar.cmpi .ne v64 c0_i32_73
  v65

def k0_mult11 : BitVec 32 :=
  let c31_i32_72 : BitVec 32 := 31#32
  let c21_i32_182 : BitVec 32 := 21#32
  let v188 : BitVec 32 := Scalar.subi c31_i32_72 c21_i32_182
  let c256_i32 : BitVec 32 := 256#32
  let v189 : BitVec 32 := Scalar.muli v188 c256_i32
  v189
def k0_off41 : Fin 1 → Nat :=
  let c31_i32 : BitVec 32 := 31#32
  let c15_i32_67 : BitVec 32 := 15#32
  let v60 : BitVec 32 := Scalar.andi c31_i32 c15_i32_67
  ![v60.toNat]
def k0_off42 : Fin 3 → Nat :=
  let c31_i32 : BitVec 32 := 31#32
  let c15_i32_67 : BitVec 32 := 15#32
  let v60 : BitVec 32 := Scalar.andi c31_i32 c15_i32_67
  let c0_i32_183 : BitVec 32 := 0#32
  let c0_i32_184 : BitVec 32 := 0#32
  ![v60.toNat, 0, 0]
def k0_off43 : Fin 2 → Nat :=
  let c0_i32_185 : BitVec 32 := 0#32
  let c31_i32_72 : BitVec 32 := 31#32
  let c21_i32_182 : BitVec 32 := 21#32
  let v188 : BitVec 32 := Scalar.subi c31_i32_72 c21_i32_182
  let c256_i32 : BitVec 32 := 256#32
  let v189 : BitVec 32 := Scalar.muli v188 c256_i32
  let v190 : BitVec 32 := v189
  ![0, v190.toNat]
def k0_off44 : Fin 3 → Nat :=
  let c31_i32 : BitVec 32 := 31#32
  let c15_i32_67 : BitVec 32 := 15#32
  let v60 : BitVec 32 := Scalar.andi c31_i32 c15_i32_67
  let c0_i32_186 : BitVec 32 := 0#32
  let c256_i32_187 : BitVec 32 := 256#32
  ![v60.toNat, 0, 256]
def k0_cond12 : BitVec 1 :=
  let c32_i32_75 : BitVec 32 := 32#32
  let c21_i32_76 : BitVec 32 := 21#32
  let v67 : BitVec 1 := Scalar.cmpi .sge c32_i32_75 c21_i32_76
  let c32_i32_77 : BitVec 32 := 32#32
  let c77_i32_78 : BitVec 32 := 77#32
  let v68 : BitVec 1 := Scalar.cmpi .slt c32_i32_77 c77_i32_78
  let v69 : BitVec 1 := Scalar.andi v67 v68
  let v70 : BitVec 32 := Scalar.extui v69
  let c0_i32_80 : BitVec 32 := 0#32
  let v71 : BitVec 1 := Scalar.cmpi .ne v70 c0_i32_80
  v71

def k0_mult12 : BitVec 32 :=
  let c32_i32_79 : BitVec 32 := 32#32
  let c21_i32_182 : BitVec 32 := 21#32
  let v188 : BitVec 32 := Scalar.subi c32_i32_79 c21_i32_182
  let c256_i32 : BitVec 32 := 256#32
  let v189 : BitVec 32 := Scalar.muli v188 c256_i32
  v189
def k0_off45 : Fin 1 → Nat :=
  let c32_i32 : BitVec 32 := 32#32
  let c15_i32_74 : BitVec 32 := 15#32
  let v66 : BitVec 32 := Scalar.andi c32_i32 c15_i32_74
  ![v66.toNat]
def k0_off46 : Fin 3 → Nat :=
  let c32_i32 : BitVec 32 := 32#32
  let c15_i32_74 : BitVec 32 := 15#32
  let v66 : BitVec 32 := Scalar.andi c32_i32 c15_i32_74
  let c0_i32_183 : BitVec 32 := 0#32
  let c0_i32_184 : BitVec 32 := 0#32
  ![v66.toNat, 0, 0]
def k0_off47 : Fin 2 → Nat :=
  let c0_i32_185 : BitVec 32 := 0#32
  let c32_i32_79 : BitVec 32 := 32#32
  let c21_i32_182 : BitVec 32 := 21#32
  let v188 : BitVec 32 := Scalar.subi c32_i32_79 c21_i32_182
  let c256_i32 : BitVec 32 := 256#32
  let v189 : BitVec 32 := Scalar.muli v188 c256_i32
  let v190 : BitVec 32 := v189
  ![0, v190.toNat]
def k0_off48 : Fin 3 → Nat :=
  let c32_i32 : BitVec 32 := 32#32
  let c15_i32_74 : BitVec 32 := 15#32
  let v66 : BitVec 32 := Scalar.andi c32_i32 c15_i32_74
  let c0_i32_186 : BitVec 32 := 0#32
  let c256_i32_187 : BitVec 32 := 256#32
  ![v66.toNat, 0, 256]
def k0_cond13 : BitVec 1 :=
  let c33_i32_82 : BitVec 32 := 33#32
  let c21_i32_83 : BitVec 32 := 21#32
  let v73 : BitVec 1 := Scalar.cmpi .sge c33_i32_82 c21_i32_83
  let c33_i32_84 : BitVec 32 := 33#32
  let c77_i32_85 : BitVec 32 := 77#32
  let v74 : BitVec 1 := Scalar.cmpi .slt c33_i32_84 c77_i32_85
  let v75 : BitVec 1 := Scalar.andi v73 v74
  let v76 : BitVec 32 := Scalar.extui v75
  let c0_i32_87 : BitVec 32 := 0#32
  let v77 : BitVec 1 := Scalar.cmpi .ne v76 c0_i32_87
  v77

def k0_mult13 : BitVec 32 :=
  let c33_i32_86 : BitVec 32 := 33#32
  let c21_i32_182 : BitVec 32 := 21#32
  let v188 : BitVec 32 := Scalar.subi c33_i32_86 c21_i32_182
  let c256_i32 : BitVec 32 := 256#32
  let v189 : BitVec 32 := Scalar.muli v188 c256_i32
  v189
def k0_off49 : Fin 1 → Nat :=
  let c33_i32 : BitVec 32 := 33#32
  let c15_i32_81 : BitVec 32 := 15#32
  let v72 : BitVec 32 := Scalar.andi c33_i32 c15_i32_81
  ![v72.toNat]
def k0_off50 : Fin 3 → Nat :=
  let c33_i32 : BitVec 32 := 33#32
  let c15_i32_81 : BitVec 32 := 15#32
  let v72 : BitVec 32 := Scalar.andi c33_i32 c15_i32_81
  let c0_i32_183 : BitVec 32 := 0#32
  let c0_i32_184 : BitVec 32 := 0#32
  ![v72.toNat, 0, 0]
def k0_off51 : Fin 2 → Nat :=
  let c0_i32_185 : BitVec 32 := 0#32
  let c33_i32_86 : BitVec 32 := 33#32
  let c21_i32_182 : BitVec 32 := 21#32
  let v188 : BitVec 32 := Scalar.subi c33_i32_86 c21_i32_182
  let c256_i32 : BitVec 32 := 256#32
  let v189 : BitVec 32 := Scalar.muli v188 c256_i32
  let v190 : BitVec 32 := v189
  ![0, v190.toNat]
def k0_off52 : Fin 3 → Nat :=
  let c33_i32 : BitVec 32 := 33#32
  let c15_i32_81 : BitVec 32 := 15#32
  let v72 : BitVec 32 := Scalar.andi c33_i32 c15_i32_81
  let c0_i32_186 : BitVec 32 := 0#32
  let c256_i32_187 : BitVec 32 := 256#32
  ![v72.toNat, 0, 256]
def k0_cond14 : BitVec 1 :=
  let c34_i32_89 : BitVec 32 := 34#32
  let c21_i32_90 : BitVec 32 := 21#32
  let v79 : BitVec 1 := Scalar.cmpi .sge c34_i32_89 c21_i32_90
  let c34_i32_91 : BitVec 32 := 34#32
  let c77_i32_92 : BitVec 32 := 77#32
  let v80 : BitVec 1 := Scalar.cmpi .slt c34_i32_91 c77_i32_92
  let v81 : BitVec 1 := Scalar.andi v79 v80
  let v82 : BitVec 32 := Scalar.extui v81
  let c0_i32_94 : BitVec 32 := 0#32
  let v83 : BitVec 1 := Scalar.cmpi .ne v82 c0_i32_94
  v83

def k0_mult14 : BitVec 32 :=
  let c34_i32_93 : BitVec 32 := 34#32
  let c21_i32_182 : BitVec 32 := 21#32
  let v188 : BitVec 32 := Scalar.subi c34_i32_93 c21_i32_182
  let c256_i32 : BitVec 32 := 256#32
  let v189 : BitVec 32 := Scalar.muli v188 c256_i32
  v189
def k0_off53 : Fin 1 → Nat :=
  let c34_i32 : BitVec 32 := 34#32
  let c15_i32_88 : BitVec 32 := 15#32
  let v78 : BitVec 32 := Scalar.andi c34_i32 c15_i32_88
  ![v78.toNat]
def k0_off54 : Fin 3 → Nat :=
  let c34_i32 : BitVec 32 := 34#32
  let c15_i32_88 : BitVec 32 := 15#32
  let v78 : BitVec 32 := Scalar.andi c34_i32 c15_i32_88
  let c0_i32_183 : BitVec 32 := 0#32
  let c0_i32_184 : BitVec 32 := 0#32
  ![v78.toNat, 0, 0]
def k0_off55 : Fin 2 → Nat :=
  let c0_i32_185 : BitVec 32 := 0#32
  let c34_i32_93 : BitVec 32 := 34#32
  let c21_i32_182 : BitVec 32 := 21#32
  let v188 : BitVec 32 := Scalar.subi c34_i32_93 c21_i32_182
  let c256_i32 : BitVec 32 := 256#32
  let v189 : BitVec 32 := Scalar.muli v188 c256_i32
  let v190 : BitVec 32 := v189
  ![0, v190.toNat]
def k0_off56 : Fin 3 → Nat :=
  let c34_i32 : BitVec 32 := 34#32
  let c15_i32_88 : BitVec 32 := 15#32
  let v78 : BitVec 32 := Scalar.andi c34_i32 c15_i32_88
  let c0_i32_186 : BitVec 32 := 0#32
  let c256_i32_187 : BitVec 32 := 256#32
  ![v78.toNat, 0, 256]
def k0_cond15 : BitVec 1 :=
  let c35_i32_96 : BitVec 32 := 35#32
  let c21_i32_97 : BitVec 32 := 21#32
  let v85 : BitVec 1 := Scalar.cmpi .sge c35_i32_96 c21_i32_97
  let c35_i32_98 : BitVec 32 := 35#32
  let c77_i32_99 : BitVec 32 := 77#32
  let v86 : BitVec 1 := Scalar.cmpi .slt c35_i32_98 c77_i32_99
  let v87 : BitVec 1 := Scalar.andi v85 v86
  let v88 : BitVec 32 := Scalar.extui v87
  let c0_i32_101 : BitVec 32 := 0#32
  let v89 : BitVec 1 := Scalar.cmpi .ne v88 c0_i32_101
  v89

def k0_mult15 : BitVec 32 :=
  let c35_i32_100 : BitVec 32 := 35#32
  let c21_i32_182 : BitVec 32 := 21#32
  let v188 : BitVec 32 := Scalar.subi c35_i32_100 c21_i32_182
  let c256_i32 : BitVec 32 := 256#32
  let v189 : BitVec 32 := Scalar.muli v188 c256_i32
  v189
def k0_off57 : Fin 1 → Nat :=
  let c35_i32 : BitVec 32 := 35#32
  let c15_i32_95 : BitVec 32 := 15#32
  let v84 : BitVec 32 := Scalar.andi c35_i32 c15_i32_95
  ![v84.toNat]
def k0_off58 : Fin 3 → Nat :=
  let c35_i32 : BitVec 32 := 35#32
  let c15_i32_95 : BitVec 32 := 15#32
  let v84 : BitVec 32 := Scalar.andi c35_i32 c15_i32_95
  let c0_i32_183 : BitVec 32 := 0#32
  let c0_i32_184 : BitVec 32 := 0#32
  ![v84.toNat, 0, 0]
def k0_off59 : Fin 2 → Nat :=
  let c0_i32_185 : BitVec 32 := 0#32
  let c35_i32_100 : BitVec 32 := 35#32
  let c21_i32_182 : BitVec 32 := 21#32
  let v188 : BitVec 32 := Scalar.subi c35_i32_100 c21_i32_182
  let c256_i32 : BitVec 32 := 256#32
  let v189 : BitVec 32 := Scalar.muli v188 c256_i32
  let v190 : BitVec 32 := v189
  ![0, v190.toNat]
def k0_off60 : Fin 3 → Nat :=
  let c35_i32 : BitVec 32 := 35#32
  let c15_i32_95 : BitVec 32 := 15#32
  let v84 : BitVec 32 := Scalar.andi c35_i32 c15_i32_95
  let c0_i32_186 : BitVec 32 := 0#32
  let c256_i32_187 : BitVec 32 := 256#32
  ![v84.toNat, 0, 256]
@[reducible] def k0_t1_loop : Scf.Loop 32 :=
  let c0_i32_107 : BitVec 32 := 0#32
  let c28_i32_108 : BitVec 32 := 28#32
  let v102 : BitVec 32 := Scalar.addi c0_i32_107 c28_i32_108
  let c1_i32 : BitVec 32 := 1#32
  ⟨c0_i32_107, v102, c1_i32⟩
def k0_cond16 (k0_t1 : Fin k0_t1_loop.trips) : BitVec 1 :=
  let c21_i32_184 : BitVec 32 := 21#32
  let c2_i32_182 : BitVec 32 := 2#32
  let c0_i32_107 : BitVec 32 := 0#32
  let c1_i32 : BitVec 32 := 1#32
  let arg16 : BitVec 32 := Scf.iv c0_i32_107 c1_i32 k0_t1
  let v188 : BitVec 32 := Scalar.muli c2_i32_182 arg16
  let c0_i32_183 : BitVec 32 := 0#32
  let v189 : BitVec 32 := Scalar.addi v188 c0_i32_183
  let v190 : BitVec 32 := Scalar.addi c21_i32_184 v189
  let c0_i32_186 : BitVec 32 := 0#32
  let v192 : BitVec 1 := Scalar.cmpi .sgt v190 c0_i32_186
  let v193 : BitVec 32 := Scalar.extui v192
  let c0_i32_187 : BitVec 32 := 0#32
  let v194 : BitVec 1 := Scalar.cmpi .ne v193 c0_i32_187
  v194

def k0_cond17 (k0_t1 : Fin k0_t1_loop.trips) : BitVec 1 :=
  let c21_i32_184 : BitVec 32 := 21#32
  let c2_i32_182 : BitVec 32 := 2#32
  let c0_i32_107 : BitVec 32 := 0#32
  let c1_i32 : BitVec 32 := 1#32
  let arg16 : BitVec 32 := Scf.iv c0_i32_107 c1_i32 k0_t1
  let v188 : BitVec 32 := Scalar.muli c2_i32_182 arg16
  let c0_i32_183 : BitVec 32 := 0#32
  let v189 : BitVec 32 := Scalar.addi v188 c0_i32_183
  let v190 : BitVec 32 := Scalar.addi c21_i32_184 v189
  let c1_i32_255 : BitVec 32 := 1#32
  let v328 : BitVec 32 := Scalar.subi v190 c1_i32_255
  let c16_i32 : BitVec 32 := 16#32
  let v329 : BitVec 32 := Scalar.addi v328 c16_i32
  let c21_i32_257 : BitVec 32 := 21#32
  let v331 : BitVec 1 := Scalar.cmpi .sge v329 c21_i32_257
  let c77_i32_258 : BitVec 32 := 77#32
  let v332 : BitVec 1 := Scalar.cmpi .slt v329 c77_i32_258
  let v333 : BitVec 1 := Scalar.andi v331 v332
  let v334 : BitVec 32 := Scalar.extui v333
  let c0_i32_259 : BitVec 32 := 0#32
  let v335 : BitVec 1 := Scalar.cmpi .ne v334 c0_i32_259
  v335

def k0_mult16 (k0_t1 : Fin k0_t1_loop.trips) : BitVec 32 :=
  let c21_i32_184 : BitVec 32 := 21#32
  let c2_i32_182 : BitVec 32 := 2#32
  let c0_i32_107 : BitVec 32 := 0#32
  let c1_i32 : BitVec 32 := 1#32
  let arg16 : BitVec 32 := Scf.iv c0_i32_107 c1_i32 k0_t1
  let v188 : BitVec 32 := Scalar.muli c2_i32_182 arg16
  let c0_i32_183 : BitVec 32 := 0#32
  let v189 : BitVec 32 := Scalar.addi v188 c0_i32_183
  let v190 : BitVec 32 := Scalar.addi c21_i32_184 v189
  let c1_i32_255 : BitVec 32 := 1#32
  let v328 : BitVec 32 := Scalar.subi v190 c1_i32_255
  let c16_i32 : BitVec 32 := 16#32
  let v329 : BitVec 32 := Scalar.addi v328 c16_i32
  let c21_i32_260 : BitVec 32 := 21#32
  let v336 : BitVec 32 := Scalar.subi v329 c21_i32_260
  let c256_i32_261 : BitVec 32 := 256#32
  let v337 : BitVec 32 := Scalar.muli v336 c256_i32_261
  v337
def k0_off61 (k0_t1 : Fin k0_t1_loop.trips) : Fin 1 → Nat :=
  let c21_i32_184 : BitVec 32 := 21#32
  let c2_i32_182 : BitVec 32 := 2#32
  let c0_i32_107 : BitVec 32 := 0#32
  let c1_i32 : BitVec 32 := 1#32
  let arg16 : BitVec 32 := Scf.iv c0_i32_107 c1_i32 k0_t1
  let v188 : BitVec 32 := Scalar.muli c2_i32_182 arg16
  let c0_i32_183 : BitVec 32 := 0#32
  let v189 : BitVec 32 := Scalar.addi v188 c0_i32_183
  let v190 : BitVec 32 := Scalar.addi c21_i32_184 v189
  let c1_i32_255 : BitVec 32 := 1#32
  let v328 : BitVec 32 := Scalar.subi v190 c1_i32_255
  let c16_i32 : BitVec 32 := 16#32
  let v329 : BitVec 32 := Scalar.addi v328 c16_i32
  let c15_i32_256 : BitVec 32 := 15#32
  let v330 : BitVec 32 := Scalar.andi v329 c15_i32_256
  ![v330.toNat]
def k0_off62 (k0_t1 : Fin k0_t1_loop.trips) : Fin 3 → Nat :=
  let c21_i32_184 : BitVec 32 := 21#32
  let c2_i32_182 : BitVec 32 := 2#32
  let c0_i32_107 : BitVec 32 := 0#32
  let c1_i32 : BitVec 32 := 1#32
  let arg16 : BitVec 32 := Scf.iv c0_i32_107 c1_i32 k0_t1
  let v188 : BitVec 32 := Scalar.muli c2_i32_182 arg16
  let c0_i32_183 : BitVec 32 := 0#32
  let v189 : BitVec 32 := Scalar.addi v188 c0_i32_183
  let v190 : BitVec 32 := Scalar.addi c21_i32_184 v189
  let c1_i32_255 : BitVec 32 := 1#32
  let v328 : BitVec 32 := Scalar.subi v190 c1_i32_255
  let c16_i32 : BitVec 32 := 16#32
  let v329 : BitVec 32 := Scalar.addi v328 c16_i32
  let c15_i32_256 : BitVec 32 := 15#32
  let v330 : BitVec 32 := Scalar.andi v329 c15_i32_256
  let c0_i32_262 : BitVec 32 := 0#32
  let c0_i32_263 : BitVec 32 := 0#32
  ![v330.toNat, 0, 0]
def k0_off63 (k0_t1 : Fin k0_t1_loop.trips) : Fin 2 → Nat :=
  let c0_i32_264 : BitVec 32 := 0#32
  let c21_i32_184 : BitVec 32 := 21#32
  let c2_i32_182 : BitVec 32 := 2#32
  let c0_i32_107 : BitVec 32 := 0#32
  let c1_i32 : BitVec 32 := 1#32
  let arg16 : BitVec 32 := Scf.iv c0_i32_107 c1_i32 k0_t1
  let v188 : BitVec 32 := Scalar.muli c2_i32_182 arg16
  let c0_i32_183 : BitVec 32 := 0#32
  let v189 : BitVec 32 := Scalar.addi v188 c0_i32_183
  let v190 : BitVec 32 := Scalar.addi c21_i32_184 v189
  let c1_i32_255 : BitVec 32 := 1#32
  let v328 : BitVec 32 := Scalar.subi v190 c1_i32_255
  let c16_i32 : BitVec 32 := 16#32
  let v329 : BitVec 32 := Scalar.addi v328 c16_i32
  let c21_i32_260 : BitVec 32 := 21#32
  let v336 : BitVec 32 := Scalar.subi v329 c21_i32_260
  let c256_i32_261 : BitVec 32 := 256#32
  let v337 : BitVec 32 := Scalar.muli v336 c256_i32_261
  let v338 : BitVec 32 := v337
  ![0, v338.toNat]
def k0_off64 (k0_t1 : Fin k0_t1_loop.trips) : Fin 3 → Nat :=
  let c21_i32_184 : BitVec 32 := 21#32
  let c2_i32_182 : BitVec 32 := 2#32
  let c0_i32_107 : BitVec 32 := 0#32
  let c1_i32 : BitVec 32 := 1#32
  let arg16 : BitVec 32 := Scf.iv c0_i32_107 c1_i32 k0_t1
  let v188 : BitVec 32 := Scalar.muli c2_i32_182 arg16
  let c0_i32_183 : BitVec 32 := 0#32
  let v189 : BitVec 32 := Scalar.addi v188 c0_i32_183
  let v190 : BitVec 32 := Scalar.addi c21_i32_184 v189
  let c1_i32_255 : BitVec 32 := 1#32
  let v328 : BitVec 32 := Scalar.subi v190 c1_i32_255
  let c16_i32 : BitVec 32 := 16#32
  let v329 : BitVec 32 := Scalar.addi v328 c16_i32
  let c15_i32_256 : BitVec 32 := 15#32
  let v330 : BitVec 32 := Scalar.andi v329 c15_i32_256
  let c0_i32_265 : BitVec 32 := 0#32
  let c256_i32_266 : BitVec 32 := 256#32
  ![v330.toNat, 0, 256]
def k0_off65 (k0_t1 : Fin k0_t1_loop.trips) (c0_i32_183 : BitVec 32) : Fin 1 → Nat :=
  let c21_i32_184 : BitVec 32 := 21#32
  let c2_i32_182 : BitVec 32 := 2#32
  let c0_i32_107 : BitVec 32 := 0#32
  let c1_i32 : BitVec 32 := 1#32
  let arg16 : BitVec 32 := Scf.iv c0_i32_107 c1_i32 k0_t1
  let v188 : BitVec 32 := Scalar.muli c2_i32_182 arg16
  let v189 : BitVec 32 := Scalar.addi v188 c0_i32_183
  let v190 : BitVec 32 := Scalar.addi c21_i32_184 v189
  let c15_i32_185 : BitVec 32 := 15#32
  let v191 : BitVec 32 := Scalar.andi v190 c15_i32_185
  ![v191.toNat]
def k0_off66 (k0_t1 : Fin k0_t1_loop.trips) (c0_i32_183 : BitVec 32) : Fin 3 → Nat :=
  let c21_i32_184 : BitVec 32 := 21#32
  let c2_i32_182 : BitVec 32 := 2#32
  let c0_i32_107 : BitVec 32 := 0#32
  let c1_i32 : BitVec 32 := 1#32
  let arg16 : BitVec 32 := Scf.iv c0_i32_107 c1_i32 k0_t1
  let v188 : BitVec 32 := Scalar.muli c2_i32_182 arg16
  let v189 : BitVec 32 := Scalar.addi v188 c0_i32_183
  let v190 : BitVec 32 := Scalar.addi c21_i32_184 v189
  let c15_i32_185 : BitVec 32 := 15#32
  let v191 : BitVec 32 := Scalar.andi v190 c15_i32_185
  let c0_i32_188 : BitVec 32 := 0#32
  let c0_i32_189 : BitVec 32 := 0#32
  ![v191.toNat, 0, 0]
def k0_off67 (k0_t1 : Fin k0_t1_loop.trips) (c0_i32_183 : BitVec 32) : Fin 3 → Nat :=
  let c21_i32_184 : BitVec 32 := 21#32
  let c2_i32_182 : BitVec 32 := 2#32
  let c0_i32_107 : BitVec 32 := 0#32
  let c1_i32 : BitVec 32 := 1#32
  let arg16 : BitVec 32 := Scf.iv c0_i32_107 c1_i32 k0_t1
  let v188 : BitVec 32 := Scalar.muli c2_i32_182 arg16
  let v189 : BitVec 32 := Scalar.addi v188 c0_i32_183
  let v190 : BitVec 32 := Scalar.addi c21_i32_184 v189
  let c15_i32_185 : BitVec 32 := 15#32
  let v191 : BitVec 32 := Scalar.andi v190 c15_i32_185
  let v202 : Index := Scalar.indexCast v191
  let c0_194 : Index := 0#32
  let c0_195 : Index := 0#32
  ![v202.toNat, 0, 0]
def k0_mult17 (k0_t1 : Fin k0_t1_loop.trips) : BitVec 32 :=
  let c2_i32_182 : BitVec 32 := 2#32
  let c0_i32_107 : BitVec 32 := 0#32
  let c1_i32 : BitVec 32 := 1#32
  let arg16 : BitVec 32 := Scf.iv c0_i32_107 c1_i32 k0_t1
  let v188 : BitVec 32 := Scalar.muli c2_i32_182 arg16
  let c0_i32_183 : BitVec 32 := 0#32
  let v189 : BitVec 32 := Scalar.addi v188 c0_i32_183
  let c256_i32 : BitVec 32 := 256#32
  let v207 : BitVec 32 := Scalar.muli v189 c256_i32
  v207
def k0_off68 (k0_t1 : Fin k0_t1_loop.trips) (c0_i32_183 : BitVec 32) : Fin 2 → Nat :=
  let c0_197 : Index := 0#32
  let c2_i32_182 : BitVec 32 := 2#32
  let c0_i32_107 : BitVec 32 := 0#32
  let c1_i32 : BitVec 32 := 1#32
  let arg16 : BitVec 32 := Scf.iv c0_i32_107 c1_i32 k0_t1
  let v188 : BitVec 32 := Scalar.muli c2_i32_182 arg16
  let v189 : BitVec 32 := Scalar.addi v188 c0_i32_183
  let c256_i32 : BitVec 32 := 256#32
  let v207 : BitVec 32 := Scalar.muli v189 c256_i32
  let v208 : BitVec 32 := v207
  let v209 : Index := Scalar.indexCast v208
  ![0, v209.toNat]
def k0_mult18 (k0_t1 : Fin k0_t1_loop.trips) : BitVec 32 :=
  let c2_i32_182 : BitVec 32 := 2#32
  let c0_i32_107 : BitVec 32 := 0#32
  let c1_i32 : BitVec 32 := 1#32
  let arg16 : BitVec 32 := Scf.iv c0_i32_107 c1_i32 k0_t1
  let v188 : BitVec 32 := Scalar.muli c2_i32_182 arg16
  let c0_i32_183 : BitVec 32 := 0#32
  let v189 : BitVec 32 := Scalar.addi v188 c0_i32_183
  let c256_i32_200 : BitVec 32 := 256#32
  let v218 : BitVec 32 := Scalar.muli v189 c256_i32_200
  v218
def k0_off69 (k0_t1 : Fin k0_t1_loop.trips) (c0_i32_183 : BitVec 32) : Fin 3 → Nat :=
  let c2_i32_207 : BitVec 32 := 2#32
  let c2_i32_182 : BitVec 32 := 2#32
  let c0_i32_107 : BitVec 32 := 0#32
  let c1_i32 : BitVec 32 := 1#32
  let arg16 : BitVec 32 := Scf.iv c0_i32_107 c1_i32 k0_t1
  let v188 : BitVec 32 := Scalar.muli c2_i32_182 arg16
  let v189 : BitVec 32 := Scalar.addi v188 c0_i32_183
  let v239 : BitVec 32 := Scalar.muli c2_i32_207 v189
  let v240 : Index := Scalar.indexCast v239
  let c0_208 : Index := 0#32
  let c0_209 : Index := 0#32
  ![v240.toNat, 0, 0]
def k0_off70 (k0_t1 : Fin k0_t1_loop.trips) (c0_i32_183 : BitVec 32) : Fin 3 → Nat :=
  let c2_i32_210 : BitVec 32 := 2#32
  let c2_i32_182 : BitVec 32 := 2#32
  let c0_i32_107 : BitVec 32 := 0#32
  let c1_i32 : BitVec 32 := 1#32
  let arg16 : BitVec 32 := Scf.iv c0_i32_107 c1_i32 k0_t1
  let v188 : BitVec 32 := Scalar.muli c2_i32_182 arg16
  let v189 : BitVec 32 := Scalar.addi v188 c0_i32_183
  let v244 : BitVec 32 := Scalar.muli c2_i32_210 v189
  let c1_i32_211 : BitVec 32 := 1#32
  let v245 : BitVec 32 := Scalar.addi v244 c1_i32_211
  let v246 : Index := Scalar.indexCast v245
  let c0_212 : Index := 0#32
  let c0_213 : Index := 0#32
  ![v246.toNat, 0, 0]
def k0_cond18 (k0_t1 : Fin k0_t1_loop.trips) : BitVec 1 :=
  let c21_i32_220 : BitVec 32 := 21#32
  let c2_i32_218 : BitVec 32 := 2#32
  let c0_i32_107 : BitVec 32 := 0#32
  let c1_i32 : BitVec 32 := 1#32
  let arg16 : BitVec 32 := Scf.iv c0_i32_107 c1_i32 k0_t1
  let v258 : BitVec 32 := Scalar.muli c2_i32_218 arg16
  let c1_i32_219 : BitVec 32 := 1#32
  let v259 : BitVec 32 := Scalar.addi v258 c1_i32_219
  let v260 : BitVec 32 := Scalar.addi c21_i32_220 v259
  let c0_i32_222 : BitVec 32 := 0#32
  let v262 : BitVec 1 := Scalar.cmpi .sgt v260 c0_i32_222
  let v263 : BitVec 32 := Scalar.extui v262
  let c0_i32_223 : BitVec 32 := 0#32
  let v264 : BitVec 1 := Scalar.cmpi .ne v263 c0_i32_223
  v264

def k0_cond19 (k0_t1 : Fin k0_t1_loop.trips) : BitVec 1 :=
  let c21_i32_220 : BitVec 32 := 21#32
  let c2_i32_218 : BitVec 32 := 2#32
  let c0_i32_107 : BitVec 32 := 0#32
  let c1_i32 : BitVec 32 := 1#32
  let arg16 : BitVec 32 := Scf.iv c0_i32_107 c1_i32 k0_t1
  let v258 : BitVec 32 := Scalar.muli c2_i32_218 arg16
  let c1_i32_219 : BitVec 32 := 1#32
  let v259 : BitVec 32 := Scalar.addi v258 c1_i32_219
  let v260 : BitVec 32 := Scalar.addi c21_i32_220 v259
  let c1_i32_255 : BitVec 32 := 1#32
  let v328 : BitVec 32 := Scalar.subi v260 c1_i32_255
  let c16_i32 : BitVec 32 := 16#32
  let v329 : BitVec 32 := Scalar.addi v328 c16_i32
  let c21_i32_257 : BitVec 32 := 21#32
  let v331 : BitVec 1 := Scalar.cmpi .sge v329 c21_i32_257
  let c77_i32_258 : BitVec 32 := 77#32
  let v332 : BitVec 1 := Scalar.cmpi .slt v329 c77_i32_258
  let v333 : BitVec 1 := Scalar.andi v331 v332
  let v334 : BitVec 32 := Scalar.extui v333
  let c0_i32_259 : BitVec 32 := 0#32
  let v335 : BitVec 1 := Scalar.cmpi .ne v334 c0_i32_259
  v335

def k0_mult19 (k0_t1 : Fin k0_t1_loop.trips) : BitVec 32 :=
  let c21_i32_220 : BitVec 32 := 21#32
  let c2_i32_218 : BitVec 32 := 2#32
  let c0_i32_107 : BitVec 32 := 0#32
  let c1_i32 : BitVec 32 := 1#32
  let arg16 : BitVec 32 := Scf.iv c0_i32_107 c1_i32 k0_t1
  let v258 : BitVec 32 := Scalar.muli c2_i32_218 arg16
  let c1_i32_219 : BitVec 32 := 1#32
  let v259 : BitVec 32 := Scalar.addi v258 c1_i32_219
  let v260 : BitVec 32 := Scalar.addi c21_i32_220 v259
  let c1_i32_255 : BitVec 32 := 1#32
  let v328 : BitVec 32 := Scalar.subi v260 c1_i32_255
  let c16_i32 : BitVec 32 := 16#32
  let v329 : BitVec 32 := Scalar.addi v328 c16_i32
  let c21_i32_260 : BitVec 32 := 21#32
  let v336 : BitVec 32 := Scalar.subi v329 c21_i32_260
  let c256_i32_261 : BitVec 32 := 256#32
  let v337 : BitVec 32 := Scalar.muli v336 c256_i32_261
  v337
def k0_off71 (k0_t1 : Fin k0_t1_loop.trips) : Fin 1 → Nat :=
  let c21_i32_220 : BitVec 32 := 21#32
  let c2_i32_218 : BitVec 32 := 2#32
  let c0_i32_107 : BitVec 32 := 0#32
  let c1_i32 : BitVec 32 := 1#32
  let arg16 : BitVec 32 := Scf.iv c0_i32_107 c1_i32 k0_t1
  let v258 : BitVec 32 := Scalar.muli c2_i32_218 arg16
  let c1_i32_219 : BitVec 32 := 1#32
  let v259 : BitVec 32 := Scalar.addi v258 c1_i32_219
  let v260 : BitVec 32 := Scalar.addi c21_i32_220 v259
  let c1_i32_255 : BitVec 32 := 1#32
  let v328 : BitVec 32 := Scalar.subi v260 c1_i32_255
  let c16_i32 : BitVec 32 := 16#32
  let v329 : BitVec 32 := Scalar.addi v328 c16_i32
  let c15_i32_256 : BitVec 32 := 15#32
  let v330 : BitVec 32 := Scalar.andi v329 c15_i32_256
  ![v330.toNat]
def k0_off72 (k0_t1 : Fin k0_t1_loop.trips) : Fin 3 → Nat :=
  let c21_i32_220 : BitVec 32 := 21#32
  let c2_i32_218 : BitVec 32 := 2#32
  let c0_i32_107 : BitVec 32 := 0#32
  let c1_i32 : BitVec 32 := 1#32
  let arg16 : BitVec 32 := Scf.iv c0_i32_107 c1_i32 k0_t1
  let v258 : BitVec 32 := Scalar.muli c2_i32_218 arg16
  let c1_i32_219 : BitVec 32 := 1#32
  let v259 : BitVec 32 := Scalar.addi v258 c1_i32_219
  let v260 : BitVec 32 := Scalar.addi c21_i32_220 v259
  let c1_i32_255 : BitVec 32 := 1#32
  let v328 : BitVec 32 := Scalar.subi v260 c1_i32_255
  let c16_i32 : BitVec 32 := 16#32
  let v329 : BitVec 32 := Scalar.addi v328 c16_i32
  let c15_i32_256 : BitVec 32 := 15#32
  let v330 : BitVec 32 := Scalar.andi v329 c15_i32_256
  let c0_i32_262 : BitVec 32 := 0#32
  let c0_i32_263 : BitVec 32 := 0#32
  ![v330.toNat, 0, 0]
def k0_off73 (k0_t1 : Fin k0_t1_loop.trips) : Fin 2 → Nat :=
  let c0_i32_264 : BitVec 32 := 0#32
  let c21_i32_220 : BitVec 32 := 21#32
  let c2_i32_218 : BitVec 32 := 2#32
  let c0_i32_107 : BitVec 32 := 0#32
  let c1_i32 : BitVec 32 := 1#32
  let arg16 : BitVec 32 := Scf.iv c0_i32_107 c1_i32 k0_t1
  let v258 : BitVec 32 := Scalar.muli c2_i32_218 arg16
  let c1_i32_219 : BitVec 32 := 1#32
  let v259 : BitVec 32 := Scalar.addi v258 c1_i32_219
  let v260 : BitVec 32 := Scalar.addi c21_i32_220 v259
  let c1_i32_255 : BitVec 32 := 1#32
  let v328 : BitVec 32 := Scalar.subi v260 c1_i32_255
  let c16_i32 : BitVec 32 := 16#32
  let v329 : BitVec 32 := Scalar.addi v328 c16_i32
  let c21_i32_260 : BitVec 32 := 21#32
  let v336 : BitVec 32 := Scalar.subi v329 c21_i32_260
  let c256_i32_261 : BitVec 32 := 256#32
  let v337 : BitVec 32 := Scalar.muli v336 c256_i32_261
  let v338 : BitVec 32 := v337
  ![0, v338.toNat]
def k0_off74 (k0_t1 : Fin k0_t1_loop.trips) : Fin 3 → Nat :=
  let c21_i32_220 : BitVec 32 := 21#32
  let c2_i32_218 : BitVec 32 := 2#32
  let c0_i32_107 : BitVec 32 := 0#32
  let c1_i32 : BitVec 32 := 1#32
  let arg16 : BitVec 32 := Scf.iv c0_i32_107 c1_i32 k0_t1
  let v258 : BitVec 32 := Scalar.muli c2_i32_218 arg16
  let c1_i32_219 : BitVec 32 := 1#32
  let v259 : BitVec 32 := Scalar.addi v258 c1_i32_219
  let v260 : BitVec 32 := Scalar.addi c21_i32_220 v259
  let c1_i32_255 : BitVec 32 := 1#32
  let v328 : BitVec 32 := Scalar.subi v260 c1_i32_255
  let c16_i32 : BitVec 32 := 16#32
  let v329 : BitVec 32 := Scalar.addi v328 c16_i32
  let c15_i32_256 : BitVec 32 := 15#32
  let v330 : BitVec 32 := Scalar.andi v329 c15_i32_256
  let c0_i32_265 : BitVec 32 := 0#32
  let c256_i32_266 : BitVec 32 := 256#32
  ![v330.toNat, 0, 256]
def k0_mult20 (k0_t1 : Fin k0_t1_loop.trips) : BitVec 32 :=
  let c2_i32_218 : BitVec 32 := 2#32
  let c0_i32_107 : BitVec 32 := 0#32
  let c1_i32 : BitVec 32 := 1#32
  let arg16 : BitVec 32 := Scf.iv c0_i32_107 c1_i32 k0_t1
  let v258 : BitVec 32 := Scalar.muli c2_i32_218 arg16
  let c1_i32_219 : BitVec 32 := 1#32
  let v259 : BitVec 32 := Scalar.addi v258 c1_i32_219
  let c256_i32_233 : BitVec 32 := 256#32
  let v277 : BitVec 32 := Scalar.muli v259 c256_i32_233
  v277
def k0_mult21 (k0_t1 : Fin k0_t1_loop.trips) : BitVec 32 :=
  let c2_i32_218 : BitVec 32 := 2#32
  let c0_i32_107 : BitVec 32 := 0#32
  let c1_i32 : BitVec 32 := 1#32
  let arg16 : BitVec 32 := Scf.iv c0_i32_107 c1_i32 k0_t1
  let v258 : BitVec 32 := Scalar.muli c2_i32_218 arg16
  let c1_i32_219 : BitVec 32 := 1#32
  let v259 : BitVec 32 := Scalar.addi v258 c1_i32_219
  let c256_i32_237 : BitVec 32 := 256#32
  let v288 : BitVec 32 := Scalar.muli v259 c256_i32_237
  v288
@[reducible] def k0_t2_loop : Scf.Loop 32 :=
  let c0_i32_133 : BitVec 32 := 0#32
  let c4_i32 : BitVec 32 := 4#32
  let v145 : BitVec 32 := Scalar.addi c0_i32_133 c4_i32
  let c1_i32_134 : BitVec 32 := 1#32
  ⟨c0_i32_133, v145, c1_i32_134⟩
def k0_cond20 (k0_t2 : Fin k0_t2_loop.trips) : BitVec 1 :=
  let c0_i32_133 : BitVec 32 := 0#32
  let c1_i32_134 : BitVec 32 := 1#32
  let arg16 : BitVec 32 := Scf.iv c0_i32_133 c1_i32_134 k0_t2
  let c0_i32_183 : BitVec 32 := 0#32
  let v190 : BitVec 1 := Scalar.cmpi .sgt arg16 c0_i32_183
  let v191 : BitVec 32 := Scalar.extui v190
  let c0_i32_184 : BitVec 32 := 0#32
  let v192 : BitVec 1 := Scalar.cmpi .ne v191 c0_i32_184
  v192

def k0_mult22 (k0_t2 : Fin k0_t2_loop.trips) : BitVec 32 :=
  let c0_i32_133 : BitVec 32 := 0#32
  let c1_i32_134 : BitVec 32 := 1#32
  let arg16 : BitVec 32 := Scf.iv c0_i32_133 c1_i32_134 k0_t2
  let c7_i32 : BitVec 32 := 7#32
  let v188 : BitVec 32 := Scalar.muli arg16 c7_i32
  let c0_i32_182 : BitVec 32 := 0#32
  let v189 : BitVec 32 := Scalar.addi v188 c0_i32_182
  let c7_i32_511 : BitVec 32 := 7#32
  let v650 : BitVec 32 := Scalar.subi v189 c7_i32_511
  let c512_i32_512 : BitVec 32 := 512#32
  let v651 : BitVec 32 := Scalar.muli v650 c512_i32_512
  v651
def k0_off75 (k0_t2 : Fin k0_t2_loop.trips) : Fin 3 → Nat :=
  let c0_i32_514 : BitVec 32 := 0#32
  let c0_i32_515 : BitVec 32 := 0#32
  let c0_i32_133 : BitVec 32 := 0#32
  let c1_i32_134 : BitVec 32 := 1#32
  let arg16 : BitVec 32 := Scf.iv c0_i32_133 c1_i32_134 k0_t2
  let c7_i32 : BitVec 32 := 7#32
  let v188 : BitVec 32 := Scalar.muli arg16 c7_i32
  let c0_i32_182 : BitVec 32 := 0#32
  let v189 : BitVec 32 := Scalar.addi v188 c0_i32_182
  let c7_i32_511 : BitVec 32 := 7#32
  let v650 : BitVec 32 := Scalar.subi v189 c7_i32_511
  let c512_i32_512 : BitVec 32 := 512#32
  let v651 : BitVec 32 := Scalar.muli v650 c512_i32_512
  let v652 : BitVec 32 := v651
  ![0, 0, v652.toNat]
def k0_off76 (k0_t2 : Fin k0_t2_loop.trips) (c0_i32_182 : BitVec 32) (c0_i32_186 : BitVec 32) : Fin 3 → Nat :=
  let c4_i32_185 : BitVec 32 := 4#32
  let c0_i32_133 : BitVec 32 := 0#32
  let c1_i32_134 : BitVec 32 := 1#32
  let arg16 : BitVec 32 := Scf.iv c0_i32_133 c1_i32_134 k0_t2
  let c7_i32 : BitVec 32 := 7#32
  let v188 : BitVec 32 := Scalar.muli arg16 c7_i32
  let v189 : BitVec 32 := Scalar.addi v188 c0_i32_182
  let v193 : BitVec 32 := Scalar.muli c4_i32_185 v189
  let v194 : BitVec 32 := Scalar.addi v193 c0_i32_186
  let v195 : Index := Scalar.indexCast v194
  let c0_187 : Index := 0#32
  let c0_188 : Index := 0#32
  ![v195.toNat, 0, 0]
def k0_off77 (k0_t2 : Fin k0_t2_loop.trips) : Fin 3 → Nat :=
  let c0_i32_133 : BitVec 32 := 0#32
  let c1_i32_134 : BitVec 32 := 1#32
  let arg16 : BitVec 32 := Scf.iv c0_i32_133 c1_i32_134 k0_t2
  let v239 : Index := Scalar.indexCast arg16
  let c0_217 : Index := 0#32
  let c0_218 : Index := 0#32
  ![v239.toNat, 0, 0]
def k0_mult23 (k0_t2 : Fin k0_t2_loop.trips) : BitVec 32 :=
  let c0_i32_133 : BitVec 32 := 0#32
  let c1_i32_134 : BitVec 32 := 1#32
  let arg16 : BitVec 32 := Scf.iv c0_i32_133 c1_i32_134 k0_t2
  let c7_i32 : BitVec 32 := 7#32
  let v188 : BitVec 32 := Scalar.muli arg16 c7_i32
  let c0_i32_182 : BitVec 32 := 0#32
  let v189 : BitVec 32 := Scalar.addi v188 c0_i32_182
  let c512_i32_222 : BitVec 32 := 512#32
  let v248 : BitVec 32 := Scalar.muli v189 c512_i32_222
  v248
def k0_off78 (k0_t2 : Fin k0_t2_loop.trips) (c0_i32_182 : BitVec 32) : Fin 3 → Nat :=
  let c0_i32_224 : BitVec 32 := 0#32
  let c0_i32_225 : BitVec 32 := 0#32
  let c0_i32_133 : BitVec 32 := 0#32
  let c1_i32_134 : BitVec 32 := 1#32
  let arg16 : BitVec 32 := Scf.iv c0_i32_133 c1_i32_134 k0_t2
  let c7_i32 : BitVec 32 := 7#32
  let v188 : BitVec 32 := Scalar.muli arg16 c7_i32
  let v189 : BitVec 32 := Scalar.addi v188 c0_i32_182
  let c512_i32_222 : BitVec 32 := 512#32
  let v248 : BitVec 32 := Scalar.muli v189 c512_i32_222
  let v249 : BitVec 32 := v248
  ![0, 0, v249.toNat]
def k0_cond21 (k0_t2 : Fin k0_t2_loop.trips) : BitVec 1 :=
  let c0_i32_133 : BitVec 32 := 0#32
  let c1_i32_134 : BitVec 32 := 1#32
  let arg16 : BitVec 32 := Scf.iv c0_i32_133 c1_i32_134 k0_t2
  let c0_i32_231 : BitVec 32 := 0#32
  let v256 : BitVec 1 := Scalar.cmpi .sgt arg16 c0_i32_231
  let v257 : BitVec 32 := Scalar.extui v256
  let c0_i32_232 : BitVec 32 := 0#32
  let v258 : BitVec 1 := Scalar.cmpi .ne v257 c0_i32_232
  v258

def k0_mult24 (k0_t2 : Fin k0_t2_loop.trips) : BitVec 32 :=
  let c0_i32_133 : BitVec 32 := 0#32
  let c1_i32_134 : BitVec 32 := 1#32
  let arg16 : BitVec 32 := Scf.iv c0_i32_133 c1_i32_134 k0_t2
  let c7_i32_229 : BitVec 32 := 7#32
  let v254 : BitVec 32 := Scalar.muli arg16 c7_i32_229
  let c1_i32_230 : BitVec 32 := 1#32
  let v255 : BitVec 32 := Scalar.addi v254 c1_i32_230
  let c7_i32_511 : BitVec 32 := 7#32
  let v650 : BitVec 32 := Scalar.subi v255 c7_i32_511
  let c512_i32_512 : BitVec 32 := 512#32
  let v651 : BitVec 32 := Scalar.muli v650 c512_i32_512
  v651
def k0_off79 (k0_t2 : Fin k0_t2_loop.trips) : Fin 3 → Nat :=
  let c0_i32_514 : BitVec 32 := 0#32
  let c0_i32_515 : BitVec 32 := 0#32
  let c0_i32_133 : BitVec 32 := 0#32
  let c1_i32_134 : BitVec 32 := 1#32
  let arg16 : BitVec 32 := Scf.iv c0_i32_133 c1_i32_134 k0_t2
  let c7_i32_229 : BitVec 32 := 7#32
  let v254 : BitVec 32 := Scalar.muli arg16 c7_i32_229
  let c1_i32_230 : BitVec 32 := 1#32
  let v255 : BitVec 32 := Scalar.addi v254 c1_i32_230
  let c7_i32_511 : BitVec 32 := 7#32
  let v650 : BitVec 32 := Scalar.subi v255 c7_i32_511
  let c512_i32_512 : BitVec 32 := 512#32
  let v651 : BitVec 32 := Scalar.muli v650 c512_i32_512
  let v652 : BitVec 32 := v651
  ![0, 0, v652.toNat]
def k0_off80 (k0_t2 : Fin k0_t2_loop.trips) : Fin 3 → Nat :=
  let c0_i32_133 : BitVec 32 := 0#32
  let c1_i32_134 : BitVec 32 := 1#32
  let arg16 : BitVec 32 := Scf.iv c0_i32_133 c1_i32_134 k0_t2
  let v305 : Index := Scalar.indexCast arg16
  let c0_265 : Index := 0#32
  let c512 : Index := 512#32
  ![v305.toNat, 0, 512]
def k0_mult25 (k0_t2 : Fin k0_t2_loop.trips) : BitVec 32 :=
  let c0_i32_133 : BitVec 32 := 0#32
  let c1_i32_134 : BitVec 32 := 1#32
  let arg16 : BitVec 32 := Scf.iv c0_i32_133 c1_i32_134 k0_t2
  let c7_i32_229 : BitVec 32 := 7#32
  let v254 : BitVec 32 := Scalar.muli arg16 c7_i32_229
  let c1_i32_230 : BitVec 32 := 1#32
  let v255 : BitVec 32 := Scalar.addi v254 c1_i32_230
  let c512_i32_269 : BitVec 32 := 512#32
  let v314 : BitVec 32 := Scalar.muli v255 c512_i32_269
  v314
def k0_cond22 (k0_t2 : Fin k0_t2_loop.trips) : BitVec 1 :=
  let c0_i32_133 : BitVec 32 := 0#32
  let c1_i32_134 : BitVec 32 := 1#32
  let arg16 : BitVec 32 := Scf.iv c0_i32_133 c1_i32_134 k0_t2
  let c0_i32_278 : BitVec 32 := 0#32
  let v322 : BitVec 1 := Scalar.cmpi .sgt arg16 c0_i32_278
  let v323 : BitVec 32 := Scalar.extui v322
  let c0_i32_279 : BitVec 32 := 0#32
  let v324 : BitVec 1 := Scalar.cmpi .ne v323 c0_i32_279
  v324

def k0_mult26 (k0_t2 : Fin k0_t2_loop.trips) : BitVec 32 :=
  let c0_i32_133 : BitVec 32 := 0#32
  let c1_i32_134 : BitVec 32 := 1#32
  let arg16 : BitVec 32 := Scf.iv c0_i32_133 c1_i32_134 k0_t2
  let c7_i32_276 : BitVec 32 := 7#32
  let v320 : BitVec 32 := Scalar.muli arg16 c7_i32_276
  let c2_i32_277 : BitVec 32 := 2#32
  let v321 : BitVec 32 := Scalar.addi v320 c2_i32_277
  let c7_i32_511 : BitVec 32 := 7#32
  let v650 : BitVec 32 := Scalar.subi v321 c7_i32_511
  let c512_i32_512 : BitVec 32 := 512#32
  let v651 : BitVec 32 := Scalar.muli v650 c512_i32_512
  v651
def k0_off81 (k0_t2 : Fin k0_t2_loop.trips) : Fin 3 → Nat :=
  let c0_i32_514 : BitVec 32 := 0#32
  let c0_i32_515 : BitVec 32 := 0#32
  let c0_i32_133 : BitVec 32 := 0#32
  let c1_i32_134 : BitVec 32 := 1#32
  let arg16 : BitVec 32 := Scf.iv c0_i32_133 c1_i32_134 k0_t2
  let c7_i32_276 : BitVec 32 := 7#32
  let v320 : BitVec 32 := Scalar.muli arg16 c7_i32_276
  let c2_i32_277 : BitVec 32 := 2#32
  let v321 : BitVec 32 := Scalar.addi v320 c2_i32_277
  let c7_i32_511 : BitVec 32 := 7#32
  let v650 : BitVec 32 := Scalar.subi v321 c7_i32_511
  let c512_i32_512 : BitVec 32 := 512#32
  let v651 : BitVec 32 := Scalar.muli v650 c512_i32_512
  let v652 : BitVec 32 := v651
  ![0, 0, v652.toNat]
def k0_off82 (k0_t2 : Fin k0_t2_loop.trips) : Fin 3 → Nat :=
  let c0_i32_133 : BitVec 32 := 0#32
  let c1_i32_134 : BitVec 32 := 1#32
  let arg16 : BitVec 32 := Scf.iv c0_i32_133 c1_i32_134 k0_t2
  let v371 : Index := Scalar.indexCast arg16
  let c0_312 : Index := 0#32
  let c1024 : Index := 1024#32
  ![v371.toNat, 0, 1024]
def k0_mult27 (k0_t2 : Fin k0_t2_loop.trips) : BitVec 32 :=
  let c0_i32_133 : BitVec 32 := 0#32
  let c1_i32_134 : BitVec 32 := 1#32
  let arg16 : BitVec 32 := Scf.iv c0_i32_133 c1_i32_134 k0_t2
  let c7_i32_276 : BitVec 32 := 7#32
  let v320 : BitVec 32 := Scalar.muli arg16 c7_i32_276
  let c2_i32_277 : BitVec 32 := 2#32
  let v321 : BitVec 32 := Scalar.addi v320 c2_i32_277
  let c512_i32_316 : BitVec 32 := 512#32
  let v380 : BitVec 32 := Scalar.muli v321 c512_i32_316
  v380
def k0_cond23 (k0_t2 : Fin k0_t2_loop.trips) : BitVec 1 :=
  let c0_i32_133 : BitVec 32 := 0#32
  let c1_i32_134 : BitVec 32 := 1#32
  let arg16 : BitVec 32 := Scf.iv c0_i32_133 c1_i32_134 k0_t2
  let c0_i32_325 : BitVec 32 := 0#32
  let v388 : BitVec 1 := Scalar.cmpi .sgt arg16 c0_i32_325
  let v389 : BitVec 32 := Scalar.extui v388
  let c0_i32_326 : BitVec 32 := 0#32
  let v390 : BitVec 1 := Scalar.cmpi .ne v389 c0_i32_326
  v390

def k0_mult28 (k0_t2 : Fin k0_t2_loop.trips) : BitVec 32 :=
  let c0_i32_133 : BitVec 32 := 0#32
  let c1_i32_134 : BitVec 32 := 1#32
  let arg16 : BitVec 32 := Scf.iv c0_i32_133 c1_i32_134 k0_t2
  let c7_i32_323 : BitVec 32 := 7#32
  let v386 : BitVec 32 := Scalar.muli arg16 c7_i32_323
  let c3_i32_324 : BitVec 32 := 3#32
  let v387 : BitVec 32 := Scalar.addi v386 c3_i32_324
  let c7_i32_511 : BitVec 32 := 7#32
  let v650 : BitVec 32 := Scalar.subi v387 c7_i32_511
  let c512_i32_512 : BitVec 32 := 512#32
  let v651 : BitVec 32 := Scalar.muli v650 c512_i32_512
  v651
def k0_off83 (k0_t2 : Fin k0_t2_loop.trips) : Fin 3 → Nat :=
  let c0_i32_514 : BitVec 32 := 0#32
  let c0_i32_515 : BitVec 32 := 0#32
  let c0_i32_133 : BitVec 32 := 0#32
  let c1_i32_134 : BitVec 32 := 1#32
  let arg16 : BitVec 32 := Scf.iv c0_i32_133 c1_i32_134 k0_t2
  let c7_i32_323 : BitVec 32 := 7#32
  let v386 : BitVec 32 := Scalar.muli arg16 c7_i32_323
  let c3_i32_324 : BitVec 32 := 3#32
  let v387 : BitVec 32 := Scalar.addi v386 c3_i32_324
  let c7_i32_511 : BitVec 32 := 7#32
  let v650 : BitVec 32 := Scalar.subi v387 c7_i32_511
  let c512_i32_512 : BitVec 32 := 512#32
  let v651 : BitVec 32 := Scalar.muli v650 c512_i32_512
  let v652 : BitVec 32 := v651
  ![0, 0, v652.toNat]
def k0_off84 (k0_t2 : Fin k0_t2_loop.trips) : Fin 3 → Nat :=
  let c0_i32_133 : BitVec 32 := 0#32
  let c1_i32_134 : BitVec 32 := 1#32
  let arg16 : BitVec 32 := Scf.iv c0_i32_133 c1_i32_134 k0_t2
  let v437 : Index := Scalar.indexCast arg16
  let c0_359 : Index := 0#32
  let c1536 : Index := 1536#32
  ![v437.toNat, 0, 1536]
def k0_mult29 (k0_t2 : Fin k0_t2_loop.trips) : BitVec 32 :=
  let c0_i32_133 : BitVec 32 := 0#32
  let c1_i32_134 : BitVec 32 := 1#32
  let arg16 : BitVec 32 := Scf.iv c0_i32_133 c1_i32_134 k0_t2
  let c7_i32_323 : BitVec 32 := 7#32
  let v386 : BitVec 32 := Scalar.muli arg16 c7_i32_323
  let c3_i32_324 : BitVec 32 := 3#32
  let v387 : BitVec 32 := Scalar.addi v386 c3_i32_324
  let c512_i32_363 : BitVec 32 := 512#32
  let v446 : BitVec 32 := Scalar.muli v387 c512_i32_363
  v446
def k0_cond24 (k0_t2 : Fin k0_t2_loop.trips) : BitVec 1 :=
  let c0_i32_133 : BitVec 32 := 0#32
  let c1_i32_134 : BitVec 32 := 1#32
  let arg16 : BitVec 32 := Scf.iv c0_i32_133 c1_i32_134 k0_t2
  let c0_i32_372 : BitVec 32 := 0#32
  let v454 : BitVec 1 := Scalar.cmpi .sgt arg16 c0_i32_372
  let v455 : BitVec 32 := Scalar.extui v454
  let c0_i32_373 : BitVec 32 := 0#32
  let v456 : BitVec 1 := Scalar.cmpi .ne v455 c0_i32_373
  v456

def k0_mult30 (k0_t2 : Fin k0_t2_loop.trips) : BitVec 32 :=
  let c0_i32_133 : BitVec 32 := 0#32
  let c1_i32_134 : BitVec 32 := 1#32
  let arg16 : BitVec 32 := Scf.iv c0_i32_133 c1_i32_134 k0_t2
  let c7_i32_370 : BitVec 32 := 7#32
  let v452 : BitVec 32 := Scalar.muli arg16 c7_i32_370
  let c4_i32_371 : BitVec 32 := 4#32
  let v453 : BitVec 32 := Scalar.addi v452 c4_i32_371
  let c7_i32_511 : BitVec 32 := 7#32
  let v650 : BitVec 32 := Scalar.subi v453 c7_i32_511
  let c512_i32_512 : BitVec 32 := 512#32
  let v651 : BitVec 32 := Scalar.muli v650 c512_i32_512
  v651
def k0_off85 (k0_t2 : Fin k0_t2_loop.trips) : Fin 3 → Nat :=
  let c0_i32_514 : BitVec 32 := 0#32
  let c0_i32_515 : BitVec 32 := 0#32
  let c0_i32_133 : BitVec 32 := 0#32
  let c1_i32_134 : BitVec 32 := 1#32
  let arg16 : BitVec 32 := Scf.iv c0_i32_133 c1_i32_134 k0_t2
  let c7_i32_370 : BitVec 32 := 7#32
  let v452 : BitVec 32 := Scalar.muli arg16 c7_i32_370
  let c4_i32_371 : BitVec 32 := 4#32
  let v453 : BitVec 32 := Scalar.addi v452 c4_i32_371
  let c7_i32_511 : BitVec 32 := 7#32
  let v650 : BitVec 32 := Scalar.subi v453 c7_i32_511
  let c512_i32_512 : BitVec 32 := 512#32
  let v651 : BitVec 32 := Scalar.muli v650 c512_i32_512
  let v652 : BitVec 32 := v651
  ![0, 0, v652.toNat]
def k0_off86 (k0_t2 : Fin k0_t2_loop.trips) : Fin 3 → Nat :=
  let c0_i32_133 : BitVec 32 := 0#32
  let c1_i32_134 : BitVec 32 := 1#32
  let arg16 : BitVec 32 := Scf.iv c0_i32_133 c1_i32_134 k0_t2
  let v503 : Index := Scalar.indexCast arg16
  let c0_406 : Index := 0#32
  let c2048 : Index := 2048#32
  ![v503.toNat, 0, 2048]
def k0_mult31 (k0_t2 : Fin k0_t2_loop.trips) : BitVec 32 :=
  let c0_i32_133 : BitVec 32 := 0#32
  let c1_i32_134 : BitVec 32 := 1#32
  let arg16 : BitVec 32 := Scf.iv c0_i32_133 c1_i32_134 k0_t2
  let c7_i32_370 : BitVec 32 := 7#32
  let v452 : BitVec 32 := Scalar.muli arg16 c7_i32_370
  let c4_i32_371 : BitVec 32 := 4#32
  let v453 : BitVec 32 := Scalar.addi v452 c4_i32_371
  let c512_i32_410 : BitVec 32 := 512#32
  let v512 : BitVec 32 := Scalar.muli v453 c512_i32_410
  v512
def k0_cond25 (k0_t2 : Fin k0_t2_loop.trips) : BitVec 1 :=
  let c0_i32_133 : BitVec 32 := 0#32
  let c1_i32_134 : BitVec 32 := 1#32
  let arg16 : BitVec 32 := Scf.iv c0_i32_133 c1_i32_134 k0_t2
  let c0_i32_419 : BitVec 32 := 0#32
  let v520 : BitVec 1 := Scalar.cmpi .sgt arg16 c0_i32_419
  let v521 : BitVec 32 := Scalar.extui v520
  let c0_i32_420 : BitVec 32 := 0#32
  let v522 : BitVec 1 := Scalar.cmpi .ne v521 c0_i32_420
  v522

def k0_mult32 (k0_t2 : Fin k0_t2_loop.trips) : BitVec 32 :=
  let c0_i32_133 : BitVec 32 := 0#32
  let c1_i32_134 : BitVec 32 := 1#32
  let arg16 : BitVec 32 := Scf.iv c0_i32_133 c1_i32_134 k0_t2
  let c7_i32_417 : BitVec 32 := 7#32
  let v518 : BitVec 32 := Scalar.muli arg16 c7_i32_417
  let c5_i32_418 : BitVec 32 := 5#32
  let v519 : BitVec 32 := Scalar.addi v518 c5_i32_418
  let c7_i32_511 : BitVec 32 := 7#32
  let v650 : BitVec 32 := Scalar.subi v519 c7_i32_511
  let c512_i32_512 : BitVec 32 := 512#32
  let v651 : BitVec 32 := Scalar.muli v650 c512_i32_512
  v651
def k0_off87 (k0_t2 : Fin k0_t2_loop.trips) : Fin 3 → Nat :=
  let c0_i32_514 : BitVec 32 := 0#32
  let c0_i32_515 : BitVec 32 := 0#32
  let c0_i32_133 : BitVec 32 := 0#32
  let c1_i32_134 : BitVec 32 := 1#32
  let arg16 : BitVec 32 := Scf.iv c0_i32_133 c1_i32_134 k0_t2
  let c7_i32_417 : BitVec 32 := 7#32
  let v518 : BitVec 32 := Scalar.muli arg16 c7_i32_417
  let c5_i32_418 : BitVec 32 := 5#32
  let v519 : BitVec 32 := Scalar.addi v518 c5_i32_418
  let c7_i32_511 : BitVec 32 := 7#32
  let v650 : BitVec 32 := Scalar.subi v519 c7_i32_511
  let c512_i32_512 : BitVec 32 := 512#32
  let v651 : BitVec 32 := Scalar.muli v650 c512_i32_512
  let v652 : BitVec 32 := v651
  ![0, 0, v652.toNat]
def k0_off88 (k0_t2 : Fin k0_t2_loop.trips) : Fin 3 → Nat :=
  let c0_i32_133 : BitVec 32 := 0#32
  let c1_i32_134 : BitVec 32 := 1#32
  let arg16 : BitVec 32 := Scf.iv c0_i32_133 c1_i32_134 k0_t2
  let v569 : Index := Scalar.indexCast arg16
  let c0_453 : Index := 0#32
  let c2560 : Index := 2560#32
  ![v569.toNat, 0, 2560]
def k0_mult33 (k0_t2 : Fin k0_t2_loop.trips) : BitVec 32 :=
  let c0_i32_133 : BitVec 32 := 0#32
  let c1_i32_134 : BitVec 32 := 1#32
  let arg16 : BitVec 32 := Scf.iv c0_i32_133 c1_i32_134 k0_t2
  let c7_i32_417 : BitVec 32 := 7#32
  let v518 : BitVec 32 := Scalar.muli arg16 c7_i32_417
  let c5_i32_418 : BitVec 32 := 5#32
  let v519 : BitVec 32 := Scalar.addi v518 c5_i32_418
  let c512_i32_457 : BitVec 32 := 512#32
  let v578 : BitVec 32 := Scalar.muli v519 c512_i32_457
  v578
def k0_cond26 (k0_t2 : Fin k0_t2_loop.trips) : BitVec 1 :=
  let c0_i32_133 : BitVec 32 := 0#32
  let c1_i32_134 : BitVec 32 := 1#32
  let arg16 : BitVec 32 := Scf.iv c0_i32_133 c1_i32_134 k0_t2
  let c0_i32_466 : BitVec 32 := 0#32
  let v586 : BitVec 1 := Scalar.cmpi .sgt arg16 c0_i32_466
  let v587 : BitVec 32 := Scalar.extui v586
  let c0_i32_467 : BitVec 32 := 0#32
  let v588 : BitVec 1 := Scalar.cmpi .ne v587 c0_i32_467
  v588

def k0_mult34 (k0_t2 : Fin k0_t2_loop.trips) : BitVec 32 :=
  let c0_i32_133 : BitVec 32 := 0#32
  let c1_i32_134 : BitVec 32 := 1#32
  let arg16 : BitVec 32 := Scf.iv c0_i32_133 c1_i32_134 k0_t2
  let c7_i32_464 : BitVec 32 := 7#32
  let v584 : BitVec 32 := Scalar.muli arg16 c7_i32_464
  let c6_i32_465 : BitVec 32 := 6#32
  let v585 : BitVec 32 := Scalar.addi v584 c6_i32_465
  let c7_i32_511 : BitVec 32 := 7#32
  let v650 : BitVec 32 := Scalar.subi v585 c7_i32_511
  let c512_i32_512 : BitVec 32 := 512#32
  let v651 : BitVec 32 := Scalar.muli v650 c512_i32_512
  v651
def k0_off89 (k0_t2 : Fin k0_t2_loop.trips) : Fin 3 → Nat :=
  let c0_i32_514 : BitVec 32 := 0#32
  let c0_i32_515 : BitVec 32 := 0#32
  let c0_i32_133 : BitVec 32 := 0#32
  let c1_i32_134 : BitVec 32 := 1#32
  let arg16 : BitVec 32 := Scf.iv c0_i32_133 c1_i32_134 k0_t2
  let c7_i32_464 : BitVec 32 := 7#32
  let v584 : BitVec 32 := Scalar.muli arg16 c7_i32_464
  let c6_i32_465 : BitVec 32 := 6#32
  let v585 : BitVec 32 := Scalar.addi v584 c6_i32_465
  let c7_i32_511 : BitVec 32 := 7#32
  let v650 : BitVec 32 := Scalar.subi v585 c7_i32_511
  let c512_i32_512 : BitVec 32 := 512#32
  let v651 : BitVec 32 := Scalar.muli v650 c512_i32_512
  let v652 : BitVec 32 := v651
  ![0, 0, v652.toNat]
def k0_off90 (k0_t2 : Fin k0_t2_loop.trips) : Fin 3 → Nat :=
  let c0_i32_133 : BitVec 32 := 0#32
  let c1_i32_134 : BitVec 32 := 1#32
  let arg16 : BitVec 32 := Scf.iv c0_i32_133 c1_i32_134 k0_t2
  let v635 : Index := Scalar.indexCast arg16
  let c0_500 : Index := 0#32
  let c3072 : Index := 3072#32
  ![v635.toNat, 0, 3072]
def k0_mult35 (k0_t2 : Fin k0_t2_loop.trips) : BitVec 32 :=
  let c0_i32_133 : BitVec 32 := 0#32
  let c1_i32_134 : BitVec 32 := 1#32
  let arg16 : BitVec 32 := Scf.iv c0_i32_133 c1_i32_134 k0_t2
  let c7_i32_464 : BitVec 32 := 7#32
  let v584 : BitVec 32 := Scalar.muli arg16 c7_i32_464
  let c6_i32_465 : BitVec 32 := 6#32
  let v585 : BitVec 32 := Scalar.addi v584 c6_i32_465
  let c512_i32_504 : BitVec 32 := 512#32
  let v644 : BitVec 32 := Scalar.muli v585 c512_i32_504
  v644
def k0_mult36 : BitVec 32 :=
  let c21_i32_136 : BitVec 32 := 21#32
  let c512_i32 : BitVec 32 := 512#32
  let v146 : BitVec 32 := Scalar.muli c21_i32_136 c512_i32
  v146
def k0_off91 (c21_i32_136 : BitVec 32) : Fin 3 → Nat :=
  let c0_i32_138 : BitVec 32 := 0#32
  let c0_i32_139 : BitVec 32 := 0#32
  let c512_i32 : BitVec 32 := 512#32
  let v146 : BitVec 32 := Scalar.muli c21_i32_136 c512_i32
  let v147 : BitVec 32 := v146
  ![0, 0, v147.toNat]
def k0_mult37 : BitVec 32 :=
  let c22_i32_143 : BitVec 32 := 22#32
  let c512_i32_144 : BitVec 32 := 512#32
  let v152 : BitVec 32 := Scalar.muli c22_i32_143 c512_i32_144
  v152
def k0_mult38 : BitVec 32 :=
  let c23_i32_151 : BitVec 32 := 23#32
  let c512_i32_152 : BitVec 32 := 512#32
  let v158 : BitVec 32 := Scalar.muli c23_i32_151 c512_i32_152
  v158
def k0_mult39 : BitVec 32 :=
  let c24_i32_157 : BitVec 32 := 24#32
  let c512_i32_158 : BitVec 32 := 512#32
  let v164 : BitVec 32 := Scalar.muli c24_i32_157 c512_i32_158
  v164
def k0_mult40 : BitVec 32 :=
  let c25_i32_163 : BitVec 32 := 25#32
  let c512_i32_164 : BitVec 32 := 512#32
  let v170 : BitVec 32 := Scalar.muli c25_i32_163 c512_i32_164
  v170
def k0_mult41 : BitVec 32 :=
  let c26_i32_170 : BitVec 32 := 26#32
  let c512_i32_171 : BitVec 32 := 512#32
  let v176 : BitVec 32 := Scalar.muli c26_i32_170 c512_i32_171
  v176
def k0_mult42 : BitVec 32 :=
  let c27_i32_176 : BitVec 32 := 27#32
  let c512_i32_177 : BitVec 32 := 512#32
  let v182 : BitVec 32 := Scalar.muli c27_i32_176 c512_i32_177
  v182
abbrev stage0_0 : Fin 1 → Memref sig .tc .vmem S224x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S224x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x112 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S224x4096 : Shape := ⟨2, ![224, 4096]⟩
abbrev S2x112 : Shape := ⟨2, ![2, 112]⟩
abbrev S4096x14336 : Shape := ⟨2, ![4096, 14336]⟩
abbrev S14336 : Shape := ⟨1, ![14336]⟩
abbrev S1x14336 : Shape := ⟨2, ![1, 14336]⟩
abbrev S28x8x14336 : Shape := ⟨3, ![28, 8, 14336]⟩
abbrev S224x1 : Shape := ⟨2, ![224, 1]⟩
abbrev S224x14336 : Shape := ⟨2, ![224, 14336]⟩
abbrev S224 : Shape := ⟨1, ![224]⟩

abbrev nBuf : Space → Nat
  | .hbm => 10
  | .vmem => 8
  | .smem => 0
  | _ => 0

abbrev bufTy : (tb : Table) → Fin (tcTables nBuf tb) → BufTy
  | .hbm, ⟨0, _⟩ => ⟨S224x4096, .fp8e4m3⟩
  | .hbm, ⟨1, _⟩ => ⟨S2x112, .f32⟩
  | .hbm, ⟨2, _⟩ => ⟨S4096x14336, .fp8e4m3⟩
  | .hbm, ⟨3, _⟩ => ⟨S14336, .f32⟩
  | .hbm, ⟨4, _⟩ => ⟨S4096x14336, .fp8e4m3⟩
  | .hbm, ⟨5, _⟩ => ⟨S14336, .f32⟩
  | .hbm, ⟨6, _⟩ => ⟨S1x14336, .f32⟩
  | .hbm, ⟨7, _⟩ => ⟨S1x14336, .f32⟩
  | .hbm, ⟨8, _⟩ => ⟨S28x8x14336, .fp8e4m3⟩
  | .hbm, ⟨9, _⟩ => ⟨S2x112, .f32⟩
  | .local _ .vmem, ⟨0, _⟩ => ⟨S224x4096, .fp8e4m3⟩
  | .local _ .vmem, ⟨1, _⟩ => ⟨S2x112, .f32⟩
  | .local _ .vmem, ⟨2, _⟩ => ⟨S4096x14336, .fp8e4m3⟩
  | .local _ .vmem, ⟨3, _⟩ => ⟨S1x14336, .f32⟩
  | .local _ .vmem, ⟨4, _⟩ => ⟨S4096x14336, .fp8e4m3⟩
  | .local _ .vmem, ⟨5, _⟩ => ⟨S1x14336, .f32⟩
  | .local _ .vmem, ⟨6, _⟩ => ⟨S28x8x14336, .fp8e4m3⟩
  | .local _ .vmem, ⟨7, _⟩ => ⟨S2x112, .f32⟩
  | _, _ => ⟨S224x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S224x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x14336 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x14336 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S28x8x14336 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x112 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down.lean ====
abbrev S224x14336 : Shape := ⟨2, ![224, 14336]⟩
abbrev S2x112 : Shape := ⟨2, ![2, 112]⟩
abbrev S224x4096 : Shape := ⟨2, ![224, 4096]⟩
abbrev S14336x4096 : Shape := ⟨2, ![14336, 4096]⟩
abbrev S4096 : Shape := ⟨1, ![4096]⟩
abbrev S224 : Shape := ⟨1, ![224]⟩
abbrev S224x1 : Shape := ⟨2, ![224, 1]⟩
abbrev S224x128 : Shape := ⟨2, ![224, 128]⟩
abbrev S1x4096 : Shape := ⟨2, ![1, 4096]⟩
abbrev S16x4096x512 : Shape := ⟨3, ![16, 4096, 512]⟩
abbrev S4x224x3584 : Shape := ⟨3, ![4, 224, 3584]⟩
abbrev S112x224x128 : Shape := ⟨3, ![112, 224, 128]⟩
abbrev S16 : Shape := ⟨1, ![16]⟩
abbrev S_ : Shape := ⟨0, ![]⟩
abbrev S1 : Shape := ⟨1, ![1]⟩
abbrev S1x3584x512 : Shape := ⟨3, ![1, 3584, 512]⟩
abbrev S3584x512 : Shape := ⟨2, ![3584, 512]⟩
abbrev S224x3584 : Shape := ⟨2, ![224, 3584]⟩
abbrev S1x224x3584 : Shape := ⟨3, ![1, 224, 3584]⟩
abbrev S224x512 : Shape := ⟨2, ![224, 512]⟩
abbrev S1x224x128 : Shape := ⟨3, ![1, 224, 128]⟩
abbrev S1x128 : Shape := ⟨2, ![1, 128]⟩

abbrev nBuf : Space → Nat
  | .hbm => 10
  | .vmem => 9
  | .smem => 0
  | _ => 0

abbrev bufTy : (tb : Table) → Fin (tcTables nBuf tb) → BufTy
  | .hbm, ⟨0, _⟩ => ⟨S224x14336, .fp8e4m3⟩
  | .hbm, ⟨1, _⟩ => ⟨S2x112, .f32⟩
  | .hbm, ⟨2, _⟩ => ⟨S224x4096, .f32⟩
  | .hbm, ⟨3, _⟩ => ⟨S14336x4096, .fp8e4m3⟩
  | .hbm, ⟨4, _⟩ => ⟨S4096, .f32⟩
  | .hbm, ⟨5, _⟩ => ⟨S224, .f32⟩
  | .hbm, ⟨6, _⟩ => ⟨S224x1, .f32⟩
  | .hbm, ⟨7, _⟩ => ⟨S224x128, .f32⟩
  | .hbm, ⟨8, _⟩ => ⟨S1x4096, .f32⟩
  | .hbm, ⟨9, _⟩ => ⟨S224x4096, .f32⟩
  | .local _ .vmem, ⟨0, _⟩ => ⟨S224x14336, .fp8e4m3⟩
  | .local _ .vmem, ⟨1, _⟩ => ⟨S224x128, .f32⟩
  | .local _ .vmem, ⟨2, _⟩ => ⟨S224x4096, .f32⟩
  | .local _ .vmem, ⟨3, _⟩ => ⟨S1x4096, .f32⟩
  | .local _ .vmem, ⟨4, _⟩ => ⟨S16x4096x512, .fp8e4m3⟩
  | .local _ .vmem, ⟨5, _⟩ => ⟨S224x4096, .f32⟩
  | .local _ .vmem, ⟨6, _⟩ => ⟨S4x224x3584, .fp8e4m3⟩
  | .local _ .vmem, ⟨7, _⟩ => ⟨S112x224x128, .f32⟩
  | .local _ .vmem, ⟨8, _⟩ => ⟨S224x128, .f32⟩
  | _, _ => ⟨S224x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_cond1 : BitVec 1 :=
  let c77_i32_0 : BitVec 32 := 77#32
  let c77_i32_1 : BitVec 32 := 77#32
  let v1 : BitVec 1 := Scalar.cmpi .sge c77_i32_0 c77_i32_1
  let c77_i32_2 : BitVec 32 := 77#32
  let c109_i32 : BitVec 32 := 109#32
  let v2 : BitVec 1 := Scalar.cmpi .slt c77_i32_2 c109_i32
  let v3 : BitVec 1 := Scalar.andi v1 v2
  let v4 : BitVec 32 := Scalar.extui v3
  let c0_i32 : BitVec 32 := 0#32
  let v5 : BitVec 1 := Scalar.cmpi .ne v4 c0_i32
  v5

def k0_mult1 : BitVec 32 :=
  let c77_i32_3 : BitVec 32 := 77#32
  let c77_i32_142 : BitVec 32 := 77#32
  let v140 : BitVec 32 := Scalar.subi c77_i32_3 c77_i32_142
  let c3_i32 : BitVec 32 := 3#32
  let v141 : BitVec 32 := Scalar.andi v140 c3_i32
  let c3584_i32_143 : BitVec 32 := 3584#32
  let v142 : BitVec 32 := Scalar.muli v141 c3584_i32_143
  v142
def k0_mult2 : BitVec 32 :=
  let c77_i32_3 : BitVec 32 := 77#32
  let c77_i32_142 : BitVec 32 := 77#32
  let v140 : BitVec 32 := Scalar.subi c77_i32_3 c77_i32_142
  let c2_i32 : BitVec 32 := 2#32
  let v144 : BitVec 32 := Scalar.shrsi v140 c2_i32
  let c512_i32_144 : BitVec 32 := 512#32
  let v145 : BitVec 32 := Scalar.muli v144 c512_i32_144
  v145
def k0_off1 : Fin 1 → Nat :=
  let c77_i32 : BitVec 32 := 77#32
  let c15_i32 : BitVec 32 := 15#32
  let v0 : BitVec 32 := Scalar.andi c77_i32 c15_i32
  ![v0.toNat]
def k0_off2 : Fin 3 → Nat :=
  let c77_i32 : BitVec 32 := 77#32
  let c15_i32 : BitVec 32 := 15#32
  let v0 : BitVec 32 := Scalar.andi c77_i32 c15_i32
  let c0_i32_145 : BitVec 32 := 0#32
  let c0_i32_146 : BitVec 32 := 0#32
  ![v0.toNat, 0, 0]
def k0_off3 : Fin 2 → Nat :=
  let c77_i32_3 : BitVec 32 := 77#32
  let c77_i32_142 : BitVec 32 := 77#32
  let v140 : BitVec 32 := Scalar.subi c77_i32_3 c77_i32_142
  let c3_i32 : BitVec 32 := 3#32
  let v141 : BitVec 32 := Scalar.andi v140 c3_i32
  let c3584_i32_143 : BitVec 32 := 3584#32
  let v142 : BitVec 32 := Scalar.muli v141 c3584_i32_143
  let v143 : BitVec 32 := v142
  let c2_i32 : BitVec 32 := 2#32
  let v144 : BitVec 32 := Scalar.shrsi v140 c2_i32
  let c512_i32_144 : BitVec 32 := 512#32
  let v145 : BitVec 32 := Scalar.muli v144 c512_i32_144
  let v146 : BitVec 32 := v145
  ![v143.toNat, v146.toNat]
def k0_cond2 : BitVec 1 :=
  let c78_i32_5 : BitVec 32 := 78#32
  let c77_i32_6 : BitVec 32 := 77#32
  let v7 : BitVec 1 := Scalar.cmpi .sge c78_i32_5 c77_i32_6
  let c78_i32_7 : BitVec 32 := 78#32
  let c109_i32_8 : BitVec 32 := 109#32
  let v8 : BitVec 1 := Scalar.cmpi .slt c78_i32_7 c109_i32_8
  let v9 : BitVec 1 := Scalar.andi v7 v8
  let v10 : BitVec 32 := Scalar.extui v9
  let c0_i32_10 : BitVec 32 := 0#32
  let v11 : BitVec 1 := Scalar.cmpi .ne v10 c0_i32_10
  v11

def k0_mult3 : BitVec 32 :=
  let c78_i32_9 : BitVec 32 := 78#32
  let c77_i32_142 : BitVec 32 := 77#32
  let v140 : BitVec 32 := Scalar.subi c78_i32_9 c77_i32_142
  let c3_i32 : BitVec 32 := 3#32
  let v141 : BitVec 32 := Scalar.andi v140 c3_i32
  let c3584_i32_143 : BitVec 32 := 3584#32
  let v142 : BitVec 32 := Scalar.muli v141 c3584_i32_143
  v142
def k0_mult4 : BitVec 32 :=
  let c78_i32_9 : BitVec 32 := 78#32
  let c77_i32_142 : BitVec 32 := 77#32
  let v140 : BitVec 32 := Scalar.subi c78_i32_9 c77_i32_142
  let c2_i32 : BitVec 32 := 2#32
  let v144 : BitVec 32 := Scalar.shrsi v140 c2_i32
  let c512_i32_144 : BitVec 32 := 512#32
  let v145 : BitVec 32 := Scalar.muli v144 c512_i32_144
  v145
def k0_off4 : Fin 1 → Nat :=
  let c78_i32 : BitVec 32 := 78#32
  let c15_i32_4 : BitVec 32 := 15#32
  let v6 : BitVec 32 := Scalar.andi c78_i32 c15_i32_4
  ![v6.toNat]
def k0_off5 : Fin 3 → Nat :=
  let c78_i32 : BitVec 32 := 78#32
  let c15_i32_4 : BitVec 32 := 15#32
  let v6 : BitVec 32 := Scalar.andi c78_i32 c15_i32_4
  let c0_i32_145 : BitVec 32 := 0#32
  let c0_i32_146 : BitVec 32 := 0#32
  ![v6.toNat, 0, 0]
def k0_off6 : Fin 2 → Nat :=
  let c78_i32_9 : BitVec 32 := 78#32
  let c77_i32_142 : BitVec 32 := 77#32
  let v140 : BitVec 32 := Scalar.subi c78_i32_9 c77_i32_142
  let c3_i32 : BitVec 32 := 3#32
  let v141 : BitVec 32 := Scalar.andi v140 c3_i32
  let c3584_i32_143 : BitVec 32 := 3584#32
  let v142 : BitVec 32 := Scalar.muli v141 c3584_i32_143
  let v143 : BitVec 32 := v142
  let c2_i32 : BitVec 32 := 2#32
  let v144 : BitVec 32 := Scalar.shrsi v140 c2_i32
  let c512_i32_144 : BitVec 32 := 512#32
  let v145 : BitVec 32 := Scalar.muli v144 c512_i32_144
  let v146 : BitVec 32 := v145
  ![v143.toNat, v146.toNat]
def k0_cond3 : BitVec 1 :=
  let c79_i32_12 : BitVec 32 := 79#32
  let c77_i32_13 : BitVec 32 := 77#32
  let v13 : BitVec 1 := Scalar.cmpi .sge c79_i32_12 c77_i32_13
  let c79_i32_14 : BitVec 32 := 79#32
  let c109_i32_15 : BitVec 32 := 109#32
  let v14 : BitVec 1 := Scalar.cmpi .slt c79_i32_14 c109_i32_15
  let v15 : BitVec 1 := Scalar.andi v13 v14
  let v16 : BitVec 32 := Scalar.extui v15
  let c0_i32_17 : BitVec 32 := 0#32
  let v17 : BitVec 1 := Scalar.cmpi .ne v16 c0_i32_17
  v17

def k0_mult5 : BitVec 32 :=
  let c79_i32_16 : BitVec 32 := 79#32
  let c77_i32_142 : BitVec 32 := 77#32
  let v140 : BitVec 32 := Scalar.subi c79_i32_16 c77_i32_142
  let c3_i32 : BitVec 32 := 3#32
  let v141 : BitVec 32 := Scalar.andi v140 c3_i32
  let c3584_i32_143 : BitVec 32 := 3584#32
  let v142 : BitVec 32 := Scalar.muli v141 c3584_i32_143
  v142
def k0_mult6 : BitVec 32 :=
  let c79_i32_16 : BitVec 32 := 79#32
  let c77_i32_142 : BitVec 32 := 77#32
  let v140 : BitVec 32 := Scalar.subi c79_i32_16 c77_i32_142
  let c2_i32 : BitVec 32 := 2#32
  let v144 : BitVec 32 := Scalar.shrsi v140 c2_i32
  let c512_i32_144 : BitVec 32 := 512#32
  let v145 : BitVec 32 := Scalar.muli v144 c512_i32_144
  v145
def k0_off7 : Fin 1 → Nat :=
  let c79_i32 : BitVec 32 := 79#32
  let c15_i32_11 : BitVec 32 := 15#32
  let v12 : BitVec 32 := Scalar.andi c79_i32 c15_i32_11
  ![v12.toNat]
def k0_off8 : Fin 3 → Nat :=
  let c79_i32 : BitVec 32 := 79#32
  let c15_i32_11 : BitVec 32 := 15#32
  let v12 : BitVec 32 := Scalar.andi c79_i32 c15_i32_11
  let c0_i32_145 : BitVec 32 := 0#32
  let c0_i32_146 : BitVec 32 := 0#32
  ![v12.toNat, 0, 0]
def k0_off9 : Fin 2 → Nat :=
  let c79_i32_16 : BitVec 32 := 79#32
  let c77_i32_142 : BitVec 32 := 77#32
  let v140 : BitVec 32 := Scalar.subi c79_i32_16 c77_i32_142
  let c3_i32 : BitVec 32 := 3#32
  let v141 : BitVec 32 := Scalar.andi v140 c3_i32
  let c3584_i32_143 : BitVec 32 := 3584#32
  let v142 : BitVec 32 := Scalar.muli v141 c3584_i32_143
  let v143 : BitVec 32 := v142
  let c2_i32 : BitVec 32 := 2#32
  let v144 : BitVec 32 := Scalar.shrsi v140 c2_i32
  let c512_i32_144 : BitVec 32 := 512#32
  let v145 : BitVec 32 := Scalar.muli v144 c512_i32_144
  let v146 : BitVec 32 := v145
  ![v143.toNat, v146.toNat]
def k0_cond4 : BitVec 1 :=
  let c80_i32_19 : BitVec 32 := 80#32
  let c77_i32_20 : BitVec 32 := 77#32
  let v19 : BitVec 1 := Scalar.cmpi .sge c80_i32_19 c77_i32_20
  let c80_i32_21 : BitVec 32 := 80#32
  let c109_i32_22 : BitVec 32 := 109#32
  let v20 : BitVec 1 := Scalar.cmpi .slt c80_i32_21 c109_i32_22
  let v21 : BitVec 1 := Scalar.andi v19 v20
  let v22 : BitVec 32 := Scalar.extui v21
  let c0_i32_24 : BitVec 32 := 0#32
  let v23 : BitVec 1 := Scalar.cmpi .ne v22 c0_i32_24
  v23

def k0_mult7 : BitVec 32 :=
  let c80_i32_23 : BitVec 32 := 80#32
  let c77_i32_142 : BitVec 32 := 77#32
  let v140 : BitVec 32 := Scalar.subi c80_i32_23 c77_i32_142
  let c3_i32 : BitVec 32 := 3#32
  let v141 : BitVec 32 := Scalar.andi v140 c3_i32
  let c3584_i32_143 : BitVec 32 := 3584#32
  let v142 : BitVec 32 := Scalar.muli v141 c3584_i32_143
  v142
def k0_mult8 : BitVec 32 :=
  let c80_i32_23 : BitVec 32 := 80#32
  let c77_i32_142 : BitVec 32 := 77#32
  let v140 : BitVec 32 := Scalar.subi c80_i32_23 c77_i32_142
  let c2_i32 : BitVec 32 := 2#32
  let v144 : BitVec 32 := Scalar.shrsi v140 c2_i32
  let c512_i32_144 : BitVec 32 := 512#32
  let v145 : BitVec 32 := Scalar.muli v144 c512_i32_144
  v145
def k0_off10 : Fin 1 → Nat :=
  let c80_i32 : BitVec 32 := 80#32
  let c15_i32_18 : BitVec 32 := 15#32
  let v18 : BitVec 32 := Scalar.andi c80_i32 c15_i32_18
  ![v18.toNat]
def k0_off11 : Fin 3 → Nat :=
  let c80_i32 : BitVec 32 := 80#32
  let c15_i32_18 : BitVec 32 := 15#32
  let v18 : BitVec 32 := Scalar.andi c80_i32 c15_i32_18
  let c0_i32_145 : BitVec 32 := 0#32
  let c0_i32_146 : BitVec 32 := 0#32
  ![v18.toNat, 0, 0]
def k0_off12 : Fin 2 → Nat :=
  let c80_i32_23 : BitVec 32 := 80#32
  let c77_i32_142 : BitVec 32 := 77#32
  let v140 : BitVec 32 := Scalar.subi c80_i32_23 c77_i32_142
  let c3_i32 : BitVec 32 := 3#32
  let v141 : BitVec 32 := Scalar.andi v140 c3_i32
  let c3584_i32_143 : BitVec 32 := 3584#32
  let v142 : BitVec 32 := Scalar.muli v141 c3584_i32_143
  let v143 : BitVec 32 := v142
  let c2_i32 : BitVec 32 := 2#32
  let v144 : BitVec 32 := Scalar.shrsi v140 c2_i32
  let c512_i32_144 : BitVec 32 := 512#32
  let v145 : BitVec 32 := Scalar.muli v144 c512_i32_144
  let v146 : BitVec 32 := v145
  ![v143.toNat, v146.toNat]
def k0_cond5 : BitVec 1 :=
  let c81_i32_26 : BitVec 32 := 81#32
  let c77_i32_27 : BitVec 32 := 77#32
  let v25 : BitVec 1 := Scalar.cmpi .sge c81_i32_26 c77_i32_27
  let c81_i32_28 : BitVec 32 := 81#32
  let c109_i32_29 : BitVec 32 := 109#32
  let v26 : BitVec 1 := Scalar.cmpi .slt c81_i32_28 c109_i32_29
  let v27 : BitVec 1 := Scalar.andi v25 v26
  let v28 : BitVec 32 := Scalar.extui v27
  let c0_i32_31 : BitVec 32 := 0#32
  let v29 : BitVec 1 := Scalar.cmpi .ne v28 c0_i32_31
  v29

def k0_mult9 : BitVec 32 :=
  let c81_i32_30 : BitVec 32 := 81#32
  let c77_i32_142 : BitVec 32 := 77#32
  let v140 : BitVec 32 := Scalar.subi c81_i32_30 c77_i32_142
  let c3_i32 : BitVec 32 := 3#32
  let v141 : BitVec 32 := Scalar.andi v140 c3_i32
  let c3584_i32_143 : BitVec 32 := 3584#32
  let v142 : BitVec 32 := Scalar.muli v141 c3584_i32_143
  v142
def k0_mult10 : BitVec 32 :=
  let c81_i32_30 : BitVec 32 := 81#32
  let c77_i32_142 : BitVec 32 := 77#32
  let v140 : BitVec 32 := Scalar.subi c81_i32_30 c77_i32_142
  let c2_i32 : BitVec 32 := 2#32
  let v144 : BitVec 32 := Scalar.shrsi v140 c2_i32
  let c512_i32_144 : BitVec 32 := 512#32
  let v145 : BitVec 32 := Scalar.muli v144 c512_i32_144
  v145
def k0_off13 : Fin 1 → Nat :=
  let c81_i32 : BitVec 32 := 81#32
  let c15_i32_25 : BitVec 32 := 15#32
  let v24 : BitVec 32 := Scalar.andi c81_i32 c15_i32_25
  ![v24.toNat]
def k0_off14 : Fin 3 → Nat :=
  let c81_i32 : BitVec 32 := 81#32
  let c15_i32_25 : BitVec 32 := 15#32
  let v24 : BitVec 32 := Scalar.andi c81_i32 c15_i32_25
  let c0_i32_145 : BitVec 32 := 0#32
  let c0_i32_146 : BitVec 32 := 0#32
  ![v24.toNat, 0, 0]
def k0_off15 : Fin 2 → Nat :=
  let c81_i32_30 : BitVec 32 := 81#32
  let c77_i32_142 : BitVec 32 := 77#32
  let v140 : BitVec 32 := Scalar.subi c81_i32_30 c77_i32_142
  let c3_i32 : BitVec 32 := 3#32
  let v141 : BitVec 32 := Scalar.andi v140 c3_i32
  let c3584_i32_143 : BitVec 32 := 3584#32
  let v142 : BitVec 32 := Scalar.muli v141 c3584_i32_143
  let v143 : BitVec 32 := v142
  let c2_i32 : BitVec 32 := 2#32
  let v144 : BitVec 32 := Scalar.shrsi v140 c2_i32
  let c512_i32_144 : BitVec 32 := 512#32
  let v145 : BitVec 32 := Scalar.muli v144 c512_i32_144
  let v146 : BitVec 32 := v145
  ![v143.toNat, v146.toNat]
def k0_cond6 : BitVec 1 :=
  let c82_i32_33 : BitVec 32 := 82#32
  let c77_i32_34 : BitVec 32 := 77#32
  let v31 : BitVec 1 := Scalar.cmpi .sge c82_i32_33 c77_i32_34
  let c82_i32_35 : BitVec 32 := 82#32
  let c109_i32_36 : BitVec 32 := 109#32
  let v32 : BitVec 1 := Scalar.cmpi .slt c82_i32_35 c109_i32_36
  let v33 : BitVec 1 := Scalar.andi v31 v32
  let v34 : BitVec 32 := Scalar.extui v33
  let c0_i32_38 : BitVec 32 := 0#32
  let v35 : BitVec 1 := Scalar.cmpi .ne v34 c0_i32_38
  v35

def k0_mult11 : BitVec 32 :=
  let c82_i32_37 : BitVec 32 := 82#32
  let c77_i32_142 : BitVec 32 := 77#32
  let v140 : BitVec 32 := Scalar.subi c82_i32_37 c77_i32_142
  let c3_i32 : BitVec 32 := 3#32
  let v141 : BitVec 32 := Scalar.andi v140 c3_i32
  let c3584_i32_143 : BitVec 32 := 3584#32
  let v142 : BitVec 32 := Scalar.muli v141 c3584_i32_143
  v142
def k0_mult12 : BitVec 32 :=
  let c82_i32_37 : BitVec 32 := 82#32
  let c77_i32_142 : BitVec 32 := 77#32
  let v140 : BitVec 32 := Scalar.subi c82_i32_37 c77_i32_142
  let c2_i32 : BitVec 32 := 2#32
  let v144 : BitVec 32 := Scalar.shrsi v140 c2_i32
  let c512_i32_144 : BitVec 32 := 512#32
  let v145 : BitVec 32 := Scalar.muli v144 c512_i32_144
  v145
def k0_off16 : Fin 1 → Nat :=
  let c82_i32 : BitVec 32 := 82#32
  let c15_i32_32 : BitVec 32 := 15#32
  let v30 : BitVec 32 := Scalar.andi c82_i32 c15_i32_32
  ![v30.toNat]
def k0_off17 : Fin 3 → Nat :=
  let c82_i32 : BitVec 32 := 82#32
  let c15_i32_32 : BitVec 32 := 15#32
  let v30 : BitVec 32 := Scalar.andi c82_i32 c15_i32_32
  let c0_i32_145 : BitVec 32 := 0#32
  let c0_i32_146 : BitVec 32 := 0#32
  ![v30.toNat, 0, 0]
def k0_off18 : Fin 2 → Nat :=
  let c82_i32_37 : BitVec 32 := 82#32
  let c77_i32_142 : BitVec 32 := 77#32
  let v140 : BitVec 32 := Scalar.subi c82_i32_37 c77_i32_142
  let c3_i32 : BitVec 32 := 3#32
  let v141 : BitVec 32 := Scalar.andi v140 c3_i32
  let c3584_i32_143 : BitVec 32 := 3584#32
  let v142 : BitVec 32 := Scalar.muli v141 c3584_i32_143
  let v143 : BitVec 32 := v142
  let c2_i32 : BitVec 32 := 2#32
  let v144 : BitVec 32 := Scalar.shrsi v140 c2_i32
  let c512_i32_144 : BitVec 32 := 512#32
  let v145 : BitVec 32 := Scalar.muli v144 c512_i32_144
  let v146 : BitVec 32 := v145
  ![v143.toNat, v146.toNat]
def k0_cond7 : BitVec 1 :=
  let c83_i32_40 : BitVec 32 := 83#32
  let c77_i32_41 : BitVec 32 := 77#32
  let v37 : BitVec 1 := Scalar.cmpi .sge c83_i32_40 c77_i32_41
  let c83_i32_42 : BitVec 32 := 83#32
  let c109_i32_43 : BitVec 32 := 109#32
  let v38 : BitVec 1 := Scalar.cmpi .slt c83_i32_42 c109_i32_43
  let v39 : BitVec 1 := Scalar.andi v37 v38
  let v40 : BitVec 32 := Scalar.extui v39
  let c0_i32_45 : BitVec 32 := 0#32
  let v41 : BitVec 1 := Scalar.cmpi .ne v40 c0_i32_45
  v41

def k0_mult13 : BitVec 32 :=
  let c83_i32_44 : BitVec 32 := 83#32
  let c77_i32_142 : BitVec 32 := 77#32
  let v140 : BitVec 32 := Scalar.subi c83_i32_44 c77_i32_142
  let c3_i32 : BitVec 32 := 3#32
  let v141 : BitVec 32 := Scalar.andi v140 c3_i32
  let c3584_i32_143 : BitVec 32 := 3584#32
  let v142 : BitVec 32 := Scalar.muli v141 c3584_i32_143
  v142
def k0_mult14 : BitVec 32 :=
  let c83_i32_44 : BitVec 32 := 83#32
  let c77_i32_142 : BitVec 32 := 77#32
  let v140 : BitVec 32 := Scalar.subi c83_i32_44 c77_i32_142
  let c2_i32 : BitVec 32 := 2#32
  let v144 : BitVec 32 := Scalar.shrsi v140 c2_i32
  let c512_i32_144 : BitVec 32 := 512#32
  let v145 : BitVec 32 := Scalar.muli v144 c512_i32_144
  v145
def k0_off19 : Fin 1 → Nat :=
  let c83_i32 : BitVec 32 := 83#32
  let c15_i32_39 : BitVec 32 := 15#32
  let v36 : BitVec 32 := Scalar.andi c83_i32 c15_i32_39
  ![v36.toNat]
def k0_off20 : Fin 3 → Nat :=
  let c83_i32 : BitVec 32 := 83#32
  let c15_i32_39 : BitVec 32 := 15#32
  let v36 : BitVec 32 := Scalar.andi c83_i32 c15_i32_39
  let c0_i32_145 : BitVec 32 := 0#32
  let c0_i32_146 : BitVec 32 := 0#32
  ![v36.toNat, 0, 0]
def k0_off21 : Fin 2 → Nat :=
  let c83_i32_44 : BitVec 32 := 83#32
  let c77_i32_142 : BitVec 32 := 77#32
  let v140 : BitVec 32 := Scalar.subi c83_i32_44 c77_i32_142
  let c3_i32 : BitVec 32 := 3#32
  let v141 : BitVec 32 := Scalar.andi v140 c3_i32
  let c3584_i32_143 : BitVec 32 := 3584#32
  let v142 : BitVec 32 := Scalar.muli v141 c3584_i32_143
  let v143 : BitVec 32 := v142
  let c2_i32 : BitVec 32 := 2#32
  let v144 : BitVec 32 := Scalar.shrsi v140 c2_i32
  let c512_i32_144 : BitVec 32 := 512#32
  let v145 : BitVec 32 := Scalar.muli v144 c512_i32_144
  let v146 : BitVec 32 := v145
  ![v143.toNat, v146.toNat]
def k0_cond8 : BitVec 1 :=
  let c84_i32_47 : BitVec 32 := 84#32
  let c77_i32_48 : BitVec 32 := 77#32
  let v43 : BitVec 1 := Scalar.cmpi .sge c84_i32_47 c77_i32_48
  let c84_i32_49 : BitVec 32 := 84#32
  let c109_i32_50 : BitVec 32 := 109#32
  let v44 : BitVec 1 := Scalar.cmpi .slt c84_i32_49 c109_i32_50
  let v45 : BitVec 1 := Scalar.andi v43 v44
  let v46 : BitVec 32 := Scalar.extui v45
  let c0_i32_52 : BitVec 32 := 0#32
  let v47 : BitVec 1 := Scalar.cmpi .ne v46 c0_i32_52
  v47

def k0_mult15 : BitVec 32 :=
  let c84_i32_51 : BitVec 32 := 84#32
  let c77_i32_142 : BitVec 32 := 77#32
  let v140 : BitVec 32 := Scalar.subi c84_i32_51 c77_i32_142
  let c3_i32 : BitVec 32 := 3#32
  let v141 : BitVec 32 := Scalar.andi v140 c3_i32
  let c3584_i32_143 : BitVec 32 := 3584#32
  let v142 : BitVec 32 := Scalar.muli v141 c3584_i32_143
  v142
def k0_mult16 : BitVec 32 :=
  let c84_i32_51 : BitVec 32 := 84#32
  let c77_i32_142 : BitVec 32 := 77#32
  let v140 : BitVec 32 := Scalar.subi c84_i32_51 c77_i32_142
  let c2_i32 : BitVec 32 := 2#32
  let v144 : BitVec 32 := Scalar.shrsi v140 c2_i32
  let c512_i32_144 : BitVec 32 := 512#32
  let v145 : BitVec 32 := Scalar.muli v144 c512_i32_144
  v145
def k0_off22 : Fin 1 → Nat :=
  let c84_i32 : BitVec 32 := 84#32
  let c15_i32_46 : BitVec 32 := 15#32
  let v42 : BitVec 32 := Scalar.andi c84_i32 c15_i32_46
  ![v42.toNat]
def k0_off23 : Fin 3 → Nat :=
  let c84_i32 : BitVec 32 := 84#32
  let c15_i32_46 : BitVec 32 := 15#32
  let v42 : BitVec 32 := Scalar.andi c84_i32 c15_i32_46
  let c0_i32_145 : BitVec 32 := 0#32
  let c0_i32_146 : BitVec 32 := 0#32
  ![v42.toNat, 0, 0]
def k0_off24 : Fin 2 → Nat :=
  let c84_i32_51 : BitVec 32 := 84#32
  let c77_i32_142 : BitVec 32 := 77#32
  let v140 : BitVec 32 := Scalar.subi c84_i32_51 c77_i32_142
  let c3_i32 : BitVec 32 := 3#32
  let v141 : BitVec 32 := Scalar.andi v140 c3_i32
  let c3584_i32_143 : BitVec 32 := 3584#32
  let v142 : BitVec 32 := Scalar.muli v141 c3584_i32_143
  let v143 : BitVec 32 := v142
  let c2_i32 : BitVec 32 := 2#32
  let v144 : BitVec 32 := Scalar.shrsi v140 c2_i32
  let c512_i32_144 : BitVec 32 := 512#32
  let v145 : BitVec 32 := Scalar.muli v144 c512_i32_144
  let v146 : BitVec 32 := v145
  ![v143.toNat, v146.toNat]
def k0_cond9 : BitVec 1 :=
  let c85_i32_54 : BitVec 32 := 85#32
  let c77_i32_55 : BitVec 32 := 77#32
  let v49 : BitVec 1 := Scalar.cmpi .sge c85_i32_54 c77_i32_55
  let c85_i32_56 : BitVec 32 := 85#32
  let c109_i32_57 : BitVec 32 := 109#32
  let v50 : BitVec 1 := Scalar.cmpi .slt c85_i32_56 c109_i32_57
  let v51 : BitVec 1 := Scalar.andi v49 v50
  let v52 : BitVec 32 := Scalar.extui v51
  let c0_i32_59 : BitVec 32 := 0#32
  let v53 : BitVec 1 := Scalar.cmpi .ne v52 c0_i32_59
  v53

def k0_mult17 : BitVec 32 :=
  let c85_i32_58 : BitVec 32 := 85#32
  let c77_i32_142 : BitVec 32 := 77#32
  let v140 : BitVec 32 := Scalar.subi c85_i32_58 c77_i32_142
  let c3_i32 : BitVec 32 := 3#32
  let v141 : BitVec 32 := Scalar.andi v140 c3_i32
  let c3584_i32_143 : BitVec 32 := 3584#32
  let v142 : BitVec 32 := Scalar.muli v141 c3584_i32_143
  v142
def k0_mult18 : BitVec 32 :=
  let c85_i32_58 : BitVec 32 := 85#32
  let c77_i32_142 : BitVec 32 := 77#32
  let v140 : BitVec 32 := Scalar.subi c85_i32_58 c77_i32_142
  let c2_i32 : BitVec 32 := 2#32
  let v144 : BitVec 32 := Scalar.shrsi v140 c2_i32
  let c512_i32_144 : BitVec 32 := 512#32
  let v145 : BitVec 32 := Scalar.muli v144 c512_i32_144
  v145
def k0_off25 : Fin 1 → Nat :=
  let c85_i32 : BitVec 32 := 85#32
  let c15_i32_53 : BitVec 32 := 15#32
  let v48 : BitVec 32 := Scalar.andi c85_i32 c15_i32_53
  ![v48.toNat]
def k0_off26 : Fin 3 → Nat :=
  let c85_i32 : BitVec 32 := 85#32
  let c15_i32_53 : BitVec 32 := 15#32
  let v48 : BitVec 32 := Scalar.andi c85_i32 c15_i32_53
  let c0_i32_145 : BitVec 32 := 0#32
  let c0_i32_146 : BitVec 32 := 0#32
  ![v48.toNat, 0, 0]
def k0_off27 : Fin 2 → Nat :=
  let c85_i32_58 : BitVec 32 := 85#32
  let c77_i32_142 : BitVec 32 := 77#32
  let v140 : BitVec 32 := Scalar.subi c85_i32_58 c77_i32_142
  let c3_i32 : BitVec 32 := 3#32
  let v141 : BitVec 32 := Scalar.andi v140 c3_i32
  let c3584_i32_143 : BitVec 32 := 3584#32
  let v142 : BitVec 32 := Scalar.muli v141 c3584_i32_143
  let v143 : BitVec 32 := v142
  let c2_i32 : BitVec 32 := 2#32
  let v144 : BitVec 32 := Scalar.shrsi v140 c2_i32
  let c512_i32_144 : BitVec 32 := 512#32
  let v145 : BitVec 32 := Scalar.muli v144 c512_i32_144
  let v146 : BitVec 32 := v145
  ![v143.toNat, v146.toNat]
def k0_cond10 : BitVec 1 :=
  let c86_i32_61 : BitVec 32 := 86#32
  let c77_i32_62 : BitVec 32 := 77#32
  let v55 : BitVec 1 := Scalar.cmpi .sge c86_i32_61 c77_i32_62
  let c86_i32_63 : BitVec 32 := 86#32
  let c109_i32_64 : BitVec 32 := 109#32
  let v56 : BitVec 1 := Scalar.cmpi .slt c86_i32_63 c109_i32_64
  let v57 : BitVec 1 := Scalar.andi v55 v56
  let v58 : BitVec 32 := Scalar.extui v57
  let c0_i32_66 : BitVec 32 := 0#32
  let v59 : BitVec 1 := Scalar.cmpi .ne v58 c0_i32_66
  v59

def k0_mult19 : BitVec 32 :=
  let c86_i32_65 : BitVec 32 := 86#32
  let c77_i32_142 : BitVec 32 := 77#32
  let v140 : BitVec 32 := Scalar.subi c86_i32_65 c77_i32_142
  let c3_i32 : BitVec 32 := 3#32
  let v141 : BitVec 32 := Scalar.andi v140 c3_i32
  let c3584_i32_143 : BitVec 32 := 3584#32
  let v142 : BitVec 32 := Scalar.muli v141 c3584_i32_143
  v142
def k0_mult20 : BitVec 32 :=
  let c86_i32_65 : BitVec 32 := 86#32
  let c77_i32_142 : BitVec 32 := 77#32
  let v140 : BitVec 32 := Scalar.subi c86_i32_65 c77_i32_142
  let c2_i32 : BitVec 32 := 2#32
  let v144 : BitVec 32 := Scalar.shrsi v140 c2_i32
  let c512_i32_144 : BitVec 32 := 512#32
  let v145 : BitVec 32 := Scalar.muli v144 c512_i32_144
  v145
def k0_off28 : Fin 1 → Nat :=
  let c86_i32 : BitVec 32 := 86#32
  let c15_i32_60 : BitVec 32 := 15#32
  let v54 : BitVec 32 := Scalar.andi c86_i32 c15_i32_60
  ![v54.toNat]
def k0_off29 : Fin 3 → Nat :=
  let c86_i32 : BitVec 32 := 86#32
  let c15_i32_60 : BitVec 32 := 15#32
  let v54 : BitVec 32 := Scalar.andi c86_i32 c15_i32_60
  let c0_i32_145 : BitVec 32 := 0#32
  let c0_i32_146 : BitVec 32 := 0#32
  ![v54.toNat, 0, 0]
def k0_off30 : Fin 2 → Nat :=
  let c86_i32_65 : BitVec 32 := 86#32
  let c77_i32_142 : BitVec 32 := 77#32
  let v140 : BitVec 32 := Scalar.subi c86_i32_65 c77_i32_142
  let c3_i32 : BitVec 32 := 3#32
  let v141 : BitVec 32 := Scalar.andi v140 c3_i32
  let c3584_i32_143 : BitVec 32 := 3584#32
  let v142 : BitVec 32 := Scalar.muli v141 c3584_i32_143
  let v143 : BitVec 32 := v142
  let c2_i32 : BitVec 32 := 2#32
  let v144 : BitVec 32 := Scalar.shrsi v140 c2_i32
  let c512_i32_144 : BitVec 32 := 512#32
  let v145 : BitVec 32 := Scalar.muli v144 c512_i32_144
  let v146 : BitVec 32 := v145
  ![v143.toNat, v146.toNat]
def k0_cond11 : BitVec 1 :=
  let c87_i32_68 : BitVec 32 := 87#32
  let c77_i32_69 : BitVec 32 := 77#32
  let v61 : BitVec 1 := Scalar.cmpi .sge c87_i32_68 c77_i32_69
  let c87_i32_70 : BitVec 32 := 87#32
  let c109_i32_71 : BitVec 32 := 109#32
  let v62 : BitVec 1 := Scalar.cmpi .slt c87_i32_70 c109_i32_71
  let v63 : BitVec 1 := Scalar.andi v61 v62
  let v64 : BitVec 32 := Scalar.extui v63
  let c0_i32_73 : BitVec 32 := 0#32
  let v65 : BitVec 1 := Scalar.cmpi .ne v64 c0_i32_73
  v65

def k0_mult21 : BitVec 32 :=
  let c87_i32_72 : BitVec 32 := 87#32
  let c77_i32_142 : BitVec 32 := 77#32
  let v140 : BitVec 32 := Scalar.subi c87_i32_72 c77_i32_142
  let c3_i32 : BitVec 32 := 3#32
  let v141 : BitVec 32 := Scalar.andi v140 c3_i32
  let c3584_i32_143 : BitVec 32 := 3584#32
  let v142 : BitVec 32 := Scalar.muli v141 c3584_i32_143
  v142
def k0_mult22 : BitVec 32 :=
  let c87_i32_72 : BitVec 32 := 87#32
  let c77_i32_142 : BitVec 32 := 77#32
  let v140 : BitVec 32 := Scalar.subi c87_i32_72 c77_i32_142
  let c2_i32 : BitVec 32 := 2#32
  let v144 : BitVec 32 := Scalar.shrsi v140 c2_i32
  let c512_i32_144 : BitVec 32 := 512#32
  let v145 : BitVec 32 := Scalar.muli v144 c512_i32_144
  v145
def k0_off31 : Fin 1 → Nat :=
  let c87_i32 : BitVec 32 := 87#32
  let c15_i32_67 : BitVec 32 := 15#32
  let v60 : BitVec 32 := Scalar.andi c87_i32 c15_i32_67
  ![v60.toNat]
def k0_off32 : Fin 3 → Nat :=
  let c87_i32 : BitVec 32 := 87#32
  let c15_i32_67 : BitVec 32 := 15#32
  let v60 : BitVec 32 := Scalar.andi c87_i32 c15_i32_67
  let c0_i32_145 : BitVec 32 := 0#32
  let c0_i32_146 : BitVec 32 := 0#32
  ![v60.toNat, 0, 0]
def k0_off33 : Fin 2 → Nat :=
  let c87_i32_72 : BitVec 32 := 87#32
  let c77_i32_142 : BitVec 32 := 77#32
  let v140 : BitVec 32 := Scalar.subi c87_i32_72 c77_i32_142
  let c3_i32 : BitVec 32 := 3#32
  let v141 : BitVec 32 := Scalar.andi v140 c3_i32
  let c3584_i32_143 : BitVec 32 := 3584#32
  let v142 : BitVec 32 := Scalar.muli v141 c3584_i32_143
  let v143 : BitVec 32 := v142
  let c2_i32 : BitVec 32 := 2#32
  let v144 : BitVec 32 := Scalar.shrsi v140 c2_i32
  let c512_i32_144 : BitVec 32 := 512#32
  let v145 : BitVec 32 := Scalar.muli v144 c512_i32_144
  let v146 : BitVec 32 := v145
  ![v143.toNat, v146.toNat]
def k0_cond12 : BitVec 1 :=
  let c88_i32_75 : BitVec 32 := 88#32
  let c77_i32_76 : BitVec 32 := 77#32
  let v67 : BitVec 1 := Scalar.cmpi .sge c88_i32_75 c77_i32_76
  let c88_i32_77 : BitVec 32 := 88#32
  let c109_i32_78 : BitVec 32 := 109#32
  let v68 : BitVec 1 := Scalar.cmpi .slt c88_i32_77 c109_i32_78
  let v69 : BitVec 1 := Scalar.andi v67 v68
  let v70 : BitVec 32 := Scalar.extui v69
  let c0_i32_80 : BitVec 32 := 0#32
  let v71 : BitVec 1 := Scalar.cmpi .ne v70 c0_i32_80
  v71

def k0_mult23 : BitVec 32 :=
  let c88_i32_79 : BitVec 32 := 88#32
  let c77_i32_142 : BitVec 32 := 77#32
  let v140 : BitVec 32 := Scalar.subi c88_i32_79 c77_i32_142
  let c3_i32 : BitVec 32 := 3#32
  let v141 : BitVec 32 := Scalar.andi v140 c3_i32
  let c3584_i32_143 : BitVec 32 := 3584#32
  let v142 : BitVec 32 := Scalar.muli v141 c3584_i32_143
  v142
def k0_mult24 : BitVec 32 :=
  let c88_i32_79 : BitVec 32 := 88#32
  let c77_i32_142 : BitVec 32 := 77#32
  let v140 : BitVec 32 := Scalar.subi c88_i32_79 c77_i32_142
  let c2_i32 : BitVec 32 := 2#32
  let v144 : BitVec 32 := Scalar.shrsi v140 c2_i32
  let c512_i32_144 : BitVec 32 := 512#32
  let v145 : BitVec 32 := Scalar.muli v144 c512_i32_144
  v145
def k0_off34 : Fin 1 → Nat :=
  let c88_i32 : BitVec 32 := 88#32
  let c15_i32_74 : BitVec 32 := 15#32
  let v66 : BitVec 32 := Scalar.andi c88_i32 c15_i32_74
  ![v66.toNat]
def k0_off35 : Fin 3 → Nat :=
  let c88_i32 : BitVec 32 := 88#32
  let c15_i32_74 : BitVec 32 := 15#32
  let v66 : BitVec 32 := Scalar.andi c88_i32 c15_i32_74
  let c0_i32_145 : BitVec 32 := 0#32
  let c0_i32_146 : BitVec 32 := 0#32
  ![v66.toNat, 0, 0]
def k0_off36 : Fin 2 → Nat :=
  let c88_i32_79 : BitVec 32 := 88#32
  let c77_i32_142 : BitVec 32 := 77#32
  let v140 : BitVec 32 := Scalar.subi c88_i32_79 c77_i32_142
  let c3_i32 : BitVec 32 := 3#32
  let v141 : BitVec 32 := Scalar.andi v140 c3_i32
  let c3584_i32_143 : BitVec 32 := 3584#32
  let v142 : BitVec 32 := Scalar.muli v141 c3584_i32_143
  let v143 : BitVec 32 := v142
  let c2_i32 : BitVec 32 := 2#32
  let v144 : BitVec 32 := Scalar.shrsi v140 c2_i32
  let c512_i32_144 : BitVec 32 := 512#32
  let v145 : BitVec 32 := Scalar.muli v144 c512_i32_144
  let v146 : BitVec 32 := v145
  ![v143.toNat, v146.toNat]
def k0_cond13 : BitVec 1 :=
  let c89_i32_82 : BitVec 32 := 89#32
  let c77_i32_83 : BitVec 32 := 77#32
  let v73 : BitVec 1 := Scalar.cmpi .sge c89_i32_82 c77_i32_83
  let c89_i32_84 : BitVec 32 := 89#32
  let c109_i32_85 : BitVec 32 := 109#32
  let v74 : BitVec 1 := Scalar.cmpi .slt c89_i32_84 c109_i32_85
  let v75 : BitVec 1 := Scalar.andi v73 v74
  let v76 : BitVec 32 := Scalar.extui v75
  let c0_i32_87 : BitVec 32 := 0#32
  let v77 : BitVec 1 := Scalar.cmpi .ne v76 c0_i32_87
  v77

def k0_mult25 : BitVec 32 :=
  let c89_i32_86 : BitVec 32 := 89#32
  let c77_i32_142 : BitVec 32 := 77#32
  let v140 : BitVec 32 := Scalar.subi c89_i32_86 c77_i32_142
  let c3_i32 : BitVec 32 := 3#32
  let v141 : BitVec 32 := Scalar.andi v140 c3_i32
  let c3584_i32_143 : BitVec 32 := 3584#32
  let v142 : BitVec 32 := Scalar.muli v141 c3584_i32_143
  v142
def k0_mult26 : BitVec 32 :=
  let c89_i32_86 : BitVec 32 := 89#32
  let c77_i32_142 : BitVec 32 := 77#32
  let v140 : BitVec 32 := Scalar.subi c89_i32_86 c77_i32_142
  let c2_i32 : BitVec 32 := 2#32
  let v144 : BitVec 32 := Scalar.shrsi v140 c2_i32
  let c512_i32_144 : BitVec 32 := 512#32
  let v145 : BitVec 32 := Scalar.muli v144 c512_i32_144
  v145
def k0_off37 : Fin 1 → Nat :=
  let c89_i32 : BitVec 32 := 89#32
  let c15_i32_81 : BitVec 32 := 15#32
  let v72 : BitVec 32 := Scalar.andi c89_i32 c15_i32_81
  ![v72.toNat]
def k0_off38 : Fin 3 → Nat :=
  let c89_i32 : BitVec 32 := 89#32
  let c15_i32_81 : BitVec 32 := 15#32
  let v72 : BitVec 32 := Scalar.andi c89_i32 c15_i32_81
  let c0_i32_145 : BitVec 32 := 0#32
  let c0_i32_146 : BitVec 32 := 0#32
  ![v72.toNat, 0, 0]
def k0_off39 : Fin 2 → Nat :=
  let c89_i32_86 : BitVec 32 := 89#32
  let c77_i32_142 : BitVec 32 := 77#32
  let v140 : BitVec 32 := Scalar.subi c89_i32_86 c77_i32_142
  let c3_i32 : BitVec 32 := 3#32
  let v141 : BitVec 32 := Scalar.andi v140 c3_i32
  let c3584_i32_143 : BitVec 32 := 3584#32
  let v142 : BitVec 32 := Scalar.muli v141 c3584_i32_143
  let v143 : BitVec 32 := v142
  let c2_i32 : BitVec 32 := 2#32
  let v144 : BitVec 32 := Scalar.shrsi v140 c2_i32
  let c512_i32_144 : BitVec 32 := 512#32
  let v145 : BitVec 32 := Scalar.muli v144 c512_i32_144
  let v146 : BitVec 32 := v145
  ![v143.toNat, v146.toNat]
def k0_cond14 : BitVec 1 :=
  let c90_i32_89 : BitVec 32 := 90#32
  let c77_i32_90 : BitVec 32 := 77#32
  let v79 : BitVec 1 := Scalar.cmpi .sge c90_i32_89 c77_i32_90
  let c90_i32_91 : BitVec 32 := 90#32
  let c109_i32_92 : BitVec 32 := 109#32
  let v80 : BitVec 1 := Scalar.cmpi .slt c90_i32_91 c109_i32_92
  let v81 : BitVec 1 := Scalar.andi v79 v80
  let v82 : BitVec 32 := Scalar.extui v81
  let c0_i32_94 : BitVec 32 := 0#32
  let v83 : BitVec 1 := Scalar.cmpi .ne v82 c0_i32_94
  v83

def k0_mult27 : BitVec 32 :=
  let c90_i32_93 : BitVec 32 := 90#32
  let c77_i32_142 : BitVec 32 := 77#32
  let v140 : BitVec 32 := Scalar.subi c90_i32_93 c77_i32_142
  let c3_i32 : BitVec 32 := 3#32
  let v141 : BitVec 32 := Scalar.andi v140 c3_i32
  let c3584_i32_143 : BitVec 32 := 3584#32
  let v142 : BitVec 32 := Scalar.muli v141 c3584_i32_143
  v142
def k0_mult28 : BitVec 32 :=
  let c90_i32_93 : BitVec 32 := 90#32
  let c77_i32_142 : BitVec 32 := 77#32
  let v140 : BitVec 32 := Scalar.subi c90_i32_93 c77_i32_142
  let c2_i32 : BitVec 32 := 2#32
  let v144 : BitVec 32 := Scalar.shrsi v140 c2_i32
  let c512_i32_144 : BitVec 32 := 512#32
  let v145 : BitVec 32 := Scalar.muli v144 c512_i32_144
  v145
def k0_off40 : Fin 1 → Nat :=
  let c90_i32 : BitVec 32 := 90#32
  let c15_i32_88 : BitVec 32 := 15#32
  let v78 : BitVec 32 := Scalar.andi c90_i32 c15_i32_88
  ![v78.toNat]
def k0_off41 : Fin 3 → Nat :=
  let c90_i32 : BitVec 32 := 90#32
  let c15_i32_88 : BitVec 32 := 15#32
  let v78 : BitVec 32 := Scalar.andi c90_i32 c15_i32_88
  let c0_i32_145 : BitVec 32 := 0#32
  let c0_i32_146 : BitVec 32 := 0#32
  ![v78.toNat, 0, 0]
def k0_off42 : Fin 2 → Nat :=
  let c90_i32_93 : BitVec 32 := 90#32
  let c77_i32_142 : BitVec 32 := 77#32
  let v140 : BitVec 32 := Scalar.subi c90_i32_93 c77_i32_142
  let c3_i32 : BitVec 32 := 3#32
  let v141 : BitVec 32 := Scalar.andi v140 c3_i32
  let c3584_i32_143 : BitVec 32 := 3584#32
  let v142 : BitVec 32 := Scalar.muli v141 c3584_i32_143
  let v143 : BitVec 32 := v142
  let c2_i32 : BitVec 32 := 2#32
  let v144 : BitVec 32 := Scalar.shrsi v140 c2_i32
  let c512_i32_144 : BitVec 32 := 512#32
  let v145 : BitVec 32 := Scalar.muli v144 c512_i32_144
  let v146 : BitVec 32 := v145
  ![v143.toNat, v146.toNat]
def k0_cond15 : BitVec 1 :=
  let c91_i32_96 : BitVec 32 := 91#32
  let c77_i32_97 : BitVec 32 := 77#32
  let v85 : BitVec 1 := Scalar.cmpi .sge c91_i32_96 c77_i32_97
  let c91_i32_98 : BitVec 32 := 91#32
  let c109_i32_99 : BitVec 32 := 109#32
  let v86 : BitVec 1 := Scalar.cmpi .slt c91_i32_98 c109_i32_99
  let v87 : BitVec 1 := Scalar.andi v85 v86
  let v88 : BitVec 32 := Scalar.extui v87
  let c0_i32_101 : BitVec 32 := 0#32
  let v89 : BitVec 1 := Scalar.cmpi .ne v88 c0_i32_101
  v89

def k0_mult29 : BitVec 32 :=
  let c91_i32_100 : BitVec 32 := 91#32
  let c77_i32_142 : BitVec 32 := 77#32
  let v140 : BitVec 32 := Scalar.subi c91_i32_100 c77_i32_142
  let c3_i32 : BitVec 32 := 3#32
  let v141 : BitVec 32 := Scalar.andi v140 c3_i32
  let c3584_i32_143 : BitVec 32 := 3584#32
  let v142 : BitVec 32 := Scalar.muli v141 c3584_i32_143
  v142
def k0_mult30 : BitVec 32 :=
  let c91_i32_100 : BitVec 32 := 91#32
  let c77_i32_142 : BitVec 32 := 77#32
  let v140 : BitVec 32 := Scalar.subi c91_i32_100 c77_i32_142
  let c2_i32 : BitVec 32 := 2#32
  let v144 : BitVec 32 := Scalar.shrsi v140 c2_i32
  let c512_i32_144 : BitVec 32 := 512#32
  let v145 : BitVec 32 := Scalar.muli v144 c512_i32_144
  v145
def k0_off43 : Fin 1 → Nat :=
  let c91_i32 : BitVec 32 := 91#32
  let c15_i32_95 : BitVec 32 := 15#32
  let v84 : BitVec 32 := Scalar.andi c91_i32 c15_i32_95
  ![v84.toNat]
def k0_off44 : Fin 3 → Nat :=
  let c91_i32 : BitVec 32 := 91#32
  let c15_i32_95 : BitVec 32 := 15#32
  let v84 : BitVec 32 := Scalar.andi c91_i32 c15_i32_95
  let c0_i32_145 : BitVec 32 := 0#32
  let c0_i32_146 : BitVec 32 := 0#32
  ![v84.toNat, 0, 0]
def k0_off45 : Fin 2 → Nat :=
  let c91_i32_100 : BitVec 32 := 91#32
  let c77_i32_142 : BitVec 32 := 77#32
  let v140 : BitVec 32 := Scalar.subi c91_i32_100 c77_i32_142
  let c3_i32 : BitVec 32 := 3#32
  let v141 : BitVec 32 := Scalar.andi v140 c3_i32
  let c3584_i32_143 : BitVec 32 := 3584#32
  let v142 : BitVec 32 := Scalar.muli v141 c3584_i32_143
  let v143 : BitVec 32 := v142
  let c2_i32 : BitVec 32 := 2#32
  let v144 : BitVec 32 := Scalar.shrsi v140 c2_i32
  let c512_i32_144 : BitVec 32 := 512#32
  let v145 : BitVec 32 := Scalar.muli v144 c512_i32_144
  let v146 : BitVec 32 := v145
  ![v143.toNat, v146.toNat]
@[reducible] def k0_t1_loop : Scf.Loop 32 :=
  let c0_i32_123 : BitVec 32 := 0#32
  let c8_i32 : BitVec 32 := 8#32
  let v115 : BitVec 32 := Scalar.addi c0_i32_123 c8_i32
  let c1_i32 : BitVec 32 := 1#32
  ⟨c0_i32_123, v115, c1_i32⟩
def k0_cond16 (k0_t1 : Fin k0_t1_loop.trips) : BitVec 1 :=
  let c77_i32_142 : BitVec 32 := 77#32
  let c4_i32 : BitVec 32 := 4#32
  let c0_i32_123 : BitVec 32 := 0#32
  let c1_i32 : BitVec 32 := 1#32
  let arg13 : BitVec 32 := Scf.iv c0_i32_123 c1_i32 k0_t1
  let v140 : BitVec 32 := Scalar.muli c4_i32 arg13
  let v141 : BitVec 32 := Scalar.addi c77_i32_142 v140
  let c0_i32_143 : BitVec 32 := 0#32
  let v142 : BitVec 32 := Scalar.addi v141 c0_i32_143
  let c0_i32_145 : BitVec 32 := 0#32
  let v144 : BitVec 1 := Scalar.cmpi .sgt v142 c0_i32_145
  let v145 : BitVec 32 := Scalar.extui v144
  let c0_i32_146 : BitVec 32 := 0#32
  let v146 : BitVec 1 := Scalar.cmpi .ne v145 c0_i32_146
  v146

def k0_cond17 (k0_t1 : Fin k0_t1_loop.trips) : BitVec 1 :=
  let c77_i32_142 : BitVec 32 := 77#32
  let c4_i32 : BitVec 32 := 4#32
  let c0_i32_123 : BitVec 32 := 0#32
  let c1_i32 : BitVec 32 := 1#32
  let arg13 : BitVec 32 := Scf.iv c0_i32_123 c1_i32 k0_t1
  let v140 : BitVec 32 := Scalar.muli c4_i32 arg13
  let v141 : BitVec 32 := Scalar.addi c77_i32_142 v140
  let c0_i32_143 : BitVec 32 := 0#32
  let v142 : BitVec 32 := Scalar.addi v141 c0_i32_143
  let c1_i32_326 : BitVec 32 := 1#32
  let v396 : BitVec 32 := Scalar.subi v142 c1_i32_326
  let c16_i32 : BitVec 32 := 16#32
  let v397 : BitVec 32 := Scalar.addi v396 c16_i32
  let c77_i32_328 : BitVec 32 := 77#32
  let v399 : BitVec 1 := Scalar.cmpi .sge v397 c77_i32_328
  let c109_i32_329 : BitVec 32 := 109#32
  let v400 : BitVec 1 := Scalar.cmpi .slt v397 c109_i32_329
  let v401 : BitVec 1 := Scalar.andi v399 v400
  let v402 : BitVec 32 := Scalar.extui v401
  let c0_i32_330 : BitVec 32 := 0#32
  let v403 : BitVec 1 := Scalar.cmpi .ne v402 c0_i32_330
  v403

def k0_mult31 (k0_t1 : Fin k0_t1_loop.trips) : BitVec 32 :=
  let c77_i32_142 : BitVec 32 := 77#32
  let c4_i32 : BitVec 32 := 4#32
  let c0_i32_123 : BitVec 32 := 0#32
  let c1_i32 : BitVec 32 := 1#32
  let arg13 : BitVec 32 := Scf.iv c0_i32_123 c1_i32 k0_t1
  let v140 : BitVec 32 := Scalar.muli c4_i32 arg13
  let v141 : BitVec 32 := Scalar.addi c77_i32_142 v140
  let c0_i32_143 : BitVec 32 := 0#32
  let v142 : BitVec 32 := Scalar.addi v141 c0_i32_143
  let c1_i32_326 : BitVec 32 := 1#32
  let v396 : BitVec 32 := Scalar.subi v142 c1_i32_326
  let c16_i32 : BitVec 32 := 16#32
  let v397 : BitVec 32 := Scalar.addi v396 c16_i32
  let c77_i32_331 : BitVec 32 := 77#32
  let v404 : BitVec 32 := Scalar.subi v397 c77_i32_331
  let c3_i32_332 : BitVec 32 := 3#32
  let v405 : BitVec 32 := Scalar.andi v404 c3_i32_332
  let c3584_i32_333 : BitVec 32 := 3584#32
  let v406 : BitVec 32 := Scalar.muli v405 c3584_i32_333
  v406
def k0_mult32 (k0_t1 : Fin k0_t1_loop.trips) : BitVec 32 :=
  let c77_i32_142 : BitVec 32 := 77#32
  let c4_i32 : BitVec 32 := 4#32
  let c0_i32_123 : BitVec 32 := 0#32
  let c1_i32 : BitVec 32 := 1#32
  let arg13 : BitVec 32 := Scf.iv c0_i32_123 c1_i32 k0_t1
  let v140 : BitVec 32 := Scalar.muli c4_i32 arg13
  let v141 : BitVec 32 := Scalar.addi c77_i32_142 v140
  let c0_i32_143 : BitVec 32 := 0#32
  let v142 : BitVec 32 := Scalar.addi v141 c0_i32_143
  let c1_i32_326 : BitVec 32 := 1#32
  let v396 : BitVec 32 := Scalar.subi v142 c1_i32_326
  let c16_i32 : BitVec 32 := 16#32
  let v397 : BitVec 32 := Scalar.addi v396 c16_i32
  let c77_i32_331 : BitVec 32 := 77#32
  let v404 : BitVec 32 := Scalar.subi v397 c77_i32_331
  let c2_i32_334 : BitVec 32 := 2#32
  let v408 : BitVec 32 := Scalar.shrsi v404 c2_i32_334
  let c512_i32_335 : BitVec 32 := 512#32
  let v409 : BitVec 32 := Scalar.muli v408 c512_i32_335
  v409
def k0_off46 (k0_t1 : Fin k0_t1_loop.trips) : Fin 1 → Nat :=
  let c77_i32_142 : BitVec 32 := 77#32
  let c4_i32 : BitVec 32 := 4#32
  let c0_i32_123 : BitVec 32 := 0#32
  let c1_i32 : BitVec 32 := 1#32
  let arg13 : BitVec 32 := Scf.iv c0_i32_123 c1_i32 k0_t1
  let v140 : BitVec 32 := Scalar.muli c4_i32 arg13
  let v141 : BitVec 32 := Scalar.addi c77_i32_142 v140
  let c0_i32_143 : BitVec 32 := 0#32
  let v142 : BitVec 32 := Scalar.addi v141 c0_i32_143
  let c1_i32_326 : BitVec 32 := 1#32
  let v396 : BitVec 32 := Scalar.subi v142 c1_i32_326
  let c16_i32 : BitVec 32 := 16#32
  let v397 : BitVec 32 := Scalar.addi v396 c16_i32
  let c15_i32_327 : BitVec 32 := 15#32
  let v398 : BitVec 32 := Scalar.andi v397 c15_i32_327
  ![v398.toNat]
def k0_off47 (k0_t1 : Fin k0_t1_loop.trips) : Fin 3 → Nat :=
  let c77_i32_142 : BitVec 32 := 77#32
  let c4_i32 : BitVec 32 := 4#32
  let c0_i32_123 : BitVec 32 := 0#32
  let c1_i32 : BitVec 32 := 1#32
  let arg13 : BitVec 32 := Scf.iv c0_i32_123 c1_i32 k0_t1
  let v140 : BitVec 32 := Scalar.muli c4_i32 arg13
  let v141 : BitVec 32 := Scalar.addi c77_i32_142 v140
  let c0_i32_143 : BitVec 32 := 0#32
  let v142 : BitVec 32 := Scalar.addi v141 c0_i32_143
  let c1_i32_326 : BitVec 32 := 1#32
  let v396 : BitVec 32 := Scalar.subi v142 c1_i32_326
  let c16_i32 : BitVec 32 := 16#32
  let v397 : BitVec 32 := Scalar.addi v396 c16_i32
  let c15_i32_327 : BitVec 32 := 15#32
  let v398 : BitVec 32 := Scalar.andi v397 c15_i32_327
  let c0_i32_336 : BitVec 32 := 0#32
  let c0_i32_337 : BitVec 32 := 0#32
  ![v398.toNat, 0, 0]
def k0_off48 (k0_t1 : Fin k0_t1_loop.trips) : Fin 2 → Nat :=
  let c77_i32_142 : BitVec 32 := 77#32
  let c4_i32 : BitVec 32 := 4#32
  let c0_i32_123 : BitVec 32 := 0#32
  let c1_i32 : BitVec 32 := 1#32
  let arg13 : BitVec 32 := Scf.iv c0_i32_123 c1_i32 k0_t1
  let v140 : BitVec 32 := Scalar.muli c4_i32 arg13
  let v141 : BitVec 32 := Scalar.addi c77_i32_142 v140
  let c0_i32_143 : BitVec 32 := 0#32
  let v142 : BitVec 32 := Scalar.addi v141 c0_i32_143
  let c1_i32_326 : BitVec 32 := 1#32
  let v396 : BitVec 32 := Scalar.subi v142 c1_i32_326
  let c16_i32 : BitVec 32 := 16#32
  let v397 : BitVec 32 := Scalar.addi v396 c16_i32
  let c77_i32_331 : BitVec 32 := 77#32
  let v404 : BitVec 32 := Scalar.subi v397 c77_i32_331
  let c3_i32_332 : BitVec 32 := 3#32
  let v405 : BitVec 32 := Scalar.andi v404 c3_i32_332
  let c3584_i32_333 : BitVec 32 := 3584#32
  let v406 : BitVec 32 := Scalar.muli v405 c3584_i32_333
  let v407 : BitVec 32 := v406
  let c2_i32_334 : BitVec 32 := 2#32
  let v408 : BitVec 32 := Scalar.shrsi v404 c2_i32_334
  let c512_i32_335 : BitVec 32 := 512#32
  let v409 : BitVec 32 := Scalar.muli v408 c512_i32_335
  let v410 : BitVec 32 := v409
  ![v407.toNat, v410.toNat]
def k0_off49 (k0_t1 : Fin k0_t1_loop.trips) (c0_i32_143 : BitVec 32) : Fin 1 → Nat :=
  let c77_i32_142 : BitVec 32 := 77#32
  let c4_i32 : BitVec 32 := 4#32
  let c0_i32_123 : BitVec 32 := 0#32
  let c1_i32 : BitVec 32 := 1#32
  let arg13 : BitVec 32 := Scf.iv c0_i32_123 c1_i32 k0_t1
  let v140 : BitVec 32 := Scalar.muli c4_i32 arg13
  let v141 : BitVec 32 := Scalar.addi c77_i32_142 v140
  let v142 : BitVec 32 := Scalar.addi v141 c0_i32_143
  let c15_i32_144 : BitVec 32 := 15#32
  let v143 : BitVec 32 := Scalar.andi v142 c15_i32_144
  ![v143.toNat]
def k0_off50 (k0_t1 : Fin k0_t1_loop.trips) (c0_i32_143 : BitVec 32) : Fin 3 → Nat :=
  let c77_i32_142 : BitVec 32 := 77#32
  let c4_i32 : BitVec 32 := 4#32
  let c0_i32_123 : BitVec 32 := 0#32
  let c1_i32 : BitVec 32 := 1#32
  let arg13 : BitVec 32 := Scf.iv c0_i32_123 c1_i32 k0_t1
  let v140 : BitVec 32 := Scalar.muli c4_i32 arg13
  let v141 : BitVec 32 := Scalar.addi c77_i32_142 v140
  let v142 : BitVec 32 := Scalar.addi v141 c0_i32_143
  let c15_i32_144 : BitVec 32 := 15#32
  let v143 : BitVec 32 := Scalar.andi v142 c15_i32_144
  let c0_i32_147 : BitVec 32 := 0#32
  let c0_i32_148 : BitVec 32 := 0#32
  ![v143.toNat, 0, 0]
def k0_off51 (k0_t1 : Fin k0_t1_loop.trips) (c0_i32_143 : BitVec 32) : Fin 3 → Nat :=
  let c77_i32_142 : BitVec 32 := 77#32
  let c4_i32 : BitVec 32 := 4#32
  let c0_i32_123 : BitVec 32 := 0#32
  let c1_i32 : BitVec 32 := 1#32
  let arg13 : BitVec 32 := Scf.iv c0_i32_123 c1_i32 k0_t1
  let v140 : BitVec 32 := Scalar.muli c4_i32 arg13
  let v141 : BitVec 32 := Scalar.addi c77_i32_142 v140
  let v142 : BitVec 32 := Scalar.addi v141 c0_i32_143
  let c15_i32_144 : BitVec 32 := 15#32
  let v143 : BitVec 32 := Scalar.andi v142 c15_i32_144
  let v155 : Index := Scalar.indexCast v143
  let c0_154 : Index := 0#32
  let c0_155 : Index := 0#32
  ![v155.toNat, 0, 0]
def k0_cond18 (k0_t1 : Fin k0_t1_loop.trips) : BitVec 1 :=
  let c77_i32_169 : BitVec 32 := 77#32
  let c4_i32_168 : BitVec 32 := 4#32
  let c0_i32_123 : BitVec 32 := 0#32
  let c1_i32 : BitVec 32 := 1#32
  let arg13 : BitVec 32 := Scf.iv c0_i32_123 c1_i32 k0_t1
  let v175 : BitVec 32 := Scalar.muli c4_i32_168 arg13
  let v176 : BitVec 32 := Scalar.addi c77_i32_169 v175
  let c1_i32_170 : BitVec 32 := 1#32
  let v177 : BitVec 32 := Scalar.addi v176 c1_i32_170
  let c0_i32_172 : BitVec 32 := 0#32
  let v179 : BitVec 1 := Scalar.cmpi .sgt v177 c0_i32_172
  let v180 : BitVec 32 := Scalar.extui v179
  let c0_i32_173 : BitVec 32 := 0#32
  let v181 : BitVec 1 := Scalar.cmpi .ne v180 c0_i32_173
  v181

def k0_cond19 (k0_t1 : Fin k0_t1_loop.trips) : BitVec 1 :=
  let c77_i32_169 : BitVec 32 := 77#32
  let c4_i32_168 : BitVec 32 := 4#32
  let c0_i32_123 : BitVec 32 := 0#32
  let c1_i32 : BitVec 32 := 1#32
  let arg13 : BitVec 32 := Scf.iv c0_i32_123 c1_i32 k0_t1
  let v175 : BitVec 32 := Scalar.muli c4_i32_168 arg13
  let v176 : BitVec 32 := Scalar.addi c77_i32_169 v175
  let c1_i32_170 : BitVec 32 := 1#32
  let v177 : BitVec 32 := Scalar.addi v176 c1_i32_170
  let c1_i32_326 : BitVec 32 := 1#32
  let v396 : BitVec 32 := Scalar.subi v177 c1_i32_326
  let c16_i32 : BitVec 32 := 16#32
  let v397 : BitVec 32 := Scalar.addi v396 c16_i32
  let c77_i32_328 : BitVec 32 := 77#32
  let v399 : BitVec 1 := Scalar.cmpi .sge v397 c77_i32_328
  let c109_i32_329 : BitVec 32 := 109#32
  let v400 : BitVec 1 := Scalar.cmpi .slt v397 c109_i32_329
  let v401 : BitVec 1 := Scalar.andi v399 v400
  let v402 : BitVec 32 := Scalar.extui v401
  let c0_i32_330 : BitVec 32 := 0#32
  let v403 : BitVec 1 := Scalar.cmpi .ne v402 c0_i32_330
  v403

def k0_mult33 (k0_t1 : Fin k0_t1_loop.trips) : BitVec 32 :=
  let c77_i32_169 : BitVec 32 := 77#32
  let c4_i32_168 : BitVec 32 := 4#32
  let c0_i32_123 : BitVec 32 := 0#32
  let c1_i32 : BitVec 32 := 1#32
  let arg13 : BitVec 32 := Scf.iv c0_i32_123 c1_i32 k0_t1
  let v175 : BitVec 32 := Scalar.muli c4_i32_168 arg13
  let v176 : BitVec 32 := Scalar.addi c77_i32_169 v175
  let c1_i32_170 : BitVec 32 := 1#32
  let v177 : BitVec 32 := Scalar.addi v176 c1_i32_170
  let c1_i32_326 : BitVec 32 := 1#32
  let v396 : BitVec 32 := Scalar.subi v177 c1_i32_326
  let c16_i32 : BitVec 32 := 16#32
  let v397 : BitVec 32 := Scalar.addi v396 c16_i32
  let c77_i32_331 : BitVec 32 := 77#32
  let v404 : BitVec 32 := Scalar.subi v397 c77_i32_331
  let c3_i32_332 : BitVec 32 := 3#32
  let v405 : BitVec 32 := Scalar.andi v404 c3_i32_332
  let c3584_i32_333 : BitVec 32 := 3584#32
  let v406 : BitVec 32 := Scalar.muli v405 c3584_i32_333
  v406
def k0_mult34 (k0_t1 : Fin k0_t1_loop.trips) : BitVec 32 :=
  let c77_i32_169 : BitVec 32 := 77#32
  let c4_i32_168 : BitVec 32 := 4#32
  let c0_i32_123 : BitVec 32 := 0#32
  let c1_i32 : BitVec 32 := 1#32
  let arg13 : BitVec 32 := Scf.iv c0_i32_123 c1_i32 k0_t1
  let v175 : BitVec 32 := Scalar.muli c4_i32_168 arg13
  let v176 : BitVec 32 := Scalar.addi c77_i32_169 v175
  let c1_i32_170 : BitVec 32 := 1#32
  let v177 : BitVec 32 := Scalar.addi v176 c1_i32_170
  let c1_i32_326 : BitVec 32 := 1#32
  let v396 : BitVec 32 := Scalar.subi v177 c1_i32_326
  let c16_i32 : BitVec 32 := 16#32
  let v397 : BitVec 32 := Scalar.addi v396 c16_i32
  let c77_i32_331 : BitVec 32 := 77#32
  let v404 : BitVec 32 := Scalar.subi v397 c77_i32_331
  let c2_i32_334 : BitVec 32 := 2#32
  let v408 : BitVec 32 := Scalar.shrsi v404 c2_i32_334
  let c512_i32_335 : BitVec 32 := 512#32
  let v409 : BitVec 32 := Scalar.muli v408 c512_i32_335
  v409
def k0_off52 (k0_t1 : Fin k0_t1_loop.trips) : Fin 1 → Nat :=
  let c77_i32_169 : BitVec 32 := 77#32
  let c4_i32_168 : BitVec 32 := 4#32
  let c0_i32_123 : BitVec 32 := 0#32
  let c1_i32 : BitVec 32 := 1#32
  let arg13 : BitVec 32 := Scf.iv c0_i32_123 c1_i32 k0_t1
  let v175 : BitVec 32 := Scalar.muli c4_i32_168 arg13
  let v176 : BitVec 32 := Scalar.addi c77_i32_169 v175
  let c1_i32_170 : BitVec 32 := 1#32
  let v177 : BitVec 32 := Scalar.addi v176 c1_i32_170
  let c1_i32_326 : BitVec 32 := 1#32
  let v396 : BitVec 32 := Scalar.subi v177 c1_i32_326
  let c16_i32 : BitVec 32 := 16#32
  let v397 : BitVec 32 := Scalar.addi v396 c16_i32
  let c15_i32_327 : BitVec 32 := 15#32
  let v398 : BitVec 32 := Scalar.andi v397 c15_i32_327
  ![v398.toNat]
def k0_off53 (k0_t1 : Fin k0_t1_loop.trips) : Fin 3 → Nat :=
  let c77_i32_169 : BitVec 32 := 77#32
  let c4_i32_168 : BitVec 32 := 4#32
  let c0_i32_123 : BitVec 32 := 0#32
  let c1_i32 : BitVec 32 := 1#32
  let arg13 : BitVec 32 := Scf.iv c0_i32_123 c1_i32 k0_t1
  let v175 : BitVec 32 := Scalar.muli c4_i32_168 arg13
  let v176 : BitVec 32 := Scalar.addi c77_i32_169 v175
  let c1_i32_170 : BitVec 32 := 1#32
  let v177 : BitVec 32 := Scalar.addi v176 c1_i32_170
  let c1_i32_326 : BitVec 32 := 1#32
  let v396 : BitVec 32 := Scalar.subi v177 c1_i32_326
  let c16_i32 : BitVec 32 := 16#32
  let v397 : BitVec 32 := Scalar.addi v396 c16_i32
  let c15_i32_327 : BitVec 32 := 15#32
  let v398 : BitVec 32 := Scalar.andi v397 c15_i32_327
  let c0_i32_336 : BitVec 32 := 0#32
  let c0_i32_337 : BitVec 32 := 0#32
  ![v398.toNat, 0, 0]
def k0_off54 (k0_t1 : Fin k0_t1_loop.trips) : Fin 2 → Nat :=
  let c77_i32_169 : BitVec 32 := 77#32
  let c4_i32_168 : BitVec 32 := 4#32
  let c0_i32_123 : BitVec 32 := 0#32
  let c1_i32 : BitVec 32 := 1#32
  let arg13 : BitVec 32 := Scf.iv c0_i32_123 c1_i32 k0_t1
  let v175 : BitVec 32 := Scalar.muli c4_i32_168 arg13
  let v176 : BitVec 32 := Scalar.addi c77_i32_169 v175
  let c1_i32_170 : BitVec 32 := 1#32
  let v177 : BitVec 32 := Scalar.addi v176 c1_i32_170
  let c1_i32_326 : BitVec 32 := 1#32
  let v396 : BitVec 32 := Scalar.subi v177 c1_i32_326
  let c16_i32 : BitVec 32 := 16#32
  let v397 : BitVec 32 := Scalar.addi v396 c16_i32
  let c77_i32_331 : BitVec 32 := 77#32
  let v404 : BitVec 32 := Scalar.subi v397 c77_i32_331
  let c3_i32_332 : BitVec 32 := 3#32
  let v405 : BitVec 32 := Scalar.andi v404 c3_i32_332
  let c3584_i32_333 : BitVec 32 := 3584#32
  let v406 : BitVec 32 := Scalar.muli v405 c3584_i32_333
  let v407 : BitVec 32 := v406
  let c2_i32_334 : BitVec 32 := 2#32
  let v408 : BitVec 32 := Scalar.shrsi v404 c2_i32_334
  let c512_i32_335 : BitVec 32 := 512#32
  let v409 : BitVec 32 := Scalar.muli v408 c512_i32_335
  let v410 : BitVec 32 := v409
  ![v407.toNat, v410.toNat]
def k0_cond20 (k0_t1 : Fin k0_t1_loop.trips) : BitVec 1 :=
  let c77_i32_209 : BitVec 32 := 77#32
  let c4_i32_208 : BitVec 32 := 4#32
  let c0_i32_123 : BitVec 32 := 0#32
  let c1_i32 : BitVec 32 := 1#32
  let arg13 : BitVec 32 := Scf.iv c0_i32_123 c1_i32 k0_t1
  let v222 : BitVec 32 := Scalar.muli c4_i32_208 arg13
  let v223 : BitVec 32 := Scalar.addi c77_i32_209 v222
  let c2_i32 : BitVec 32 := 2#32
  let v224 : BitVec 32 := Scalar.addi v223 c2_i32
  let c0_i32_211 : BitVec 32 := 0#32
  let v226 : BitVec 1 := Scalar.cmpi .sgt v224 c0_i32_211
  let v227 : BitVec 32 := Scalar.extui v226
  let c0_i32_212 : BitVec 32 := 0#32
  let v228 : BitVec 1 := Scalar.cmpi .ne v227 c0_i32_212
  v228

def k0_cond21 (k0_t1 : Fin k0_t1_loop.trips) : BitVec 1 :=
  let c77_i32_209 : BitVec 32 := 77#32
  let c4_i32_208 : BitVec 32 := 4#32
  let c0_i32_123 : BitVec 32 := 0#32
  let c1_i32 : BitVec 32 := 1#32
  let arg13 : BitVec 32 := Scf.iv c0_i32_123 c1_i32 k0_t1
  let v222 : BitVec 32 := Scalar.muli c4_i32_208 arg13
  let v223 : BitVec 32 := Scalar.addi c77_i32_209 v222
  let c2_i32 : BitVec 32 := 2#32
  let v224 : BitVec 32 := Scalar.addi v223 c2_i32
  let c1_i32_326 : BitVec 32 := 1#32
  let v396 : BitVec 32 := Scalar.subi v224 c1_i32_326
  let c16_i32 : BitVec 32 := 16#32
  let v397 : BitVec 32 := Scalar.addi v396 c16_i32
  let c77_i32_328 : BitVec 32 := 77#32
  let v399 : BitVec 1 := Scalar.cmpi .sge v397 c77_i32_328
  let c109_i32_329 : BitVec 32 := 109#32
  let v400 : BitVec 1 := Scalar.cmpi .slt v397 c109_i32_329
  let v401 : BitVec 1 := Scalar.andi v399 v400
  let v402 : BitVec 32 := Scalar.extui v401
  let c0_i32_330 : BitVec 32 := 0#32
  let v403 : BitVec 1 := Scalar.cmpi .ne v402 c0_i32_330
  v403

def k0_mult35 (k0_t1 : Fin k0_t1_loop.trips) : BitVec 32 :=
  let c77_i32_209 : BitVec 32 := 77#32
  let c4_i32_208 : BitVec 32 := 4#32
  let c0_i32_123 : BitVec 32 := 0#32
  let c1_i32 : BitVec 32 := 1#32
  let arg13 : BitVec 32 := Scf.iv c0_i32_123 c1_i32 k0_t1
  let v222 : BitVec 32 := Scalar.muli c4_i32_208 arg13
  let v223 : BitVec 32 := Scalar.addi c77_i32_209 v222
  let c2_i32 : BitVec 32 := 2#32
  let v224 : BitVec 32 := Scalar.addi v223 c2_i32
  let c1_i32_326 : BitVec 32 := 1#32
  let v396 : BitVec 32 := Scalar.subi v224 c1_i32_326
  let c16_i32 : BitVec 32 := 16#32
  let v397 : BitVec 32 := Scalar.addi v396 c16_i32
  let c77_i32_331 : BitVec 32 := 77#32
  let v404 : BitVec 32 := Scalar.subi v397 c77_i32_331
  let c3_i32_332 : BitVec 32 := 3#32
  let v405 : BitVec 32 := Scalar.andi v404 c3_i32_332
  let c3584_i32_333 : BitVec 32 := 3584#32
  let v406 : BitVec 32 := Scalar.muli v405 c3584_i32_333
  v406
def k0_mult36 (k0_t1 : Fin k0_t1_loop.trips) : BitVec 32 :=
  let c77_i32_209 : BitVec 32 := 77#32
  let c4_i32_208 : BitVec 32 := 4#32
  let c0_i32_123 : BitVec 32 := 0#32
  let c1_i32 : BitVec 32 := 1#32
  let arg13 : BitVec 32 := Scf.iv c0_i32_123 c1_i32 k0_t1
  let v222 : BitVec 32 := Scalar.muli c4_i32_208 arg13
  let v223 : BitVec 32 := Scalar.addi c77_i32_209 v222
  let c2_i32 : BitVec 32 := 2#32
  let v224 : BitVec 32 := Scalar.addi v223 c2_i32
  let c1_i32_326 : BitVec 32 := 1#32
  let v396 : BitVec 32 := Scalar.subi v224 c1_i32_326
  let c16_i32 : BitVec 32 := 16#32
  let v397 : BitVec 32 := Scalar.addi v396 c16_i32
  let c77_i32_331 : BitVec 32 := 77#32
  let v404 : BitVec 32 := Scalar.subi v397 c77_i32_331
  let c2_i32_334 : BitVec 32 := 2#32
  let v408 : BitVec 32 := Scalar.shrsi v404 c2_i32_334
  let c512_i32_335 : BitVec 32 := 512#32
  let v409 : BitVec 32 := Scalar.muli v408 c512_i32_335
  v409
def k0_off55 (k0_t1 : Fin k0_t1_loop.trips) : Fin 1 → Nat :=
  let c77_i32_209 : BitVec 32 := 77#32
  let c4_i32_208 : BitVec 32 := 4#32
  let c0_i32_123 : BitVec 32 := 0#32
  let c1_i32 : BitVec 32 := 1#32
  let arg13 : BitVec 32 := Scf.iv c0_i32_123 c1_i32 k0_t1
  let v222 : BitVec 32 := Scalar.muli c4_i32_208 arg13
  let v223 : BitVec 32 := Scalar.addi c77_i32_209 v222
  let c2_i32 : BitVec 32 := 2#32
  let v224 : BitVec 32 := Scalar.addi v223 c2_i32
  let c1_i32_326 : BitVec 32 := 1#32
  let v396 : BitVec 32 := Scalar.subi v224 c1_i32_326
  let c16_i32 : BitVec 32 := 16#32
  let v397 : BitVec 32 := Scalar.addi v396 c16_i32
  let c15_i32_327 : BitVec 32 := 15#32
  let v398 : BitVec 32 := Scalar.andi v397 c15_i32_327
  ![v398.toNat]
def k0_off56 (k0_t1 : Fin k0_t1_loop.trips) : Fin 3 → Nat :=
  let c77_i32_209 : BitVec 32 := 77#32
  let c4_i32_208 : BitVec 32 := 4#32
  let c0_i32_123 : BitVec 32 := 0#32
  let c1_i32 : BitVec 32 := 1#32
  let arg13 : BitVec 32 := Scf.iv c0_i32_123 c1_i32 k0_t1
  let v222 : BitVec 32 := Scalar.muli c4_i32_208 arg13
  let v223 : BitVec 32 := Scalar.addi c77_i32_209 v222
  let c2_i32 : BitVec 32 := 2#32
  let v224 : BitVec 32 := Scalar.addi v223 c2_i32
  let c1_i32_326 : BitVec 32 := 1#32
  let v396 : BitVec 32 := Scalar.subi v224 c1_i32_326
  let c16_i32 : BitVec 32 := 16#32
  let v397 : BitVec 32 := Scalar.addi v396 c16_i32
  let c15_i32_327 : BitVec 32 := 15#32
  let v398 : BitVec 32 := Scalar.andi v397 c15_i32_327
  let c0_i32_336 : BitVec 32 := 0#32
  let c0_i32_337 : BitVec 32 := 0#32
  ![v398.toNat, 0, 0]
def k0_off57 (k0_t1 : Fin k0_t1_loop.trips) : Fin 2 → Nat :=
  let c77_i32_209 : BitVec 32 := 77#32
  let c4_i32_208 : BitVec 32 := 4#32
  let c0_i32_123 : BitVec 32 := 0#32
  let c1_i32 : BitVec 32 := 1#32
  let arg13 : BitVec 32 := Scf.iv c0_i32_123 c1_i32 k0_t1
  let v222 : BitVec 32 := Scalar.muli c4_i32_208 arg13
  let v223 : BitVec 32 := Scalar.addi c77_i32_209 v222
  let c2_i32 : BitVec 32 := 2#32
  let v224 : BitVec 32 := Scalar.addi v223 c2_i32
  let c1_i32_326 : BitVec 32 := 1#32
  let v396 : BitVec 32 := Scalar.subi v224 c1_i32_326
  let c16_i32 : BitVec 32 := 16#32
  let v397 : BitVec 32 := Scalar.addi v396 c16_i32
  let c77_i32_331 : BitVec 32 := 77#32
  let v404 : BitVec 32 := Scalar.subi v397 c77_i32_331
  let c3_i32_332 : BitVec 32 := 3#32
  let v405 : BitVec 32 := Scalar.andi v404 c3_i32_332
  let c3584_i32_333 : BitVec 32 := 3584#32
  let v406 : BitVec 32 := Scalar.muli v405 c3584_i32_333
  let v407 : BitVec 32 := v406
  let c2_i32_334 : BitVec 32 := 2#32
  let v408 : BitVec 32 := Scalar.shrsi v404 c2_i32_334
  let c512_i32_335 : BitVec 32 := 512#32
  let v409 : BitVec 32 := Scalar.muli v408 c512_i32_335
  let v410 : BitVec 32 := v409
  ![v407.toNat, v410.toNat]
def k0_cond22 (k0_t1 : Fin k0_t1_loop.trips) : BitVec 1 :=
  let c77_i32_248 : BitVec 32 := 77#32
  let c4_i32_247 : BitVec 32 := 4#32
  let c0_i32_123 : BitVec 32 := 0#32
  let c1_i32 : BitVec 32 := 1#32
  let arg13 : BitVec 32 := Scf.iv c0_i32_123 c1_i32 k0_t1
  let v269 : BitVec 32 := Scalar.muli c4_i32_247 arg13
  let v270 : BitVec 32 := Scalar.addi c77_i32_248 v269
  let c3_i32 : BitVec 32 := 3#32
  let v271 : BitVec 32 := Scalar.addi v270 c3_i32
  let c0_i32_250 : BitVec 32 := 0#32
  let v273 : BitVec 1 := Scalar.cmpi .sgt v271 c0_i32_250
  let v274 : BitVec 32 := Scalar.extui v273
  let c0_i32_251 : BitVec 32 := 0#32
  let v275 : BitVec 1 := Scalar.cmpi .ne v274 c0_i32_251
  v275

def k0_cond23 (k0_t1 : Fin k0_t1_loop.trips) : BitVec 1 :=
  let c77_i32_248 : BitVec 32 := 77#32
  let c4_i32_247 : BitVec 32 := 4#32
  let c0_i32_123 : BitVec 32 := 0#32
  let c1_i32 : BitVec 32 := 1#32
  let arg13 : BitVec 32 := Scf.iv c0_i32_123 c1_i32 k0_t1
  let v269 : BitVec 32 := Scalar.muli c4_i32_247 arg13
  let v270 : BitVec 32 := Scalar.addi c77_i32_248 v269
  let c3_i32 : BitVec 32 := 3#32
  let v271 : BitVec 32 := Scalar.addi v270 c3_i32
  let c1_i32_326 : BitVec 32 := 1#32
  let v396 : BitVec 32 := Scalar.subi v271 c1_i32_326
  let c16_i32 : BitVec 32 := 16#32
  let v397 : BitVec 32 := Scalar.addi v396 c16_i32
  let c77_i32_328 : BitVec 32 := 77#32
  let v399 : BitVec 1 := Scalar.cmpi .sge v397 c77_i32_328
  let c109_i32_329 : BitVec 32 := 109#32
  let v400 : BitVec 1 := Scalar.cmpi .slt v397 c109_i32_329
  let v401 : BitVec 1 := Scalar.andi v399 v400
  let v402 : BitVec 32 := Scalar.extui v401
  let c0_i32_330 : BitVec 32 := 0#32
  let v403 : BitVec 1 := Scalar.cmpi .ne v402 c0_i32_330
  v403

def k0_mult37 (k0_t1 : Fin k0_t1_loop.trips) : BitVec 32 :=
  let c77_i32_248 : BitVec 32 := 77#32
  let c4_i32_247 : BitVec 32 := 4#32
  let c0_i32_123 : BitVec 32 := 0#32
  let c1_i32 : BitVec 32 := 1#32
  let arg13 : BitVec 32 := Scf.iv c0_i32_123 c1_i32 k0_t1
  let v269 : BitVec 32 := Scalar.muli c4_i32_247 arg13
  let v270 : BitVec 32 := Scalar.addi c77_i32_248 v269
  let c3_i32 : BitVec 32 := 3#32
  let v271 : BitVec 32 := Scalar.addi v270 c3_i32
  let c1_i32_326 : BitVec 32 := 1#32
  let v396 : BitVec 32 := Scalar.subi v271 c1_i32_326
  let c16_i32 : BitVec 32 := 16#32
  let v397 : BitVec 32 := Scalar.addi v396 c16_i32
  let c77_i32_331 : BitVec 32 := 77#32
  let v404 : BitVec 32 := Scalar.subi v397 c77_i32_331
  let c3_i32_332 : BitVec 32 := 3#32
  let v405 : BitVec 32 := Scalar.andi v404 c3_i32_332
  let c3584_i32_333 : BitVec 32 := 3584#32
  let v406 : BitVec 32 := Scalar.muli v405 c3584_i32_333
  v406
def k0_mult38 (k0_t1 : Fin k0_t1_loop.trips) : BitVec 32 :=
  let c77_i32_248 : BitVec 32 := 77#32
  let c4_i32_247 : BitVec 32 := 4#32
  let c0_i32_123 : BitVec 32 := 0#32
  let c1_i32 : BitVec 32 := 1#32
  let arg13 : BitVec 32 := Scf.iv c0_i32_123 c1_i32 k0_t1
  let v269 : BitVec 32 := Scalar.muli c4_i32_247 arg13
  let v270 : BitVec 32 := Scalar.addi c77_i32_248 v269
  let c3_i32 : BitVec 32 := 3#32
  let v271 : BitVec 32 := Scalar.addi v270 c3_i32
  let c1_i32_326 : BitVec 32 := 1#32
  let v396 : BitVec 32 := Scalar.subi v271 c1_i32_326
  let c16_i32 : BitVec 32 := 16#32
  let v397 : BitVec 32 := Scalar.addi v396 c16_i32
  let c77_i32_331 : BitVec 32 := 77#32
  let v404 : BitVec 32 := Scalar.subi v397 c77_i32_331
  let c2_i32_334 : BitVec 32 := 2#32
  let v408 : BitVec 32 := Scalar.shrsi v404 c2_i32_334
  let c512_i32_335 : BitVec 32 := 512#32
  let v409 : BitVec 32 := Scalar.muli v408 c512_i32_335
  v409
def k0_off58 (k0_t1 : Fin k0_t1_loop.trips) : Fin 1 → Nat :=
  let c77_i32_248 : BitVec 32 := 77#32
  let c4_i32_247 : BitVec 32 := 4#32
  let c0_i32_123 : BitVec 32 := 0#32
  let c1_i32 : BitVec 32 := 1#32
  let arg13 : BitVec 32 := Scf.iv c0_i32_123 c1_i32 k0_t1
  let v269 : BitVec 32 := Scalar.muli c4_i32_247 arg13
  let v270 : BitVec 32 := Scalar.addi c77_i32_248 v269
  let c3_i32 : BitVec 32 := 3#32
  let v271 : BitVec 32 := Scalar.addi v270 c3_i32
  let c1_i32_326 : BitVec 32 := 1#32
  let v396 : BitVec 32 := Scalar.subi v271 c1_i32_326
  let c16_i32 : BitVec 32 := 16#32
  let v397 : BitVec 32 := Scalar.addi v396 c16_i32
  let c15_i32_327 : BitVec 32 := 15#32
  let v398 : BitVec 32 := Scalar.andi v397 c15_i32_327
  ![v398.toNat]
def k0_off59 (k0_t1 : Fin k0_t1_loop.trips) : Fin 3 → Nat :=
  let c77_i32_248 : BitVec 32 := 77#32
  let c4_i32_247 : BitVec 32 := 4#32
  let c0_i32_123 : BitVec 32 := 0#32
  let c1_i32 : BitVec 32 := 1#32
  let arg13 : BitVec 32 := Scf.iv c0_i32_123 c1_i32 k0_t1
  let v269 : BitVec 32 := Scalar.muli c4_i32_247 arg13
  let v270 : BitVec 32 := Scalar.addi c77_i32_248 v269
  let c3_i32 : BitVec 32 := 3#32
  let v271 : BitVec 32 := Scalar.addi v270 c3_i32
  let c1_i32_326 : BitVec 32 := 1#32
  let v396 : BitVec 32 := Scalar.subi v271 c1_i32_326
  let c16_i32 : BitVec 32 := 16#32
  let v397 : BitVec 32 := Scalar.addi v396 c16_i32
  let c15_i32_327 : BitVec 32 := 15#32
  let v398 : BitVec 32 := Scalar.andi v397 c15_i32_327
  let c0_i32_336 : BitVec 32 := 0#32
  let c0_i32_337 : BitVec 32 := 0#32
  ![v398.toNat, 0, 0]
def k0_off60 (k0_t1 : Fin k0_t1_loop.trips) : Fin 2 → Nat :=
  let c77_i32_248 : BitVec 32 := 77#32
  let c4_i32_247 : BitVec 32 := 4#32
  let c0_i32_123 : BitVec 32 := 0#32
  let c1_i32 : BitVec 32 := 1#32
  let arg13 : BitVec 32 := Scf.iv c0_i32_123 c1_i32 k0_t1
  let v269 : BitVec 32 := Scalar.muli c4_i32_247 arg13
  let v270 : BitVec 32 := Scalar.addi c77_i32_248 v269
  let c3_i32 : BitVec 32 := 3#32
  let v271 : BitVec 32 := Scalar.addi v270 c3_i32
  let c1_i32_326 : BitVec 32 := 1#32
  let v396 : BitVec 32 := Scalar.subi v271 c1_i32_326
  let c16_i32 : BitVec 32 := 16#32
  let v397 : BitVec 32 := Scalar.addi v396 c16_i32
  let c77_i32_331 : BitVec 32 := 77#32
  let v404 : BitVec 32 := Scalar.subi v397 c77_i32_331
  let c3_i32_332 : BitVec 32 := 3#32
  let v405 : BitVec 32 := Scalar.andi v404 c3_i32_332
  let c3584_i32_333 : BitVec 32 := 3584#32
  let v406 : BitVec 32 := Scalar.muli v405 c3584_i32_333
  let v407 : BitVec 32 := v406
  let c2_i32_334 : BitVec 32 := 2#32
  let v408 : BitVec 32 := Scalar.shrsi v404 c2_i32_334
  let c512_i32_335 : BitVec 32 := 512#32
  let v409 : BitVec 32 := Scalar.muli v408 c512_i32_335
  let v410 : BitVec 32 := v409
  ![v407.toNat, v410.toNat]
def k0_mult39 (k0_t1 : Fin k0_t1_loop.trips) : BitVec 32 :=
  let c0_i32_123 : BitVec 32 := 0#32
  let c1_i32 : BitVec 32 := 1#32
  let arg13 : BitVec 32 := Scf.iv c0_i32_123 c1_i32 k0_t1
  let c512_i32_286 : BitVec 32 := 512#32
  let v316 : BitVec 32 := Scalar.muli arg13 c512_i32_286
  let c0_i32_287 : BitVec 32 := 0#32
  let v317 : BitVec 32 := Scalar.addi v316 c0_i32_287
  v317
def k0_off61 (k0_t1 : Fin k0_t1_loop.trips) (c0_i32_287 : BitVec 32) : Fin 2 → Nat :=
  let c0_288 : Index := 0#32
  let c0_i32_123 : BitVec 32 := 0#32
  let c1_i32 : BitVec 32 := 1#32
  let arg13 : BitVec 32 := Scf.iv c0_i32_123 c1_i32 k0_t1
  let c512_i32_286 : BitVec 32 := 512#32
  let v316 : BitVec 32 := Scalar.muli arg13 c512_i32_286
  let v317 : BitVec 32 := Scalar.addi v316 c0_i32_287
  let v318 : BitVec 32 := v317
  let v319 : Index := Scalar.indexCast v318
  ![0, v319.toNat]
def k0_off62 (k0_t1 : Fin k0_t1_loop.trips) (c0_i32_287 : BitVec 32) : Fin 2 → Nat :=
  let c0_294 : Index := 0#32
  let c0_i32_123 : BitVec 32 := 0#32
  let c1_i32 : BitVec 32 := 1#32
  let arg13 : BitVec 32 := Scf.iv c0_i32_123 c1_i32 k0_t1
  let c512_i32_286 : BitVec 32 := 512#32
  let v316 : BitVec 32 := Scalar.muli arg13 c512_i32_286
  let v317 : BitVec 32 := Scalar.addi v316 c0_i32_287
  let v318 : BitVec 32 := v317
  let v325 : Index := Scalar.indexCast v318
  ![0, v325.toNat]
def k0_mult40 (k0_t1 : Fin k0_t1_loop.trips) : BitVec 32 :=
  let c0_i32_123 : BitVec 32 := 0#32
  let c1_i32 : BitVec 32 := 1#32
  let arg13 : BitVec 32 := Scf.iv c0_i32_123 c1_i32 k0_t1
  let c512_i32_296 : BitVec 32 := 512#32
  let v335 : BitVec 32 := Scalar.muli arg13 c512_i32_296
  let c128_i32 : BitVec 32 := 128#32
  let v336 : BitVec 32 := Scalar.addi v335 c128_i32
  v336
def k0_mult41 (k0_t1 : Fin k0_t1_loop.trips) : BitVec 32 :=
  let c0_i32_123 : BitVec 32 := 0#32
  let c1_i32 : BitVec 32 := 1#32
  let arg13 : BitVec 32 := Scf.iv c0_i32_123 c1_i32 k0_t1
  let c512_i32_305 : BitVec 32 := 512#32
  let v354 : BitVec 32 := Scalar.muli arg13 c512_i32_305
  let c256_i32 : BitVec 32 := 256#32
  let v355 : BitVec 32 := Scalar.addi v354 c256_i32
  v355
def k0_mult42 (k0_t1 : Fin k0_t1_loop.trips) : BitVec 32 :=
  let c0_i32_123 : BitVec 32 := 0#32
  let c1_i32 : BitVec 32 := 1#32
  let arg13 : BitVec 32 := Scf.iv c0_i32_123 c1_i32 k0_t1
  let c512_i32_314 : BitVec 32 := 512#32
  let v373 : BitVec 32 := Scalar.muli arg13 c512_i32_314
  let c384_i32 : BitVec 32 := 384#32
  let v374 : BitVec 32 := Scalar.addi v373 c384_i32
  v374
def k0_mult43 (k0_t1 : Fin k0_t1_loop.trips) : BitVec 32 :=
  let c0_i32_123 : BitVec 32 := 0#32
  let c1_i32 : BitVec 32 := 1#32
  let arg13 : BitVec 32 := Scf.iv c0_i32_123 c1_i32 k0_t1
  let c512_i32_323 : BitVec 32 := 512#32
  let v392 : BitVec 32 := Scalar.muli arg13 c512_i32_323
  v392
def k0_off63 (k0_t1 : Fin k0_t1_loop.trips) : Fin 2 → Nat :=
  let c0_i32_324 : BitVec 32 := 0#32
  let c0_i32_123 : BitVec 32 := 0#32
  let c1_i32 : BitVec 32 := 1#32
  let arg13 : BitVec 32 := Scf.iv c0_i32_123 c1_i32 k0_t1
  let c512_i32_323 : BitVec 32 := 512#32
  let v392 : BitVec 32 := Scalar.muli arg13 c512_i32_323
  let v393 : BitVec 32 := v392
  ![0, v393.toNat]
def k0_mult44 : BitVec 32 :=
  let c0_i32_125 : BitVec 32 := 0#32
  c0_i32_125
def k0_mult45 : BitVec 32 :=
  let c512_i32 : BitVec 32 := 512#32
  c512_i32
def k0_mult46 : BitVec 32 :=
  let c1024_i32 : BitVec 32 := 1024#32
  c1024_i32
def k0_mult47 : BitVec 32 :=
  let c1536_i32 : BitVec 32 := 1536#32
  c1536_i32
def k0_mult48 : BitVec 32 :=
  let c2048_i32 : BitVec 32 := 2048#32
  c2048_i32
def k0_mult49 : BitVec 32 :=
  let c2560_i32 : BitVec 32 := 2560#32
  c2560_i32
def k0_mult50 : BitVec 32 :=
  let c3072_i32 : BitVec 32 := 3072#32
  c3072_i32
def k0_mult51 : BitVec 32 :=
  let c3584_i32 : BitVec 32 := 3584#32
  c3584_i32
abbrev stage0_0 : Fin 1 → Memref sig .tc .vmem S224x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S224x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S224x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== DownReferenceIdeal.lean ====
abbrev S224x14336 : Shape := ⟨2, ![224, 14336]⟩
abbrev S2x112 : Shape := ⟨2, ![2, 112]⟩
abbrev S224x4096 : Shape := ⟨2, ![224, 4096]⟩
abbrev S14336x4096 : Shape := ⟨2, ![14336, 4096]⟩
abbrev S4096 : Shape := ⟨1, ![4096]⟩
abbrev S1x4096 : Shape := ⟨2, ![1, 4096]⟩
abbrev S224x1 : Shape := ⟨2, ![224, 1]⟩

abbrev nBuf : Space → Nat
  | .hbm => 7
  | .vmem => 6
  | .smem => 0
  | _ => 0

abbrev bufTy : (tb : Table) → Fin (tcTables nBuf tb) → BufTy
  | .hbm, ⟨0, _⟩ => ⟨S224x14336, .fp8e4m3⟩
  | .hbm, ⟨1, _⟩ => ⟨S2x112, .f32⟩
  | .hbm, ⟨2, _⟩ => ⟨S224x4096, .f32⟩
  | .hbm, ⟨3, _⟩ => ⟨S14336x4096, .fp8e4m3⟩
  | .hbm, ⟨4, _⟩ => ⟨S4096, .f32⟩
  | .hbm, ⟨5, _⟩ => ⟨S1x4096, .f32⟩
  | .hbm, ⟨6, _⟩ => ⟨S224x4096, .f32⟩
  | .local _ .vmem, ⟨0, _⟩ => ⟨S224x14336, .fp8e4m3⟩
  | .local _ .vmem, ⟨1, _⟩ => ⟨S2x112, .f32⟩
  | .local _ .vmem, ⟨2, _⟩ => ⟨S224x4096, .f32⟩
  | .local _ .vmem, ⟨3, _⟩ => ⟨S14336x4096, .fp8e4m3⟩
  | .local _ .vmem, ⟨4, _⟩ => ⟨S1x4096, .f32⟩
  | .local _ .vmem, ⟨5, _⟩ => ⟨S224x4096, .f32⟩
  | _, _ => ⟨S224x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S224x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S224x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S224x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Names.lean ====
/- The gate/up phase's names: a weight's column block, a ring slot and its two halves, a ring cell, and the equations that
   bring every slice the kernel body spells to one of them. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Batch
public import Idealize.ShloMosaic.Lib.Affine
public import Idealize.ShloMosaic.Lib.Tactic

@[expose] public section

set_option maxRecDepth 8192

noncomputable section

namespace Cert.Proof.KI

open Cert.KernelIdeal Cert.KernelIdeal.Gen
open Idealize.ShloMosaic
open Idealize.ShloMosaic.TcCoe Idealize.ShloMosaic.Tactic

/-! ## The buffers, whole -/

abbrev wgM : Memref sig .tc .hbm S4096x14336 .fp8e4m3 := Memref.whole main_arg2
abbrev wuM : Memref sig .tc .hbm S4096x14336 .fp8e4m3 := Memref.whole main_arg4
abbrev c4M : Memref sig .tc .hbm S28x8x14336 .fp8e4m3 := Memref.whole main_v5_0
abbrev ringM : Memref sig .tc .vmem S16x4096x512 .fp8e4m3 := Memref.whole cc0_scratch0
abbrev lhs4M : Memref sig .tc .vmem S4x224x3584 .fp8e4m3 := Memref.whole cc0_scratch1
abbrev actM : Memref sig .tc .vmem S112x224x128 .f32 := Memref.whole cc0_scratch2
abbrev stageM : Memref sig .tc .vmem S28x8x4096 .fp8e4m3 := Memref.whole cc0_scratch3
abbrev arepM : Memref sig .tc .vmem S224x128 .f32 := Memref.whole cc0_scratch4
abbrev tmpM : Memref sig .tc .vmem S224x128 .f32 := Memref.whole cc0_scratch5

/-! ## Canonical offsets -/

abbrev colOff (b : Fin 56) : Fin 2 → Nat := ![0, 256 * b.val]
theorem colOff_inb (b : Fin 56) : ∀ a, colOff b a + S4096x256.size a ≤ S4096x14336.size a := by
  have := b.isLt; intro a; fin_cases a
  · show 0 + 4096 ≤ 4096; omega
  · show 256 * b.val + 256 ≤ 14336; omega
abbrev leftOff (s : Fin 16) : Fin 3 → Nat := ![s.val, 0, 0]
theorem leftOff_inb (s : Fin 16) : ∀ a, leftOff s a + S1x4096x256.size a ≤ S16x4096x512.size a := by
  have := s.isLt; intro a; fin_cases a
  · show s.val + 1 ≤ 16; omega
  · show 0 + 4096 ≤ 4096; omega
  · show 0 + 256 ≤ 512; omega
abbrev rightOff (s : Fin 16) : Fin 3 → Nat := ![s.val, 0, 256]
theorem rightOff_inb (s : Fin 16) : ∀ a, rightOff s a + S1x4096x256.size a ≤ S16x4096x512.size a := by
  have := s.isLt; intro a; fin_cases a
  · show s.val + 1 ≤ 16; omega
  · show 0 + 4096 ≤ 4096; omega
  · show 256 + 256 ≤ 512; omega
theorem slotOff_inb (s : Fin 16) : ∀ a, leftOff s a + S1x4096x512.size a ≤ S16x4096x512.size a := by
  have := s.isLt; intro a; fin_cases a
  · show s.val + 1 ≤ 16; omega
  · show 0 + 4096 ≤ 4096; omega
  · show 0 + 512 ≤ 512; omega
abbrev semOff (s : Fin 16) : Fin 1 → Nat := ![s.val]
theorem semOff_inb (s : Fin 16) : ∀ a, semOff s a + S1.size a ≤ S16.size a := by
  have := s.isLt; intro a; fin_cases a; show s.val + 1 ≤ 16; omega

/-- Column block `b` of the gate weights; -/
def wg (b : Fin 56) : Memref sig .tc .hbm S4096x256 .fp8e4m3 :=
  wgM.slice (Rect.unit (s := S4096x14336) (colOff b) S4096x256.size (colOff_inb b)) (fun _ => rfl)
/-- of the up weights. -/
def wu (b : Fin 56) : Memref sig .tc .hbm S4096x256 .fp8e4m3 :=
  wuM.slice (Rect.unit (s := S4096x14336) (colOff b) S4096x256.size (colOff_inb b)) (fun _ => rfl)
/-- The left half of ring slot `s` (where a gate block lands); -/
def left (s : Fin 16) : Memref sig .tc .vmem S4096x256 .fp8e4m3 :=
  (ringM.slice (Rect.unit (s := S16x4096x512) (leftOff s) S1x4096x256.size (leftOff_inb s)) (fun _ => rfl)).squeeze S4096x256 squeezes_S1x4096x256_S4096x256
/-- its right half (where an up block lands); -/
def right (s : Fin 16) : Memref sig .tc .vmem S4096x256 .fp8e4m3 :=
  (ringM.slice (Rect.unit (s := S16x4096x512) (rightOff s) S1x4096x256.size (rightOff_inb s)) (fun _ => rfl)).squeeze S4096x256 squeezes_S1x4096x256_S4096x256
/-- and the slot whole, which the arrival's wait names. -/
def slot (s : Fin 16) : Memref sig .tc .vmem S4096x512 .fp8e4m3 :=
  (ringM.slice (Rect.unit (s := S16x4096x512) (leftOff s) S1x4096x512.size (slotOff_inb s)) (fun _ => rfl)).squeeze S4096x512 squeezes_S1x4096x512_S4096x512
/-- Slot `s`'s DMA semaphore. -/
def csm (s : Fin 16) : DmaSems sig S_ := (cc0_scratch6.slice (Rect.unit (s := S16) (semOff s) S1.size (semOff_inb s))).squeeze S_ squeezes_S1_S_

instance (s : Fin 16) : ClosedOff (leftOff s) := ⟨leftOff s, rfl⟩
instance (s : Fin 16) : ClosedOff (rightOff s) := ⟨rightOff s, rfl⟩
instance (b : Fin 56) : ClosedOff (colOff b) := ⟨colOff b, rfl⟩

theorem csm_congr {off : Fin 1 → Nat} {s : Fin 16} (e : off = semOff s) (hh) :
    (cc0_scratch6.slice (Rect.unit (s := S16) off S1.size hh)).squeeze S_ squeezes_S1_S_ = csm s :=
  congrArg (fun A : DmaSems sig S1 => A.squeeze S_ squeezes_S1_S_) (SemArray.slice_unit_congr _ e _ _)
theorem left_congr {off : Fin 3 → Nat} {s : Fin 16} (e : off = leftOff s) (hh hs) :
    (ringM.slice (Rect.unit (s := S16x4096x512) off S1x4096x256.size hh) hs).squeeze S4096x256 squeezes_S1x4096x256_S4096x256 = left s :=
  congrArg (fun M : Memref sig .tc .vmem S1x4096x256 .fp8e4m3 => M.squeeze S4096x256 squeezes_S1x4096x256_S4096x256) (Memref.slice_unit_congr _ e _ _ _ _)
theorem right_congr {off : Fin 3 → Nat} {s : Fin 16} (e : off = rightOff s) (hh hs) :
    (ringM.slice (Rect.unit (s := S16x4096x512) off S1x4096x256.size hh) hs).squeeze S4096x256 squeezes_S1x4096x256_S4096x256 = right s :=
  congrArg (fun M : Memref sig .tc .vmem S1x4096x256 .fp8e4m3 => M.squeeze S4096x256 squeezes_S1x4096x256_S4096x256) (Memref.slice_unit_congr _ e _ _ _ _)
theorem slot_congr {off : Fin 3 → Nat} {s : Fin 16} (e : off = leftOff s) (hh hs) :
    (ringM.slice (Rect.unit (s := S16x4096x512) off S1x4096x512.size hh) hs).squeeze S4096x512 squeezes_S1x4096x512_S4096x512 = slot s :=
  congrArg (fun M : Memref sig .tc .vmem S1x4096x512 .fp8e4m3 => M.squeeze S4096x512 squeezes_S1x4096x512_S4096x512) (Memref.slice_unit_congr _ e _ _ _ _)
theorem wg_congr {off : Fin 2 → Nat} {b : Fin 56} (e : off = colOff b) (hh hs) :
    wgM.slice (Rect.unit (s := S4096x14336) off S4096x256.size hh) hs = wg b := Memref.slice_unit_congr _ e _ _ _ (fun _ => rfl)
theorem wu_congr {off : Fin 2 → Nat} {b : Fin 56} (e : off = colOff b) (hh hs) :
    wuM.slice (Rect.unit (s := S4096x14336) off S4096x256.size hh) hs = wu b := Memref.slice_unit_congr _ e _ _ _ (fun _ => rfl)

/-! ## The loop's offsets and conditions at trip `k` (28 trips)

Trip `k` takes blocks `2 k` and `2 k + 1` and issues blocks `2 k + 15` and `2 k + 16` while they exist; block `b` lies in
slot `b + 5` of the sixteen. -/

abbrev T1 := Fin k0_t1_loop.trips

theorem cond16 : ∀ k : T1, k0_cond16 k = 1#1 := by decide +kernel
theorem cond18 : ∀ k : T1, k0_cond18 k = 1#1 := by decide +kernel
theorem cond17 : ∀ k : T1, k0_cond17 k = 1#1 ↔ k.val ≤ 20 := by decide +kernel
theorem cond19 : ∀ k : T1, k0_cond19 k = 1#1 ↔ k.val ≤ 19 := by decide +kernel

theorem off61 : ∀ k : T1, k0_off61 k = semOff (Ring.sl 16 (2 * k.val + 4)) := by decide +kernel
theorem off62 : ∀ k : T1, k0_off62 k = leftOff (Ring.sl 16 (2 * k.val + 4)) := by decide +kernel
theorem off63 : ∀ k : T1, k.val ≤ 20 → k0_off63 k = colOff (Ring.bk 56 (2 * k.val + 15)) := by decide +kernel
theorem off64 : ∀ k : T1, k0_off64 k = rightOff (Ring.sl 16 (2 * k.val + 4)) := by decide +kernel
theorem off65a : ∀ k : T1, k0_off65 k 0#32 = semOff (Ring.sl 16 (2 * k.val + 5)) := by decide +kernel
theorem off66a : ∀ k : T1, k0_off66 k 0#32 = leftOff (Ring.sl 16 (2 * k.val + 5)) := by decide +kernel
theorem off67a : ∀ k : T1, k0_off67 k 0#32 = leftOff (Ring.sl 16 (2 * k.val + 5)) := by decide +kernel
theorem off65b : ∀ k : T1, k0_off65 k 1#32 = semOff (Ring.sl 16 (2 * k.val + 6)) := by decide +kernel
theorem off66b : ∀ k : T1, k0_off66 k 1#32 = leftOff (Ring.sl 16 (2 * k.val + 6)) := by decide +kernel
theorem off67b : ∀ k : T1, k0_off67 k 1#32 = leftOff (Ring.sl 16 (2 * k.val + 6)) := by decide +kernel
theorem off71 : ∀ k : T1, k0_off71 k = semOff (Ring.sl 16 (2 * k.val + 5)) := by decide +kernel
theorem off72 : ∀ k : T1, k0_off72 k = leftOff (Ring.sl 16 (2 * k.val + 5)) := by decide +kernel
theorem off73 : ∀ k : T1, k.val ≤ 19 → k0_off73 k = colOff (Ring.bk 56 (2 * k.val + 16)) := by decide +kernel
theorem off74 : ∀ k : T1, k0_off74 k = rightOff (Ring.sl 16 (2 * k.val + 5)) := by decide +kernel
theorem off68a : ∀ k : T1, k0_off68 k 0#32 = ![0, 256 * (2 * k.val)] := by decide +kernel
theorem off68b : ∀ k : T1, k0_off68 k 1#32 = ![0, 256 * (2 * k.val + 1)] := by decide +kernel
theorem off69a : ∀ k : T1, k0_off69 k 0#32 = ![2 * (2 * k.val), 0, 0] := by decide +kernel
theorem off70a : ∀ k : T1, k0_off70 k 0#32 = ![2 * (2 * k.val) + 1, 0, 0] := by decide +kernel
theorem off69b : ∀ k : T1, k0_off69 k 1#32 = ![2 * (2 * k.val + 1), 0, 0] := by decide +kernel
theorem off70b : ∀ k : T1, k0_off70 k 1#32 = ![2 * (2 * k.val + 1) + 1, 0, 0] := by decide +kernel

instance (k : T1) : ClosedOff (k0_off67 k 0#32) := ⟨_, off67a k⟩
instance (k : T1) : ClosedOff (k0_off67 k 1#32) := ⟨_, off67b k⟩
instance (k : T1) : ClosedOff (k0_off69 k 0#32) := ⟨_, off69a k⟩
instance (k : T1) : ClosedOff (k0_off69 k 1#32) := ⟨_, off69b k⟩
instance (k : T1) : ClosedOff (k0_off70 k 0#32) := ⟨_, off70a k⟩
instance (k : T1) : ClosedOff (k0_off70 k 1#32) := ⟨_, off70b k⟩

/-! ## The canonical-name equations -/

section Canon
variable (k : T1)

@[sl_canon] theorem sem61 (hh) : (cc0_scratch6.slice (Rect.unit (s := S16) (k0_off61 k) S1.size hh)).squeeze S_ squeezes_S1_S_ = csm (Ring.sl 16 (2 * k.val + 4)) := csm_congr (off61 k) _
@[sl_canon] theorem left62 (hh hs) : (ringM.slice (Rect.unit (s := S16x4096x512) (k0_off62 k) S1x4096x256.size hh) hs).squeeze S4096x256 squeezes_S1x4096x256_S4096x256 = left (Ring.sl 16 (2 * k.val + 4)) := left_congr (off62 k) _ _
@[sl_canon] theorem right64 (hh hs) : (ringM.slice (Rect.unit (s := S16x4096x512) (k0_off64 k) S1x4096x256.size hh) hs).squeeze S4096x256 squeezes_S1x4096x256_S4096x256 = right (Ring.sl 16 (2 * k.val + 4)) := right_congr (off64 k) _ _
@[sl_canon] theorem wg63 (hk : k.val ≤ 20) (hh hs) : wgM.slice (Rect.unit (s := S4096x14336) (k0_off63 k) S4096x256.size hh) hs = wg (Ring.bk 56 (2 * k.val + 15)) := wg_congr (off63 k hk) _ _
@[sl_canon] theorem wu63 (hk : k.val ≤ 20) (hh hs) : wuM.slice (Rect.unit (s := S4096x14336) (k0_off63 k) S4096x256.size hh) hs = wu (Ring.bk 56 (2 * k.val + 15)) := wu_congr (off63 k hk) _ _
@[sl_canon] theorem sem65a (hh) : (cc0_scratch6.slice (Rect.unit (s := S16) (k0_off65 k 0#32) S1.size hh)).squeeze S_ squeezes_S1_S_ = csm (Ring.sl 16 (2 * k.val + 5)) := csm_congr (off65a k) _
@[sl_canon] theorem slot66a (hh hs) : (ringM.slice (Rect.unit (s := S16x4096x512) (k0_off66 k 0#32) S1x4096x512.size hh) hs).squeeze S4096x512 squeezes_S1x4096x512_S4096x512 = slot (Ring.sl 16 (2 * k.val + 5)) := slot_congr (off66a k) _ _
@[sl_canon] theorem sem65b (hh) : (cc0_scratch6.slice (Rect.unit (s := S16) (k0_off65 k 1#32) S1.size hh)).squeeze S_ squeezes_S1_S_ = csm (Ring.sl 16 (2 * k.val + 6)) := csm_congr (off65b k) _
@[sl_canon] theorem slot66b (hh hs) : (ringM.slice (Rect.unit (s := S16x4096x512) (k0_off66 k 1#32) S1x4096x512.size hh) hs).squeeze S4096x512 squeezes_S1x4096x512_S4096x512 = slot (Ring.sl 16 (2 * k.val + 6)) := slot_congr (off66b k) _ _
@[sl_canon] theorem sem71 (hh) : (cc0_scratch6.slice (Rect.unit (s := S16) (k0_off71 k) S1.size hh)).squeeze S_ squeezes_S1_S_ = csm (Ring.sl 16 (2 * k.val + 5)) := csm_congr (off71 k) _
@[sl_canon] theorem left72 (hh hs) : (ringM.slice (Rect.unit (s := S16x4096x512) (k0_off72 k) S1x4096x256.size hh) hs).squeeze S4096x256 squeezes_S1x4096x256_S4096x256 = left (Ring.sl 16 (2 * k.val + 5)) := left_congr (off72 k) _ _
@[sl_canon] theorem right74 (hh hs) : (ringM.slice (Rect.unit (s := S16x4096x512) (k0_off74 k) S1x4096x256.size hh) hs).squeeze S4096x256 squeezes_S1x4096x256_S4096x256 = right (Ring.sl 16 (2 * k.val + 5)) := right_congr (off74 k) _ _
@[sl_canon] theorem wg73 (hk : k.val ≤ 19) (hh hs) : wgM.slice (Rect.unit (s := S4096x14336) (k0_off73 k) S4096x256.size hh) hs = wg (Ring.bk 56 (2 * k.val + 16)) := wg_congr (off73 k hk) _ _
@[sl_canon] theorem wu73 (hk : k.val ≤ 19) (hh hs) : wuM.slice (Rect.unit (s := S4096x14336) (k0_off73 k) S4096x256.size hh) hs = wu (Ring.bk 56 (2 * k.val + 16)) := wu_congr (off73 k hk) _ _

end Canon

/-! ## The prologue's fifteen fetches: blocks 0 to 14 into slots 5 to 15 and 0 to 3 -/

theorem cond1 : k0_cond1 = 1#1 := by decide +kernel
@[sl_canon] theorem semP0 (hh) : (cc0_scratch6.slice (Rect.unit (s := S16) k0_off1 S1.size hh)).squeeze S_ squeezes_S1_S_ = csm 5 := csm_congr (by decide +kernel) _
@[sl_canon] theorem leftP0 (hh hs) : (ringM.slice (Rect.unit (s := S16x4096x512) k0_off2 S1x4096x256.size hh) hs).squeeze S4096x256 squeezes_S1x4096x256_S4096x256 = left 5 := left_congr (by decide +kernel) _ _
@[sl_canon] theorem wgP0 (hh hs) : wgM.slice (Rect.unit (s := S4096x14336) k0_off3 S4096x256.size hh) hs = wg 0 := wg_congr (by decide +kernel) _ _
@[sl_canon] theorem wuP0 (hh hs) : wuM.slice (Rect.unit (s := S4096x14336) k0_off3 S4096x256.size hh) hs = wu 0 := wu_congr (by decide +kernel) _ _
@[sl_canon] theorem rightP0 (hh hs) : (ringM.slice (Rect.unit (s := S16x4096x512) k0_off4 S1x4096x256.size hh) hs).squeeze S4096x256 squeezes_S1x4096x256_S4096x256 = right 5 := right_congr (by decide +kernel) _ _
theorem cond2 : k0_cond2 = 1#1 := by decide +kernel
@[sl_canon] theorem semP1 (hh) : (cc0_scratch6.slice (Rect.unit (s := S16) k0_off5 S1.size hh)).squeeze S_ squeezes_S1_S_ = csm 6 := csm_congr (by decide +kernel) _
@[sl_canon] theorem leftP1 (hh hs) : (ringM.slice (Rect.unit (s := S16x4096x512) k0_off6 S1x4096x256.size hh) hs).squeeze S4096x256 squeezes_S1x4096x256_S4096x256 = left 6 := left_congr (by decide +kernel) _ _
@[sl_canon] theorem wgP1 (hh hs) : wgM.slice (Rect.unit (s := S4096x14336) k0_off7 S4096x256.size hh) hs = wg 1 := wg_congr (by decide +kernel) _ _
@[sl_canon] theorem wuP1 (hh hs) : wuM.slice (Rect.unit (s := S4096x14336) k0_off7 S4096x256.size hh) hs = wu 1 := wu_congr (by decide +kernel) _ _
@[sl_canon] theorem rightP1 (hh hs) : (ringM.slice (Rect.unit (s := S16x4096x512) k0_off8 S1x4096x256.size hh) hs).squeeze S4096x256 squeezes_S1x4096x256_S4096x256 = right 6 := right_congr (by decide +kernel) _ _
theorem cond3 : k0_cond3 = 1#1 := by decide +kernel
@[sl_canon] theorem semP2 (hh) : (cc0_scratch6.slice (Rect.unit (s := S16) k0_off9 S1.size hh)).squeeze S_ squeezes_S1_S_ = csm 7 := csm_congr (by decide +kernel) _
@[sl_canon] theorem leftP2 (hh hs) : (ringM.slice (Rect.unit (s := S16x4096x512) k0_off10 S1x4096x256.size hh) hs).squeeze S4096x256 squeezes_S1x4096x256_S4096x256 = left 7 := left_congr (by decide +kernel) _ _
@[sl_canon] theorem wgP2 (hh hs) : wgM.slice (Rect.unit (s := S4096x14336) k0_off11 S4096x256.size hh) hs = wg 2 := wg_congr (by decide +kernel) _ _
@[sl_canon] theorem wuP2 (hh hs) : wuM.slice (Rect.unit (s := S4096x14336) k0_off11 S4096x256.size hh) hs = wu 2 := wu_congr (by decide +kernel) _ _
@[sl_canon] theorem rightP2 (hh hs) : (ringM.slice (Rect.unit (s := S16x4096x512) k0_off12 S1x4096x256.size hh) hs).squeeze S4096x256 squeezes_S1x4096x256_S4096x256 = right 7 := right_congr (by decide +kernel) _ _
theorem cond4 : k0_cond4 = 1#1 := by decide +kernel
@[sl_canon] theorem semP3 (hh) : (cc0_scratch6.slice (Rect.unit (s := S16) k0_off13 S1.size hh)).squeeze S_ squeezes_S1_S_ = csm 8 := csm_congr (by decide +kernel) _
@[sl_canon] theorem leftP3 (hh hs) : (ringM.slice (Rect.unit (s := S16x4096x512) k0_off14 S1x4096x256.size hh) hs).squeeze S4096x256 squeezes_S1x4096x256_S4096x256 = left 8 := left_congr (by decide +kernel) _ _
@[sl_canon] theorem wgP3 (hh hs) : wgM.slice (Rect.unit (s := S4096x14336) k0_off15 S4096x256.size hh) hs = wg 3 := wg_congr (by decide +kernel) _ _
@[sl_canon] theorem wuP3 (hh hs) : wuM.slice (Rect.unit (s := S4096x14336) k0_off15 S4096x256.size hh) hs = wu 3 := wu_congr (by decide +kernel) _ _
@[sl_canon] theorem rightP3 (hh hs) : (ringM.slice (Rect.unit (s := S16x4096x512) k0_off16 S1x4096x256.size hh) hs).squeeze S4096x256 squeezes_S1x4096x256_S4096x256 = right 8 := right_congr (by decide +kernel) _ _
theorem cond5 : k0_cond5 = 1#1 := by decide +kernel
@[sl_canon] theorem semP4 (hh) : (cc0_scratch6.slice (Rect.unit (s := S16) k0_off17 S1.size hh)).squeeze S_ squeezes_S1_S_ = csm 9 := csm_congr (by decide +kernel) _
@[sl_canon] theorem leftP4 (hh hs) : (ringM.slice (Rect.unit (s := S16x4096x512) k0_off18 S1x4096x256.size hh) hs).squeeze S4096x256 squeezes_S1x4096x256_S4096x256 = left 9 := left_congr (by decide +kernel) _ _
@[sl_canon] theorem wgP4 (hh hs) : wgM.slice (Rect.unit (s := S4096x14336) k0_off19 S4096x256.size hh) hs = wg 4 := wg_congr (by decide +kernel) _ _
@[sl_canon] theorem wuP4 (hh hs) : wuM.slice (Rect.unit (s := S4096x14336) k0_off19 S4096x256.size hh) hs = wu 4 := wu_congr (by decide +kernel) _ _
@[sl_canon] theorem rightP4 (hh hs) : (ringM.slice (Rect.unit (s := S16x4096x512) k0_off20 S1x4096x256.size hh) hs).squeeze S4096x256 squeezes_S1x4096x256_S4096x256 = right 9 := right_congr (by decide +kernel) _ _
theorem cond6 : k0_cond6 = 1#1 := by decide +kernel
@[sl_canon] theorem semP5 (hh) : (cc0_scratch6.slice (Rect.unit (s := S16) k0_off21 S1.size hh)).squeeze S_ squeezes_S1_S_ = csm 10 := csm_congr (by decide +kernel) _
@[sl_canon] theorem leftP5 (hh hs) : (ringM.slice (Rect.unit (s := S16x4096x512) k0_off22 S1x4096x256.size hh) hs).squeeze S4096x256 squeezes_S1x4096x256_S4096x256 = left 10 := left_congr (by decide +kernel) _ _
@[sl_canon] theorem wgP5 (hh hs) : wgM.slice (Rect.unit (s := S4096x14336) k0_off23 S4096x256.size hh) hs = wg 5 := wg_congr (by decide +kernel) _ _
@[sl_canon] theorem wuP5 (hh hs) : wuM.slice (Rect.unit (s := S4096x14336) k0_off23 S4096x256.size hh) hs = wu 5 := wu_congr (by decide +kernel) _ _
@[sl_canon] theorem rightP5 (hh hs) : (ringM.slice (Rect.unit (s := S16x4096x512) k0_off24 S1x4096x256.size hh) hs).squeeze S4096x256 squeezes_S1x4096x256_S4096x256 = right 10 := right_congr (by decide +kernel) _ _
theorem cond7 : k0_cond7 = 1#1 := by decide +kernel
@[sl_canon] theorem semP6 (hh) : (cc0_scratch6.slice (Rect.unit (s := S16) k0_off25 S1.size hh)).squeeze S_ squeezes_S1_S_ = csm 11 := csm_congr (by decide +kernel) _
@[sl_canon] theorem leftP6 (hh hs) : (ringM.slice (Rect.unit (s := S16x4096x512) k0_off26 S1x4096x256.size hh) hs).squeeze S4096x256 squeezes_S1x4096x256_S4096x256 = left 11 := left_congr (by decide +kernel) _ _
@[sl_canon] theorem wgP6 (hh hs) : wgM.slice (Rect.unit (s := S4096x14336) k0_off27 S4096x256.size hh) hs = wg 6 := wg_congr (by decide +kernel) _ _
@[sl_canon] theorem wuP6 (hh hs) : wuM.slice (Rect.unit (s := S4096x14336) k0_off27 S4096x256.size hh) hs = wu 6 := wu_congr (by decide +kernel) _ _
@[sl_canon] theorem rightP6 (hh hs) : (ringM.slice (Rect.unit (s := S16x4096x512) k0_off28 S1x4096x256.size hh) hs).squeeze S4096x256 squeezes_S1x4096x256_S4096x256 = right 11 := right_congr (by decide +kernel) _ _
theorem cond8 : k0_cond8 = 1#1 := by decide +kernel
@[sl_canon] theorem semP7 (hh) : (cc0_scratch6.slice (Rect.unit (s := S16) k0_off29 S1.size hh)).squeeze S_ squeezes_S1_S_ = csm 12 := csm_congr (by decide +kernel) _
@[sl_canon] theorem leftP7 (hh hs) : (ringM.slice (Rect.unit (s := S16x4096x512) k0_off30 S1x4096x256.size hh) hs).squeeze S4096x256 squeezes_S1x4096x256_S4096x256 = left 12 := left_congr (by decide +kernel) _ _
@[sl_canon] theorem wgP7 (hh hs) : wgM.slice (Rect.unit (s := S4096x14336) k0_off31 S4096x256.size hh) hs = wg 7 := wg_congr (by decide +kernel) _ _
@[sl_canon] theorem wuP7 (hh hs) : wuM.slice (Rect.unit (s := S4096x14336) k0_off31 S4096x256.size hh) hs = wu 7 := wu_congr (by decide +kernel) _ _
@[sl_canon] theorem rightP7 (hh hs) : (ringM.slice (Rect.unit (s := S16x4096x512) k0_off32 S1x4096x256.size hh) hs).squeeze S4096x256 squeezes_S1x4096x256_S4096x256 = right 12 := right_congr (by decide +kernel) _ _
theorem cond9 : k0_cond9 = 1#1 := by decide +kernel
@[sl_canon] theorem semP8 (hh) : (cc0_scratch6.slice (Rect.unit (s := S16) k0_off33 S1.size hh)).squeeze S_ squeezes_S1_S_ = csm 13 := csm_congr (by decide +kernel) _
@[sl_canon] theorem leftP8 (hh hs) : (ringM.slice (Rect.unit (s := S16x4096x512) k0_off34 S1x4096x256.size hh) hs).squeeze S4096x256 squeezes_S1x4096x256_S4096x256 = left 13 := left_congr (by decide +kernel) _ _
@[sl_canon] theorem wgP8 (hh hs) : wgM.slice (Rect.unit (s := S4096x14336) k0_off35 S4096x256.size hh) hs = wg 8 := wg_congr (by decide +kernel) _ _
@[sl_canon] theorem wuP8 (hh hs) : wuM.slice (Rect.unit (s := S4096x14336) k0_off35 S4096x256.size hh) hs = wu 8 := wu_congr (by decide +kernel) _ _
@[sl_canon] theorem rightP8 (hh hs) : (ringM.slice (Rect.unit (s := S16x4096x512) k0_off36 S1x4096x256.size hh) hs).squeeze S4096x256 squeezes_S1x4096x256_S4096x256 = right 13 := right_congr (by decide +kernel) _ _
theorem cond10 : k0_cond10 = 1#1 := by decide +kernel
@[sl_canon] theorem semP9 (hh) : (cc0_scratch6.slice (Rect.unit (s := S16) k0_off37 S1.size hh)).squeeze S_ squeezes_S1_S_ = csm 14 := csm_congr (by decide +kernel) _
@[sl_canon] theorem leftP9 (hh hs) : (ringM.slice (Rect.unit (s := S16x4096x512) k0_off38 S1x4096x256.size hh) hs).squeeze S4096x256 squeezes_S1x4096x256_S4096x256 = left 14 := left_congr (by decide +kernel) _ _
@[sl_canon] theorem wgP9 (hh hs) : wgM.slice (Rect.unit (s := S4096x14336) k0_off39 S4096x256.size hh) hs = wg 9 := wg_congr (by decide +kernel) _ _
@[sl_canon] theorem wuP9 (hh hs) : wuM.slice (Rect.unit (s := S4096x14336) k0_off39 S4096x256.size hh) hs = wu 9 := wu_congr (by decide +kernel) _ _
@[sl_canon] theorem rightP9 (hh hs) : (ringM.slice (Rect.unit (s := S16x4096x512) k0_off40 S1x4096x256.size hh) hs).squeeze S4096x256 squeezes_S1x4096x256_S4096x256 = right 14 := right_congr (by decide +kernel) _ _
theorem cond11 : k0_cond11 = 1#1 := by decide +kernel
@[sl_canon] theorem semP10 (hh) : (cc0_scratch6.slice (Rect.unit (s := S16) k0_off41 S1.size hh)).squeeze S_ squeezes_S1_S_ = csm 15 := csm_congr (by decide +kernel) _
@[sl_canon] theorem leftP10 (hh hs) : (ringM.slice (Rect.unit (s := S16x4096x512) k0_off42 S1x4096x256.size hh) hs).squeeze S4096x256 squeezes_S1x4096x256_S4096x256 = left 15 := left_congr (by decide +kernel) _ _
@[sl_canon] theorem wgP10 (hh hs) : wgM.slice (Rect.unit (s := S4096x14336) k0_off43 S4096x256.size hh) hs = wg 10 := wg_congr (by decide +kernel) _ _
@[sl_canon] theorem wuP10 (hh hs) : wuM.slice (Rect.unit (s := S4096x14336) k0_off43 S4096x256.size hh) hs = wu 10 := wu_congr (by decide +kernel) _ _
@[sl_canon] theorem rightP10 (hh hs) : (ringM.slice (Rect.unit (s := S16x4096x512) k0_off44 S1x4096x256.size hh) hs).squeeze S4096x256 squeezes_S1x4096x256_S4096x256 = right 15 := right_congr (by decide +kernel) _ _
theorem cond12 : k0_cond12 = 1#1 := by decide +kernel
@[sl_canon] theorem semP11 (hh) : (cc0_scratch6.slice (Rect.unit (s := S16) k0_off45 S1.size hh)).squeeze S_ squeezes_S1_S_ = csm 0 := csm_congr (by decide +kernel) _
@[sl_canon] theorem leftP11 (hh hs) : (ringM.slice (Rect.unit (s := S16x4096x512) k0_off46 S1x4096x256.size hh) hs).squeeze S4096x256 squeezes_S1x4096x256_S4096x256 = left 0 := left_congr (by decide +kernel) _ _
@[sl_canon] theorem wgP11 (hh hs) : wgM.slice (Rect.unit (s := S4096x14336) k0_off47 S4096x256.size hh) hs = wg 11 := wg_congr (by decide +kernel) _ _
@[sl_canon] theorem wuP11 (hh hs) : wuM.slice (Rect.unit (s := S4096x14336) k0_off47 S4096x256.size hh) hs = wu 11 := wu_congr (by decide +kernel) _ _
@[sl_canon] theorem rightP11 (hh hs) : (ringM.slice (Rect.unit (s := S16x4096x512) k0_off48 S1x4096x256.size hh) hs).squeeze S4096x256 squeezes_S1x4096x256_S4096x256 = right 0 := right_congr (by decide +kernel) _ _
theorem cond13 : k0_cond13 = 1#1 := by decide +kernel
@[sl_canon] theorem semP12 (hh) : (cc0_scratch6.slice (Rect.unit (s := S16) k0_off49 S1.size hh)).squeeze S_ squeezes_S1_S_ = csm 1 := csm_congr (by decide +kernel) _
@[sl_canon] theorem leftP12 (hh hs) : (ringM.slice (Rect.unit (s := S16x4096x512) k0_off50 S1x4096x256.size hh) hs).squeeze S4096x256 squeezes_S1x4096x256_S4096x256 = left 1 := left_congr (by decide +kernel) _ _
@[sl_canon] theorem wgP12 (hh hs) : wgM.slice (Rect.unit (s := S4096x14336) k0_off51 S4096x256.size hh) hs = wg 12 := wg_congr (by decide +kernel) _ _
@[sl_canon] theorem wuP12 (hh hs) : wuM.slice (Rect.unit (s := S4096x14336) k0_off51 S4096x256.size hh) hs = wu 12 := wu_congr (by decide +kernel) _ _
@[sl_canon] theorem rightP12 (hh hs) : (ringM.slice (Rect.unit (s := S16x4096x512) k0_off52 S1x4096x256.size hh) hs).squeeze S4096x256 squeezes_S1x4096x256_S4096x256 = right 1 := right_congr (by decide +kernel) _ _
theorem cond14 : k0_cond14 = 1#1 := by decide +kernel
@[sl_canon] theorem semP13 (hh) : (cc0_scratch6.slice (Rect.unit (s := S16) k0_off53 S1.size hh)).squeeze S_ squeezes_S1_S_ = csm 2 := csm_congr (by decide +kernel) _
@[sl_canon] theorem leftP13 (hh hs) : (ringM.slice (Rect.unit (s := S16x4096x512) k0_off54 S1x4096x256.size hh) hs).squeeze S4096x256 squeezes_S1x4096x256_S4096x256 = left 2 := left_congr (by decide +kernel) _ _
@[sl_canon] theorem wgP13 (hh hs) : wgM.slice (Rect.unit (s := S4096x14336) k0_off55 S4096x256.size hh) hs = wg 13 := wg_congr (by decide +kernel) _ _
@[sl_canon] theorem wuP13 (hh hs) : wuM.slice (Rect.unit (s := S4096x14336) k0_off55 S4096x256.size hh) hs = wu 13 := wu_congr (by decide +kernel) _ _
@[sl_canon] theorem rightP13 (hh hs) : (ringM.slice (Rect.unit (s := S16x4096x512) k0_off56 S1x4096x256.size hh) hs).squeeze S4096x256 squeezes_S1x4096x256_S4096x256 = right 2 := right_congr (by decide +kernel) _ _
theorem cond15 : k0_cond15 = 1#1 := by decide +kernel
@[sl_canon] theorem semP14 (hh) : (cc0_scratch6.slice (Rect.unit (s := S16) k0_off57 S1.size hh)).squeeze S_ squeezes_S1_S_ = csm 3 := csm_congr (by decide +kernel) _
@[sl_canon] theorem leftP14 (hh hs) : (ringM.slice (Rect.unit (s := S16x4096x512) k0_off58 S1x4096x256.size hh) hs).squeeze S4096x256 squeezes_S1x4096x256_S4096x256 = left 3 := left_congr (by decide +kernel) _ _
@[sl_canon] theorem wgP14 (hh hs) : wgM.slice (Rect.unit (s := S4096x14336) k0_off59 S4096x256.size hh) hs = wg 14 := wg_congr (by decide +kernel) _ _
@[sl_canon] theorem wuP14 (hh hs) : wuM.slice (Rect.unit (s := S4096x14336) k0_off59 S4096x256.size hh) hs = wu 14 := wu_congr (by decide +kernel) _ _
@[sl_canon] theorem rightP14 (hh hs) : (ringM.slice (Rect.unit (s := S16x4096x512) k0_off60 S1x4096x256.size hh) hs).squeeze S4096x256 squeezes_S1x4096x256_S4096x256 = right 3 := right_congr (by decide +kernel) _ _

end Cert.Proof.KI

end
-- ==== Proof.Pieces.lean ====
/- The pieces the gate/up loop moves: a block of weight columns home, in flight, landed in a slot's two halves, and the
   slot put together from the halves. -/
module

public import proofs.«01_k».proof.Proof.Names
public import Idealize.ShloMosaic.Lib.ValueLayout

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section Pieces
variable (c : Dev nD) (XG : Buf (Elt F) (wgM.view.loc (c : Thread nD τ))) (XU : Buf (Elt F) (wuM.view.loc (c : Thread nD τ)))

/-- A memref held on its own elements. -/
abbrev own {sp : _} {S : Shape} {e : EltTy} (M : Memref sig .tc sp S e) (f : Buf (Elt F) (M.view.loc (c : Thread nD τ))) : sProp 𝕄 :=
  M.view.loc (c : Thread nD τ) ↦[M.view.set]{fullShare} f
abbrev cellP (s : Fin 16) : sProp 𝕄 := semVal ((c : Thread nD τ), SemLoc.dma (csm s).sem) 0
/-- One half block's credit on a cell. -/
abbrev NN : ℕ := (left 0).view.amount (SemLoc.dma (sig := sig) (csm 0).sem)
/-- Block `b`'s gate columns landed in the left half of slot `s`; -/
abbrev landG (s : Fin 16) (b : Fin 56) : Buf (Elt F) ((left s).view.loc (c : Thread nD τ)) :=
  (left s).view.writes (Elt F) (left s).view.junk [⟨Rect.whole S4096x256, ReadAs.same.apply ((wg b).view.read (Elt F) XG)⟩]
/-- its up columns in the right half. -/
abbrev landU (s : Fin 16) (b : Fin 56) : Buf (Elt F) ((right s).view.loc (c : Thread nD τ)) :=
  (right s).view.writes (Elt F) (right s).view.junk [⟨Rect.whole S4096x256, ReadAs.same.apply ((wu b).view.read (Elt F) XU)⟩]
/-- What the two copies of block `b` into slot `s` deliver. -/
def deliv (s : Fin 16) (b : Fin 56) : Fin 2 → sProp 𝕄
  | 0 => iprop(own c (left s) (landG c XG s b) ∗ own c (wg b) XG)
  | 1 => iprop(own c (right s) (landU c XU s b) ∗ own c (wu b) XU)
theorem storable_pair {sp sp' : _} {S S' : Shape} {e e' : EltTy} (M : Memref sig .tc sp S e) (M' : Memref sig .tc sp' S' e')
    (f : Buf (Elt F) (M.view.loc (c : Thread nD τ))) (g : Buf (Elt F) (M'.view.loc (c : Thread nD τ))) :
    BI.Storable (upEmb : UEmb _ 𝕄) (iprop(own c M f ∗ own c M' g)) := by infer_instance
instance (s : Fin 16) (b : Fin 56) (t : Fin 2) : BI.Storable (upEmb : UEmb _ 𝕄) (deliv c XG XU s b t) := by
  match t with
  | 0 => exact storable_pair c (left s) (wg b) _ _
  | 1 => exact storable_pair c (right s) (wu b) _ _
/-- Block `b` in flight into slot `s`, both copies issued. -/
abbrev flight (s : Fin 16) (b : Fin 56) : sProp 𝕄 :=
  Transfers.Batch countersEmb (c : Thread nD τ) (SemLoc.dma (csm s).sem) () NN (deliv c XG XU s b) 2 0
/-- Slot `s` free: both halves at anything, its cell at zero. -/
abbrev freeS (s : Fin 16) : sProp 𝕄 := iprop((∃ f, own c (left s) f) ∗ (∃ f, own c (right s) f) ∗ cellP c s)
abbrev homeB (b : Fin 56) : sProp 𝕄 := iprop(own c (wg b) XG ∗ own c (wu b) XU)

/-- What slot `s` holds once block `b` has landed: the gate columns left, the up columns right. -/
def chunk (b : Fin 56) : Buf (Elt F) (ringM.view.loc (c : Thread nD τ)) := fun y =>
  if h : (y 2).val < 256 then XG (ix2 (n0 := 4096) (n1 := 14336) (y 1) ⟨256 * b.val + (y 2).val, by have := b.isLt; omega⟩)
  else XU (ix2 (n0 := 4096) (n1 := 14336) (y 1) ⟨256 * b.val + ((y 2).val - 256), by have := b.isLt; have : (y 2).val < 512 := (y 2).isLt; omega⟩)

theorem left_emb (s : Fin 16) (x : Fin 4096) (y : Fin 256) :
    (left s).view.emb (ix2 x y) = ix3 (n0 := 16) (n1 := 4096) (n2 := 512) s x ⟨y.val, by omega⟩ := by
  show (Rect.unit (s := S16x4096x512) (leftOff s) S1x4096x256.size (leftOff_inb s)).emb (Shape.reshapeEquiv _ (ix2 x y)) = _
  rw [ValueIdx.reshapeEquiv_ix2_1ab]
  funext a; fin_cases a <;> apply Fin.ext <;> simp [Rect.emb_apply]
theorem right_emb (s : Fin 16) (x : Fin 4096) (y : Fin 256) :
    (right s).view.emb (ix2 x y) = ix3 (n0 := 16) (n1 := 4096) (n2 := 512) s x ⟨256 + y.val, by omega⟩ := by
  show (Rect.unit (s := S16x4096x512) (rightOff s) S1x4096x256.size (rightOff_inb s)).emb (Shape.reshapeEquiv _ (ix2 x y)) = _
  rw [ValueIdx.reshapeEquiv_ix2_1ab]
  funext a; fin_cases a <;> apply Fin.ext <;> simp [Rect.emb_apply]

theorem wg_emb (b : Fin 56) (x : Fin 4096) (y : Fin 256) :
    (wg b).view.emb (ix2 x y) = ix2 (n0 := 4096) (n1 := 14336) x ⟨256 * b.val + y.val, by have := b.isLt; omega⟩ := by
  show (Rect.unit (s := S4096x14336) (colOff b) S4096x256.size (colOff_inb b)).emb (ix2 x y) = _
  funext a; fin_cases a <;> apply Fin.ext <;> simp [Rect.emb_apply]
theorem wu_emb (b : Fin 56) (x : Fin 4096) (y : Fin 256) :
    (wu b).view.emb (ix2 x y) = ix2 (n0 := 4096) (n1 := 14336) x ⟨256 * b.val + y.val, by have := b.isLt; omega⟩ := by
  show (Rect.unit (s := S4096x14336) (colOff b) S4096x256.size (colOff_inb b)).emb (ix2 x y) = _
  funext a; fin_cases a <;> apply Fin.ext <;> simp [Rect.emb_apply]

theorem chunk_left (s : Fin 16) (b : Fin 56) (x : Fin 4096) (y : Fin 256) :
    chunk c XG XU b ((left s).view.emb (ix2 x y)) = XG ((wg b).view.emb (ix2 x y)) := by
  rw [left_emb, wg_emb]; unfold chunk; exact dif_pos y.isLt
theorem chunk_right (s : Fin 16) (b : Fin 56) (x : Fin 4096) (y : Fin 256) :
    chunk c XG XU b ((right s).view.emb (ix2 x y)) = XU ((wu b).view.emb (ix2 x y)) := by
  rw [right_emb, wu_emb]; unfold chunk
  refine (dif_neg (by show ¬ (256 + y.val < 256); omega)).trans ?_
  congr 2; apply Fin.ext; show 256 * b.val + (256 + y.val - 256) = 256 * b.val + y.val; omega

omit [FloatOps F] in
/-- Two contents that a view reads alike agree on its elements. -/
theorem eq_on_set {κ : Kind} {sp : Space} {S : Shape} {e : EltTy} (v : View sig κ sp S e) (f g : v.ty.Contents (Elt F))
    (h : v.read (Elt F) f = v.read (Elt F) g) : ∀ i ∈ v.set, f i = g i := by
  intro i hi
  obtain ⟨j, -, rfl⟩ := Finset.mem_map.1 hi
  have hj := congrFun h j
  unfold View.read at hj
  exact eq_of_heq ((cast_heq _ _).symm.trans ((heq_of_eq hj).trans (cast_heq _ _)))

theorem read_chunk_left (s : Fin 16) (b : Fin 56) : (left s).view.read (Elt F) (chunk c XG XU b) = (wg b).view.read (Elt F) XG := by
  funext j
  obtain ⟨x, y, rfl⟩ : ∃ (x : Fin 4096) (y : Fin 256), j = ix2 x y := ⟨j 0, j 1, by funext a; fin_cases a <;> rfl⟩
  exact chunk_left c XG XU s b x y
theorem read_chunk_right (s : Fin 16) (b : Fin 56) : (right s).view.read (Elt F) (chunk c XG XU b) = (wu b).view.read (Elt F) XU := by
  funext j
  obtain ⟨x, y, rfl⟩ : ∃ (x : Fin 4096) (y : Fin 256), j = ix2 x y := ⟨j 0, j 1, by funext a; fin_cases a <;> rfl⟩
  exact chunk_right c XG XU s b x y
theorem landG_eq (s : Fin 16) (b : Fin 56) : ∀ i ∈ (left s).view.set, landG c XG s b i = chunk c XG XU b i :=
  eq_on_set _ _ _ ((View.read_writes_whole _ _ _).trans (read_chunk_left c XG XU s b).symm)
theorem landU_eq (s : Fin 16) (b : Fin 56) : ∀ i ∈ (right s).view.set, landU c XU s b i = chunk c XG XU b i :=
  eq_on_set _ _ _ ((View.read_writes_whole _ _ _).trans (read_chunk_right c XG XU s b).symm)

abbrev leftR (s : Fin 16) : Finset S16x4096x512.Idx := (Rect.unit (s := S16x4096x512) (leftOff s) S1x4096x256.size (leftOff_inb s)).set
abbrev rightR (s : Fin 16) : Finset S16x4096x512.Idx := (Rect.unit (s := S16x4096x512) (rightOff s) S1x4096x256.size (rightOff_inb s)).set
abbrev slotR (s : Fin 16) : Finset S16x4096x512.Idx := (Rect.unit (s := S16x4096x512) (leftOff s) S1x4096x512.size (slotOff_inb s)).set
theorem left_set (s : Fin 16) : (left s).view.set = leftR s := (View.set_reshape _ _).trans (View.set_slice_whole _ _)
theorem right_set (s : Fin 16) : (right s).view.set = rightR s := (View.set_reshape _ _).trans (View.set_slice_whole _ _)
theorem slot_set (s : Fin 16) : (slot s).view.set = slotR s := (View.set_reshape _ _).trans (View.set_slice_whole _ _)

theorem mem_leftR (s : Fin 16) (y : S16x4096x512.Idx) : y ∈ leftR s ↔ (y 0).val = s.val ∧ (y 2).val < 256 := by
  rw [Rect.mem_set_unit]
  have h1 : (y 1).val < 4096 := (y 1).isLt
  constructor
  · intro H; have a0 : s.val ≤ (y 0).val ∧ (y 0).val < s.val + 1 := H 0; have a2 : 0 ≤ (y 2).val ∧ (y 2).val < 0 + 256 := H 2; omega
  · intro H i; fin_cases i
    · show s.val ≤ (y 0).val ∧ (y 0).val < s.val + 1; omega
    · show 0 ≤ (y 1).val ∧ (y 1).val < 0 + 4096; omega
    · show 0 ≤ (y 2).val ∧ (y 2).val < 0 + 256; omega
theorem mem_rightR (s : Fin 16) (y : S16x4096x512.Idx) : y ∈ rightR s ↔ (y 0).val = s.val ∧ 256 ≤ (y 2).val := by
  rw [Rect.mem_set_unit]
  have h1 : (y 1).val < 4096 := (y 1).isLt
  have h2 : (y 2).val < 512 := (y 2).isLt
  constructor
  · intro H; have a0 : s.val ≤ (y 0).val ∧ (y 0).val < s.val + 1 := H 0; have a2 : 256 ≤ (y 2).val ∧ (y 2).val < 256 + 256 := H 2; omega
  · intro H i; fin_cases i
    · show s.val ≤ (y 0).val ∧ (y 0).val < s.val + 1; omega
    · show 0 ≤ (y 1).val ∧ (y 1).val < 0 + 4096; omega
    · show 256 ≤ (y 2).val ∧ (y 2).val < 256 + 256; omega
theorem mem_slotR (s : Fin 16) (y : S16x4096x512.Idx) : y ∈ slotR s ↔ (y 0).val = s.val := by
  rw [Rect.mem_set_unit]
  have h1 : (y 1).val < 4096 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 4096; omega
    · show 0 ≤ (y 2).val ∧ (y 2).val < 0 + 512; omega
theorem halves_disjoint (s : Fin 16) : Disjoint (leftR s) (rightR s) :=
  Finset.disjoint_left.2 fun y h h' => by have := (mem_leftR s y).1 h; have := (mem_rightR s y).1 h'; omega
theorem halves_union (s : Fin 16) : leftR s ∪ rightR s = slotR s := by
  ext y; rw [Finset.mem_union, mem_leftR, mem_rightR, mem_slotR]; omega

/-- The two halves at one content are the slot at it. -/
theorem slot_eq (s : Fin 16) (f : Buf (Elt F) (ringM.view.loc (c : Thread nD τ))) :
    (own c (slot s) f : sProp 𝕄) ⊣⊢ iprop(own c (left s) f ∗ own c (right s) f) := by
  show ((ringM.view.loc (c : Thread nD τ)) ↦[(slot s).view.set]{fullShare} f : sProp 𝕄) ⊣⊢
    iprop(((ringM.view.loc (c : Thread nD τ)) ↦[(left s).view.set]{fullShare} f) ∗ ((ringM.view.loc (c : Thread nD τ)) ↦[(right s).view.set]{fullShare} f))
  rw [slot_set, left_set, right_set, ← halves_union]
  exact pointsTo_union (halves_disjoint s)

/-- The two landed halves of block `b` are the slot holding `chunk b`. -/
theorem slot_landed (s : Fin 16) (b : Fin 56) :
    iprop(own c (left s) (landG c XG s b) ∗ own c (right s) (landU c XU s b)) ⊢ (own c (slot s) (chunk c XG XU b) : sProp 𝕄) := by
  rw [show (own c (left s) (landG c XG s b) : sProp 𝕄) = own c (left s) (chunk c XG XU b) from pointsTo_congr (landG_eq c XG XU s b),
    show (own c (right s) (landU c XU s b) : sProp 𝕄) = own c (right s) (chunk c XG XU b) from pointsTo_congr (landU_eq c XG XU s b)]
  exact (slot_eq c s _).2
end Pieces

end Cert.Proof.KI

end
-- ==== Proof.QuantNames.lean ====
/- Names and closed forms of the requantising loop: the column windows of `c4` and of the staging buffer, the cells, and
where each trip's copies go. -/
module

public import proofs.«01_k».proof.Proof.Pieces

@[expose] public section

set_option maxRecDepth 8192

noncomputable section

namespace Cert.Proof.KI

open Cert.KernelIdeal Cert.KernelIdeal.Gen
open Idealize.ShloMosaic
open Idealize.ShloMosaic.TcCoe Idealize.ShloMosaic.Tactic

/-! Chunk `j` of the twenty-eight is 512 columns of `c4`; it is staged in window `j % 7` and copied under cell `j % 7`. -/

abbrev cwOff (j : Fin 28) : Fin 3 → Nat := ![0, 0, 512 * j.val]
theorem cwOff_inb (j : Fin 28) : ∀ a, cwOff j a + S28x8x512.size a ≤ S28x8x14336.size a := by
  have := j.isLt; intro a; fin_cases a
  · show 0 + 28 ≤ 28; omega
  · show 0 + 8 ≤ 8; omega
  · show 512 * j.val + 512 ≤ 14336; omega
abbrev stgOff (u : Fin 8) : Fin 3 → Nat := ![0, 0, 512 * u.val]
theorem stgOff_inb (u : Fin 8) : ∀ a, stgOff u a + S28x8x512.size a ≤ S28x8x4096.size a := by
  have := u.isLt; intro a; fin_cases a
  · show 0 + 28 ≤ 28; omega
  · show 0 + 8 ≤ 8; omega
  · show 512 * u.val + 512 ≤ 4096; omega
abbrev cellOff (u : Fin 7) : Fin 1 → Nat := ![u.val]
theorem cellOff_inb (u : Fin 7) : ∀ a, cellOff u a + S1.size a ≤ S7.size a := by
  have := u.isLt; intro a; fin_cases a; show u.val + 1 ≤ 7; omega

/-- Columns `512 j ..` of `c4`; -/
def cw (j : Fin 28) : Memref sig .tc .hbm S28x8x512 .fp8e4m3 :=
  c4M.slice (Rect.unit (s := S28x8x14336) (cwOff j) S28x8x512.size (cwOff_inb j)) (fun _ => rfl)
/-- window `u` of the staging buffer (the eighth is never used); -/
def stg (u : Fin 8) : Memref sig .tc .vmem S28x8x512 .fp8e4m3 :=
  stageM.slice (Rect.unit (s := S28x8x4096) (stgOff u) S28x8x512.size (stgOff_inb u)) (fun _ => rfl)
/-- the copies' cell `u`. -/
def csm4 (u : Fin 7) : DmaSems sig S_ := (cc0_scratch7.slice (Rect.unit (s := S7) (cellOff u) S1.size (cellOff_inb u))).squeeze S_ squeezes_S1_S_

instance (j : Fin 28) : ClosedOff (cwOff j) := ⟨cwOff j, rfl⟩
instance (u : Fin 8) : ClosedOff (stgOff u) := ⟨stgOff u, rfl⟩

theorem csm4_congr {off : Fin 1 → Nat} {s : Fin 7} (e : off = cellOff s) (hh) :
    (cc0_scratch7.slice (Rect.unit (s := S7) off S1.size hh)).squeeze S_ squeezes_S1_S_ = csm4 s :=
  congrArg (fun A : DmaSems sig S1 => A.squeeze S_ squeezes_S1_S_) (SemArray.slice_unit_congr _ e _ _)
theorem cw_congr {off : Fin 3 → Nat} {b : Fin 28} (e : off = cwOff b) (hh hs) :
    c4M.slice (Rect.unit (s := S28x8x14336) off S28x8x512.size hh) hs = cw b := Memref.slice_unit_congr _ e _ _ _ (fun _ => rfl)
theorem stg_congr {off : Fin 3 → Nat} {b : Fin 8} (e : off = stgOff b) (hh hs) :
    stageM.slice (Rect.unit (s := S28x8x4096) off S28x8x512.size hh) hs = stg b := Memref.slice_unit_congr _ e _ _ _ (fun _ => rfl)

abbrev T2 := Fin k0_t2_loop.trips

/-! ### Step 0 of a trip -/
theorem cond20 : ∀ k : T2, k0_cond20 k = 1#1 ↔ 0 < k.val := by decide +kernel
theorem off75 : ∀ k : T2, 0 < k.val → k0_off75 k = cwOff (Ring.bk 28 (7 * (k.val - 1) + 0)) := by decide +kernel
theorem off77 : ∀ k : T2, k0_off77 k = ![k.val, 0, 0] := by decide +kernel
theorem off78_0 : ∀ k : T2, k0_off78 k 0#32 = cwOff (Ring.bk 28 (7 * k.val + 0)) := by decide +kernel
instance (k : T2) : ClosedOff (k0_off77 k) := ⟨_, off77 k⟩
theorem off76_00 : ∀ k : T2, k0_off76 k 0#32 0#32 = ![4 * (7 * k.val + 0) + 0, 0, 0] := by decide +kernel
instance (k : T2) : ClosedOff (k0_off76 k 0#32 0#32) := ⟨_, off76_00 k⟩
theorem off76_01 : ∀ k : T2, k0_off76 k 0#32 1#32 = ![4 * (7 * k.val + 0) + 1, 0, 0] := by decide +kernel
instance (k : T2) : ClosedOff (k0_off76 k 0#32 1#32) := ⟨_, off76_01 k⟩
theorem off76_02 : ∀ k : T2, k0_off76 k 0#32 2#32 = ![4 * (7 * k.val + 0) + 2, 0, 0] := by decide +kernel
instance (k : T2) : ClosedOff (k0_off76 k 0#32 2#32) := ⟨_, off76_02 k⟩
theorem off76_03 : ∀ k : T2, k0_off76 k 0#32 3#32 = ![4 * (7 * k.val + 0) + 3, 0, 0] := by decide +kernel
instance (k : T2) : ClosedOff (k0_off76 k 0#32 3#32) := ⟨_, off76_03 k⟩
@[sl_canon] theorem sem4_0 (hh) : (cc0_scratch7.slice (Rect.unit (s := S7) ![0] S1.size hh)).squeeze S_ squeezes_S1_S_ = csm4 0 := csm4_congr (s := 0) (by decide +kernel) _
@[sl_canon] theorem stg_0 (hh hs) : stageM.slice (Rect.unit (s := S28x8x4096) ![0, 0, 0] S28x8x512.size hh) hs = stg 0 := stg_congr (b := 0) (by decide +kernel) _ _
@[sl_canon] theorem cwW_0 (k : T2) (hk : 0 < k.val) (hh hs) : c4M.slice (Rect.unit (s := S28x8x14336) (k0_off75 k) S28x8x512.size hh) hs = cw (Ring.bk 28 (7 * (k.val - 1) + 0)) := cw_congr (off75 k hk) _ _
@[sl_canon] theorem cwC_0 (k : T2) (hh hs) : c4M.slice (Rect.unit (s := S28x8x14336) (k0_off78 k 0#32) S28x8x512.size hh) hs = cw (Ring.bk 28 (7 * k.val + 0)) := cw_congr (off78_0 k) _ _
@[sl_canon] theorem cwE_0 (hh hs) : c4M.slice (Rect.unit (s := S28x8x14336) (k0_off91 21#32) S28x8x512.size hh) hs = cw 21 := cw_congr (by decide +kernel) _ _

/-! ### Step 1 of a trip -/
theorem cond21 : ∀ k : T2, k0_cond21 k = 1#1 ↔ 0 < k.val := by decide +kernel
theorem off79 : ∀ k : T2, 0 < k.val → k0_off79 k = cwOff (Ring.bk 28 (7 * (k.val - 1) + 1)) := by decide +kernel
theorem off80 : ∀ k : T2, k0_off80 k = ![k.val, 0, 512] := by decide +kernel
theorem off78_1 : ∀ k : T2, k0_off78 k 1#32 = cwOff (Ring.bk 28 (7 * k.val + 1)) := by decide +kernel
instance (k : T2) : ClosedOff (k0_off80 k) := ⟨_, off80 k⟩
theorem off76_10 : ∀ k : T2, k0_off76 k 1#32 0#32 = ![4 * (7 * k.val + 1) + 0, 0, 0] := by decide +kernel
instance (k : T2) : ClosedOff (k0_off76 k 1#32 0#32) := ⟨_, off76_10 k⟩
theorem off76_11 : ∀ k : T2, k0_off76 k 1#32 1#32 = ![4 * (7 * k.val + 1) + 1, 0, 0] := by decide +kernel
instance (k : T2) : ClosedOff (k0_off76 k 1#32 1#32) := ⟨_, off76_11 k⟩
theorem off76_12 : ∀ k : T2, k0_off76 k 1#32 2#32 = ![4 * (7 * k.val + 1) + 2, 0, 0] := by decide +kernel
instance (k : T2) : ClosedOff (k0_off76 k 1#32 2#32) := ⟨_, off76_12 k⟩
theorem off76_13 : ∀ k : T2, k0_off76 k 1#32 3#32 = ![4 * (7 * k.val + 1) + 3, 0, 0] := by decide +kernel
instance (k : T2) : ClosedOff (k0_off76 k 1#32 3#32) := ⟨_, off76_13 k⟩
@[sl_canon] theorem sem4_1 (hh) : (cc0_scratch7.slice (Rect.unit (s := S7) ![1] S1.size hh)).squeeze S_ squeezes_S1_S_ = csm4 1 := csm4_congr (s := 1) (by decide +kernel) _
@[sl_canon] theorem stg_1 (hh hs) : stageM.slice (Rect.unit (s := S28x8x4096) ![0, 0, 512] S28x8x512.size hh) hs = stg 1 := stg_congr (b := 1) (by decide +kernel) _ _
@[sl_canon] theorem cwW_1 (k : T2) (hk : 0 < k.val) (hh hs) : c4M.slice (Rect.unit (s := S28x8x14336) (k0_off79 k) S28x8x512.size hh) hs = cw (Ring.bk 28 (7 * (k.val - 1) + 1)) := cw_congr (off79 k hk) _ _
@[sl_canon] theorem cwC_1 (k : T2) (hh hs) : c4M.slice (Rect.unit (s := S28x8x14336) (k0_off78 k 1#32) S28x8x512.size hh) hs = cw (Ring.bk 28 (7 * k.val + 1)) := cw_congr (off78_1 k) _ _
@[sl_canon] theorem cwE_1 (hh hs) : c4M.slice (Rect.unit (s := S28x8x14336) (k0_off91 22#32) S28x8x512.size hh) hs = cw 22 := cw_congr (by decide +kernel) _ _

/-! ### Step 2 of a trip -/
theorem cond22 : ∀ k : T2, k0_cond22 k = 1#1 ↔ 0 < k.val := by decide +kernel
theorem off81 : ∀ k : T2, 0 < k.val → k0_off81 k = cwOff (Ring.bk 28 (7 * (k.val - 1) + 2)) := by decide +kernel
theorem off82 : ∀ k : T2, k0_off82 k = ![k.val, 0, 1024] := by decide +kernel
theorem off78_2 : ∀ k : T2, k0_off78 k 2#32 = cwOff (Ring.bk 28 (7 * k.val + 2)) := by decide +kernel
instance (k : T2) : ClosedOff (k0_off82 k) := ⟨_, off82 k⟩
theorem off76_20 : ∀ k : T2, k0_off76 k 2#32 0#32 = ![4 * (7 * k.val + 2) + 0, 0, 0] := by decide +kernel
instance (k : T2) : ClosedOff (k0_off76 k 2#32 0#32) := ⟨_, off76_20 k⟩
theorem off76_21 : ∀ k : T2, k0_off76 k 2#32 1#32 = ![4 * (7 * k.val + 2) + 1, 0, 0] := by decide +kernel
instance (k : T2) : ClosedOff (k0_off76 k 2#32 1#32) := ⟨_, off76_21 k⟩
theorem off76_22 : ∀ k : T2, k0_off76 k 2#32 2#32 = ![4 * (7 * k.val + 2) + 2, 0, 0] := by decide +kernel
instance (k : T2) : ClosedOff (k0_off76 k 2#32 2#32) := ⟨_, off76_22 k⟩
theorem off76_23 : ∀ k : T2, k0_off76 k 2#32 3#32 = ![4 * (7 * k.val + 2) + 3, 0, 0] := by decide +kernel
instance (k : T2) : ClosedOff (k0_off76 k 2#32 3#32) := ⟨_, off76_23 k⟩
@[sl_canon] theorem sem4_2 (hh) : (cc0_scratch7.slice (Rect.unit (s := S7) ![2] S1.size hh)).squeeze S_ squeezes_S1_S_ = csm4 2 := csm4_congr (s := 2) (by decide +kernel) _
@[sl_canon] theorem stg_2 (hh hs) : stageM.slice (Rect.unit (s := S28x8x4096) ![0, 0, 1024] S28x8x512.size hh) hs = stg 2 := stg_congr (b := 2) (by decide +kernel) _ _
@[sl_canon] theorem cwW_2 (k : T2) (hk : 0 < k.val) (hh hs) : c4M.slice (Rect.unit (s := S28x8x14336) (k0_off81 k) S28x8x512.size hh) hs = cw (Ring.bk 28 (7 * (k.val - 1) + 2)) := cw_congr (off81 k hk) _ _
@[sl_canon] theorem cwC_2 (k : T2) (hh hs) : c4M.slice (Rect.unit (s := S28x8x14336) (k0_off78 k 2#32) S28x8x512.size hh) hs = cw (Ring.bk 28 (7 * k.val + 2)) := cw_congr (off78_2 k) _ _
@[sl_canon] theorem cwE_2 (hh hs) : c4M.slice (Rect.unit (s := S28x8x14336) (k0_off91 23#32) S28x8x512.size hh) hs = cw 23 := cw_congr (by decide +kernel) _ _

/-! ### Step 3 of a trip -/
theorem cond23 : ∀ k : T2, k0_cond23 k = 1#1 ↔ 0 < k.val := by decide +kernel
theorem off83 : ∀ k : T2, 0 < k.val → k0_off83 k = cwOff (Ring.bk 28 (7 * (k.val - 1) + 3)) := by decide +kernel
theorem off84 : ∀ k : T2, k0_off84 k = ![k.val, 0, 1536] := by decide +kernel
theorem off78_3 : ∀ k : T2, k0_off78 k 3#32 = cwOff (Ring.bk 28 (7 * k.val + 3)) := by decide +kernel
instance (k : T2) : ClosedOff (k0_off84 k) := ⟨_, off84 k⟩
theorem off76_30 : ∀ k : T2, k0_off76 k 3#32 0#32 = ![4 * (7 * k.val + 3) + 0, 0, 0] := by decide +kernel
instance (k : T2) : ClosedOff (k0_off76 k 3#32 0#32) := ⟨_, off76_30 k⟩
theorem off76_31 : ∀ k : T2, k0_off76 k 3#32 1#32 = ![4 * (7 * k.val + 3) + 1, 0, 0] := by decide +kernel
instance (k : T2) : ClosedOff (k0_off76 k 3#32 1#32) := ⟨_, off76_31 k⟩
theorem off76_32 : ∀ k : T2, k0_off76 k 3#32 2#32 = ![4 * (7 * k.val + 3) + 2, 0, 0] := by decide +kernel
instance (k : T2) : ClosedOff (k0_off76 k 3#32 2#32) := ⟨_, off76_32 k⟩
theorem off76_33 : ∀ k : T2, k0_off76 k 3#32 3#32 = ![4 * (7 * k.val + 3) + 3, 0, 0] := by decide +kernel
instance (k : T2) : ClosedOff (k0_off76 k 3#32 3#32) := ⟨_, off76_33 k⟩
@[sl_canon] theorem sem4_3 (hh) : (cc0_scratch7.slice (Rect.unit (s := S7) ![3] S1.size hh)).squeeze S_ squeezes_S1_S_ = csm4 3 := csm4_congr (s := 3) (by decide +kernel) _
@[sl_canon] theorem stg_3 (hh hs) : stageM.slice (Rect.unit (s := S28x8x4096) ![0, 0, 1536] S28x8x512.size hh) hs = stg 3 := stg_congr (b := 3) (by decide +kernel) _ _
@[sl_canon] theorem cwW_3 (k : T2) (hk : 0 < k.val) (hh hs) : c4M.slice (Rect.unit (s := S28x8x14336) (k0_off83 k) S28x8x512.size hh) hs = cw (Ring.bk 28 (7 * (k.val - 1) + 3)) := cw_congr (off83 k hk) _ _
@[sl_canon] theorem cwC_3 (k : T2) (hh hs) : c4M.slice (Rect.unit (s := S28x8x14336) (k0_off78 k 3#32) S28x8x512.size hh) hs = cw (Ring.bk 28 (7 * k.val + 3)) := cw_congr (off78_3 k) _ _
@[sl_canon] theorem cwE_3 (hh hs) : c4M.slice (Rect.unit (s := S28x8x14336) (k0_off91 24#32) S28x8x512.size hh) hs = cw 24 := cw_congr (by decide +kernel) _ _

/-! ### Step 4 of a trip -/
theorem cond24 : ∀ k : T2, k0_cond24 k = 1#1 ↔ 0 < k.val := by decide +kernel
theorem off85 : ∀ k : T2, 0 < k.val → k0_off85 k = cwOff (Ring.bk 28 (7 * (k.val - 1) + 4)) := by decide +kernel
theorem off86 : ∀ k : T2, k0_off86 k = ![k.val, 0, 2048] := by decide +kernel
theorem off78_4 : ∀ k : T2, k0_off78 k 4#32 = cwOff (Ring.bk 28 (7 * k.val + 4)) := by decide +kernel
instance (k : T2) : ClosedOff (k0_off86 k) := ⟨_, off86 k⟩
theorem off76_40 : ∀ k : T2, k0_off76 k 4#32 0#32 = ![4 * (7 * k.val + 4) + 0, 0, 0] := by decide +kernel
instance (k : T2) : ClosedOff (k0_off76 k 4#32 0#32) := ⟨_, off76_40 k⟩
theorem off76_41 : ∀ k : T2, k0_off76 k 4#32 1#32 = ![4 * (7 * k.val + 4) + 1, 0, 0] := by decide +kernel
instance (k : T2) : ClosedOff (k0_off76 k 4#32 1#32) := ⟨_, off76_41 k⟩
theorem off76_42 : ∀ k : T2, k0_off76 k 4#32 2#32 = ![4 * (7 * k.val + 4) + 2, 0, 0] := by decide +kernel
instance (k : T2) : ClosedOff (k0_off76 k 4#32 2#32) := ⟨_, off76_42 k⟩
theorem off76_43 : ∀ k : T2, k0_off76 k 4#32 3#32 = ![4 * (7 * k.val + 4) + 3, 0, 0] := by decide +kernel
instance (k : T2) : ClosedOff (k0_off76 k 4#32 3#32) := ⟨_, off76_43 k⟩
@[sl_canon] theorem sem4_4 (hh) : (cc0_scratch7.slice (Rect.unit (s := S7) ![4] S1.size hh)).squeeze S_ squeezes_S1_S_ = csm4 4 := csm4_congr (s := 4) (by decide +kernel) _
@[sl_canon] theorem stg_4 (hh hs) : stageM.slice (Rect.unit (s := S28x8x4096) ![0, 0, 2048] S28x8x512.size hh) hs = stg 4 := stg_congr (b := 4) (by decide +kernel) _ _
@[sl_canon] theorem cwW_4 (k : T2) (hk : 0 < k.val) (hh hs) : c4M.slice (Rect.unit (s := S28x8x14336) (k0_off85 k) S28x8x512.size hh) hs = cw (Ring.bk 28 (7 * (k.val - 1) + 4)) := cw_congr (off85 k hk) _ _
@[sl_canon] theorem cwC_4 (k : T2) (hh hs) : c4M.slice (Rect.unit (s := S28x8x14336) (k0_off78 k 4#32) S28x8x512.size hh) hs = cw (Ring.bk 28 (7 * k.val + 4)) := cw_congr (off78_4 k) _ _
@[sl_canon] theorem cwE_4 (hh hs) : c4M.slice (Rect.unit (s := S28x8x14336) (k0_off91 25#32) S28x8x512.size hh) hs = cw 25 := cw_congr (by decide +kernel) _ _

/-! ### Step 5 of a trip -/
theorem cond25 : ∀ k : T2, k0_cond25 k = 1#1 ↔ 0 < k.val := by decide +kernel
theorem off87 : ∀ k : T2, 0 < k.val → k0_off87 k = cwOff (Ring.bk 28 (7 * (k.val - 1) + 5)) := by decide +kernel
theorem off88 : ∀ k : T2, k0_off88 k = ![k.val, 0, 2560] := by decide +kernel
theorem off78_5 : ∀ k : T2, k0_off78 k 5#32 = cwOff (Ring.bk 28 (7 * k.val + 5)) := by decide +kernel
instance (k : T2) : ClosedOff (k0_off88 k) := ⟨_, off88 k⟩
theorem off76_50 : ∀ k : T2, k0_off76 k 5#32 0#32 = ![4 * (7 * k.val + 5) + 0, 0, 0] := by decide +kernel
instance (k : T2) : ClosedOff (k0_off76 k 5#32 0#32) := ⟨_, off76_50 k⟩
theorem off76_51 : ∀ k : T2, k0_off76 k 5#32 1#32 = ![4 * (7 * k.val + 5) + 1, 0, 0] := by decide +kernel
instance (k : T2) : ClosedOff (k0_off76 k 5#32 1#32) := ⟨_, off76_51 k⟩
theorem off76_52 : ∀ k : T2, k0_off76 k 5#32 2#32 = ![4 * (7 * k.val + 5) + 2, 0, 0] := by decide +kernel
instance (k : T2) : ClosedOff (k0_off76 k 5#32 2#32) := ⟨_, off76_52 k⟩
theorem off76_53 : ∀ k : T2, k0_off76 k 5#32 3#32 = ![4 * (7 * k.val + 5) + 3, 0, 0] := by decide +kernel
instance (k : T2) : ClosedOff (k0_off76 k 5#32 3#32) := ⟨_, off76_53 k⟩
@[sl_canon] theorem sem4_5 (hh) : (cc0_scratch7.slice (Rect.unit (s := S7) ![5] S1.size hh)).squeeze S_ squeezes_S1_S_ = csm4 5 := csm4_congr (s := 5) (by decide +kernel) _
@[sl_canon] theorem stg_5 (hh hs) : stageM.slice (Rect.unit (s := S28x8x4096) ![0, 0, 2560] S28x8x512.size hh) hs = stg 5 := stg_congr (b := 5) (by decide +kernel) _ _
@[sl_canon] theorem cwW_5 (k : T2) (hk : 0 < k.val) (hh hs) : c4M.slice (Rect.unit (s := S28x8x14336) (k0_off87 k) S28x8x512.size hh) hs = cw (Ring.bk 28 (7 * (k.val - 1) + 5)) := cw_congr (off87 k hk) _ _
@[sl_canon] theorem cwC_5 (k : T2) (hh hs) : c4M.slice (Rect.unit (s := S28x8x14336) (k0_off78 k 5#32) S28x8x512.size hh) hs = cw (Ring.bk 28 (7 * k.val + 5)) := cw_congr (off78_5 k) _ _
@[sl_canon] theorem cwE_5 (hh hs) : c4M.slice (Rect.unit (s := S28x8x14336) (k0_off91 26#32) S28x8x512.size hh) hs = cw 26 := cw_congr (by decide +kernel) _ _

/-! ### Step 6 of a trip -/
theorem cond26 : ∀ k : T2, k0_cond26 k = 1#1 ↔ 0 < k.val := by decide +kernel
theorem off89 : ∀ k : T2, 0 < k.val → k0_off89 k = cwOff (Ring.bk 28 (7 * (k.val - 1) + 6)) := by decide +kernel
theorem off90 : ∀ k : T2, k0_off90 k = ![k.val, 0, 3072] := by decide +kernel
theorem off78_6 : ∀ k : T2, k0_off78 k 6#32 = cwOff (Ring.bk 28 (7 * k.val + 6)) := by decide +kernel
instance (k : T2) : ClosedOff (k0_off90 k) := ⟨_, off90 k⟩
theorem off76_60 : ∀ k : T2, k0_off76 k 6#32 0#32 = ![4 * (7 * k.val + 6) + 0, 0, 0] := by decide +kernel
instance (k : T2) : ClosedOff (k0_off76 k 6#32 0#32) := ⟨_, off76_60 k⟩
theorem off76_61 : ∀ k : T2, k0_off76 k 6#32 1#32 = ![4 * (7 * k.val + 6) + 1, 0, 0] := by decide +kernel
instance (k : T2) : ClosedOff (k0_off76 k 6#32 1#32) := ⟨_, off76_61 k⟩
theorem off76_62 : ∀ k : T2, k0_off76 k 6#32 2#32 = ![4 * (7 * k.val + 6) + 2, 0, 0] := by decide +kernel
instance (k : T2) : ClosedOff (k0_off76 k 6#32 2#32) := ⟨_, off76_62 k⟩
theorem off76_63 : ∀ k : T2, k0_off76 k 6#32 3#32 = ![4 * (7 * k.val + 6) + 3, 0, 0] := by decide +kernel
instance (k : T2) : ClosedOff (k0_off76 k 6#32 3#32) := ⟨_, off76_63 k⟩
@[sl_canon] theorem sem4_6 (hh) : (cc0_scratch7.slice (Rect.unit (s := S7) ![6] S1.size hh)).squeeze S_ squeezes_S1_S_ = csm4 6 := csm4_congr (s := 6) (by decide +kernel) _
@[sl_canon] theorem stg_6 (hh hs) : stageM.slice (Rect.unit (s := S28x8x4096) ![0, 0, 3072] S28x8x512.size hh) hs = stg 6 := stg_congr (b := 6) (by decide +kernel) _ _
@[sl_canon] theorem cwW_6 (k : T2) (hk : 0 < k.val) (hh hs) : c4M.slice (Rect.unit (s := S28x8x14336) (k0_off89 k) S28x8x512.size hh) hs = cw (Ring.bk 28 (7 * (k.val - 1) + 6)) := cw_congr (off89 k hk) _ _
@[sl_canon] theorem cwC_6 (k : T2) (hh hs) : c4M.slice (Rect.unit (s := S28x8x14336) (k0_off78 k 6#32) S28x8x512.size hh) hs = cw (Ring.bk 28 (7 * k.val + 6)) := cw_congr (off78_6 k) _ _
@[sl_canon] theorem cwE_6 (hh hs) : c4M.slice (Rect.unit (s := S28x8x14336) (k0_off91 27#32) S28x8x512.size hh) hs = cw 27 := cw_congr (by decide +kernel) _ _

end Cert.Proof.KI

end
-- ==== Proof.Quant.lean ====
/- One trip of the requantising loop. A trip takes seven chunks of 512 columns: it scales and clips the four planes of
`act` of each, stages the chunk and starts its copy into `c4`, first waiting for the copy that the trip before started
from the same window. -/
module

public import proofs.«01_k».proof.Proof.QuantNames

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

/-! ## What a chunk of `c4` holds -/

/-- A chunk of the code, from its four planes and the reciprocal scales. -/
def z4 (p0 p1 p2 p3 : Vec F S1x224x128 .f32) (t : Vec F S224x128 .f32) : FVec F S28x8x512 .fp8e4m3 :=
  k0_pay26 (k0_pay21 p0 t) (k0_pay22 p1 t) (k0_pay23 p2 t) p3 t

theorem planeOff_inb (p : Fin 112) : ∀ a, (![p.val, 0, 0] : Fin 3 → Nat) a + S1x224x128.size a ≤ S112x224x128.size a := by
  have := p.isLt; intro a; fin_cases a
  · show p.val + 1 ≤ 112; omega
  · show 0 + 224 ≤ 224; omega
  · show 0 + 128 ≤ 128; omega

section Trip
variable (c : Dev nD) (XG : Buf (Elt F) (wgM.view.loc (c : Thread nD τ))) (XU : Buf (Elt F) (wuM.view.loc (c : Thread nD τ)))
  (arg0 : Memref sig .tc .vmem S224x4096 .fp8e4m3) (harg0 : arg0.IsWhole)
  (arg1 : Memref sig .tc .vmem S224x128 .f32) (harg1 : arg1.IsWhole)
  (arg3 : Memref sig .tc .vmem S1x14336 .f32) (harg3 : arg3.IsWhole)
  (arg5 : Memref sig .tc .vmem S1x14336 .f32) (harg5 : arg5.IsWhole)
  (arg7 : Memref sig .tc .vmem S2x112 .f32) (harg7 : arg7.IsWhole)
  (v98 : FVec F S224x128 .f32)

/-- Plane `p` of `act`, as loaded. -/
def planeAt (xa : Buf (Elt F) (actM.view.loc (c : Thread nD τ))) (p : Fin 112) : Vec F S1x224x128 .f32 :=
  actM.view.readAt (Elt F) (Rect.unit (s := S112x224x128) ![p.val, 0, 0] S1x224x128.size (planeOff_inb p)).toLoadRect xa
omit [FloatOps F] in
theorem planeAt_of (xa : Buf (Elt F) (actM.view.loc (c : Thread nD τ))) {off : Fin 3 → Nat} {n : ℕ} (hn : n < 112) (e : off = ![n, 0, 0]) (hh) :
    actM.view.readAt (Elt F) (Rect.unit (s := S112x224x128) off S1x224x128.size hh).toLoadRect xa = planeAt c xa (Ring.bk 112 n) := by
  subst e; unfold planeAt; congr 1; simp only [Ring.bk_val hn]

/-- The reciprocal scales, as loaded. -/
def invAt (xt : Buf (Elt F) (tmpM.view.loc (c : Thread nD τ))) : Vec F S224x128 .f32 :=
  tmpM.view.readAt (Elt F) (Rect.unit ![0, 0] S224x128.size inb_S224x128_S224x128_0_0).toLoadRect xt

/-- Chunk `j` of the code. -/
def zOf (xa : Buf (Elt F) (actM.view.loc (c : Thread nD τ))) (xt : Buf (Elt F) (tmpM.view.loc (c : Thread nD τ))) (j : Fin 28) : FVec F S28x8x512 .fp8e4m3 :=
  z4 (planeAt c xa (Ring.bk 112 (4 * j.val + 0))) (planeAt c xa (Ring.bk 112 (4 * j.val + 1))) (planeAt c xa (Ring.bk 112 (4 * j.val + 2)))
    (planeAt c xa (Ring.bk 112 (4 * j.val + 3))) (invAt c xt)

theorem zOf_eq (xa : Buf (Elt F) (actM.view.loc (c : Thread nD τ))) (xt : Buf (Elt F) (tmpM.view.loc (c : Thread nD τ))) {n : ℕ} (hn : n < 28)
    {o0 o1 o2 o3 : Fin 3 → Nat} (e0 : o0 = ![4 * n + 0, 0, 0]) (e1 : o1 = ![4 * n + 1, 0, 0]) (e2 : o2 = ![4 * n + 2, 0, 0]) (e3 : o3 = ![4 * n + 3, 0, 0])
    (h0 h1 h2 h3) :
    zOf c xa xt (Ring.bk 28 n) = z4 (actM.view.readAt (Elt F) (Rect.unit (s := S112x224x128) o0 S1x224x128.size h0).toLoadRect xa)
      (actM.view.readAt (Elt F) (Rect.unit (s := S112x224x128) o1 S1x224x128.size h1).toLoadRect xa)
      (actM.view.readAt (Elt F) (Rect.unit (s := S112x224x128) o2 S1x224x128.size h2).toLoadRect xa)
      (actM.view.readAt (Elt F) (Rect.unit (s := S112x224x128) o3 S1x224x128.size h3).toLoadRect xa)
      (tmpM.view.readAt (Elt F) (Rect.unit ![0, 0] S224x128.size inb_S224x128_S224x128_0_0).toLoadRect xt) := by
  rw [planeAt_of c xa (by omega) e0, planeAt_of c xa (by omega) e1, planeAt_of c xa (by omega) e2, planeAt_of c xa (by omega) e3]
  unfold zOf; simp only [Ring.bk_val hn]; rfl

/-! ## The states of a chunk -/

abbrev NN4 : ℕ := (cw 0).view.amount (SemLoc.dma (sig := sig) (csm4 0).sem)

/-- `c4` whole, from its chunks. -/
def c4full (Z : Fin 28 → FVec F S28x8x512 .fp8e4m3) : Buf (Elt F) (c4M.view.loc (c : Thread nD τ)) := fun y =>
  Z ⟨(y 2).val / 512, by have : (y 2).val < 14336 := (y 2).isLt; omega⟩
    (ix3 (n0 := 28) (n1 := 8) (n2 := 512) (y 0) (y 1) ⟨(y 2).val % 512, by omega⟩)

theorem cw_emb (j : Fin 28) (x : S28x8x512.Idx) :
    (cw j).view.emb x = ix3 (n0 := 28) (n1 := 8) (n2 := 14336) (x 0) (x 1) ⟨512 * j.val + (x 2).val, by have := j.isLt; have : (x 2).val < 512 := (x 2).isLt; omega⟩ := by
  show (Rect.unit (s := S28x8x14336) (cwOff j) S28x8x512.size (cwOff_inb j)).emb x = _
  funext a; fin_cases a <;> apply Fin.ext <;> simp [Rect.emb_apply]

theorem read_c4full (Z : Fin 28 → FVec F S28x8x512 .fp8e4m3) (j : Fin 28) : (cw j).view.read (Elt F) (c4full c Z) = Z j := by
  funext x
  show c4full c Z ((cw j).view.emb x) = Z j x
  rw [cw_emb]; unfold c4full
  have hx : (x 2).val < 512 := (x 2).isLt
  have e1 : (512 * j.val + (x 2).val) / 512 = j.val := by omega
  have e2 : (512 * j.val + (x 2).val) % 512 = (x 2).val := by omega
  have : (⟨(512 * j.val + (x 2).val) / 512, by have := j.isLt; omega⟩ : Fin 28) = j := Fin.ext e1
  show Z ⟨(512 * j.val + (x 2).val) / 512, _⟩ (ix3 (n0 := 28) (n1 := 8) (n2 := 512) (x 0) (x 1) ⟨(512 * j.val + (x 2).val) % 512, _⟩) = Z j x
  rw [this]; congr 1; funext a; fin_cases a
  · rfl
  · rfl
  · exact Fin.ext e2

section States
variable (Z : Fin 28 → FVec F S28x8x512 .fp8e4m3)

/-- Chunk `j` on its way out of window `u`; -/
abbrev outP (u : Fin 8) (u' : Fin 7) (j : Fin 28) : sProp 𝕄 :=
  iprop(∃ fd fs, Transfers.Flight countersEmb (c : Thread nD τ) (SemLoc.dma (csm4 u').sem) () NN4 iprop(own (F := F) c (cw j) fd ∗ own c (stg u) fs)
    ∗ ⌜(cw j).view.read (Elt F) fd = Z j⌝)
/-- arrived; -/
abbrev doneP (j : Fin 28) : sProp 𝕄 := own c (cw j) (c4full c Z)
/-- not yet written; -/
abbrev freeP (j : Fin 28) : sProp 𝕄 := iprop(∃ f, own (F := F) c (cw j) f)
/-- a window and its cell, idle. -/
abbrev idleP (u : Fin 8) (u' : Fin 7) : sProp 𝕄 := iprop((∃ f, own (F := F) c (stg u) f) ∗ semVal ((c : Thread nD τ), SemLoc.dma (csm4 u').sem) 0)

omit [FloatOps F] in
theorem read_store (u : Fin 8) {off : Fin 3 → Nat} (e : off = stgOff u) (hh) (fs : Buf (Elt F) ((stg u).view.loc (c : Thread nD τ))) (w : FVec F S28x8x512 .fp8e4m3) :
    (stg u).view.read (Elt F) (View.write (Elt F) (stageM.access (Rect.unit (s := S28x8x4096) off S28x8x512.size hh)) fs w Finset.univ) = w := by
  subst e; exact View.read_write_univ (v := (stg u).view) fs w

/-- A copy just started is a chunk on its way. -/
theorem out_of (u : Fin 8) (u' : Fin 7) (j : Fin 28) {off : Fin 3 → Nat} (e : off = stgOff u) (hh)
    (fd : Buf (Elt F) ((cw j).view.loc (c : Thread nD τ))) (fs : Buf (Elt F) ((stg u).view.loc (c : Thread nD τ))) (w : FVec F S28x8x512 .fp8e4m3) (hw : Z j = w) :
    Transfers.Flight countersEmb (c : Thread nD τ) (SemLoc.dma (csm4 u').sem) () NN4
      iprop(own c (cw j) ((cw j).view.writes (Elt F) fd [⟨Rect.whole S28x8x512, ReadAs.same.apply ((stg u).view.read (Elt F) (View.write (Elt F) (stageM.access (Rect.unit (s := S28x8x4096) off S28x8x512.size hh)) fs w Finset.univ))⟩])
        ∗ own c (stg u) (View.write (Elt F) (stageM.access (Rect.unit (s := S28x8x4096) off S28x8x512.size hh)) fs w Finset.univ))
    ⊢ outP c Z u u' j := by
  iintro H; iexists _; iexists _
  isplitl [H]; · iexact H
  ipureintro
  rw [View.read_writes_whole, read_store c u e hh, hw]

theorem done_of (j : Fin 28) (fd : Buf (Elt F) ((cw j).view.loc (c : Thread nD τ))) (h : (cw j).view.read (Elt F) fd = Z j) :
    own c (cw j) fd ⊢ doneP c Z j :=
  Entails.of_eq (pointsTo_congr (eq_on_set (cw j).view fd (c4full c Z) (h.trans (read_c4full c Z j).symm)))

end States

abbrev trip2 (v92 : IVec S112x112 1) (v132 : FVec F S112x112 .f32) (cst_125 : F .f32) (k : T2) : Prog (TpuEff nD τ sig (Elt F) Λ₀ .tc) Unit :=
  k0_t2_body (F := F) arg0 harg0 arg1 harg1 wgM (Memref.isWhole_whole _) arg3 harg3 wuM (Memref.isWhole_whole _) arg5 harg5 c4M (Memref.isWhole_whole _)
    arg7 harg7 ringM (Memref.isWhole_whole _) lhs4M (Memref.isWhole_whole _) actM (Memref.isWhole_whole _) stageM (Memref.isWhole_whole _)
    arepM (Memref.isWhole_whole _) tmpM (Memref.isWhole_whole _) cc0_scratch6 cc0_scratch7 v92 v132 cst_125 k ()

/-- The first trip, which has no copy to wait for. -/
theorem tripQ0 (v92 v132 cst) (k : T2) (hk : k.val = 0) (xa xt) :
    iprop(own c actM xa ∗ own c tmpM xt ∗ (∃ xl, own (F := F) c lhs4M xl) ∗ (∃ W, owes (c : Thread nD τ) 0 W)
      ∗ idleP c 0 0
      ∗ idleP c 1 1
      ∗ idleP c 2 2
      ∗ idleP c 3 3
      ∗ idleP c 4 4
      ∗ idleP c 5 5
      ∗ idleP c 6 6
      ∗ freeP c (Ring.bk 28 (7 * k.val + 0))
      ∗ freeP c (Ring.bk 28 (7 * k.val + 1))
      ∗ freeP c (Ring.bk 28 (7 * k.val + 2))
      ∗ freeP c (Ring.bk 28 (7 * k.val + 3))
      ∗ freeP c (Ring.bk 28 (7 * k.val + 4))
      ∗ freeP c (Ring.bk 28 (7 * k.val + 5))
      ∗ freeP c (Ring.bk 28 (7 * k.val + 6)))
    ⊢ wp frame (wpE (defs₀ (F := F)) 𝒱₀ (c : Thread nD τ) none) Set.univ (trip2 arg0 harg0 arg1 harg1 arg3 harg3 arg5 harg5 arg7 harg7 v92 v132 cst k)
        (fun _ => iprop(own c actM xa ∗ own c tmpM xt ∗ (∃ xl, own (F := F) c lhs4M xl) ∗ (∃ W, owes (c : Thread nD τ) 0 W)
      ∗ outP c (zOf c xa xt) 0 0 (Ring.bk 28 (7 * k.val + 0))
      ∗ outP c (zOf c xa xt) 1 1 (Ring.bk 28 (7 * k.val + 1))
      ∗ outP c (zOf c xa xt) 2 2 (Ring.bk 28 (7 * k.val + 2))
      ∗ outP c (zOf c xa xt) 3 3 (Ring.bk 28 (7 * k.val + 3))
      ∗ outP c (zOf c xa xt) 4 4 (Ring.bk 28 (7 * k.val + 4))
      ∗ outP c (zOf c xa xt) 5 5 (Ring.bk 28 (7 * k.val + 5))
      ∗ outP c (zOf c xa xt) 6 6 (Ring.bk 28 (7 * k.val + 6)))) := by
  have hk4 : k.val < 4 := k.isLt
  have h20 : ¬ k0_cond20 k = 1#1 := fun h => by have := (cond20 k).1 h; omega
  have h21 : ¬ k0_cond21 k = 1#1 := fun h => by have := (cond21 k).1 h; omega
  have h22 : ¬ k0_cond22 k = 1#1 := fun h => by have := (cond22 k).1 h; omega
  have h23 : ¬ k0_cond23 k = 1#1 := fun h => by have := (cond23 k).1 h; omega
  have h24 : ¬ k0_cond24 k = 1#1 := fun h => by have := (cond24 k).1 h; omega
  have h25 : ¬ k0_cond25 k = 1#1 := fun h => by have := (cond25 k).1 h; omega
  have h26 : ¬ k0_cond26 k = 1#1 := fun h => by have := (cond26 k).1 h; omega
  iintro ⟨HA, HT, ⟨%xl, HL⟩, ⟨%W, HW⟩, ⟨⟨%fs0, Hs0⟩, Hc0⟩, ⟨⟨%fs1, Hs1⟩, Hc1⟩, ⟨⟨%fs2, Hs2⟩, Hc2⟩, ⟨⟨%fs3, Hs3⟩, Hc3⟩, ⟨⟨%fs4, Hs4⟩, Hc4⟩, ⟨⟨%fs5, Hs5⟩, Hc5⟩, ⟨⟨%fs6, Hs6⟩, Hc6⟩, ⟨%fd0, Hd0⟩, ⟨%fd1, Hd1⟩, ⟨%fd2, Hd2⟩, ⟨%fd3, Hd3⟩, ⟨%fd4, Hd4⟩, ⟨%fd5, Hd5⟩, ⟨%fd6, Hd6⟩⟩
  dsimp only [trip2]
  sl_unfold [k0_t2_body]
  sl_exec
  sl_step
  isplitl [HA]; · iexact HA
  isplitl [HT]; · iexact HT
  isplitl [HL]; · iexists _; iexact HL
  isplitl [HW]; · iexists _; iexact HW
  isplitl [Hc0]; · iapply (out_of c (zOf c xa xt) 0 0 (Ring.bk 28 (7 * k.val + 0)) (off := ![0, 0, 0]) (by decide +kernel) _ _ _ _ (zOf_eq c xa xt (by omega) (off76_00 k) (off76_01 k) (off76_02 k) (off76_03 k) _ _ _ _)); iexact Hc0
  isplitl [Hc1]; · iapply (out_of c (zOf c xa xt) 1 1 (Ring.bk 28 (7 * k.val + 1)) (off := ![0, 0, 512]) (by decide +kernel) _ _ _ _ (zOf_eq c xa xt (by omega) (off76_10 k) (off76_11 k) (off76_12 k) (off76_13 k) _ _ _ _)); iexact Hc1
  isplitl [Hc2]; · iapply (out_of c (zOf c xa xt) 2 2 (Ring.bk 28 (7 * k.val + 2)) (off := ![0, 0, 1024]) (by decide +kernel) _ _ _ _ (zOf_eq c xa xt (by omega) (off76_20 k) (off76_21 k) (off76_22 k) (off76_23 k) _ _ _ _)); iexact Hc2
  isplitl [Hc3]; · iapply (out_of c (zOf c xa xt) 3 3 (Ring.bk 28 (7 * k.val + 3)) (off := ![0, 0, 1536]) (by decide +kernel) _ _ _ _ (zOf_eq c xa xt (by omega) (off76_30 k) (off76_31 k) (off76_32 k) (off76_33 k) _ _ _ _)); iexact Hc3
  isplitl [Hc4]; · iapply (out_of c (zOf c xa xt) 4 4 (Ring.bk 28 (7 * k.val + 4)) (off := ![0, 0, 2048]) (by decide +kernel) _ _ _ _ (zOf_eq c xa xt (by omega) (off76_40 k) (off76_41 k) (off76_42 k) (off76_43 k) _ _ _ _)); iexact Hc4
  isplitl [Hc5]; · iapply (out_of c (zOf c xa xt) 5 5 (Ring.bk 28 (7 * k.val + 5)) (off := ![0, 0, 2560]) (by decide +kernel) _ _ _ _ (zOf_eq c xa xt (by omega) (off76_50 k) (off76_51 k) (off76_52 k) (off76_53 k) _ _ _ _)); iexact Hc5
  iapply (out_of c (zOf c xa xt) 6 6 (Ring.bk 28 (7 * k.val + 6)) (off := ![0, 0, 3072]) (by decide +kernel) _ _ _ _ (zOf_eq c xa xt (by omega) (off76_60 k) (off76_61 k) (off76_62 k) (off76_63 k) _ _ _ _)); iexact Hc6

/-- A later trip. -/
theorem tripQ1 (v92 v132 cst) (k : T2) (hk : 0 < k.val) (xa xt) :
    iprop(own c actM xa ∗ own c tmpM xt ∗ (∃ xl, own (F := F) c lhs4M xl) ∗ (∃ W, owes (c : Thread nD τ) 0 W)
      ∗ outP c (zOf c xa xt) 0 0 (Ring.bk 28 (7 * (k.val - 1) + 0))
      ∗ outP c (zOf c xa xt) 1 1 (Ring.bk 28 (7 * (k.val - 1) + 1))
      ∗ outP c (zOf c xa xt) 2 2 (Ring.bk 28 (7 * (k.val - 1) + 2))
      ∗ outP c (zOf c xa xt) 3 3 (Ring.bk 28 (7 * (k.val - 1) + 3))
      ∗ outP c (zOf c xa xt) 4 4 (Ring.bk 28 (7 * (k.val - 1) + 4))
      ∗ outP c (zOf c xa xt) 5 5 (Ring.bk 28 (7 * (k.val - 1) + 5))
      ∗ outP c (zOf c xa xt) 6 6 (Ring.bk 28 (7 * (k.val - 1) + 6))
      ∗ freeP c (Ring.bk 28 (7 * k.val + 0))
      ∗ freeP c (Ring.bk 28 (7 * k.val + 1))
      ∗ freeP c (Ring.bk 28 (7 * k.val + 2))
      ∗ freeP c (Ring.bk 28 (7 * k.val + 3))
      ∗ freeP c (Ring.bk 28 (7 * k.val + 4))
      ∗ freeP c (Ring.bk 28 (7 * k.val + 5))
      ∗ freeP c (Ring.bk 28 (7 * k.val + 6)))
    ⊢ wp frame (wpE (defs₀ (F := F)) 𝒱₀ (c : Thread nD τ) none) Set.univ (trip2 arg0 harg0 arg1 harg1 arg3 harg3 arg5 harg5 arg7 harg7 v92 v132 cst k)
        (fun _ => iprop(own c actM xa ∗ own c tmpM xt ∗ (∃ xl, own (F := F) c lhs4M xl) ∗ (∃ W, owes (c : Thread nD τ) 0 W)
      ∗ outP c (zOf c xa xt) 0 0 (Ring.bk 28 (7 * k.val + 0))
      ∗ outP c (zOf c xa xt) 1 1 (Ring.bk 28 (7 * k.val + 1))
      ∗ outP c (zOf c xa xt) 2 2 (Ring.bk 28 (7 * k.val + 2))
      ∗ outP c (zOf c xa xt) 3 3 (Ring.bk 28 (7 * k.val + 3))
      ∗ outP c (zOf c xa xt) 4 4 (Ring.bk 28 (7 * k.val + 4))
      ∗ outP c (zOf c xa xt) 5 5 (Ring.bk 28 (7 * k.val + 5))
      ∗ outP c (zOf c xa xt) 6 6 (Ring.bk 28 (7 * k.val + 6))
      ∗ doneP c (zOf c xa xt) (Ring.bk 28 (7 * (k.val - 1) + 0))
      ∗ doneP c (zOf c xa xt) (Ring.bk 28 (7 * (k.val - 1) + 1))
      ∗ doneP c (zOf c xa xt) (Ring.bk 28 (7 * (k.val - 1) + 2))
      ∗ doneP c (zOf c xa xt) (Ring.bk 28 (7 * (k.val - 1) + 3))
      ∗ doneP c (zOf c xa xt) (Ring.bk 28 (7 * (k.val - 1) + 4))
      ∗ doneP c (zOf c xa xt) (Ring.bk 28 (7 * (k.val - 1) + 5))
      ∗ doneP c (zOf c xa xt) (Ring.bk 28 (7 * (k.val - 1) + 6)))) := by
  have hk4 : k.val < 4 := k.isLt
  have h20 := (cond20 k).2 hk
  have h21 := (cond21 k).2 hk
  have h22 := (cond22 k).2 hk
  have h23 := (cond23 k).2 hk
  have h24 := (cond24 k).2 hk
  have h25 := (cond25 k).2 hk
  have h26 := (cond26 k).2 hk
  iintro ⟨HA, HT, ⟨%xl, HL⟩, ⟨%W, HW⟩, ⟨%fp0, %fs0, Hc0, %hp0⟩, ⟨%fp1, %fs1, Hc1, %hp1⟩, ⟨%fp2, %fs2, Hc2, %hp2⟩, ⟨%fp3, %fs3, Hc3, %hp3⟩, ⟨%fp4, %fs4, Hc4, %hp4⟩, ⟨%fp5, %fs5, Hc5, %hp5⟩, ⟨%fp6, %fs6, Hc6, %hp6⟩, ⟨%fd0, Hd0⟩, ⟨%fd1, Hd1⟩, ⟨%fd2, Hd2⟩, ⟨%fd3, Hd3⟩, ⟨%fd4, Hd4⟩, ⟨%fd5, Hd5⟩, ⟨%fd6, Hd6⟩⟩
  dsimp only [trip2]
  sl_unfold [k0_t2_body]
  sl_exec
  sl_step
  isplitl [HA]; · iexact HA
  isplitl [HT]; · iexact HT
  isplitl [HL]; · iexists _; iexact HL
  isplitl [HW]; · iexists _; iexact HW
  isplitl [Hc0]; · iapply (out_of c (zOf c xa xt) 0 0 (Ring.bk 28 (7 * k.val + 0)) (off := ![0, 0, 0]) (by decide +kernel) _ _ _ _ (zOf_eq c xa xt (by omega) (off76_00 k) (off76_01 k) (off76_02 k) (off76_03 k) _ _ _ _)); iexact Hc0
  isplitl [Hc1]; · iapply (out_of c (zOf c xa xt) 1 1 (Ring.bk 28 (7 * k.val + 1)) (off := ![0, 0, 512]) (by decide +kernel) _ _ _ _ (zOf_eq c xa xt (by omega) (off76_10 k) (off76_11 k) (off76_12 k) (off76_13 k) _ _ _ _)); iexact Hc1
  isplitl [Hc2]; · iapply (out_of c (zOf c xa xt) 2 2 (Ring.bk 28 (7 * k.val + 2)) (off := ![0, 0, 1024]) (by decide +kernel) _ _ _ _ (zOf_eq c xa xt (by omega) (off76_20 k) (off76_21 k) (off76_22 k) (off76_23 k) _ _ _ _)); iexact Hc2
  isplitl [Hc3]; · iapply (out_of c (zOf c xa xt) 3 3 (Ring.bk 28 (7 * k.val + 3)) (off := ![0, 0, 1536]) (by decide +kernel) _ _ _ _ (zOf_eq c xa xt (by omega) (off76_30 k) (off76_31 k) (off76_32 k) (off76_33 k) _ _ _ _)); iexact Hc3
  isplitl [Hc4]; · iapply (out_of c (zOf c xa xt) 4 4 (Ring.bk 28 (7 * k.val + 4)) (off := ![0, 0, 2048]) (by decide +kernel) _ _ _ _ (zOf_eq c xa xt (by omega) (off76_40 k) (off76_41 k) (off76_42 k) (off76_43 k) _ _ _ _)); iexact Hc4
  isplitl [Hc5]; · iapply (out_of c (zOf c xa xt) 5 5 (Ring.bk 28 (7 * k.val + 5)) (off := ![0, 0, 2560]) (by decide +kernel) _ _ _ _ (zOf_eq c xa xt (by omega) (off76_50 k) (off76_51 k) (off76_52 k) (off76_53 k) _ _ _ _)); iexact Hc5
  isplitl [Hc6]; · iapply (out_of c (zOf c xa xt) 6 6 (Ring.bk 28 (7 * k.val + 6)) (off := ![0, 0, 3072]) (by decide +kernel) _ _ _ _ (zOf_eq c xa xt (by omega) (off76_60 k) (off76_61 k) (off76_62 k) (off76_63 k) _ _ _ _)); iexact Hc6
  isplitl [Hc0_dst]; · iapply (done_of c (zOf c xa xt) _ _ hp0); iexact Hc0_dst
  isplitl [Hc1_dst]; · iapply (done_of c (zOf c xa xt) _ _ hp1); iexact Hc1_dst
  isplitl [Hc2_dst]; · iapply (done_of c (zOf c xa xt) _ _ hp2); iexact Hc2_dst
  isplitl [Hc3_dst]; · iapply (done_of c (zOf c xa xt) _ _ hp3); iexact Hc3_dst
  isplitl [Hc4_dst]; · iapply (done_of c (zOf c xa xt) _ _ hp4); iexact Hc4_dst
  isplitl [Hc5_dst]; · iapply (done_of c (zOf c xa xt) _ _ hp5); iexact Hc5_dst
  iapply (done_of c (zOf c xa xt) _ _ hp6); iexact Hc6_dst

end Trip
end Cert.Proof.KI
end
-- ==== Proof.Ff.lean ====
/- One trip of the gate/up loop. A trip waits for two blocks of the weights, multiplies the
activations by each, and stores the four planes of `act` that they give, with the running maximum
of their magnitudes in `tmp`. The three theorems are the three kinds of trip: both arrivals issue a
further block, only the first does, neither does. -/
module

public import proofs.«01_k».proof.Proof.Pieces

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Trip
variable (c : Dev nD) (XG : Buf (Elt F) (wgM.view.loc (c : Thread nD τ))) (XU : Buf (Elt F) (wuM.view.loc (c : Thread nD τ)))
  (arg0 : Memref sig .tc .vmem S224x4096 .fp8e4m3) (harg0 : arg0.IsWhole)
  (arg1 : Memref sig .tc .vmem S224x128 .f32) (harg1 : arg1.IsWhole)
  (arg3 : Memref sig .tc .vmem S1x14336 .f32) (harg3 : arg3.IsWhole)
  (arg5 : Memref sig .tc .vmem S1x14336 .f32) (harg5 : arg5.IsWhole)
  (arg7 : Memref sig .tc .vmem S2x112 .f32) (harg7 : arg7.IsWhole)
  (v98 : FVec F S224x128 .f32)

abbrev trip1 (k : T1) : Prog (TpuEff nD τ sig (Elt F) Λ₀ .tc) Unit :=
  k0_t1_body (F := F) arg0 harg0 arg1 harg1 wgM (Memref.isWhole_whole _) arg3 harg3 wuM (Memref.isWhole_whole _) arg5 harg5 c4M (Memref.isWhole_whole _)
    arg7 harg7 ringM (Memref.isWhole_whole _) lhs4M (Memref.isWhole_whole _) actM (Memref.isWhole_whole _) stageM (Memref.isWhole_whole _)
    arepM (Memref.isWhole_whole _) tmpM (Memref.isWhole_whole _) cc0_scratch6 cc0_scratch7 v98 k ()

/-- The activations, as a trip loads them. -/
def xR (x0 : Buf (Elt F) (arg0.view.loc (c : Thread nD τ))) : Vec F S224x4096 .fp8e4m3 :=
  arg0.view.readAt (Elt F) (Rect.unit ![0, 0] S224x4096.size inb_S224x4096_S224x4096_0_0).toLoadRect x0

/-- The row scales, as a trip loads them. -/
def aR (xr : Buf (Elt F) (arepM.view.loc (c : Thread nD τ))) : Vec F S224x128 .f32 :=
  arepM.view.readAt (Elt F) (Rect.unit ![0, 0] S224x128.size inb_S224x128_S224x128_0_0).toLoadRect xr

/-- The running maximum, as a trip loads it. -/
def tR (xt : Buf (Elt F) (tmpM.view.loc (c : Thread nD τ))) : Vec F S224x128 .f32 :=
  tmpM.view.readAt (Elt F) (Rect.unit ![0, 0] S224x128.size inb_S224x128_S224x128_0_0).toLoadRect xt

/-- The first block of trip `k`, as loaded from its slot. -/
def wR0 (k : T1) : Vec F S1x4096x512 .fp8e4m3 :=
  ringM.view.readAt (Elt F) (Rect.unit (s := S16x4096x512) (k0_off67 k 0#32) S1x4096x512.size (k0_off67_inb k 0)).toLoadRect
    (chunk c XG XU (Ring.bk 56 (2 * k.val)))

/-- The second block of trip `k`, as loaded from its slot. -/
def wR1 (k : T1) : Vec F S1x4096x512 .fp8e4m3 :=
  ringM.view.readAt (Elt F) (Rect.unit (s := S16x4096x512) (k0_off67 k 1#32) S1x4096x512.size (k0_off67_inb k 1)).toLoadRect
    (chunk c XG XU (Ring.bk 56 (2 * k.val + 1)))

/-- The column scales of a block of a trip. -/
def sR0 (A : Memref sig .tc .vmem S1x14336 .f32) (k : T1) (x : Buf (Elt F) (A.view.loc (c : Thread nD τ))) : Vec F S1x256 .f32 :=
  A.view.readAt (Elt F) (Rect.unit (s := S1x14336) (k0_off68 k 0#32) S1x256.size (k0_off68_inb k 0)).toLoadRect x
@[inherit_doc sR0]
def sR1 (A : Memref sig .tc .vmem S1x14336 .f32) (k : T1) (x : Buf (Elt F) (A.view.loc (c : Thread nD τ))) : Vec F S1x256 .f32 :=
  A.view.readAt (Elt F) (Rect.unit (s := S1x14336) (k0_off68 k 1#32) S1x256.size (k0_off68_inb k 1)).toLoadRect x

section Pieces
variable (x0 : Buf (Elt F) (arg0.view.loc (c : Thread nD τ))) (x3 : Buf (Elt F) (arg3.view.loc (c : Thread nD τ)))
  (x5 : Buf (Elt F) (arg5.view.loc (c : Thread nD τ))) (xr : Buf (Elt F) (arepM.view.loc (c : Thread nD τ)))

/-- The scaled gate of the first block. -/
def g0 (k : T1) : FVec F S224x256 .f32 := k0_pay2 (xR c arg0 x0) (wR0 c XG XU k) (sR0 c arg3 k x3) (aR c xr)
/-- The unscaled up product of the first block. -/
def u0 (k : T1) : FVec F S224x256 .f32 := k0_pay3 (xR c arg0 x0) (wR0 c XG XU k)
/-- The column scales of the up product of the first block. -/
def su0 (k : T1) : FVec F S1x256 .f32 := k0_pay4 (sR0 c arg5 k x5)
/-- The scaled gate of the second block. -/
def g1 (k : T1) : FVec F S224x256 .f32 := k0_pay12 (xR c arg0 x0) (wR1 c XG XU k) (sR1 c arg3 k x3) (aR c xr)
/-- The scaled up product of the second block. -/
def u1 (k : T1) : FVec F S224x256 .f32 := k0_pay13 (xR c arg0 x0) (wR1 c XG XU k) (sR1 c arg5 k x5) (aR c xr)

/-- What a trip stores into `act`, the last store first. -/
def actPieces (k : T1) : List (View.Piece (Elt F) S112x224x128 .f32) :=
  [⟨Rect.unit (s := S112x224x128) (k0_off70 k 1#32) S1x224x128.size (k0_off70_inb k 1), k0_pay65 (g1 c XG XU arg0 arg3 x0 x3 xr k) (u1 c XG XU arg0 arg5 x0 x5 xr k) k0_pay14⟩,
   ⟨Rect.unit (s := S112x224x128) (k0_off69 k 1#32) S1x224x128.size (k0_off69_inb k 1), k0_pay64 (g1 c XG XU arg0 arg3 x0 x3 xr k) (u1 c XG XU arg0 arg5 x0 x5 xr k) k0_pay14⟩,
   ⟨Rect.unit (s := S112x224x128) (k0_off70 k 0#32) S1x224x128.size (k0_off70_inb k 0), k0_pay9 (g0 c XG XU arg0 arg3 x0 x3 xr k) (u0 c XG XU arg0 x0 k) (su0 c arg5 x5 k) (aR c xr)⟩,
   ⟨Rect.unit (s := S112x224x128) (k0_off69 k 0#32) S1x224x128.size (k0_off69_inb k 0), k0_pay8 (g0 c XG XU arg0 arg3 x0 x3 xr k) (u0 c XG XU arg0 x0 k) (su0 c arg5 x5 k) (aR c xr)⟩]

/-- The running maximum after the first block, as it is stored. -/
def tmp0 (k : T1) (xt : Buf (Elt F) (tmpM.view.loc (c : Thread nD τ))) : View.Piece (Elt F) S224x128 .f32 :=
  ⟨Rect.unit (s := S224x128) ![0, 0] S224x128.size inb_S224x128_S224x128_0_0,
    k0_pay10 (g0 c XG XU arg0 arg3 x0 x3 xr k) (u0 c XG XU arg0 x0 k) (su0 c arg5 x5 k) (aR c xr) (tR c xt)⟩

/-- What a trip stores into `tmp`, the last store first. -/
def tmpPieces (k : T1) (xt : Buf (Elt F) (tmpM.view.loc (c : Thread nD τ))) : List (View.Piece (Elt F) S224x128 .f32) :=
  [⟨Rect.unit (s := S224x128) ![0, 0] S224x128.size inb_S224x128_S224x128_0_0,
    k0_pay66 (g1 c XG XU arg0 arg3 x0 x3 xr k) (u1 c XG XU arg0 arg5 x0 x5 xr k) k0_pay14
      (tmpM.view.readCov [tmp0 c XG XU arg0 arg3 arg5 x0 x3 x5 xr k xt] (Rect.unit ![0, 0] S224x128.size inb_S224x128_S224x128_0_0).toLoadRect)⟩,
   tmp0 c XG XU arg0 arg3 arg5 x0 x3 x5 xr k xt]

/-- The buffers a trip reads or overwrites, besides the ring and the weights. -/
abbrev held (xa : Buf (Elt F) (actM.view.loc (c : Thread nD τ))) (xt : Buf (Elt F) (tmpM.view.loc (c : Thread nD τ))) : sProp 𝕄 :=
  iprop(own c arg0 x0 ∗ own c arg3 x3 ∗ own c arg5 x5 ∗ own c arepM xr ∗ own c actM xa ∗ own c tmpM xt)

/-- The same after trip `k`. -/
abbrev heldAfter (k : T1) (xa : Buf (Elt F) (actM.view.loc (c : Thread nD τ))) (xt : Buf (Elt F) (tmpM.view.loc (c : Thread nD τ))) : sProp 𝕄 :=
  held c arg0 arg3 arg5 x0 x3 x5 xr (actM.view.writes (Elt F) xa (actPieces c XG XU arg0 arg3 arg5 x0 x3 x5 xr k))
    (tmpM.view.writes (Elt F) xt (tmpPieces c XG XU arg0 arg3 arg5 x0 x3 x5 xr k xt))

/-- A trip whose two arrivals each issue a further block. -/
theorem tripA (k : T1) (hk : k.val ≤ 19) (xa xt) :
    iprop(held c arg0 arg3 arg5 x0 x3 x5 xr xa xt ∗ (∃ W, owes (c : Thread nD τ) 0 W)
      ∗ flight c XG XU (Ring.sl 16 (2 * k.val + 5)) (Ring.bk 56 (2 * k.val)) ∗ flight c XG XU (Ring.sl 16 (2 * k.val + 6)) (Ring.bk 56 (2 * k.val + 1)) ∗ freeS c (Ring.sl 16 (2 * k.val + 4)) ∗ homeB c XG XU (Ring.bk 56 (2 * k.val + 15)) ∗ homeB c XG XU (Ring.bk 56 (2 * k.val + 16)))
    ⊢ wp frame (wpE (defs₀ (F := F)) 𝒱₀ (c : Thread nD τ) none) Set.univ (trip1 arg0 harg0 arg1 harg1 arg3 harg3 arg5 harg5 arg7 harg7 v98 k)
        (fun _ => iprop(heldAfter c XG XU arg0 arg3 arg5 x0 x3 x5 xr k xa xt ∗ (∃ W, owes (c : Thread nD τ) 0 W)
          ∗ homeB c XG XU (Ring.bk 56 (2 * k.val)) ∗ homeB c XG XU (Ring.bk 56 (2 * k.val + 1)) ∗ flight c XG XU (Ring.sl 16 (2 * k.val + 4)) (Ring.bk 56 (2 * k.val + 15)) ∗ flight c XG XU (Ring.sl 16 (2 * k.val + 5)) (Ring.bk 56 (2 * k.val + 16)) ∗ freeS c (Ring.sl 16 (2 * k.val + 6)))) := by
  have h16 := cond16 k
  have h18 := cond18 k
  have h17 := (cond17 k).2 (by omega)
  have h19 := (cond19 k).2 hk
  have hk' : k.val ≤ 20 := by omega
  iintro ⟨⟨H0, H3, H5, HR, HA, HT⟩, ⟨%W, HW⟩, HF0, HF1, ⟨⟨%fl, Hl⟩, ⟨%fr, Hr⟩, Hc⟩, ⟨Hg0, Hu0⟩, ⟨Hg1, Hu1⟩⟩
  dsimp only [trip1]
  sl_unfold [k0_t1_body]
  imod (Transfers.batch_alloc' (Lvl := ℕ) (countersEmb (U := UU nD τ)) (c : Thread nD τ) () NN (deliv c XG XU (Ring.sl 16 (2 * k.val + 4)) (Ring.bk 56 (2 * k.val + 15))) (sm := .dma (csm (Ring.sl 16 (2 * k.val + 4))).sem) (E := Set.univ)) $$ Hc with HB
  sl_exec
  ihave HS := (slot_landed c XG XU (Ring.sl 16 (2 * k.val + 5)) (Ring.bk 56 (2 * k.val))) $$ [HF0_dst0 HF0_dst1]
  · isplitl [HF0_dst0]; · iexact HF0_dst0
    iexact HF0_dst1
  sl_exec
  ihave HS' := (slot_eq c (Ring.sl 16 (2 * k.val + 5)) (chunk c XG XU (Ring.bk 56 (2 * k.val)))).1 $$ HS
  icases HS' with ⟨HSl, HSr⟩
  imod (Transfers.batch_alloc' (Lvl := ℕ) (countersEmb (U := UU nD τ)) (c : Thread nD τ) () NN (deliv c XG XU (Ring.sl 16 (2 * k.val + 5)) (Ring.bk 56 (2 * k.val + 16))) (sm := .dma (csm (Ring.sl 16 (2 * k.val + 5))).sem) (E := Set.univ)) $$ HF0 with HB1
  sl_exec
  ihave HS := (slot_landed c XG XU (Ring.sl 16 (2 * k.val + 6)) (Ring.bk 56 (2 * k.val + 1))) $$ [HF1_dst0 HF1_dst1]
  · isplitl [HF1_dst0]; · iexact HF1_dst0
    iexact HF1_dst1
  sl_exec
  ihave HS' := (slot_eq c (Ring.sl 16 (2 * k.val + 6)) (chunk c XG XU (Ring.bk 56 (2 * k.val + 1)))).1 $$ HS
  icases HS' with ⟨HTl, HTr⟩
  sl_step
  isplitl [H0 H3 H5 HR HA HT]
  · isplitl [H0]; · iexact H0
    isplitl [H3]; · iexact H3
    isplitl [H5]; · iexact H5
    isplitl [HR]; · iexact HR
    isplitl [HA]; · iexact HA
    iexact HT
  isplitl [HW]; · iexists _; iexact HW
  isplitl [HF0_src0 HF0_src1]
  · isplitl [HF0_src0]; · iexact HF0_src0
    iexact HF0_src1
  isplitl [HF1_src0 HF1_src1]
  · isplitl [HF1_src0]; · iexact HF1_src0
    iexact HF1_src1
  isplitl [HB]; · iexact HB
  isplitl [HB1]; · iexact HB1
  isplitl [HTl]; · iexists _; iexact HTl
  isplitl [HTr]; · iexists _; iexact HTr
  iexact HF1

/-- The trip whose first arrival issues the last block. -/
theorem tripB (k : T1) (hk : k.val = 20) (xa xt) :
    iprop(held c arg0 arg3 arg5 x0 x3 x5 xr xa xt ∗ (∃ W, owes (c : Thread nD τ) 0 W)
      ∗ flight c XG XU (Ring.sl 16 (2 * k.val + 5)) (Ring.bk 56 (2 * k.val)) ∗ flight c XG XU (Ring.sl 16 (2 * k.val + 6)) (Ring.bk 56 (2 * k.val + 1)) ∗ freeS c (Ring.sl 16 (2 * k.val + 4)) ∗ homeB c XG XU (Ring.bk 56 (2 * k.val + 15)))
    ⊢ wp frame (wpE (defs₀ (F := F)) 𝒱₀ (c : Thread nD τ) none) Set.univ (trip1 arg0 harg0 arg1 harg1 arg3 harg3 arg5 harg5 arg7 harg7 v98 k)
        (fun _ => iprop(heldAfter c XG XU arg0 arg3 arg5 x0 x3 x5 xr k xa xt ∗ (∃ W, owes (c : Thread nD τ) 0 W)
          ∗ homeB c XG XU (Ring.bk 56 (2 * k.val)) ∗ homeB c XG XU (Ring.bk 56 (2 * k.val + 1)) ∗ flight c XG XU (Ring.sl 16 (2 * k.val + 4)) (Ring.bk 56 (2 * k.val + 15)) ∗ freeS c (Ring.sl 16 (2 * k.val + 5)) ∗ freeS c (Ring.sl 16 (2 * k.val + 6)))) := by
  have h16 := cond16 k
  have h18 := cond18 k
  have h17 := (cond17 k).2 (by omega)
  have h19 : ¬ k0_cond19 k = 1#1 := fun h => by have := (cond19 k).1 h; omega
  have hk' : k.val ≤ 20 := by omega
  iintro ⟨⟨H0, H3, H5, HR, HA, HT⟩, ⟨%W, HW⟩, HF0, HF1, ⟨⟨%fl, Hl⟩, ⟨%fr, Hr⟩, Hc⟩, ⟨Hg0, Hu0⟩⟩
  dsimp only [trip1]
  sl_unfold [k0_t1_body]
  imod (Transfers.batch_alloc' (Lvl := ℕ) (countersEmb (U := UU nD τ)) (c : Thread nD τ) () NN (deliv c XG XU (Ring.sl 16 (2 * k.val + 4)) (Ring.bk 56 (2 * k.val + 15))) (sm := .dma (csm (Ring.sl 16 (2 * k.val + 4))).sem) (E := Set.univ)) $$ Hc with HB
  sl_exec
  ihave HS := (slot_landed c XG XU (Ring.sl 16 (2 * k.val + 5)) (Ring.bk 56 (2 * k.val))) $$ [HF0_dst0 HF0_dst1]
  · isplitl [HF0_dst0]; · iexact HF0_dst0
    iexact HF0_dst1
  sl_exec
  ihave HS' := (slot_eq c (Ring.sl 16 (2 * k.val + 5)) (chunk c XG XU (Ring.bk 56 (2 * k.val)))).1 $$ HS
  icases HS' with ⟨HSl, HSr⟩
  ihave HS := (slot_landed c XG XU (Ring.sl 16 (2 * k.val + 6)) (Ring.bk 56 (2 * k.val + 1))) $$ [HF1_dst0 HF1_dst1]
  · isplitl [HF1_dst0]; · iexact HF1_dst0
    iexact HF1_dst1
  sl_exec
  ihave HS' := (slot_eq c (Ring.sl 16 (2 * k.val + 6)) (chunk c XG XU (Ring.bk 56 (2 * k.val + 1)))).1 $$ HS
  icases HS' with ⟨HTl, HTr⟩
  sl_step
  isplitl [H0 H3 H5 HR HA HT]
  · isplitl [H0]; · iexact H0
    isplitl [H3]; · iexact H3
    isplitl [H5]; · iexact H5
    isplitl [HR]; · iexact HR
    isplitl [HA]; · iexact HA
    iexact HT
  isplitl [HW]; · iexists _; iexact HW
  isplitl [HF0_src0 HF0_src1]
  · isplitl [HF0_src0]; · iexact HF0_src0
    iexact HF0_src1
  isplitl [HF1_src0 HF1_src1]
  · isplitl [HF1_src0]; · iexact HF1_src0
    iexact HF1_src1
  isplitl [HB]; · iexact HB
  isplitl [HSl HSr HF0]
  · isplitl [HSl]; · iexists _; iexact HSl
    isplitl [HSr]; · iexists _; iexact HSr
    iexact HF0
  isplitl [HTl]; · iexists _; iexact HTl
  isplitl [HTr]; · iexists _; iexact HTr
  iexact HF1

/-- A trip that issues nothing. -/
theorem tripC (k : T1) (hk : 21 ≤ k.val) (xa xt) :
    iprop(held c arg0 arg3 arg5 x0 x3 x5 xr xa xt ∗ (∃ W, owes (c : Thread nD τ) 0 W)
      ∗ flight c XG XU (Ring.sl 16 (2 * k.val + 5)) (Ring.bk 56 (2 * k.val)) ∗ flight c XG XU (Ring.sl 16 (2 * k.val + 6)) (Ring.bk 56 (2 * k.val + 1)))
    ⊢ wp frame (wpE (defs₀ (F := F)) 𝒱₀ (c : Thread nD τ) none) Set.univ (trip1 arg0 harg0 arg1 harg1 arg3 harg3 arg5 harg5 arg7 harg7 v98 k)
        (fun _ => iprop(heldAfter c XG XU arg0 arg3 arg5 x0 x3 x5 xr k xa xt ∗ (∃ W, owes (c : Thread nD τ) 0 W)
          ∗ homeB c XG XU (Ring.bk 56 (2 * k.val)) ∗ homeB c XG XU (Ring.bk 56 (2 * k.val + 1)) ∗ freeS c (Ring.sl 16 (2 * k.val + 5)) ∗ freeS c (Ring.sl 16 (2 * k.val + 6)))) := by
  have h16 := cond16 k
  have h18 := cond18 k
  have h17 : ¬ k0_cond17 k = 1#1 := fun h => by have := (cond17 k).1 h; omega
  have h19 : ¬ k0_cond19 k = 1#1 := fun h => by have := (cond19 k).1 h; omega
  iintro ⟨⟨H0, H3, H5, HR, HA, HT⟩, ⟨%W, HW⟩, HF0, HF1⟩
  dsimp only [trip1]
  sl_unfold [k0_t1_body]
  sl_exec
  ihave HS := (slot_landed c XG XU (Ring.sl 16 (2 * k.val + 5)) (Ring.bk 56 (2 * k.val))) $$ [HF0_dst0 HF0_dst1]
  · isplitl [HF0_dst0]; · iexact HF0_dst0
    iexact HF0_dst1
  sl_exec
  ihave HS' := (slot_eq c (Ring.sl 16 (2 * k.val + 5)) (chunk c XG XU (Ring.bk 56 (2 * k.val)))).1 $$ HS
  icases HS' with ⟨HSl, HSr⟩
  ihave HS := (slot_landed c XG XU (Ring.sl 16 (2 * k.val + 6)) (Ring.bk 56 (2 * k.val + 1))) $$ [HF1_dst0 HF1_dst1]
  · isplitl [HF1_dst0]; · iexact HF1_dst0
    iexact HF1_dst1
  sl_exec
  ihave HS' := (slot_eq c (Ring.sl 16 (2 * k.val + 6)) (chunk c XG XU (Ring.bk 56 (2 * k.val + 1)))).1 $$ HS
  icases HS' with ⟨HTl, HTr⟩
  sl_step
  isplitl [H0 H3 H5 HR HA HT]
  · isplitl [H0]; · iexact H0
    isplitl [H3]; · iexact H3
    isplitl [H5]; · iexact H5
    isplitl [HR]; · iexact HR
    isplitl [HA]; · iexact HA
    iexact HT
  isplitl [HW]; · iexists _; iexact HW
  isplitl [HF0_src0 HF0_src1]
  · isplitl [HF0_src0]; · iexact HF0_src0
    iexact HF0_src1
  isplitl [HF1_src0 HF1_src1]
  · isplitl [HF1_src0]; · iexact HF1_src0
    iexact HF1_src1
  isplitl [HSl HSr HF0]
  · isplitl [HSl]; · iexists _; iexact HSl
    isplitl [HSr]; · iexists _; iexact HSr
    iexact HF0
  isplitl [HTl]; · iexists _; iexact HTl
  isplitl [HTr]; · iexists _; iexact HTr
  iexact HF1

end Pieces
end Trip

end Cert.Proof.KI

end
-- ==== Proof.FfLoop.lean ====
/- The gate/up loop's invariant: which blocks are in flight before each trip, and what `act` and `tmp` hold. -/
module

public import proofs.«01_k».proof.Proof.Ff
public import Idealize.SL.BI.BigOpNat

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Taking members out of a big separating conjunction -/

omit [FloatOps F] in
theorem bigSep_list {I : Type} [DecidableEq I] {Φ : I → sProp 𝕄} (l : List I) :
    ∀ s : Finset I, l.Nodup → (∀ i ∈ l, i ∈ s) → bigSep s Φ = l.foldr (fun i P => iprop(Φ i ∗ P)) (bigSep (s \ l.toFinset) Φ) := by
  induction l with
  | nil => intro s _ _; simp
  | cons i l ih =>
    intro s hn hs
    have hi := List.nodup_cons.1 hn
    rw [bigSep_erase (hs i (by simp)), ih (s.erase i) hi.2 (fun j hj => Finset.mem_erase.2 ⟨fun e => hi.1 (e ▸ hj), hs j (by simp [hj])⟩)]
    have e : s.erase i \ l.toFinset = s \ (i :: l).toFinset := by
      ext j; simp only [Finset.mem_sdiff, Finset.mem_erase, List.toFinset_cons, Finset.mem_insert, List.mem_toFinset]; tauto
    rw [e]; rfl

section Ring
variable (c : Dev nD) (XG : Buf (Elt F) (wgM.view.loc (c : Thread nD τ))) (XU : Buf (Elt F) (wuM.view.loc (c : Thread nD τ)))

/-- Block `b` before trip `k`: in flight, or at home. -/
def stB (k : ℕ) (b : Fin 56) : sProp 𝕄 :=
  if 2 * k ≤ b.val ∧ b.val < 2 * k + 15 then flight c XG XU (Ring.sl 16 (b.val + 5)) b else homeB c XG XU b

/-- The slots that are free before trip `k`: one while blocks are still fetched, then two more each trip. -/
def freeAt (k : ℕ) : sProp 𝕄 :=
  if k ≤ 20 then freeS c (Ring.sl 16 (2 * k + 4)) else bigSep (Finset.range (2 * k - 40)) fun i => freeS c (Ring.sl 16 (61 + i))

def ringAt (k : ℕ) : sProp 𝕄 := iprop(bigSep Finset.univ (stB c XG XU k) ∗ freeAt c k)

theorem stB_fly (k n : ℕ) (hn : n < 56) (h : 2 * k ≤ n ∧ n < 2 * k + 15) :
    stB c XG XU k (Ring.bk 56 n) = flight c XG XU (Ring.sl 16 (n + 5)) (Ring.bk 56 n) := by
  unfold stB; rw [Ring.bk_val hn, if_pos h]
theorem stB_home (k n : ℕ) (hn : n < 56) (h : ¬ (2 * k ≤ n ∧ n < 2 * k + 15)) :
    stB c XG XU k (Ring.bk 56 n) = homeB c XG XU (Ring.bk 56 n) := by
  unfold stB; rw [Ring.bk_val hn, if_neg h]

/-- The blocks a trip does not touch are where they were. -/
theorem stB_rest (k : ℕ) (l : List (Fin 56)) (h : ∀ b : Fin 56, b ∉ l → b.val ≠ 2 * k ∧ b.val ≠ 2 * k + 1 ∧ b.val ≠ 2 * k + 15 ∧ b.val ≠ 2 * k + 16) :
    bigSep (Finset.univ \ l.toFinset) (stB c XG XU k) = bigSep (Finset.univ \ l.toFinset) (stB c XG XU (k + 1)) := by
  refine bigSep_congr fun b hb => ?_
  have hb' := h b (by simpa using hb)
  unfold stB
  have : (2 * k ≤ b.val ∧ b.val < 2 * k + 15) ↔ (2 * (k + 1) ≤ b.val ∧ b.val < 2 * (k + 1) + 15) := by omega
  simp only [this]

/-- The blocks no trip touches, for a list. -/
abbrev rest (k : ℕ) (l : List (Fin 56)) : sProp 𝕄 := bigSep (Finset.univ \ l.toFinset) (stB c XG XU k)

theorem bk_ne {a b : ℕ} (ha : a < 56) (hb : b < 56) (h : a ≠ b) : Ring.bk 56 a ≠ Ring.bk 56 b := fun e => h (by
  have := congrArg Fin.val e; rwa [Ring.bk_val ha, Ring.bk_val hb] at this)

theorem ne_of_not_mem {b : Fin 56} {n : ℕ} {l : List (Fin 56)} (h : b ∉ l) (hm : n < 56 → Ring.bk 56 n ∈ l) : b.val ≠ n := fun e =>
  h (by have hn : n < 56 := e ▸ b.isLt
        have : b = Ring.bk 56 n := Fin.ext (by rw [Ring.bk_val hn, e])
        rw [this]; exact hm hn)

theorem ringA (k : ℕ) (hk : k ≤ 19) : ∃ R : sProp 𝕄,
    ringAt c XG XU k = iprop((flight c XG XU (Ring.sl 16 (2 * k + 5)) (Ring.bk 56 (2 * k)) ∗ flight c XG XU (Ring.sl 16 (2 * k + 6)) (Ring.bk 56 (2 * k + 1))
        ∗ homeB c XG XU (Ring.bk 56 (2 * k + 15)) ∗ homeB c XG XU (Ring.bk 56 (2 * k + 16)) ∗ R) ∗ freeS c (Ring.sl 16 (2 * k + 4)))
    ∧ ringAt c XG XU (k + 1) = iprop((homeB c XG XU (Ring.bk 56 (2 * k)) ∗ homeB c XG XU (Ring.bk 56 (2 * k + 1))
        ∗ flight c XG XU (Ring.sl 16 (2 * k + 4)) (Ring.bk 56 (2 * k + 15)) ∗ flight c XG XU (Ring.sl 16 (2 * k + 5)) (Ring.bk 56 (2 * k + 16)) ∗ R)
          ∗ freeS c (Ring.sl 16 (2 * k + 6))) := by
  let l := [Ring.bk 56 (2 * k), Ring.bk 56 (2 * k + 1), Ring.bk 56 (2 * k + 15), Ring.bk 56 (2 * k + 16)]
  have hl : l.Nodup := by
    simp only [l, List.nodup_cons, List.mem_cons, List.not_mem_nil, or_false, not_or, List.nodup_nil, and_true, not_false_eq_true]
    refine ⟨⟨bk_ne ?_ ?_ ?_, bk_ne ?_ ?_ ?_, bk_ne ?_ ?_ ?_⟩, ⟨bk_ne ?_ ?_ ?_, bk_ne ?_ ?_ ?_⟩, bk_ne ?_ ?_ ?_⟩ <;> omega
  refine ⟨rest c XG XU (k + 1) l, ?_, ?_⟩
  · have hr := stB_rest c XG XU k l fun b hb => ⟨ne_of_not_mem hb fun _ => by simp [l], ne_of_not_mem hb fun _ => by simp [l], ne_of_not_mem hb fun _ => by simp [l], ne_of_not_mem hb fun _ => by simp [l]⟩
    unfold ringAt freeAt
    rw [if_pos (by omega), bigSep_list l Finset.univ hl (fun _ _ => Finset.mem_univ _), hr]
    simp only [l, List.foldr_cons, List.foldr_nil]
    rw [stB_fly c XG XU k (2 * k) (by omega) (by omega), stB_fly c XG XU k (2 * k + 1) (by omega) (by omega), stB_home c XG XU k (2 * k + 15) (by omega) (by omega),
      stB_home c XG XU k (2 * k + 16) (by omega) (by omega)]
  · unfold ringAt freeAt
    rw [if_pos (by omega), bigSep_list l Finset.univ hl (fun _ _ => Finset.mem_univ _)]
    simp only [l, List.foldr_cons, List.foldr_nil]
    rw [stB_home c XG XU (k + 1) (2 * k) (by omega) (by omega), stB_home c XG XU (k + 1) (2 * k + 1) (by omega) (by omega), stB_fly c XG XU (k + 1) (2 * k + 15) (by omega) (by omega),
      stB_fly c XG XU (k + 1) (2 * k + 16) (by omega) (by omega), show 2 * k + 15 + 5 = (2 * k + 4) + 16 by omega, show 2 * k + 16 + 5 = (2 * k + 5) + 16 by omega, Ring.sl_add, Ring.sl_add]
    rfl

theorem ringB (k : ℕ) (hk : k = 20) : ∃ R : sProp 𝕄,
    ringAt c XG XU k = iprop((flight c XG XU (Ring.sl 16 (2 * k + 5)) (Ring.bk 56 (2 * k)) ∗ flight c XG XU (Ring.sl 16 (2 * k + 6)) (Ring.bk 56 (2 * k + 1))
        ∗ homeB c XG XU (Ring.bk 56 (2 * k + 15)) ∗ R) ∗ freeS c (Ring.sl 16 (2 * k + 4)))
    ∧ ringAt c XG XU (k + 1) = iprop((homeB c XG XU (Ring.bk 56 (2 * k)) ∗ homeB c XG XU (Ring.bk 56 (2 * k + 1))
        ∗ flight c XG XU (Ring.sl 16 (2 * k + 4)) (Ring.bk 56 (2 * k + 15)) ∗ R)
          ∗ freeS c (Ring.sl 16 (2 * k + 6)) ∗ freeS c (Ring.sl 16 (2 * k + 5))) := by
  let l := [Ring.bk 56 (2 * k), Ring.bk 56 (2 * k + 1), Ring.bk 56 (2 * k + 15)]
  have hl : l.Nodup := by
    simp only [l, List.nodup_cons, List.mem_cons, List.not_mem_nil, or_false, not_or, List.nodup_nil, and_true, not_false_eq_true]
    refine ⟨⟨bk_ne ?_ ?_ ?_, bk_ne ?_ ?_ ?_⟩, bk_ne ?_ ?_ ?_⟩ <;> omega
  refine ⟨rest c XG XU (k + 1) l, ?_, ?_⟩
  · have hr := stB_rest c XG XU k l fun b hb => ⟨ne_of_not_mem hb fun _ => by simp [l], ne_of_not_mem hb fun _ => by simp [l], ne_of_not_mem hb fun _ => by simp [l], by have := b.isLt; omega⟩
    unfold ringAt freeAt
    rw [if_pos (by omega), bigSep_list l Finset.univ hl (fun _ _ => Finset.mem_univ _), hr]
    simp only [l, List.foldr_cons, List.foldr_nil]
    rw [stB_fly c XG XU k (2 * k) (by omega) (by omega), stB_fly c XG XU k (2 * k + 1) (by omega) (by omega), stB_home c XG XU k (2 * k + 15) (by omega) (by omega)]
  · unfold ringAt freeAt
    rw [if_neg (by omega), bigSep_list l Finset.univ hl (fun _ _ => Finset.mem_univ _)]
    simp only [l, List.foldr_cons, List.foldr_nil]
    rw [stB_home c XG XU (k + 1) (2 * k) (by omega) (by omega), stB_home c XG XU (k + 1) (2 * k + 1) (by omega) (by omega), stB_fly c XG XU (k + 1) (2 * k + 15) (by omega) (by omega),
      show 2 * k + 15 + 5 = (2 * k + 4) + 16 by omega, Ring.sl_add]
    subst hk
    rw [show 2 * (20 + 1) - 40 = 0 + 1 + 1 by rfl, bigSep_range_succ, bigSep_range_succ, Finset.range_zero, bigSep_empty]
    rw [show (61 : ℕ) + 0 = (2 * 20 + 5) + 16 by rfl, show (61 : ℕ) + (0 + 1) = (2 * 20 + 6) + 16 by rfl, (by decide : Ring.sl 16 (2 * 20 + 6 + 16) = Ring.sl 16 (2 * 20 + 6)),
      (by decide : Ring.sl 16 (2 * 20 + 5 + 16) = Ring.sl 16 (2 * 20 + 5))]
    exact congrArg (fun P : sProp 𝕄 => iprop(_ ∗ _ ∗ P)) (equiv_iff.mp sep_emp)

theorem ringC (k : ℕ) (hk : 21 ≤ k) (hk' : k < 28) : ∃ R : sProp 𝕄,
    ringAt c XG XU k = iprop((flight c XG XU (Ring.sl 16 (2 * k + 5)) (Ring.bk 56 (2 * k)) ∗ flight c XG XU (Ring.sl 16 (2 * k + 6)) (Ring.bk 56 (2 * k + 1)) ∗ R) ∗ freeAt c k)
    ∧ ringAt c XG XU (k + 1) = iprop((homeB c XG XU (Ring.bk 56 (2 * k)) ∗ homeB c XG XU (Ring.bk 56 (2 * k + 1)) ∗ R)
          ∗ freeS c (Ring.sl 16 (2 * k + 6)) ∗ freeS c (Ring.sl 16 (2 * k + 5)) ∗ freeAt c k) := by
  let l := [Ring.bk 56 (2 * k), Ring.bk 56 (2 * k + 1)]
  have hl : l.Nodup := by
    simp only [l, List.nodup_cons, List.mem_cons, List.not_mem_nil, or_false, not_or, List.nodup_nil, and_true, not_false_eq_true]
    exact bk_ne (by omega) (by omega) (by omega)
  refine ⟨rest c XG XU (k + 1) l, ?_, ?_⟩
  · have hr := stB_rest c XG XU k l fun b hb => ⟨ne_of_not_mem hb fun _ => by simp [l], ne_of_not_mem hb fun _ => by simp [l], by have := b.isLt; omega, by have := b.isLt; omega⟩
    unfold ringAt
    rw [bigSep_list l Finset.univ hl (fun _ _ => Finset.mem_univ _), hr]
    simp only [l, List.foldr_cons, List.foldr_nil]
    rw [stB_fly c XG XU k (2 * k) (by omega) (by omega), stB_fly c XG XU k (2 * k + 1) (by omega) (by omega)]
  · unfold ringAt freeAt
    rw [if_neg (by omega), if_neg (by omega), bigSep_list l Finset.univ hl (fun _ _ => Finset.mem_univ _)]
    simp only [l, List.foldr_cons, List.foldr_nil]
    rw [stB_home c XG XU (k + 1) (2 * k) (by omega) (by omega), stB_home c XG XU (k + 1) (2 * k + 1) (by omega) (by omega)]
    rw [show 2 * (k + 1) - 40 = (2 * k - 40) + 1 + 1 by omega, bigSep_range_succ, bigSep_range_succ]
    rw [show (61 : ℕ) + (2 * k - 40 + 1) = (2 * k + 6) + 16 by omega, show (61 : ℕ) + (2 * k - 40) = (2 * k + 5) + 16 by omega, Ring.sl_add, Ring.sl_add]
end Ring

section Trip
variable (c : Dev nD) (XG : Buf (Elt F) (wgM.view.loc (c : Thread nD τ))) (XU : Buf (Elt F) (wuM.view.loc (c : Thread nD τ)))
  (arg0 : Memref sig .tc .vmem S224x4096 .fp8e4m3) (harg0 : arg0.IsWhole)
  (arg1 : Memref sig .tc .vmem S224x128 .f32) (harg1 : arg1.IsWhole)
  (arg3 : Memref sig .tc .vmem S1x14336 .f32) (harg3 : arg3.IsWhole)
  (arg5 : Memref sig .tc .vmem S1x14336 .f32) (harg5 : arg5.IsWhole)
  (arg7 : Memref sig .tc .vmem S2x112 .f32) (harg7 : arg7.IsWhole)
  (v98 : FVec F S224x128 .f32)

  (x0 : Buf (Elt F) (arg0.view.loc (c : Thread nD τ))) (x3 : Buf (Elt F) (arg3.view.loc (c : Thread nD τ)))
  (x5 : Buf (Elt F) (arg5.view.loc (c : Thread nD τ))) (xr : Buf (Elt F) (arepM.view.loc (c : Thread nD τ)))

/-- `act` before trip `k`, from what it holds before the loop; -/
def actAcc (xa : Buf (Elt F) (actM.view.loc (c : Thread nD τ))) : ℕ → Buf (Elt F) (actM.view.loc (c : Thread nD τ))
  | 0 => xa
  | k + 1 => if h : k < k0_t1_loop.trips then actM.view.writes (Elt F) (actAcc xa k) (actPieces c XG XU arg0 arg3 arg5 x0 x3 x5 xr ⟨k, h⟩) else actAcc xa k
/-- `tmp` likewise. -/
def tmpAcc (xt : Buf (Elt F) (tmpM.view.loc (c : Thread nD τ))) : ℕ → Buf (Elt F) (tmpM.view.loc (c : Thread nD τ))
  | 0 => xt
  | k + 1 => if h : k < k0_t1_loop.trips then tmpM.view.writes (Elt F) (tmpAcc xt k) (tmpPieces c XG XU arg0 arg3 arg5 x0 x3 x5 xr ⟨k, h⟩ (tmpAcc xt k)) else tmpAcc xt k

theorem actAcc_succ (xa) (k : T1) : actAcc c XG XU arg0 arg3 arg5 x0 x3 x5 xr xa (k.val + 1)
    = actM.view.writes (Elt F) (actAcc c XG XU arg0 arg3 arg5 x0 x3 x5 xr xa k.val) (actPieces c XG XU arg0 arg3 arg5 x0 x3 x5 xr k) := by
  rw [actAcc, dif_pos k.isLt]
theorem tmpAcc_succ (xt) (k : T1) : tmpAcc c XG XU arg0 arg3 arg5 x0 x3 x5 xr xt (k.val + 1)
    = tmpM.view.writes (Elt F) (tmpAcc c XG XU arg0 arg3 arg5 x0 x3 x5 xr xt k.val) (tmpPieces c XG XU arg0 arg3 arg5 x0 x3 x5 xr k (tmpAcc c XG XU arg0 arg3 arg5 x0 x3 x5 xr xt k.val)) := by
  rw [tmpAcc, dif_pos k.isLt]

/-- What the loop holds before trip `k`. -/
def inv1 (xa : Buf (Elt F) (actM.view.loc (c : Thread nD τ))) (xt : Buf (Elt F) (tmpM.view.loc (c : Thread nD τ))) (k : ℕ) : sProp 𝕄 :=
  iprop(held c arg0 arg3 arg5 x0 x3 x5 xr (actAcc c XG XU arg0 arg3 arg5 x0 x3 x5 xr xa k) (tmpAcc c XG XU arg0 arg3 arg5 x0 x3 x5 xr xt k)
    ∗ (∃ W, owes (c : Thread nD τ) 0 W) ∗ ringAt c XG XU k)

/-- One trip takes the invariant to the next. -/
theorem step1 (xa : Buf (Elt F) (actM.view.loc (c : Thread nD τ))) (xt : Buf (Elt F) (tmpM.view.loc (c : Thread nD τ))) (k : T1) : inv1 c XG XU arg0 arg3 arg5 x0 x3 x5 xr xa xt k.val
    ⊢ wp frame (wpE (defs₀ (F := F)) 𝒱₀ (c : Thread nD τ) none) Set.univ (trip1 arg0 harg0 arg1 harg1 arg3 harg3 arg5 harg5 arg7 harg7 v98 k)
        (fun _ => inv1 c XG XU arg0 arg3 arg5 x0 x3 x5 xr xa xt (k.val + 1)) := by
  have hk28 : k.val < 28 := k.isLt
  unfold inv1
  rw [actAcc_succ, tmpAcc_succ]
  rcases (by omega : k.val ≤ 19 ∨ k.val = 20 ∨ 21 ≤ k.val) with h | h | h
  · obtain ⟨R, e, e'⟩ := ringA c XG XU k.val h
    rw [e, e']
    iintro ⟨H, HW, ⟨F0, F1, G0, G1, HR⟩, Hf⟩
    iapply (wp_wand_r frame (wpE (defs₀ (F := F)) 𝒱₀ (c : Thread nD τ) none) Set.univ)
    isplitl [H HW F0 F1 G0 G1 Hf]
    · iapply (tripA c XG XU arg0 harg0 arg1 harg1 arg3 harg3 arg5 harg5 arg7 harg7 v98 x0 x3 x5 xr k h _ _)
      isplitl [H]; · iexact H
      isplitl [HW]; · iexact HW
      isplitl [F0]; · iexact F0
      isplitl [F1]; · iexact F1
      isplitl [Hf]; · iexact Hf
      isplitl [G0]; · iexact G0
      iexact G1
    · iintro %_ ⟨H, HW, G0, G1, F0, F1, Hf⟩
      isplitl [H]; · iexact H
      isplitl [HW]; · iexact HW
      isplitr [Hf]
      · isplitl [G0]; · iexact G0
        isplitl [G1]; · iexact G1
        isplitl [F0]; · iexact F0
        isplitl [F1]; · iexact F1
        iexact HR
      · iexact Hf
  · obtain ⟨R, e, e'⟩ := ringB c XG XU k.val h
    rw [e, e']
    iintro ⟨H, HW, ⟨F0, F1, G0, HR⟩, Hf⟩
    iapply (wp_wand_r frame (wpE (defs₀ (F := F)) 𝒱₀ (c : Thread nD τ) none) Set.univ)
    isplitl [H HW F0 F1 G0 Hf]
    · iapply (tripB c XG XU arg0 harg0 arg1 harg1 arg3 harg3 arg5 harg5 arg7 harg7 v98 x0 x3 x5 xr k h _ _)
      isplitl [H]; · iexact H
      isplitl [HW]; · iexact HW
      isplitl [F0]; · iexact F0
      isplitl [F1]; · iexact F1
      isplitl [Hf]; · iexact Hf
      iexact G0
    · iintro %_ ⟨H, HW, G0, G1, F0, Hf0, Hf1⟩
      isplitl [H]; · iexact H
      isplitl [HW]; · iexact HW
      isplitr [Hf0 Hf1]
      · isplitl [G0]; · iexact G0
        isplitl [G1]; · iexact G1
        isplitl [F0]; · iexact F0
        iexact HR
      · isplitl [Hf1]; · iexact Hf1
        iexact Hf0
  · obtain ⟨R, e, e'⟩ := ringC c XG XU k.val h hk28
    rw [e, e']
    iintro ⟨H, HW, ⟨F0, F1, HR⟩, Hf⟩
    iapply (wp_wand_r frame (wpE (defs₀ (F := F)) 𝒱₀ (c : Thread nD τ) none) Set.univ)
    isplitl [H HW F0 F1]
    · iapply (tripC c XG XU arg0 harg0 arg1 harg1 arg3 harg3 arg5 harg5 arg7 harg7 v98 x0 x3 x5 xr k h _ _)
      isplitl [H]; · iexact H
      isplitl [HW]; · iexact HW
      isplitl [F0]; · iexact F0
      iexact F1
    · iintro %_ ⟨H, HW, G0, G1, Hf0, Hf1⟩
      isplitl [H]; · iexact H
      isplitl [HW]; · iexact HW
      isplitl [G0 G1 HR]
      · isplitl [G0]; · iexact G0
        isplitl [G1]; · iexact G1
        iexact HR
      · isplitl [Hf1]; · iexact Hf1
        isplitl [Hf0]; · iexact Hf0
        iexact Hf

end Trip
end Cert.Proof.KI
end
-- ==== Proof.QuantLoop.lean ====
/- The copy-out loop's invariant: which chunks of `c4` are written, on their way, or not yet begun before each trip. -/
module

public import proofs.«01_k».proof.Proof.Quant
public import proofs.«01_k».proof.Proof.FfLoop

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

omit [FloatOps F] in
theorem sep_assoc_eq (P Q R : sProp 𝕄) : iprop((P ∗ Q) ∗ R) = iprop(P ∗ Q ∗ R) :=
  Idealize.SL.BI.sep_assoc.antisymm Idealize.SL.BI.sep_assoc'

section Chunks
variable (c : Dev nD) (Z : Fin 28 → FVec F S28x8x512 .fp8e4m3)

/-- Row `r` of seven chunks, in flight; -/
abbrev outs (r : ℕ) : sProp 𝕄 := iprop(outP c Z 0 0 (Ring.bk 28 (7 * r + 0)) ∗ outP c Z 1 1 (Ring.bk 28 (7 * r + 1)) ∗ outP c Z 2 2 (Ring.bk 28 (7 * r + 2)) ∗ outP c Z 3 3 (Ring.bk 28 (7 * r + 3)) ∗ outP c Z 4 4 (Ring.bk 28 (7 * r + 4)) ∗ outP c Z 5 5 (Ring.bk 28 (7 * r + 5)) ∗ outP c Z 6 6 (Ring.bk 28 (7 * r + 6)))
/-- not begun; -/
abbrev frees (r : ℕ) : sProp 𝕄 := iprop(freeP c (Ring.bk 28 (7 * r + 0)) ∗ freeP c (Ring.bk 28 (7 * r + 1)) ∗ freeP c (Ring.bk 28 (7 * r + 2)) ∗ freeP c (Ring.bk 28 (7 * r + 3)) ∗ freeP c (Ring.bk 28 (7 * r + 4)) ∗ freeP c (Ring.bk 28 (7 * r + 5)) ∗ freeP c (Ring.bk 28 (7 * r + 6)))
/-- written. -/
abbrev dones (r : ℕ) : sProp 𝕄 := iprop(doneP c Z (Ring.bk 28 (7 * r + 0)) ∗ doneP c Z (Ring.bk 28 (7 * r + 1)) ∗ doneP c Z (Ring.bk 28 (7 * r + 2)) ∗ doneP c Z (Ring.bk 28 (7 * r + 3)) ∗ doneP c Z (Ring.bk 28 (7 * r + 4)) ∗ doneP c Z (Ring.bk 28 (7 * r + 5)) ∗ doneP c Z (Ring.bk 28 (7 * r + 6)))
/-- The seven stage buffers with no copy. -/
abbrev idles : sProp 𝕄 := iprop(idleP (F := F) c 0 0 ∗ idleP (F := F) c 1 1 ∗ idleP (F := F) c 2 2 ∗ idleP (F := F) c 3 3 ∗ idleP (F := F) c 4 4 ∗ idleP (F := F) c 5 5 ∗ idleP (F := F) c 6 6)

/-- The stage buffer of chunk `j`. -/
abbrev bufOf (j : Fin 28) : Fin 8 := ⟨j.val % 7, by omega⟩
/-- The semaphore of chunk `j`. -/
abbrev semOf (j : Fin 28) : Fin 7 := ⟨j.val % 7, by omega⟩
/-- Chunk `j` before trip `k`. -/
def chunkAt (k : ℕ) (j : Fin 28) : sProp 𝕄 :=
  if j.val + 7 < 7 * k then doneP c Z j else if j.val < 7 * k then outP c Z (bufOf j) (semOf j) j else freeP c j

theorem chunk_done (k n : ℕ) (hn : n < 28) (h : n + 7 < 7 * k) : chunkAt c Z k (Ring.bk 28 n) = doneP c Z (Ring.bk 28 n) := by
  unfold chunkAt; rw [Ring.bk_val hn, if_pos h]
theorem chunk_free (k n : ℕ) (hn : n < 28) (h : 7 * k ≤ n) : chunkAt c Z k (Ring.bk 28 n) = freeP c (Ring.bk 28 n) := by
  unfold chunkAt; rw [Ring.bk_val hn, if_neg (by omega), if_neg (by omega)]
theorem chunk_out (r u : ℕ) (hr : r < 4) (hu : u < 7) (U : Fin 8) (U' : Fin 7) (e : U.val = u) (e' : U'.val = u) :
    chunkAt c Z (r + 1) (Ring.bk 28 (7 * r + u)) = outP c Z U U' (Ring.bk 28 (7 * r + u)) := by
  have hv := Ring.bk_val (NB := 28) (show 7 * r + u < 28 by omega)
  unfold chunkAt
  rw [if_neg (by omega), if_pos (by omega)]
  have e1 : bufOf (Ring.bk 28 (7 * r + u)) = U := Fin.ext (by simp only [bufOf, hv]; omega)
  have e2 : semOf (Ring.bk 28 (7 * r + u)) = U' := Fin.ext (by simp only [semOf, hv]; omega)
  rw [e1, e2]

/-- The chunks of row `r`. -/
def row (r : ℕ) : List (Fin 28) := [Ring.bk 28 (7 * r + 0), Ring.bk 28 (7 * r + 1), Ring.bk 28 (7 * r + 2), Ring.bk 28 (7 * r + 3), Ring.bk 28 (7 * r + 4), Ring.bk 28 (7 * r + 5), Ring.bk 28 (7 * r + 6)]

theorem row_out (r : ℕ) (hr : r < 4) (R : sProp 𝕄) : (row r).foldr (fun i P => iprop(chunkAt c Z (r + 1) i ∗ P)) R = iprop(outs c Z r ∗ R) := by
  simp only [row, List.foldr_cons, List.foldr_nil]
  rw [chunk_out c Z r 0 (by omega) (by omega) 0 0 rfl rfl, chunk_out c Z r 1 (by omega) (by omega) 1 1 rfl rfl, chunk_out c Z r 2 (by omega) (by omega) 2 2 rfl rfl, chunk_out c Z r 3 (by omega) (by omega) 3 3 rfl rfl, chunk_out c Z r 4 (by omega) (by omega) 4 4 rfl rfl, chunk_out c Z r 5 (by omega) (by omega) 5 5 rfl rfl, chunk_out c Z r 6 (by omega) (by omega) 6 6 rfl rfl]
  simp only [outs, sep_assoc_eq]
theorem row_free (r : ℕ) (hr : r < 4) (R : sProp 𝕄) : (row r).foldr (fun i P => iprop(chunkAt c Z r i ∗ P)) R = iprop(frees c r ∗ R) := by
  simp only [row, List.foldr_cons, List.foldr_nil]
  rw [chunk_free c Z r (7 * r + 0) (by omega) (by omega), chunk_free c Z r (7 * r + 1) (by omega) (by omega), chunk_free c Z r (7 * r + 2) (by omega) (by omega), chunk_free c Z r (7 * r + 3) (by omega) (by omega), chunk_free c Z r (7 * r + 4) (by omega) (by omega), chunk_free c Z r (7 * r + 5) (by omega) (by omega), chunk_free c Z r (7 * r + 6) (by omega) (by omega)]
  simp only [frees, sep_assoc_eq]
theorem row_done (r : ℕ) (hr : r < 4) (R : sProp 𝕄) : (row r).foldr (fun i P => iprop(chunkAt c Z (r + 2) i ∗ P)) R = iprop(dones c Z r ∗ R) := by
  simp only [row, List.foldr_cons, List.foldr_nil]
  rw [chunk_done c Z (r + 2) (7 * r + 0) (by omega) (by omega), chunk_done c Z (r + 2) (7 * r + 1) (by omega) (by omega), chunk_done c Z (r + 2) (7 * r + 2) (by omega) (by omega), chunk_done c Z (r + 2) (7 * r + 3) (by omega) (by omega), chunk_done c Z (r + 2) (7 * r + 4) (by omega) (by omega), chunk_done c Z (r + 2) (7 * r + 5) (by omega) (by omega), chunk_done c Z (r + 2) (7 * r + 6) (by omega) (by omega)]
  simp only [dones, sep_assoc_eq]

theorem row_nodup (r : ℕ) (hr : r < 4) : (row r).Nodup := by interval_cases r <;> decide
theorem rows_nodup (r : ℕ) (hr : r < 3) : (row r ++ row (r + 1)).Nodup := by interval_cases r <;> decide
theorem mem_row (r : ℕ) (hr : r < 4) (j : Fin 28) (h : j ∉ row r) : j.val < 7 * r ∨ 7 * r + 7 ≤ j.val := by
  revert j; interval_cases r <;> decide

attribute [local irreducible] row

/-- The first trip begins row 0. -/
theorem chunks0 : ∃ R : sProp 𝕄, bigSep Finset.univ (chunkAt c Z 0) = iprop(frees c 0 ∗ R) ∧ bigSep Finset.univ (chunkAt c Z 1) = iprop(outs c Z 0 ∗ R) := by
  refine ⟨bigSep (Finset.univ \ (row 0).toFinset) (chunkAt c Z 1), ?_, ?_⟩
  · rw [bigSep_list (row 0) Finset.univ (row_nodup 0 (by omega)) (fun _ _ => Finset.mem_univ _), row_free c Z 0 (by omega)]
    refine congrArg (fun P : sProp 𝕄 => iprop(_ ∗ P)) (bigSep_congr fun j hj => ?_)
    have := mem_row 0 (by omega) j (by simpa using hj)
    unfold chunkAt
    rw [if_neg (by omega), if_neg (by omega), if_neg (by omega), if_neg (by omega)]
  · rw [bigSep_list (row 0) Finset.univ (row_nodup 0 (by omega)) (fun _ _ => Finset.mem_univ _), row_out c Z 0 (by omega)]

/-- A later trip finishes the row before and begins its own. -/
theorem chunks1 (r : ℕ) (hr : r < 3) : ∃ R : sProp 𝕄, bigSep Finset.univ (chunkAt c Z (r + 1)) = iprop(outs c Z r ∗ frees c (r + 1) ∗ R)
    ∧ bigSep Finset.univ (chunkAt c Z (r + 2)) = iprop(dones c Z r ∗ outs c Z (r + 1) ∗ R) := by
  refine ⟨bigSep (Finset.univ \ (row r ++ row (r + 1)).toFinset) (chunkAt c Z (r + 2)), ?_, ?_⟩
  · rw [bigSep_list (row r ++ row (r + 1)) Finset.univ (rows_nodup r hr) (fun _ _ => Finset.mem_univ _), List.foldr_append, row_free c Z (r + 1) (by omega), row_out c Z r (by omega)]
    refine congrArg (fun P : sProp 𝕄 => iprop(_ ∗ _ ∗ P)) (bigSep_congr fun j hj => ?_)
    have hj' : j ∉ row r ∧ j ∉ row (r + 1) := by
      rw [Finset.mem_sdiff, List.mem_toFinset, List.mem_append] at hj; tauto
    have h1 := mem_row r (by omega) j hj'.1
    have h2 := mem_row (r + 1) (by omega) j hj'.2
    unfold chunkAt
    rcases (by omega : j.val < 7 * r ∨ 7 * (r + 1) + 7 ≤ j.val) with h | h
    · rw [if_pos (by omega), if_pos (by omega)]
    · rw [if_neg (by omega), if_neg (by omega), if_neg (by omega), if_neg (by omega)]
  · rw [bigSep_list (row r ++ row (r + 1)) Finset.univ (rows_nodup r hr) (fun _ _ => Finset.mem_univ _), List.foldr_append, row_out c Z (r + 1) (by omega), row_done c Z r (by omega)]

/-- After the loop all but the last row are written. -/
theorem chunks_end : ∃ R : sProp 𝕄, bigSep Finset.univ (chunkAt c Z 4) = iprop(outs c Z 3 ∗ R) ∧ bigSep Finset.univ (doneP c Z) = iprop(dones c Z 3 ∗ R) := by
  refine ⟨bigSep (Finset.univ \ (row 3).toFinset) (chunkAt c Z 4), ?_, ?_⟩
  · rw [bigSep_list (row 3) Finset.univ (row_nodup 3 (by omega)) (fun _ _ => Finset.mem_univ _), row_out c Z 3 (by omega)]
  · rw [bigSep_list (row 3) Finset.univ (row_nodup 3 (by omega)) (fun _ _ => Finset.mem_univ _)]
    have hm := mem_row 3 (by omega)
    unfold row at hm ⊢
    simp only [List.foldr_cons, List.foldr_nil, dones, sep_assoc_eq]
    refine congrArg (fun P : sProp 𝕄 => iprop(_ ∗ _ ∗ _ ∗ _ ∗ _ ∗ _ ∗ _ ∗ P)) (bigSep_congr fun j hj => ?_)
    rw [Finset.mem_sdiff, List.mem_toFinset] at hj
    have := hm j hj.2
    have := j.isLt
    unfold chunkAt
    rw [if_pos (by omega)]
end Chunks

section Trip
variable (c : Dev nD) (XG : Buf (Elt F) (wgM.view.loc (c : Thread nD τ))) (XU : Buf (Elt F) (wuM.view.loc (c : Thread nD τ)))
  (arg0 : Memref sig .tc .vmem S224x4096 .fp8e4m3) (harg0 : arg0.IsWhole)
  (arg1 : Memref sig .tc .vmem S224x128 .f32) (harg1 : arg1.IsWhole)
  (arg3 : Memref sig .tc .vmem S1x14336 .f32) (harg3 : arg3.IsWhole)
  (arg5 : Memref sig .tc .vmem S1x14336 .f32) (harg5 : arg5.IsWhole)
  (arg7 : Memref sig .tc .vmem S2x112 .f32) (harg7 : arg7.IsWhole)
  (v98 : FVec F S224x128 .f32)

/-- What the loop holds before trip `k`. -/
def inv2 (xa : Buf (Elt F) (actM.view.loc (c : Thread nD τ))) (xt : Buf (Elt F) (tmpM.view.loc (c : Thread nD τ))) (k : ℕ) : sProp 𝕄 :=
  iprop(own c actM xa ∗ own c tmpM xt ∗ (∃ xl, own (F := F) c lhs4M xl) ∗ (∃ W, owes (c : Thread nD τ) 0 W)
    ∗ (if k = 0 then idles c else iprop(emp)) ∗ bigSep Finset.univ (chunkAt c (zOf c xa xt) k))

/-- One trip takes the invariant to the next. -/
theorem step2 (v92 v132 cst) (xa : Buf (Elt F) (actM.view.loc (c : Thread nD τ))) (xt : Buf (Elt F) (tmpM.view.loc (c : Thread nD τ))) (k : T2) : inv2 c xa xt k.val
    ⊢ wp frame (wpE (defs₀ (F := F)) 𝒱₀ (c : Thread nD τ) none) Set.univ (trip2 arg0 harg0 arg1 harg1 arg3 harg3 arg5 harg5 arg7 harg7 v92 v132 cst k)
        (fun _ => inv2 c xa xt (k.val + 1)) := by
  have hk4 : k.val < 4 := k.isLt
  unfold inv2
  rw [if_neg (show ¬ k.val + 1 = 0 by omega)]
  rcases Nat.eq_zero_or_pos k.val with h | h
  · have hQ := tripQ0 c arg0 harg0 arg1 harg1 arg3 harg3 arg5 harg5 arg7 harg7 v92 v132 cst k h xa xt
    rw [h] at hQ
    obtain ⟨R, e, e'⟩ := chunks0 c (zOf c xa xt)
    rw [h, e, e', if_pos rfl]
    iintro ⟨HA, HT, HL, HW, ⟨I0, I1, I2, I3, I4, I5, I6⟩, ⟨G0, G1, G2, G3, G4, G5, G6⟩, HR⟩
    iapply (wp_wand_r frame (wpE (defs₀ (F := F)) 𝒱₀ (c : Thread nD τ) none) Set.univ)
    isplitl [HA HT HL HW I0 I1 I2 I3 I4 I5 I6 G0 G1 G2 G3 G4 G5 G6]
    · iapply hQ
      isplitl [HA]; · iexact HA
      isplitl [HT]; · iexact HT
      isplitl [HL]; · iexact HL
      isplitl [HW]; · iexact HW
      isplitl [I0]; · iexact I0
      isplitl [I1]; · iexact I1
      isplitl [I2]; · iexact I2
      isplitl [I3]; · iexact I3
      isplitl [I4]; · iexact I4
      isplitl [I5]; · iexact I5
      isplitl [I6]; · iexact I6
      isplitl [G0]; · iexact G0
      isplitl [G1]; · iexact G1
      isplitl [G2]; · iexact G2
      isplitl [G3]; · iexact G3
      isplitl [G4]; · iexact G4
      isplitl [G5]; · iexact G5
      iexact G6
    · iintro %_ ⟨HA, HT, HL, HW, HO⟩
      isplitl [HA]; · iexact HA
      isplitl [HT]; · iexact HT
      isplitl [HL]; · iexact HL
      isplitl [HW]; · iexact HW
      isplitr; · iempintro
      isplitl [HO]; · iexact HO
      iexact HR
  · have hQ := tripQ1 c arg0 harg0 arg1 harg1 arg3 harg3 arg5 harg5 arg7 harg7 v92 v132 cst k h xa xt
    obtain ⟨r, hr⟩ : ∃ r, k.val = r + 1 := ⟨k.val - 1, by omega⟩
    rw [hr, Nat.add_sub_cancel] at hQ
    obtain ⟨R, e, e'⟩ := chunks1 c (zOf c xa xt) r (by omega)
    rw [hr, e, e', if_neg (by omega)]
    iintro ⟨HA, HT, HL, HW, -, ⟨I0, I1, I2, I3, I4, I5, I6⟩, ⟨G0, G1, G2, G3, G4, G5, G6⟩, HR⟩
    iapply (wp_wand_r frame (wpE (defs₀ (F := F)) 𝒱₀ (c : Thread nD τ) none) Set.univ)
    isplitl [HA HT HL HW I0 I1 I2 I3 I4 I5 I6 G0 G1 G2 G3 G4 G5 G6]
    · iapply hQ
      isplitl [HA]; · iexact HA
      isplitl [HT]; · iexact HT
      isplitl [HL]; · iexact HL
      isplitl [HW]; · iexact HW
      isplitl [I0]; · iexact I0
      isplitl [I1]; · iexact I1
      isplitl [I2]; · iexact I2
      isplitl [I3]; · iexact I3
      isplitl [I4]; · iexact I4
      isplitl [I5]; · iexact I5
      isplitl [I6]; · iexact I6
      isplitl [G0]; · iexact G0
      isplitl [G1]; · iexact G1
      isplitl [G2]; · iexact G2
      isplitl [G3]; · iexact G3
      isplitl [G4]; · iexact G4
      isplitl [G5]; · iexact G5
      iexact G6
    · iintro %_ ⟨HA, HT, HL, HW, O0, O1, O2, O3, O4, O5, O6, HD⟩
      isplitl [HA]; · iexact HA
      isplitl [HT]; · iexact HT
      isplitl [HL]; · iexact HL
      isplitl [HW]; · iexact HW
      isplitr; · iempintro
      isplitl [HD]; · iexact HD
      isplitr [HR]
      · isplitl [O0]; · iexact O0
        isplitl [O1]; · iexact O1
        isplitl [O2]; · iexact O2
        isplitl [O3]; · iexact O3
        isplitl [O4]; · iexact O4
        isplitl [O5]; · iexact O5
        iexact O6
      · iexact HR

end Trip
end Cert.Proof.KI
end
-- ==== Proof.Body.lean ====
/- The kernel's body: the first fifteen blocks issued, the two loops, the scale between them, and the last copies awaited. -/
module

public import proofs.«01_k».proof.Proof.QuantLoop

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Ends
variable (c : Dev nD) (XG : Buf (Elt F) (wgM.view.loc (c : Thread nD τ))) (XU : Buf (Elt F) (wuM.view.loc (c : Thread nD τ)))

/-- The blocks the prologue issues, and the others, before and after. -/
theorem ring_start : ∃ R : sProp 𝕄,
    bigSep Finset.univ (homeB c XG XU) = iprop(homeB c XG XU 0 ∗ homeB c XG XU 1 ∗ homeB c XG XU 2 ∗ homeB c XG XU 3 ∗ homeB c XG XU 4 ∗ homeB c XG XU 5 ∗ homeB c XG XU 6 ∗ homeB c XG XU 7 ∗ homeB c XG XU 8 ∗ homeB c XG XU 9 ∗ homeB c XG XU 10 ∗ homeB c XG XU 11 ∗ homeB c XG XU 12 ∗ homeB c XG XU 13 ∗ homeB c XG XU 14 ∗ R)
    ∧ ringAt c XG XU 0 = iprop((flight c XG XU 5 0 ∗ flight c XG XU 6 1 ∗ flight c XG XU 7 2 ∗ flight c XG XU 8 3 ∗ flight c XG XU 9 4 ∗ flight c XG XU 10 5 ∗ flight c XG XU 11 6 ∗ flight c XG XU 12 7 ∗ flight c XG XU 13 8 ∗ flight c XG XU 14 9 ∗ flight c XG XU 15 10 ∗ flight c XG XU 0 11 ∗ flight c XG XU 1 12 ∗ flight c XG XU 2 13 ∗ flight c XG XU 3 14 ∗ R) ∗ freeS c 4) := by
  refine ⟨bigSep (Finset.univ \ ([0, 1, 2, 3, 4, 5, 6, 7, 8, 9, 10, 11, 12, 13, 14] : List (Fin 56)).toFinset) (homeB c XG XU), ?_, ?_⟩
  · exact bigSep_list [0, 1, 2, 3, 4, 5, 6, 7, 8, 9, 10, 11, 12, 13, 14] Finset.univ (by decide) (fun _ _ => Finset.mem_univ _)
  · unfold ringAt
    rw [bigSep_list [0, 1, 2, 3, 4, 5, 6, 7, 8, 9, 10, 11, 12, 13, 14] Finset.univ (by decide) (fun _ _ => Finset.mem_univ _)]
    have e : bigSep (Finset.univ \ ([0, 1, 2, 3, 4, 5, 6, 7, 8, 9, 10, 11, 12, 13, 14] : List (Fin 56)).toFinset) (stB c XG XU 0) = bigSep (Finset.univ \ ([0, 1, 2, 3, 4, 5, 6, 7, 8, 9, 10, 11, 12, 13, 14] : List (Fin 56)).toFinset) (homeB c XG XU) := by
      refine bigSep_congr fun b hb => ?_
      rw [Finset.mem_sdiff, List.mem_toFinset] at hb
      have hb' : ∀ b : Fin 56, b ∉ ([0, 1, 2, 3, 4, 5, 6, 7, 8, 9, 10, 11, 12, 13, 14] : List (Fin 56)) → 15 ≤ b.val := by decide
      have := hb' b hb.2
      unfold stB; rw [if_neg (by omega)]
    rw [e]
    simp only [List.foldr_cons, List.foldr_nil]
    rw [show stB c XG XU 0 0 = flight c XG XU 5 0 from stB_fly c XG XU 0 0 (by omega) (by omega)]
    rw [show stB c XG XU 0 1 = flight c XG XU 6 1 from stB_fly c XG XU 0 1 (by omega) (by omega)]
    rw [show stB c XG XU 0 2 = flight c XG XU 7 2 from stB_fly c XG XU 0 2 (by omega) (by omega)]
    rw [show stB c XG XU 0 3 = flight c XG XU 8 3 from stB_fly c XG XU 0 3 (by omega) (by omega)]
    rw [show stB c XG XU 0 4 = flight c XG XU 9 4 from stB_fly c XG XU 0 4 (by omega) (by omega)]
    rw [show stB c XG XU 0 5 = flight c XG XU 10 5 from stB_fly c XG XU 0 5 (by omega) (by omega)]
    rw [show stB c XG XU 0 6 = flight c XG XU 11 6 from stB_fly c XG XU 0 6 (by omega) (by omega)]
    rw [show stB c XG XU 0 7 = flight c XG XU 12 7 from stB_fly c XG XU 0 7 (by omega) (by omega)]
    rw [show stB c XG XU 0 8 = flight c XG XU 13 8 from stB_fly c XG XU 0 8 (by omega) (by omega)]
    rw [show stB c XG XU 0 9 = flight c XG XU 14 9 from stB_fly c XG XU 0 9 (by omega) (by omega)]
    rw [show stB c XG XU 0 10 = flight c XG XU 15 10 from stB_fly c XG XU 0 10 (by omega) (by omega)]
    rw [show stB c XG XU 0 11 = flight c XG XU 0 11 from stB_fly c XG XU 0 11 (by omega) (by omega)]
    rw [show stB c XG XU 0 12 = flight c XG XU 1 12 from stB_fly c XG XU 0 12 (by omega) (by omega)]
    rw [show stB c XG XU 0 13 = flight c XG XU 2 13 from stB_fly c XG XU 0 13 (by omega) (by omega)]
    rw [show stB c XG XU 0 14 = flight c XG XU 3 14 from stB_fly c XG XU 0 14 (by omega) (by omega)]
    rfl

/-- The slots in the order the prologue takes them. -/
theorem slots_start : bigSep Finset.univ (freeS (F := F) c) = iprop(freeS c 5 ∗ freeS c 6 ∗ freeS c 7 ∗ freeS c 8 ∗ freeS c 9 ∗ freeS c 10 ∗ freeS c 11 ∗ freeS c 12 ∗ freeS c 13 ∗ freeS c 14 ∗ freeS c 15 ∗ freeS c 0 ∗ freeS c 1 ∗ freeS c 2 ∗ freeS c 3 ∗ freeS c 4 ∗ bigSep ∅ (freeS (F := F) c)) := by
  have e : Finset.univ \ ([5, 6, 7, 8, 9, 10, 11, 12, 13, 14, 15, 0, 1, 2, 3, 4] : List (Fin 16)).toFinset = ∅ := by decide
  rw [bigSep_list [5, 6, 7, 8, 9, 10, 11, 12, 13, 14, 15, 0, 1, 2, 3, 4] Finset.univ (by decide) (fun _ _ => Finset.mem_univ _), e]
  rfl

/-- After the loop every block is home and every slot free. -/
theorem ring_end : ringAt c XG XU 28 = iprop(bigSep Finset.univ (homeB c XG XU) ∗ bigSep Finset.univ (freeS (F := F) c)) := by
  unfold ringAt freeAt
  have e1 : bigSep Finset.univ (stB c XG XU 28) = bigSep Finset.univ (homeB c XG XU) := bigSep_congr fun b _ => by
    unfold stB; rw [if_neg (by omega)]
  have e : Finset.univ \ ([12, 11, 10, 9, 8, 7, 6, 5, 4, 3, 2, 1, 0, 15, 14, 13] : List (Fin 16)).toFinset = ∅ := by decide
  rw [if_neg (by omega), e1, bigSep_list (Φ := freeS (F := F) c) [12, 11, 10, 9, 8, 7, 6, 5, 4, 3, 2, 1, 0, 15, 14, 13] Finset.univ (by decide) (fun _ _ => Finset.mem_univ _), e]
  simp only [show 2 * 28 - 40 = 0 + 1 + 1 + 1 + 1 + 1 + 1 + 1 + 1 + 1 + 1 + 1 + 1 + 1 + 1 + 1 + 1 by rfl, bigSep_range_succ, Finset.range_zero, bigSep_empty, List.foldr_cons, List.foldr_nil]
  rfl
end Ends

section Body
variable (c : Dev nD) (XG : Buf (Elt F) (wgM.view.loc (c : Thread nD τ))) (XU : Buf (Elt F) (wuM.view.loc (c : Thread nD τ)))
  (arg0 : Memref sig .tc .vmem S224x4096 .fp8e4m3) (harg0 : arg0.IsWhole)
  (arg1 : Memref sig .tc .vmem S224x128 .f32) (harg1 : arg1.IsWhole)
  (arg3 : Memref sig .tc .vmem S1x14336 .f32) (harg3 : arg3.IsWhole)
  (arg5 : Memref sig .tc .vmem S1x14336 .f32) (harg5 : arg5.IsWhole)
  (arg7 : Memref sig .tc .vmem S2x112 .f32) (harg7 : arg7.IsWhole)
  (x0 : Buf (Elt F) (arg0.view.loc (c : Thread nD τ))) (x1 : Buf (Elt F) (arg1.view.loc (c : Thread nD τ))) (x3 : Buf (Elt F) (arg3.view.loc (c : Thread nD τ)))
  (x5 : Buf (Elt F) (arg5.view.loc (c : Thread nD τ)))

/-- The body on given staging memrefs. -/
abbrev bodyG : Prog (TpuEff nD τ sig (Elt F) Λ₀ .tc) PUnit :=
  cc0_mod_block arg0 harg0 arg1 harg1 wgM (Memref.isWhole_whole _) arg3 harg3 wuM (Memref.isWhole_whole _) arg5 harg5 c4M (Memref.isWhole_whole _)
    arg7 harg7 ringM (Memref.isWhole_whole _) lhs4M (Memref.isWhole_whole _) actM (Memref.isWhole_whole _) stageM (Memref.isWhole_whole _)
    arepM (Memref.isWhole_whole _) tmpM (Memref.isWhole_whole _) cc0_scratch6 cc0_scratch7

/-- What the body is handed. -/
abbrev PRE : sProp 𝕄 :=
  iprop(own c arg0 x0 ∗ own c arg1 x1 ∗ own c arg3 x3 ∗ own c arg5 x5 ∗ (∃ f, own (F := F) c arg7 f)
    ∗ (∃ f, own (F := F) c actM f) ∗ (∃ f, own (F := F) c tmpM f) ∗ (∃ f, own (F := F) c arepM f) ∗ (∃ f, own (F := F) c lhs4M f)
    ∗ bigSep Finset.univ (homeB c XG XU) ∗ bigSep Finset.univ (freeS (F := F) c) ∗ idles (F := F) c ∗ bigSep Finset.univ (freeP (F := F) c) ∗ ∃ W, owes (c : Thread nD τ) 0 W)

/-- `arep` when the gate/up loop starts: the rows' scales. -/
def arep1 : Buf (Elt F) (arepM.view.loc (c : Thread nD τ)) :=
  arepM.view.writes (Elt F) arepM.view.junk [⟨Rect.unit (s := S224x128) ![0, 0] S224x128.size inb_S224x128_S224x128_0_0, k0_pay58 (arg1.view.readAt (Elt F) (Rect.unit (s := S224x128) ![0, 0] S224x128.size inb_S224x128_S224x128_0_0).toLoadRect x1)⟩]
/-- `tmp` when it starts: zero. -/
def tmp1 : Buf (Elt F) (tmpM.view.loc (c : Thread nD τ)) :=
  tmpM.view.writes (Elt F) tmpM.view.junk [⟨Rect.unit (s := S224x128) ![0, 0] S224x128.size inb_S224x128_S224x128_0_0, k0_pay60 k0_pay59⟩]

/-- After the gate/up loop. -/
theorem inv1_end (xr xa xt) : inv1 c XG XU arg0 arg3 arg5 x0 x3 x5 xr xa xt k0_t1_loop.trips
    ⊢ iprop(held c arg0 arg3 arg5 x0 x3 x5 xr (actAcc c XG XU arg0 arg3 arg5 x0 x3 x5 xr xa 28) (tmpAcc c XG XU arg0 arg3 arg5 x0 x3 x5 xr xt 28)
    ∗ (∃ W, owes (c : Thread nD τ) 0 W) ∗ bigSep Finset.univ (homeB c XG XU) ∗ bigSep Finset.univ (freeS (F := F) c)) :=
  Entails.of_eq (by show inv1 c XG XU arg0 arg3 arg5 x0 x3 x5 xr xa xt 28 = _; unfold inv1; rw [ring_end])

/-- What the gate/up loop leaves in `tmp`: each lane's running maximum; -/
def maxV : Vec F S224x128 .f32 := tmpM.view.readAt (Elt F) (Rect.unit (s := S224x128) ![0, 0] S224x128.size inb_S224x128_S224x128_0_0).toLoadRect
  (tmpAcc c XG XU arg0 arg3 arg5 x0 x3 x5 (arep1 c arg1 x1) (tmp1 c) 28)
/-- the rows' scales then written to `arep`, -/
def pieceA : View.Piece (Elt F) S224x128 .f32 := ⟨Rect.unit (s := S224x128) ![0, 0] S224x128.size inb_S224x128_S224x128_0_0, k0_pay68 (maxV c XG XU arg0 arg1 arg3 arg5 x0 x1 x3 x5)⟩
/-- and their inverses written to `tmp`. -/
def tmp2 : Buf (Elt F) (tmpM.view.loc (c : Thread nD τ)) :=
  tmpM.view.writes (Elt F) tmpM.view.junk [⟨Rect.unit (s := S224x128) ![0, 0] S224x128.size inb_S224x128_S224x128_0_0, k0_pay69 (maxV c XG XU arg0 arg1 arg3 arg5 x0 x1 x3 x5)⟩]
/-- What the body leaves in `a4`: the scales of rows 0 to 111, then of rows 112 to 223. -/
def a4out : Buf (Elt F) (arg7.view.loc (c : Thread nD τ)) :=
  arg7.view.writes (Elt F) arg7.view.junk
    [⟨Rect.unit (s := S2x112) ![1, 0] S1x112.size inb_S2x112_S1x112_1_0, k0_pay72 k0_pay57 (arepM.view.readCov [pieceA c XG XU arg0 arg1 arg3 arg5 x0 x1 x3 x5] (Rect.unit (s := S224x128) ![112, 0] S112x128.size inb_S224x128_S112x128_112_0).toLoadRect)⟩,
     ⟨Rect.unit (s := S2x112) ![0, 0] S1x112.size inb_S2x112_S1x112_0_0, k0_pay71 k0_pay57 (k0_pay70 (arepM.view.readCov [pieceA c XG XU arg0 arg1 arg3 arg5 x0 x1 x3 x5] (Rect.unit (s := S224x128) ![0, 0] S112x128.size inb_S224x128_S112x128_0_0).toLoadRect)) (Scalar.ofBits .f32 0x00000000#32)⟩]
/-- What the body writes to chunk `j` of `c4`, when `act` first held `xa`. -/
abbrev zBody (xa : Buf (Elt F) (actM.view.loc (c : Thread nD τ))) : Fin 28 → FVec F S28x8x512 .fp8e4m3 :=
  zOf c (actAcc c XG XU arg0 arg3 arg5 x0 x3 x5 (arep1 c arg1 x1) xa 28) (tmp2 c XG XU arg0 arg1 arg3 arg5 x0 x1 x3 x5)

/-- What the body hands back. -/
abbrev POST : sProp 𝕄 :=
  iprop(own c arg0 x0 ∗ own c arg1 x1 ∗ own c arg3 x3 ∗ own c arg5 x5 ∗ own c arg7 (a4out c XG XU arg0 arg1 arg3 arg5 arg7 x0 x1 x3 x5)
    ∗ (∃ f, own (F := F) c actM f) ∗ (∃ f, own (F := F) c tmpM f) ∗ (∃ f, own (F := F) c arepM f) ∗ (∃ f, own (F := F) c lhs4M f)
    ∗ bigSep Finset.univ (homeB c XG XU) ∗ bigSep Finset.univ (freeS (F := F) c) ∗ idles (F := F) c
    ∗ (∃ xa, bigSep Finset.univ (doneP c (zBody c XG XU arg0 arg1 arg3 arg5 x0 x1 x3 x5 xa))) ∗ ∃ W, owes (c : Thread nD τ) 0 W)

/-- Before the copy-out loop; -/
theorem inv2_start (xa xt) : iprop(own c actM xa ∗ own c tmpM xt ∗ (∃ xl, own (F := F) c lhs4M xl) ∗ (∃ W, owes (c : Thread nD τ) 0 W)
    ∗ idles (F := F) c ∗ bigSep Finset.univ (freeP (F := F) c)) ⊢ inv2 c xa xt 0 :=
  Entails.of_eq (by
    have e : bigSep Finset.univ (chunkAt c (zOf c xa xt) 0) = bigSep Finset.univ (freeP (F := F) c) := bigSep_congr fun j _ => by
      unfold chunkAt; rw [if_neg (by omega), if_neg (by omega)]
    unfold inv2; rw [e, if_pos rfl])
/-- after it. -/
theorem inv2_end (xa xt) : ∃ R : sProp 𝕄, (inv2 c xa xt k0_t2_loop.trips
      ⊢ iprop(own c actM xa ∗ own c tmpM xt ∗ (∃ xl, own (F := F) c lhs4M xl) ∗ (∃ W, owes (c : Thread nD τ) 0 W) ∗ (outP c (zOf c xa xt) 0 0 21 ∗ outP c (zOf c xa xt) 1 1 22 ∗ outP c (zOf c xa xt) 2 2 23 ∗ outP c (zOf c xa xt) 3 3 24 ∗ outP c (zOf c xa xt) 4 4 25 ∗ outP c (zOf c xa xt) 5 5 26 ∗ outP c (zOf c xa xt) 6 6 27) ∗ R))
    ∧ bigSep Finset.univ (doneP c (zOf c xa xt)) = iprop((doneP c (zOf c xa xt) 21 ∗ doneP c (zOf c xa xt) 22 ∗ doneP c (zOf c xa xt) 23 ∗ doneP c (zOf c xa xt) 24 ∗ doneP c (zOf c xa xt) 25 ∗ doneP c (zOf c xa xt) 26 ∗ doneP c (zOf c xa xt) 27) ∗ R) := by
  obtain ⟨R, e, e'⟩ := chunks_end c (zOf c xa xt)
  refine ⟨R, ?_, e'⟩
  show inv2 c xa xt 4 ⊢ _
  unfold inv2
  rw [e]
  iintro ⟨HA, HT, HL, HW, -, HO, HR⟩
  isplitl [HA]; · iexact HA
  isplitl [HT]; · iexact HT
  isplitl [HL]; · iexact HL
  isplitl [HW]; · iexact HW
  isplitl [HO]; · iexact HO
  iexact HR

set_option maxHeartbeats 1600000 in
/-- The body runs from `PRE` to `POST`. -/
theorem bodyRun (Q : PUnit → sProp 𝕄) :
    iprop(PRE c XG XU arg0 arg1 arg3 arg5 arg7 x0 x1 x3 x5 ∗ (POST c XG XU arg0 arg1 arg3 arg5 arg7 x0 x1 x3 x5 -∗ Q ⟨⟩))
      ⊢ wp frame (wpE (defs₀ (F := F)) 𝒱₀ (c : Thread nD τ) none) Set.univ (bodyG arg0 harg0 arg1 harg1 arg3 harg3 arg5 harg5 arg7 harg7) Q := by
  obtain ⟨R, eh, er⟩ := ring_start c XG XU
  dsimp only [PRE]
  rw [eh, slots_start]
  iintro ⟨⟨H0, H1, H3, H5, ⟨%x7, H7⟩, ⟨%xa, HA⟩, ⟨%xt, HT⟩, ⟨%xr, HR⟩, ⟨%xl, HL⟩, ⟨Hb0, Hb1, Hb2, Hb3, Hb4, Hb5, Hb6, Hb7, Hb8, Hb9, Hb10, Hb11, Hb12, Hb13, Hb14, Hhome⟩, ⟨Hs5, Hs6, Hs7, Hs8, Hs9, Hs10, Hs11, Hs12, Hs13, Hs14, Hs15, Hs0, Hs1, Hs2, Hs3, Hs4, -⟩, HI, HP, ⟨%W, HW⟩⟩, Hk⟩
  icases Hs5 with ⟨⟨%fl5, Hl5⟩, ⟨%fr5, Hr5⟩, Hc5⟩
  icases Hb0 with ⟨Hg0, Hu0⟩
  imod (Transfers.batch_alloc' (Lvl := ℕ) (countersEmb (U := UU nD τ)) (c : Thread nD τ) () NN (deliv c XG XU 5 0) (sm := .dma (csm 5).sem) (E := Set.univ)) $$ Hc5 with HB0
  icases Hs6 with ⟨⟨%fl6, Hl6⟩, ⟨%fr6, Hr6⟩, Hc6⟩
  icases Hb1 with ⟨Hg1, Hu1⟩
  imod (Transfers.batch_alloc' (Lvl := ℕ) (countersEmb (U := UU nD τ)) (c : Thread nD τ) () NN (deliv c XG XU 6 1) (sm := .dma (csm 6).sem) (E := Set.univ)) $$ Hc6 with HB1
  icases Hs7 with ⟨⟨%fl7, Hl7⟩, ⟨%fr7, Hr7⟩, Hc7⟩
  icases Hb2 with ⟨Hg2, Hu2⟩
  imod (Transfers.batch_alloc' (Lvl := ℕ) (countersEmb (U := UU nD τ)) (c : Thread nD τ) () NN (deliv c XG XU 7 2) (sm := .dma (csm 7).sem) (E := Set.univ)) $$ Hc7 with HB2
  icases Hs8 with ⟨⟨%fl8, Hl8⟩, ⟨%fr8, Hr8⟩, Hc8⟩
  icases Hb3 with ⟨Hg3, Hu3⟩
  imod (Transfers.batch_alloc' (Lvl := ℕ) (countersEmb (U := UU nD τ)) (c : Thread nD τ) () NN (deliv c XG XU 8 3) (sm := .dma (csm 8).sem) (E := Set.univ)) $$ Hc8 with HB3
  icases Hs9 with ⟨⟨%fl9, Hl9⟩, ⟨%fr9, Hr9⟩, Hc9⟩
  icases Hb4 with ⟨Hg4, Hu4⟩
  imod (Transfers.batch_alloc' (Lvl := ℕ) (countersEmb (U := UU nD τ)) (c : Thread nD τ) () NN (deliv c XG XU 9 4) (sm := .dma (csm 9).sem) (E := Set.univ)) $$ Hc9 with HB4
  icases Hs10 with ⟨⟨%fl10, Hl10⟩, ⟨%fr10, Hr10⟩, Hc10⟩
  icases Hb5 with ⟨Hg5, Hu5⟩
  imod (Transfers.batch_alloc' (Lvl := ℕ) (countersEmb (U := UU nD τ)) (c : Thread nD τ) () NN (deliv c XG XU 10 5) (sm := .dma (csm 10).sem) (E := Set.univ)) $$ Hc10 with HB5
  icases Hs11 with ⟨⟨%fl11, Hl11⟩, ⟨%fr11, Hr11⟩, Hc11⟩
  icases Hb6 with ⟨Hg6, Hu6⟩
  imod (Transfers.batch_alloc' (Lvl := ℕ) (countersEmb (U := UU nD τ)) (c : Thread nD τ) () NN (deliv c XG XU 11 6) (sm := .dma (csm 11).sem) (E := Set.univ)) $$ Hc11 with HB6
  icases Hs12 with ⟨⟨%fl12, Hl12⟩, ⟨%fr12, Hr12⟩, Hc12⟩
  icases Hb7 with ⟨Hg7, Hu7⟩
  imod (Transfers.batch_alloc' (Lvl := ℕ) (countersEmb (U := UU nD τ)) (c : Thread nD τ) () NN (deliv c XG XU 12 7) (sm := .dma (csm 12).sem) (E := Set.univ)) $$ Hc12 with HB7
  icases Hs13 with ⟨⟨%fl13, Hl13⟩, ⟨%fr13, Hr13⟩, Hc13⟩
  icases Hb8 with ⟨Hg8, Hu8⟩
  imod (Transfers.batch_alloc' (Lvl := ℕ) (countersEmb (U := UU nD τ)) (c : Thread nD τ) () NN (deliv c XG XU 13 8) (sm := .dma (csm 13).sem) (E := Set.univ)) $$ Hc13 with HB8
  icases Hs14 with ⟨⟨%fl14, Hl14⟩, ⟨%fr14, Hr14⟩, Hc14⟩
  icases Hb9 with ⟨Hg9, Hu9⟩
  imod (Transfers.batch_alloc' (Lvl := ℕ) (countersEmb (U := UU nD τ)) (c : Thread nD τ) () NN (deliv c XG XU 14 9) (sm := .dma (csm 14).sem) (E := Set.univ)) $$ Hc14 with HB9
  icases Hs15 with ⟨⟨%fl15, Hl15⟩, ⟨%fr15, Hr15⟩, Hc15⟩
  icases Hb10 with ⟨Hg10, Hu10⟩
  imod (Transfers.batch_alloc' (Lvl := ℕ) (countersEmb (U := UU nD τ)) (c : Thread nD τ) () NN (deliv c XG XU 15 10) (sm := .dma (csm 15).sem) (E := Set.univ)) $$ Hc15 with HB10
  icases Hs0 with ⟨⟨%fl0, Hl0⟩, ⟨%fr0, Hr0⟩, Hc0⟩
  icases Hb11 with ⟨Hg11, Hu11⟩
  imod (Transfers.batch_alloc' (Lvl := ℕ) (countersEmb (U := UU nD τ)) (c : Thread nD τ) () NN (deliv c XG XU 0 11) (sm := .dma (csm 0).sem) (E := Set.univ)) $$ Hc0 with HB11
  icases Hs1 with ⟨⟨%fl1, Hl1⟩, ⟨%fr1, Hr1⟩, Hc1⟩
  icases Hb12 with ⟨Hg12, Hu12⟩
  imod (Transfers.batch_alloc' (Lvl := ℕ) (countersEmb (U := UU nD τ)) (c : Thread nD τ) () NN (deliv c XG XU 1 12) (sm := .dma (csm 1).sem) (E := Set.univ)) $$ Hc1 with HB12
  icases Hs2 with ⟨⟨%fl2, Hl2⟩, ⟨%fr2, Hr2⟩, Hc2⟩
  icases Hb13 with ⟨Hg13, Hu13⟩
  imod (Transfers.batch_alloc' (Lvl := ℕ) (countersEmb (U := UU nD τ)) (c : Thread nD τ) () NN (deliv c XG XU 2 13) (sm := .dma (csm 2).sem) (E := Set.univ)) $$ Hc2 with HB13
  icases Hs3 with ⟨⟨%fl3, Hl3⟩, ⟨%fr3, Hr3⟩, Hc3⟩
  icases Hb14 with ⟨Hg14, Hu14⟩
  imod (Transfers.batch_alloc' (Lvl := ℕ) (countersEmb (U := UU nD τ)) (c : Thread nD τ) () NN (deliv c XG XU 3 14) (sm := .dma (csm 3).sem) (E := Set.univ)) $$ Hc3 with HB14
  dsimp only [bodyG]
  sl_unfold [cc0_mod_block]
  sl_exec
  ihave Hring := (Entails.of_eq er.symm) $$ [Hs4 Hhome HB0 HB1 HB2 HB3 HB4 HB5 HB6 HB7 HB8 HB9 HB10 HB11 HB12 HB13 HB14]
  · isplitr [Hs4]
    · isplitl [HB0]; · iexact HB0
      isplitl [HB1]; · iexact HB1
      isplitl [HB2]; · iexact HB2
      isplitl [HB3]; · iexact HB3
      isplitl [HB4]; · iexact HB4
      isplitl [HB5]; · iexact HB5
      isplitl [HB6]; · iexact HB6
      isplitl [HB7]; · iexact HB7
      isplitl [HB8]; · iexact HB8
      isplitl [HB9]; · iexact HB9
      isplitl [HB10]; · iexact HB10
      isplitl [HB11]; · iexact HB11
      isplitl [HB12]; · iexact HB12
      isplitl [HB13]; · iexact HB13
      isplitl [HB14]; · iexact HB14
      iexact Hhome
    · iexact Hs4
  sl_for (fun k _ => inv1 c XG XU arg0 arg3 arg5 x0 x3 x5 (arep1 c arg1 x1) xa (tmp1 c) k) $$ [H0 H3 H5 HR HA HT HW Hring]
  · intro k _; exact step1 c XG XU arg0 harg0 arg1 harg1 arg3 harg3 arg5 harg5 arg7 harg7 _ x0 x3 x5 (arep1 c arg1 x1) xa (tmp1 c) k
  · dsimp only [inv1]
    isplitl [H0 H3 H5 HR HA HT]
    · isplitl [H0]; · iexact H0
      isplitl [H3]; · iexact H3
      isplitl [H5]; · iexact H5
      isplitl [HR]; · iexact HR
      isplitl [HA]; · iexact HA
      iexact HT
    isplitl [HW]; · iexists _; iexact HW
    iexact Hring
  iintro %_ HI1
  ihave HI1' := (inv1_end c XG XU arg0 arg3 arg5 x0 x3 x5 (arep1 c arg1 x1) xa (tmp1 c)) $$ HI1
  icases HI1' with ⟨⟨H0, H3, H5, HR, HA, HT⟩, ⟨%W1, HW⟩, Hhome, Hs⟩
  sl_exec
  obtain ⟨R2, en, ed⟩ := inv2_end c (actAcc c XG XU arg0 arg3 arg5 x0 x3 x5 (arep1 c arg1 x1) xa 28) (tmp2 c XG XU arg0 arg1 arg3 arg5 x0 x1 x3 x5)
  ihave HI2 := (inv2_start c (actAcc c XG XU arg0 arg3 arg5 x0 x3 x5 (arep1 c arg1 x1) xa 28) (tmp2 c XG XU arg0 arg1 arg3 arg5 x0 x1 x3 x5)) $$ [HA HT HL HW HI HP]
  · isplitl [HA]; · iexact HA
    isplitl [HT]; · iexact HT
    isplitl [HL]; · iexists _; iexact HL
    isplitl [HW]; · iexists _; iexact HW
    isplitl [HI]; · iexact HI
    iexact HP
  sl_for (fun k _ => inv2 c (actAcc c XG XU arg0 arg3 arg5 x0 x3 x5 (arep1 c arg1 x1) xa 28) (tmp2 c XG XU arg0 arg1 arg3 arg5 x0 x1 x3 x5) k) $$ [HI2]
  · intro k _; exact step2 c arg0 harg0 arg1 harg1 arg3 harg3 arg5 harg5 arg7 harg7 _ _ _ _ _ k
  · iexact HI2
  iintro %_ HI3
  ihave HI4 := en $$ HI3
  icases HI4 with ⟨HA, HT, ⟨%xl2, HL⟩, ⟨%W2, HW⟩, ⟨⟨%fp0, %fs0, Hc0, %hp0⟩, ⟨%fp1, %fs1, Hc1, %hp1⟩, ⟨%fp2, %fs2, Hc2, %hp2⟩, ⟨%fp3, %fs3, Hc3, %hp3⟩, ⟨%fp4, %fs4, Hc4, %hp4⟩, ⟨%fp5, %fs5, Hc5, %hp5⟩, ⟨%fp6, %fs6, Hc6, %hp6⟩⟩, HR2⟩
  sl_exec
  sl_step
  iapply Hk
  isplitl [H0]; · iexact H0
  isplitl [H1]; · iexact H1
  isplitl [H3]; · iexact H3
  isplitl [H5]; · iexact H5
  isplitl [H7]; · iexact H7
  isplitl [HA]; · iexists _; iexact HA
  isplitl [HT]; · iexists _; iexact HT
  isplitl [HR]; · iexists _; iexact HR
  isplitl [HL]; · iexists _; iexact HL
  isplitl [Hhome]; · iexact Hhome
  isplitl [Hs]; · iexact Hs
  isplitl [Hc0_src Hc0 Hc1_src Hc1 Hc2_src Hc2 Hc3_src Hc3 Hc4_src Hc4 Hc5_src Hc5 Hc6_src Hc6]
  · isplitl [Hc0_src Hc0]
    · isplitl [Hc0_src]; · iexists _; iexact Hc0_src
      iexact Hc0
    isplitl [Hc1_src Hc1]
    · isplitl [Hc1_src]; · iexists _; iexact Hc1_src
      iexact Hc1
    isplitl [Hc2_src Hc2]
    · isplitl [Hc2_src]; · iexists _; iexact Hc2_src
      iexact Hc2
    isplitl [Hc3_src Hc3]
    · isplitl [Hc3_src]; · iexists _; iexact Hc3_src
      iexact Hc3
    isplitl [Hc4_src Hc4]
    · isplitl [Hc4_src]; · iexists _; iexact Hc4_src
      iexact Hc4
    isplitl [Hc5_src Hc5]
    · isplitl [Hc5_src]; · iexists _; iexact Hc5_src
      iexact Hc5
    isplitl [Hc6_src]; · iexists _; iexact Hc6_src
    iexact Hc6
  isplitr [HW]
  · iexists xa
    iapply (Entails.of_eq ed.symm)
    isplitr [HR2]
    · isplitl [Hc0_dst]; · iapply (done_of c (zBody c XG XU arg0 arg1 arg3 arg5 x0 x1 x3 x5 xa) _ _ hp0); iexact Hc0_dst
      isplitl [Hc1_dst]; · iapply (done_of c (zBody c XG XU arg0 arg1 arg3 arg5 x0 x1 x3 x5 xa) _ _ hp1); iexact Hc1_dst
      isplitl [Hc2_dst]; · iapply (done_of c (zBody c XG XU arg0 arg1 arg3 arg5 x0 x1 x3 x5 xa) _ _ hp2); iexact Hc2_dst
      isplitl [Hc3_dst]; · iapply (done_of c (zBody c XG XU arg0 arg1 arg3 arg5 x0 x1 x3 x5 xa) _ _ hp3); iexact Hc3_dst
      isplitl [Hc4_dst]; · iapply (done_of c (zBody c XG XU arg0 arg1 arg3 arg5 x0 x1 x3 x5 xa) _ _ hp4); iexact Hc4_dst
      isplitl [Hc5_dst]; · iapply (done_of c (zBody c XG XU arg0 arg1 arg3 arg5 x0 x1 x3 x5 xa) _ _ hp5); iexact Hc5_dst
      iapply (done_of c (zBody c XG XU arg0 arg1 arg3 arg5 x0 x1 x3 x5 xa) _ _ hp6); iexact Hc6_dst
    · iexact HR2
  iexists _; iexact HW
end Body
end Cert.Proof.KI
end
-- ==== Proof.Blocks.lean ====
/- The buffers whole against the parts the body speaks of: a weight and its fifty-six column blocks, the ring and its
sixteen slots, the staging buffer and its eight windows, `c4` and its twenty-eight chunks, the semaphores. -/
module

public import proofs.«01_k».proof.Proof.Body

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Element sets -/

abbrev colR (b : Fin 56) : Finset S4096x14336.Idx := (Rect.unit (s := S4096x14336) (colOff b) S4096x256.size (colOff_inb b)).set
abbrev cwR (j : Fin 28) : Finset S28x8x14336.Idx := (Rect.unit (s := S28x8x14336) (cwOff j) S28x8x512.size (cwOff_inb j)).set
abbrev stgR (u : Fin 8) : Finset S28x8x4096.Idx := (Rect.unit (s := S28x8x4096) (stgOff u) S28x8x512.size (stgOff_inb u)).set
theorem wg_set (b : Fin 56) : (wg b).view.set = colR b := View.set_slice_whole _ _
theorem wu_set (b : Fin 56) : (wu b).view.set = colR b := View.set_slice_whole _ _
theorem cw_set (j : Fin 28) : (cw j).view.set = cwR j := View.set_slice_whole _ _
theorem stg_set (u : Fin 8) : (stg u).view.set = stgR u := View.set_slice_whole _ _

theorem mem_colR (b : Fin 56) (y : S4096x14336.Idx) : y ∈ colR b ↔ (y 1).val / 256 = b.val := by
  rw [Rect.mem_set_unit]
  have h0 : (y 0).val < 4096 := (y 0).isLt
  constructor
  · intro H; have a1 : 256 * b.val ≤ (y 1).val ∧ (y 1).val < 256 * b.val + 256 := H 1; omega
  · intro H i; fin_cases i
    · show 0 ≤ (y 0).val ∧ (y 0).val < 0 + 4096; omega
    · show 256 * b.val ≤ (y 1).val ∧ (y 1).val < 256 * b.val + 256; omega
theorem mem_cwR (j : Fin 28) (y : S28x8x14336.Idx) : y ∈ cwR j ↔ (y 2).val / 512 = j.val := by
  rw [Rect.mem_set_unit]
  have h0 : (y 0).val < 28 := (y 0).isLt
  have h1 : (y 1).val < 8 := (y 1).isLt
  constructor
  · intro H; have a1 : 512 * j.val ≤ (y 2).val ∧ (y 2).val < 512 * j.val + 512 := H 2; omega
  · intro H i; fin_cases i
    · show 0 ≤ (y 0).val ∧ (y 0).val < 0 + 28; omega
    · show 0 ≤ (y 1).val ∧ (y 1).val < 0 + 8; omega
    · show 512 * j.val ≤ (y 2).val ∧ (y 2).val < 512 * j.val + 512; omega
theorem mem_stgR (u : Fin 8) (y : S28x8x4096.Idx) : y ∈ stgR u ↔ (y 2).val / 512 = u.val := by
  rw [Rect.mem_set_unit]
  have h0 : (y 0).val < 28 := (y 0).isLt
  have h1 : (y 1).val < 8 := (y 1).isLt
  constructor
  · intro H; have a1 : 512 * u.val ≤ (y 2).val ∧ (y 2).val < 512 * u.val + 512 := H 2; omega
  · intro H i; fin_cases i
    · show 0 ≤ (y 0).val ∧ (y 0).val < 0 + 28; omega
    · show 0 ≤ (y 1).val ∧ (y 1).val < 0 + 8; omega
    · show 512 * u.val ≤ (y 2).val ∧ (y 2).val < 512 * u.val + 512; omega

/-- Sets told apart by one number are disjoint; -/
theorem sets_disjoint {n : ℕ} {X : Type} [DecidableEq X] (S : Fin n → Finset X) (g : X → ℕ) (h : ∀ b y, y ∈ S b ↔ g y = b.val) :
    ∀ b b', b ≠ b' → Disjoint (S b) (S b') := by
  intro b b' hne; rw [Finset.disjoint_left]; intro y hy hy'; rw [h] at hy hy'; exact hne (Fin.ext (hy.symm.trans hy'))
/-- when the number is always in range, they cover. -/
theorem sets_cover {n : ℕ} {X : Type} [Fintype X] [DecidableEq X] (S : Fin n → Finset X) (g : X → ℕ) (h : ∀ b y, y ∈ S b ↔ g y = b.val)
    (hg : ∀ y, g y < n) : (Finset.univ : Finset (Fin n)).biUnion S = Finset.univ := by
  ext y; simp only [Finset.mem_biUnion, Finset.mem_univ, true_and, iff_true]; exact ⟨⟨g y, hg y⟩, (h _ _).2 rfl⟩

theorem col_disjoint : ∀ b b' : Fin 56, b ≠ b' → Disjoint (colR b) (colR b') := sets_disjoint colR (fun y => (y 1).val / 256) mem_colR
theorem col_cover : (Finset.univ : Finset (Fin 56)).biUnion colR = Finset.univ := sets_cover colR (fun y => (y 1).val / 256) mem_colR (fun y => by have : (y 1).val < 14336 := (y 1).isLt; show (y 1).val / 256 < 56; omega)
theorem cw_disjoint : ∀ b b' : Fin 28, b ≠ b' → Disjoint (cwR b) (cwR b') := sets_disjoint cwR (fun y => (y 2).val / 512) mem_cwR
theorem cw_cover : (Finset.univ : Finset (Fin 28)).biUnion cwR = Finset.univ := sets_cover cwR (fun y => (y 2).val / 512) mem_cwR (fun y => by have : (y 2).val < 14336 := (y 2).isLt; show (y 2).val / 512 < 28; omega)
theorem stg_disjoint : ∀ b b' : Fin 8, b ≠ b' → Disjoint (stgR b) (stgR b') := sets_disjoint stgR (fun y => (y 2).val / 512) mem_stgR
theorem stg_cover : (Finset.univ : Finset (Fin 8)).biUnion stgR = Finset.univ := sets_cover stgR (fun y => (y 2).val / 512) mem_stgR (fun y => by have : (y 2).val < 4096 := (y 2).isLt; show (y 2).val / 512 < 8; omega)
theorem slot_disjoint : ∀ b b' : Fin 16, b ≠ b' → Disjoint (slotR b) (slotR b') := sets_disjoint slotR (fun y => (y 0).val) mem_slotR
theorem slot_cover : (Finset.univ : Finset (Fin 16)).biUnion slotR = Finset.univ := sets_cover slotR (fun y => (y 0).val) mem_slotR (fun y => (y 0).isLt)

/-! ## Whole and in parts -/

section Parts
variable (c : Dev nD)

/-- The gate weights, -/
theorem wg_eq (XG : Buf (Elt F) ((c : Thread nD τ).loc main_arg2)) :
    (((c : Thread nD τ).loc main_arg2) ↦{fullShare} XG : sProp 𝕄) = bigSep Finset.univ (fun b => own c (wg b) XG) := by
  rw [Ring.pointsTo_blocks (ℓ := (c : Thread nD τ).loc main_arg2) colR col_disjoint col_cover]
  exact bigSep_congr fun b _ => by rw [← wg_set]; rfl
/-- the up weights, -/
theorem wu_eq (XU : Buf (Elt F) ((c : Thread nD τ).loc main_arg4)) :
    (((c : Thread nD τ).loc main_arg4) ↦{fullShare} XU : sProp 𝕄) = bigSep Finset.univ (fun b => own c (wu b) XU) := by
  rw [Ring.pointsTo_blocks (ℓ := (c : Thread nD τ).loc main_arg4) colR col_disjoint col_cover]
  exact bigSep_congr fun b _ => by rw [← wu_set]; rfl
/-- and the two. -/
theorem home_eq (XG : Buf (Elt F) ((c : Thread nD τ).loc main_arg2)) (XU : Buf (Elt F) ((c : Thread nD τ).loc main_arg4)) :
    bigSep Finset.univ (homeB c XG XU)
      = (iprop((((c : Thread nD τ).loc main_arg2) ↦{fullShare} XG) ∗ (((c : Thread nD τ).loc main_arg4) ↦{fullShare} XU)) : sProp 𝕄) := by
  rw [wg_eq, wu_eq]; exact bigSep_sep _ _ _
/-- `c4` at one content. -/
theorem c4_eq (f : Buf (Elt F) ((c : Thread nD τ).loc main_v5_0)) :
    (((c : Thread nD τ).loc main_v5_0) ↦{fullShare} f : sProp 𝕄) = bigSep Finset.univ (fun j => own c (cw j) f) := by
  rw [Ring.pointsTo_blocks (ℓ := (c : Thread nD τ).loc main_v5_0) cwR cw_disjoint cw_cover]
  exact bigSep_congr fun b _ => by rw [← cw_set]; rfl
theorem c4_free (f : Buf (Elt F) ((c : Thread nD τ).loc main_v5_0)) :
    (((c : Thread nD τ).loc main_v5_0) ↦{fullShare} f : sProp 𝕄) ⊢ bigSep Finset.univ (freeP (F := F) c) := by
  rw [c4_eq]; exact bigSep_mono fun j _ => by
    show (own c (cw j) f : sProp 𝕄) ⊢ iprop(∃ f, own (F := F) c (cw j) f)
    iintro H; iexists f; iexact H

/-- The staging buffer in its windows, -/
theorem stage_split :
    iprop(∃ f : Buf (Elt F) ((c : Thread nD τ).loc cc0_scratch3), ((c : Thread nD τ).loc cc0_scratch3) ↦{fullShare} f)
      ⊢ (bigSep Finset.univ (fun u => iprop(∃ f, own (F := F) c (stg u) f)) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch3) stgR stg_disjoint stg_cover f))) $$ H
  iapply (show bigSep Finset.univ (fun u => (((c : Thread nD τ).loc cc0_scratch3) ↦[stgR u]{fullShare} f : sProp 𝕄))
      ⊢ bigSep Finset.univ (fun u => iprop(∃ f, own (F := F) c (stg u) f)) from bigSep_mono fun u _ => by
    rw [← stg_set]
    show (own c (stg u) f : sProp 𝕄) ⊢ iprop(∃ f, own (F := F) c (stg u) f)
    iintro H; iexists f; iexact H)
  iexact H2
/-- and back. -/
theorem stage_join :
    (bigSep Finset.univ (fun u => iprop(∃ f, own (F := F) c (stg u) f)) : sProp 𝕄)
      ⊢ iprop(∃ f : Buf (Elt F) ((c : Thread nD τ).loc cc0_scratch3), ((c : Thread nD τ).loc cc0_scratch3) ↦{fullShare} f) := by
  refine BIBase.Entails.trans (Entails.of_eq (bigSep_congr fun u _ => ?_)) (Ring.pointsTo_blocks_join_exists (ℓ := (c : Thread nD τ).loc cc0_scratch3) stgR stg_disjoint stg_cover stageM.view.junk)
  rw [← stg_set]; rfl

/-- The ring in its half slots, -/
theorem ring_split :
    iprop(∃ f : Buf (Elt F) ((c : Thread nD τ).loc cc0_scratch0), ((c : Thread nD τ).loc cc0_scratch0) ↦{fullShare} f)
      ⊢ (bigSep Finset.univ (fun s => iprop((∃ f, own (F := F) c (left s) f) ∗ (∃ f, own (F := F) c (right s) f))) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch0) slotR slot_disjoint slot_cover f))) $$ H
  iapply (show bigSep Finset.univ (fun u => (((c : Thread nD τ).loc cc0_scratch0) ↦[slotR u]{fullShare} f : sProp 𝕄))
      ⊢ bigSep Finset.univ (fun s => iprop((∃ f, own (F := F) c (left s) f) ∗ (∃ f, own (F := F) c (right s) f))) from bigSep_mono fun u _ => by
    rw [← slot_set]
    show (own c (slot u) f : sProp 𝕄) ⊢ iprop((∃ f, own (F := F) c (left u) f) ∗ (∃ f, own (F := F) c (right u) f))
    iintro H
    ihave H3 := ((slot_eq c u f).1) $$ H
    icases H3 with ⟨HL, HR⟩
    isplitl [HL]
    · iexists f; iexact HL
    · iexists f; iexact HR)
  iexact H2
/-- and back. -/
theorem ring_join :
    (bigSep Finset.univ (fun s => iprop((∃ f, own (F := F) c (left s) f) ∗ (∃ f, own (F := F) c (right s) f))) : sProp 𝕄)
      ⊢ iprop(∃ f : Buf (Elt F) ((c : Thread nD τ).loc cc0_scratch0), ((c : Thread nD τ).loc cc0_scratch0) ↦{fullShare} f) := by
  refine BIBase.Entails.trans (bigSep_mono fun s _ => ?_) (Ring.pointsTo_blocks_join_exists (ℓ := (c : Thread nD τ).loc cc0_scratch0) slotR slot_disjoint slot_cover ringM.view.junk)
  show iprop((∃ f, own (F := F) c (left s) f) ∗ (∃ f, own (F := F) c (right s) f))
    ⊢ (iprop(∃ f : Buf (Elt F) ((c : Thread nD τ).loc cc0_scratch0), ((c : Thread nD τ).loc cc0_scratch0) ↦[slotR s]{fullShare} f) : sProp 𝕄)
  rw [← halves_union]
  iintro ⟨⟨%f, HL⟩, ⟨%g, HR⟩⟩
  ihave HL' := (show (own c (left s) f : sProp 𝕄) ⊢ (((c : Thread nD τ).loc cc0_scratch0) ↦[leftR s]{fullShare} f) from by rw [← left_set]; exact Entails.rfl) $$ HL
  ihave HR' := (show (own c (right s) g : sProp 𝕄) ⊢ (((c : Thread nD τ).loc cc0_scratch0) ↦[rightR s]{fullShare} g) from by rw [← right_set]; exact Entails.rfl) $$ HR
  ihave H := (pointsTo_join (halves_disjoint s) (f := f) (g := g)) $$ [HL' HR']
  · isplitl [HL']; · iexact HL'
    iexact HR'
  iexists _; iexact H

/-- The other scratch buffers held on their elements are the buffers whole. -/
theorem act_eq : (iprop(∃ f, own (F := F) c actM f) : sProp 𝕄) = iprop(∃ f : Buf (Elt F) ((c : Thread nD τ).loc cc0_scratch2), ((c : Thread nD τ).loc cc0_scratch2) ↦{fullShare} f) := by
  have h : actM.view.set = Finset.univ := View.set_whole cc0_scratch2
  unfold own; rw [h]
theorem tmp_eq : (iprop(∃ f, own (F := F) c tmpM f) : sProp 𝕄) = iprop(∃ f : Buf (Elt F) ((c : Thread nD τ).loc cc0_scratch5), ((c : Thread nD τ).loc cc0_scratch5) ↦{fullShare} f) := by
  have h : tmpM.view.set = Finset.univ := View.set_whole cc0_scratch5
  unfold own; rw [h]
theorem arep_eq : (iprop(∃ f, own (F := F) c arepM f) : sProp 𝕄) = iprop(∃ f : Buf (Elt F) ((c : Thread nD τ).loc cc0_scratch4), ((c : Thread nD τ).loc cc0_scratch4) ↦{fullShare} f) := by
  have h : arepM.view.set = Finset.univ := View.set_whole cc0_scratch4
  unfold own; rw [h]
theorem lhs4_eq : (iprop(∃ f, own (F := F) c lhs4M f) : sProp 𝕄) = iprop(∃ f : Buf (Elt F) ((c : Thread nD τ).loc cc0_scratch1), ((c : Thread nD τ).loc cc0_scratch1) ↦{fullShare} f) := by
  have h : lhs4M.view.set = Finset.univ := View.set_whole cc0_scratch1
  unfold own; rw [h]

/-! ## The semaphores -/

/-- The kernel's own semaphores: the ring's sixteen cells, then the copies' seven. -/
abbrev osem : Fin 23 → SemLoc sig := fun i => if h : i.val < 16 then .dma (csm ⟨i.val, h⟩).sem else .dma (csm4 ⟨i.val - 16, by omega⟩).sem
theorem ownSemFacts : Pipeline.OwnSemFacts spec0 osem := by decide

abbrev cell4P (u : Fin 7) : sProp 𝕄 := semVal ((c : Thread nD τ), SemLoc.dma (csm4 u).sem) 0

theorem sep_assoc_bi (P Q R : sProp 𝕄) : Idealize.SL.BI.sep (Idealize.SL.BI.sep P Q) R = Idealize.SL.BI.sep P (Idealize.SL.BI.sep Q R) := sep_assoc_eq _ _ _
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

theorem ownSems0_eq : (Pipeline.ownSems0 (Ix := Unit) (Name := ℕ) (U := UU nD τ) (Lvl := ℕ) (Val := Elt F) (τ := τ) osem c : sProp 𝕄)
    = iprop(bigSep Finset.univ (cellP (F := F) c) ∗ bigSep Finset.univ (cell4P (F := F) c)) := by
  unfold Pipeline.ownSems0
  rw [bigSep_univ_eq_bigSepL [(0 : Fin 23), 1, 2, 3, 4, 5, 6, 7, 8, 9, 10, 11, 12, 13, 14, 15, 16, 17, 18, 19, 20, 21, 22] (by decide) (by decide),
    bigSep_univ_eq_bigSepL [(0 : Fin 16), 1, 2, 3, 4, 5, 6, 7, 8, 9, 10, 11, 12, 13, 14, 15] (by decide) (by decide),
    bigSep_univ_eq_bigSepL [(0 : Fin 7), 1, 2, 3, 4, 5, 6] (by decide) (by decide)]
  simp only [bigSepL]
  show _ = Idealize.SL.BI.sep _ _
  simp only [sep_assoc_bi]
  rfl

/-- The slots free are the ring's halves and its cells; -/
theorem free_eq : bigSep Finset.univ (freeS (F := F) c)
    = (iprop(bigSep Finset.univ (fun s => iprop((∃ f, own (F := F) c (left s) f) ∗ (∃ f, own (F := F) c (right s) f))) ∗ bigSep Finset.univ (cellP (F := F) c)) : sProp 𝕄) := by
  refine Eq.trans (bigSep_congr fun s _ => (sep_assoc_eq _ _ _).symm) (bigSep_sep _ _ _)
/-- the windows idle are the staging buffer's first seven and the copies' cells. -/
theorem idles_eq : (iprop(idles (F := F) c ∗ ∃ f, own (F := F) c (stg 7) f) : sProp 𝕄)
    ⊣⊢ iprop(bigSep Finset.univ (fun u => iprop(∃ f, own (F := F) c (stg u) f)) ∗ bigSep Finset.univ (cell4P (F := F) c)) := by
  rw [bigSep_fin8, bigSep_fin7]
  constructor
  · iintro ⟨⟨⟨A0, B0⟩, ⟨A1, B1⟩, ⟨A2, B2⟩, ⟨A3, B3⟩, ⟨A4, B4⟩, ⟨A5, B5⟩, A6, B6⟩, A7⟩
    isplitl [A0 A1 A2 A3 A4 A5 A6 A7]
    · isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
    isplitl [B0]; · iexact B0
    isplitl [B1]; · iexact B1
    isplitl [B2]; · iexact B2
    isplitl [B3]; · iexact B3
    isplitl [B4]; · iexact B4
    isplitl [B5]; · iexact B5
    iexact B6
  · iintro ⟨⟨A0, A1, A2, A3, A4, A5, A6, A7⟩, ⟨B0, B1, B2, B3, B4, B5, B6⟩⟩
    isplitr [A7]
    · isplitl [A0 B0]; · isplitl [A0]; · iexact A0
                         iexact B0
      isplitl [A1 B1]; · isplitl [A1]; · iexact A1
                         iexact B1
      isplitl [A2 B2]; · isplitl [A2]; · iexact A2
                         iexact B2
      isplitl [A3 B3]; · isplitl [A3]; · iexact A3
                         iexact B3
      isplitl [A4 B4]; · isplitl [A4]; · iexact A4
                         iexact B4
      isplitl [A5 B5]; · isplitl [A5]; · iexact A5
                         iexact B5
      isplitl [A6]; · iexact A6
      iexact B6
    iexact A7

end Parts

end Cert.Proof.KI

end
-- ==== Proof.Launch.lean ====
/- The run of @main: what the kernel is handed and hands back, the pipeline's proof data, and every final state. -/
module

public import proofs.«01_k».proof.Proof.Blocks
public import proofs.«01_k».proof.Proof.Gen.KernelIdeal.Frame

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Launch
variable (m : (ℓ : Loc nD τ sig) → Buf (Elt F) ℓ) (ρ : Dev nD → PrngReg)

/-! ## The pipeline's proof data -/

/-- What a staging buffer of an input holds. -/
abbrev in0 (c : Dev nD) (t : Fin cfg0.N) : Buf (Elt F) ((st0_0 t).view.loc (c : Thread nD τ)) := (st0_0 t).view.rep (iblk m c 0 t)
abbrev in1 (c : Dev nD) (t : Fin cfg0.N) : Buf (Elt F) ((st0_1 t).view.loc (c : Thread nD τ)) := (st0_1 t).view.rep (iblk m c 1 t)
abbrev in2 (c : Dev nD) (t : Fin cfg0.N) : Buf (Elt F) ((st0_2 t).view.loc (c : Thread nD τ)) := (st0_2 t).view.rep (iblk m c 2 t)
abbrev in3 (c : Dev nD) (t : Fin cfg0.N) : Buf (Elt F) ((st0_3 t).view.loc (c : Thread nD τ)) := (st0_3 t).view.rep (iblk m c 3 t)
/-- What the body leaves in `a4`'s; -/
def a4At (c : Dev nD) (t : Fin cfg0.N) : Buf (Elt F) ((st0_4 t).view.loc (c : Thread nD τ)) :=
  a4out c (V m c main_arg2) (V m c main_arg4) (st0_0 t) (st0_1 t) (st0_2 t) (st0_3 t) (st0_4 t) (in0 m c t) (in1 m c t) (in2 m c t) (in3 m c t)
/-- and in the chunks of `c4`, when `act` first held `xa`. -/
def zAt (c : Dev nD) (t : Fin cfg0.N) (xa : Buf (Elt F) (actM.view.loc (c : Thread nD τ))) : Fin 28 → FVec F S28x8x512 .fp8e4m3 :=
  zBody c (V m c main_arg2) (V m c main_arg4) (st0_0 t) (st0_1 t) (st0_2 t) (st0_3 t) (in0 m c t) (in1 m c t) (in2 m c t) (in3 m c t) xa

/-- What the region keeps beside `c4`: the scratch whole, the weights' blocks home, the ring and the staging windows
    free. -/
def keepΦ (c : Dev nD) : sProp 𝕄 :=
  iprop((∃ f, own (F := F) c actM f) ∗ (∃ f, own (F := F) c tmpM f) ∗ (∃ f, own (F := F) c arepM f) ∗ (∃ f, own (F := F) c lhs4M f)
    ∗ bigSep Finset.univ (homeB c (V m c main_arg2) (V m c main_arg4)) ∗ bigSep Finset.univ (freeS (F := F) c) ∗ idles (F := F) c
    ∗ (∃ f, own (F := F) c (stg 7) f))
/-- `c4` before the point, and after it. -/
def c4Φ (c : Dev nD) (k : ℕ) : sProp 𝕄 :=
  if k = 0 then bigSep Finset.univ (freeP (F := F) c) else iprop(∃ xa, bigSep Finset.univ (doneP c (zAt m c t0_0 xa)))
def Φ (c : Dev nD) (k : ℕ) : sProp 𝕄 := iprop(keepΦ m c ∗ c4Φ m c k)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (st0_4 t).view.read (Elt F) (a4At m c t)
  Φ t := Φ m c t.val
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = (st0_4 t).view.read (Elt F) (a4At m c t) := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) (st0_4 t) (hstage0_4 0) :=
  (congrFun defs_tc _).trans rfl

set_option backward.isDefEq.respectTransparency.types false in
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, before_w1, before_w2, before_w3, after_w0, after_w1, after_w2, after_w3, after_w4]
  rw [show (dats m 0 c).Φ (Fin.castSucc t0_0) = iprop(keepΦ m c ∗ bigSep Finset.univ (freeP (F := F) c)) from rfl,
    show (dats m 0 c).Φ (Fin.succ t0_0) = iprop(keepΦ m c ∗ ∃ xa, bigSep Finset.univ (doneP c (zAt m c t0_0 xa))) from rfl]
  unfold Dat.owesAt Pipeline.owesWithin
  rw [show (dats m 0 c).owed (Fin.castSucc t0_0) = 0 from rfl, show (dats m 0 c).owed (Fin.succ t0_0) = 0 from rfl]
  unfold owns keepΦ
  iintro ⟨⟨⟨HA, HT, HR, HL, Hh, Hs, Hi, H7⟩, Hf⟩, ⟨%W, -, HW⟩, ⟨%d0, %g0, %hg0, H0⟩, ⟨%d1, %g1, %hg1, H1⟩, ⟨%d2, %g2, %hg2, H2⟩, ⟨%d3, %g3, %hg3, H3⟩, ⟨%d4, %g4, -, H4⟩⟩
  ihave H0' := (pointsTo_rep_entails (c : Thread nD τ) (st0_0 t0_0) g0 fullShare) $$ H0
  ihave H1' := (pointsTo_rep_entails (c : Thread nD τ) (st0_1 t0_0) g1 fullShare) $$ H1
  ihave H2' := (pointsTo_rep_entails (c : Thread nD τ) (st0_2 t0_0) g2 fullShare) $$ H2
  ihave H3' := (pointsTo_rep_entails (c : Thread nD τ) (st0_3 t0_0) g3 fullShare) $$ H3
  rw [hg0, hg1, hg2, hg3]
  sl_rw [prog_eq t0_0]
  iapply (bodyRun c (V m c main_arg2) (V m c main_arg4) (st0_0 t0_0) (hstage0_0 0) (st0_1 t0_0) (hstage0_1 0) (st0_2 t0_0) (hstage0_2 0)
    (st0_3 t0_0) (hstage0_3 0) (st0_4 t0_0) (hstage0_4 0) (in0 m c t0_0) (in1 m c t0_0) (in2 m c t0_0) (in3 m c t0_0))
  isplitl [H0' H1' H2' H3' H4 HA HT HR HL Hh Hs Hi Hf HW]
  · isplitl [H0']; · iexact H0'
    isplitl [H1']; · iexact H1'
    isplitl [H2']; · iexact H2'
    isplitl [H3']; · iexact H3'
    isplitl [H4]; · iexists g4; iexact H4
    isplitl [HA]; · iexact HA
    isplitl [HT]; · iexact HT
    isplitl [HR]; · iexact HR
    isplitl [HL]; · iexact HL
    isplitl [Hh]; · iexact Hh
    isplitl [Hs]; · iexact Hs
    isplitl [Hi]; · iexact Hi
    isplitl [Hf]; · iexact Hf
    iexists W; iexact HW
  · iintro ⟨H0, H1, H2, H3, H4, HA, HT, HR, HL, Hh, Hs, Hi, Hd, ⟨%W', HW⟩⟩
    isplitl [HA HT HR HL Hh Hs Hi H7 Hd]
    · isplitr [Hd]
      · isplitl [HA]; · iexact HA
        isplitl [HT]; · iexact HT
        isplitl [HR]; · iexact HR
        isplitl [HL]; · iexact HL
        isplitl [Hh]; · iexact Hh
        isplitl [Hs]; · iexact Hs
        isplitl [Hi]; · iexact Hi
        iexact H7
      iexact Hd
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    iexists _; isplitr; · ipureintro; rfl
    iexact H4

/-! ## The run -/

theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The arguments that no window stages, as the region finds them. -/
def bypass (c : Dev nD) : sProp 𝕄 :=
  iprop((((c : Thread nD τ).loc main_arg1) ↦{fullShare} V m c main_arg1) ∗ (((c : Thread nD τ).loc main_arg3) ↦{fullShare} V m c main_arg3)
    ∗ (((c : Thread nD τ).loc main_arg5) ↦{fullShare} V m c main_arg5))
def intoΦ (c : Dev nD) : sProp 𝕄 :=
  iprop(bigSep Finset.univ (homeB c (V m c main_arg2) (V m c main_arg4)) ∗ bigSep Finset.univ (freeP (F := F) c) ∗ Pipeline.ownSems0 osem c)
def outOfΦ (c : Dev nD) : sProp 𝕄 :=
  iprop((((c : Thread nD τ).loc main_arg2) ↦{fullShare} V m c main_arg2) ∗ (((c : Thread nD τ).loc main_arg4) ↦{fullShare} V m c main_arg4)
    ∗ ∃ xa, ((c : Thread nD τ).loc main_v5_0) ↦{fullShare} c4full c (zAt m c t0_0 xa))
def u₀ : UU nD τ := (initOf (Pipeline.cells cfgs Cert.KernelIdeal.Gen.cellOf_inj) (Pipeline.launchToks cfgs Cert.KernelIdeal.Gen.cellOf_inj), 1)
def finalA (c : Dev nD) (w : Fin cfg0.W) : Buf (Elt F) ((cfg0.win w).arr.view.loc (c : Thread nD τ)) := (dats m 0 c).arrAt w cfg0.N
/-- What is read off the final memory beside the windows' arrays. -/
def QY (c : Dev nD) (s : MemSt nD τ sig (Elt F)) : Prop :=
  s.mem ((c : Thread nD τ).loc main_arg1) = V m c main_arg1 ∧ s.mem ((c : Thread nD τ).loc main_arg2) = V m c main_arg2
  ∧ s.mem ((c : Thread nD τ).loc main_arg3) = V m c main_arg3 ∧ s.mem ((c : Thread nD τ).loc main_arg4) = V m c main_arg4
  ∧ s.mem ((c : Thread nD τ).loc main_arg5) = V m c main_arg5
  ∧ ∃ xa, s.mem ((c : Thread nD τ).loc main_v5_0) = c4full c (zAt m c t0_0 xa)
def QC : PUnit × MemSt nD τ sig (Elt F) → Prop := fun r =>
  ∀ c : Dev nD, (∀ w : Fin cfg0.W, r.2.mem ((cfg0.win w).arr.view.loc (c : Thread nD τ)) = finalA m c w) ∧ QY m c r.2

set_option maxHeartbeats 1600000 in
set_option backward.isDefEq.respectTransparency.types false in
/-- From any memory with zero counters every weakly fair execution of @main terminates, and every final state has `c4`
    and `a4` at the computed contents, the arguments unchanged and every semaphore at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := outOfΦ m) (Z := bypass m)
    (hX := fun c => by
      rw [unscopedRest0_eq]
      unfold intoΦ bypass; rw [home_eq]
      iintro ⟨⟨H1, H2, H3, H4, H5, -, -, Hc⟩, HS, -, -, -⟩; imodintro
      isplitl [H2 H4 HS Hc]
      · isplitl [H2 H4]
        · isplitl [H2]; · iexact H2
          iexact H4
        isplitl [Hc]
        · iapply (c4_free c _); iexact Hc
        iexact HS
      isplitl [H1]; · iexact H1
      isplitl [H3]; · iexact H3
      iexact H5)
    (hin := fun c => by
      rw [scopedRest0_eq, show (dats m 0 c).Φ 0 = iprop(keepΦ m c ∗ bigSep Finset.univ (freeP (F := F) c)) from rfl]
      unfold intoΦ keepΦ; rw [ownSems0_eq, free_eq, act_eq, tmp_eq, arep_eq, lhs4_eq]
      iintro ⟨⟨H0, Hf, Hc, Hc4⟩, ⟨B0, B1, B2, B3, B4, B5⟩⟩
      ihave Hr := (ring_split c) $$ B0
      ihave Hs := (stage_split c) $$ B3
      ihave Hi := ((idles_eq c).2) $$ [Hs Hc4]
      · isplitl [Hs]; · iexact Hs
        iexact Hc4
      icases Hi with ⟨Hi, H7⟩
      isplitr [Hf]
      · isplitl [B2]; · iexact B2
        isplitl [B5]; · iexact B5
        isplitl [B4]; · iexact B4
        isplitl [B1]; · iexact B1
        isplitl [H0]; · iexact H0
        isplitl [Hr Hc]
        · isplitl [Hr]; · iexact Hr
          iexact Hc
        isplitl [Hi]; · iexact Hi
        iexact H7
      iexact Hf)
    (hout := fun c => by
      rw [scopedRest0_eq, show (dats m 0 c).Φ (Fin.last cfg0.N) = iprop(keepΦ m c ∗ ∃ xa, bigSep Finset.univ (doneP c (zAt m c t0_0 xa))) from rfl, ownSems0_eq]
      unfold keepΦ outOfΦ; rw [free_eq, home_eq, act_eq, tmp_eq, arep_eq, lhs4_eq]
      iintro ⟨⟨B2, B5, B4, B1, ⟨H2, H4⟩, ⟨Hr, Hc⟩, Hi, H7⟩, ⟨%xa, Hd⟩⟩
      ihave Hs := ((idles_eq c).1) $$ [Hi H7]
      · isplitl [Hi]; · iexact Hi
        iexact H7
      icases Hs with ⟨Hs, Hc4⟩
      ihave B0 := (ring_join c) $$ Hr
      ihave B3 := (stage_join c) $$ Hs
      isplitl [H2 H4 Hd]
      · isplitl [H2]; · iexact H2
        isplitl [H4]; · iexact H4
        iexists xa
        iapply (Entails.of_eq (c4_eq c (c4full c (zAt m c t0_0 xa))).symm)
        iexact Hd
      isplitl [Hc Hc4]
      · isplitl [Hc]; · iexact Hc
        iexact Hc4
      isplitl [B0]; · iexact B0
      isplitl [B1]; · iexact B1
      isplitl [B2]; · iexact B2
      isplitl [B3]; · iexact B3
      isplitl [B4]; · iexact B4
      iexact B5)
    (QY := QY m)
    (hY := fun c s' => by
      unfold outOfΦ bypass
      iintro ⟨⟨H2, H4, ⟨%xa, Hc⟩⟩, ⟨H1, H3, H5⟩, HSI⟩
      icombine HSI H1 gives %h1
      icombine HSI H2 gives %h2
      icombine HSI H3 gives %h3
      icombine HSI H4 gives %h4
      icombine HSI H5 gives %h5
      icombine HSI Hc gives %hc
      imodintro
      isplitr
      · ipureintro
        exact ⟨Buf.eq_of_forall_mem_univ h1, Buf.eq_of_forall_mem_univ h2, Buf.eq_of_forall_mem_univ h3, Buf.eq_of_forall_mem_univ h4,
          Buf.eq_of_forall_mem_univ h5, xa, Buf.eq_of_forall_mem_univ hc⟩
      iexact HSI)
    (hQ := fun _ hh hz => ⟨hh, hz⟩)

theorem finalA_in (c : Dev nD) (w : Fin cfg0.W) (hw : (cfg0.win w).isOut = false) :
    finalA m c w = V m c (Pipeline.arrRef spec0 w) :=
  (dats (F := F) m 0 c).arrAt_in w hw _

/-- The arguments at a final state. -/
theorem args_of (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  obtain ⟨hw, h1, h2, h3, h4, h5, -⟩ := h c
  exact ⟨(hw 0).trans ((finalA_in m c 0 rfl).trans (V_main_arg0 m c)), h1.trans (V_main_arg1 m c), h2.trans (V_main_arg2 m c),
    h3.trans (V_main_arg3 m c), h4.trans (V_main_arg4 m c), h5.trans (V_main_arg5 m c)⟩

end Launch

end Cert.Proof.KI

end
-- ==== Proof.FrameKernel.lean ====
/- The frames of the two kernel programs. `run_main` of Launch.lean is proved of the idealized program at any float
values; the word-level program is the same text in another namespace, so at the words the two are definitionally equal,
and the one run serves both. -/
module

public import proofs.«01_k».proof.Proof.Launch
public import proofs.«01_k».proof.Proof.Gen.Kernel
public import proofs.«01_k».proof.Defs

@[expose] public section

noncomputable section

namespace Cert.Proof.KI

open Idealize.ShloMosaic Idealize.SL.Sem
open Idealize.ShloMosaic.TcCoe

attribute [local instance] Cert.Kernel.Gen.facts Cert.KernelIdeal.Gen.facts

set_option maxRecDepth 100000 in
set_option maxHeartbeats 0 in
/-- The two bodies are one text. -/
theorem body_same : Cert.Kernel.cc0_mod_block (F := Bits) = Cert.KernelIdeal.cc0_mod_block (F := Bits) := rfl

set_option maxRecDepth 100000 in
set_option maxHeartbeats 0 in
/-- So are the two body tables. -/
theorem bodies_same : Cert.Kernel.defs₀ (F := Bits) = Cert.KernelIdeal.defs₀ (F := Bits) := by
  unfold Cert.Kernel.defs₀ Cert.KernelIdeal.defs₀
  congr 1
  funext l a
  match l, a with
  | 0, (t, s) =>
    dsimp only
    rw [body_same]
  | ⟨n + 1, h⟩, _ => exact absurd h (Nat.not_lt.2 (Nat.le_add_left _ _))

/-- And so the two tables with the call's pipeline. -/
theorem defs_same : Cert.Kernel.defs (F := Bits) = Cert.KernelIdeal.defs (F := Bits) := by
  unfold Cert.Kernel.defs Cert.KernelIdeal.defs
  rw [bodies_same]
  rfl

/-- The word-level kernel's frame. -/
theorem frame_kernel : Cert.quiescent_Kernel := fun m ρ _ => by
  rw [defs_same]
  exact (θ_run Cert.KernelIdeal.defs (onTc (τ := Cert.KernelIdeal.τ) (Cert.KernelIdeal.main (F := Bits))) _).mono
    (fun _ hh => ⟨fun c => args_of m _ hh.1 c, hh.2⟩) (run_main (F := Bits) m ρ)

/-- The idealized kernel's frame. -/
theorem frame_ideal : Cert.quiescent_KernelIdeal := fun m ρ _ =>
  (θ_run Cert.KernelIdeal.defs (onTc (τ := Cert.KernelIdeal.τ) (Cert.KernelIdeal.main (F := Ideal))) _).mono
    (fun _ hh => ⟨fun c => args_of m _ hh.1 c, hh.2⟩) (run_main (F := Ideal) m ρ)

end Cert.Proof.KI

end
-- ==== Proof.Spec.lean ====
/- The mathematics of the slice over the extended reals, entry by entry: the two scaled products, SiLU, the row maximum,
the power-of-two scale and the codes. Both programs are shown equal to this. -/
module

public import Idealize.ShloMosaic.Lib.Pointwise
public import Idealize.ShloMosaic.PureOps.Ideal

@[expose] public section

noncomputable section

namespace Cert.Proof.Spec

open Idealize.ShloMosaic

/-- A matrix by its coordinates. -/
abbrev Mat (a b : ℕ) : Type := Fin a → Fin b → EReal

/-- A product's entry, scaled by its row's and its column's scale. -/
def scaled (X : Mat 224 4096) (A : Fin 224 → EReal) (W : Mat 4096 14336) (s : Fin 14336 → EReal) : Mat 224 14336 := fun r k =>
  (∑ j, X r j * W j k) * A r * s k

/-- SiLU of the gate times the up product. -/
def glu (g u : EReal) : EReal := g * Ideal.logistic g * u

/-- The activation before it is quantised. -/
def act (X : Mat 224 4096) (A : Fin 224 → EReal) (G : Mat 4096 14336) (sg : Fin 14336 → EReal) (U : Mat 4096 14336) (su : Fin 14336 → EReal) :
    Mat 224 14336 := fun r k => glu (scaled X A G sg r k) (scaled X A U su r k)

/-- The absolute value. -/
def mag (x : EReal) : EReal := max x (-x)

/-- The largest magnitude of a row. -/
def rowMax (v : Mat 224 14336) (r : Fin 224) : EReal := Finset.univ.fold max (Ideal.ofBits .f32 0xFF800000#32) fun k => mag (v r k)

/-- The exponent of a row's scale from its largest magnitude. -/
def expo (a : EReal) : EReal :=
  if a = 0 then 0 else Ideal.liftRound Int.floor (Ideal.div (Ideal.log (a * Ideal.ofBits .f32 0x3B124925#32)) (Ideal.log (Ideal.ofBits .f32 0x40000000#32))) + 1

/-- A code: the value over its row's scale, clipped. -/
def code (v e : EReal) : EReal := min (Ideal.ofBits .f32 0x43E00000#32) (max (Ideal.ofBits .f32 0xC3E00000#32) (v * Ideal.exp2 (0 - e)))

/-- A logistic as the kernel writes it. -/
theorem logistic_eq (g : EReal) : Ideal.div 1 (1 + Ideal.exp (0 - g)) = Ideal.logistic g := by
  unfold Ideal.logistic; rw [sub_eq_add_neg, zero_add]

/-- The fold's start is the least value. -/
theorem neg_inf : Ideal.ofBits .f32 0xFF800000#32 = ⊥ := by
  simp [Ideal.ofBits, Ideal.ieee]

theorem mag_nonneg (x : EReal) : 0 ≤ mag x := by
  unfold mag
  rcases le_total 0 x with h | h
  · exact le_max_of_le_left h
  · exact le_max_of_le_right (EReal.neg_nonneg.mpr h)

/-- A row's maximum is the least bound of the row's magnitudes. -/
theorem rowMax_le (v : Mat 224 14336) (r : Fin 224) (z : EReal) : rowMax v r ≤ z ↔ ∀ k, mag (v r k) ≤ z := by
  unfold rowMax
  rw [Finset.fold_max_le, neg_inf]
  simp

/-- A maximum along a matrix's second axis. -/
theorem rowMax_apply {R N : ℕ} (v : FVec Ideal ⟨2, ![R, N]⟩ .f32) (h : (⟨2, ![R, N]⟩ : Shape).Reduces [1] ⟨1, ![R]⟩) (hφ) (hacc) (r : Fin R) :
    multiReduction .maximumf [1] ⟨1, ![R]⟩ v 0xFF800000#32 h hφ hacc (ix1 r)
      = Finset.univ.fold max (Ideal.ofBits .f32 0xFF800000#32) fun k : Fin N => v (ix2 r k) := by
  simp only [pointwise]

end Cert.Proof.Spec

end
-- ==== Proof.KerPay.lean ====
/- The values of the gate/up loop's and the quantiser's vector expressions, entry by entry. -/
module

public import proofs.«01_k».proof.Proof.Spec
public import proofs.«01_k».proof.Proof.Quant

@[expose] public section

noncomputable section

namespace Cert.Proof.KI

open Cert.KernelIdeal Cert.KernelIdeal.Gen
open Idealize.ShloMosaic Idealize.ShloMosaic.TcCoe
open Cert.Proof.Spec

set_option maxRecDepth 16384

section Loop
variable (X : Vec Ideal S224x4096 .fp8e4m3) (w : Vec Ideal S1x4096x512 .fp8e4m3) (s : Vec Ideal S1x256 .f32) (a : Vec Ideal S224x128 .f32)
  (A : Fin 224 → EReal) (ha : ∀ r l, a (ix2 r l) = A r) (g u : FVec Ideal S224x256 .f32) (t : Vec Ideal S224x128 .f32)

include ha in
/-- The scaled gate of a first block, -/
theorem pay2_apply (r : Fin 224) (y : Fin 256) : k0_pay2 X w s a (ix2 r y)
    = (∑ j, X (ix2 r j) * w (ix3 0 j ⟨y.val, by omega⟩)) * A r * s (ix2 0 y) := by
  pointwise [k0_pay2, k0_pay1, ha]
  simp only [dite_eq_ite, ite_self]
/-- and its product with the up weights; -/
theorem pay3_apply (r : Fin 224) (y : Fin 256) : k0_pay3 X w (ix2 r y) = ∑ j, X (ix2 r j) * w (ix3 0 j ⟨256 + y.val, by omega⟩) := by
  pointwise [k0_pay3, k0_pay1]
include ha in
/-- of a second block the scaled gate -/
theorem pay12_apply (r : Fin 224) (y : Fin 256) : k0_pay12 X w s a (ix2 r y)
    = (∑ j, X (ix2 r j) * w (ix3 0 j ⟨y.val, by omega⟩)) * A r * s (ix2 0 y) := by
  pointwise [k0_pay12, k0_pay11, ha]
  simp only [dite_eq_ite, ite_self]
include ha in
/-- and the scaled up product. -/
theorem pay13_apply (r : Fin 224) (y : Fin 256) : k0_pay13 X w s a (ix2 r y)
    = (∑ j, X (ix2 r j) * w (ix3 0 j ⟨256 + y.val, by omega⟩)) * A r * s (ix2 0 y) := by
  pointwise [k0_pay13, k0_pay11, ha]
  simp only [dite_eq_ite, ite_self]
include ha in
/-- The activations of a first block, -/
theorem pay5_apply (r : Fin 224) (y : Fin 256) : k0_pay5 g u (k0_pay4 s) a (ix2 r y) = glu (g (ix2 r y)) (u (ix2 r y) * A r * s (ix2 0 y)) := by
  pointwise [k0_pay5, k0_pay4, ha]
  simp only [dite_eq_ite, ite_self, logistic_eq]
  rfl
/-- of a second one. -/
theorem pay61_apply (r : Fin 224) (y : Fin 256) : k0_pay61 g u k0_pay14 (ix2 r y) = glu (g (ix2 r y)) (u (ix2 r y)) := by
  pointwise [k0_pay61, k0_pay14]
  simp only [logistic_eq]
  rfl
/-- The planes stored, -/
theorem pay8_apply (s' : FVec Ideal S1x256 .f32) (r : Fin 224) (l : Fin 128) : k0_pay8 g u s' a (ix3 0 r l) = k0_pay5 g u s' a (ix2 r ⟨l.val, by omega⟩) := by
  pointwise [k0_pay8, k0_pay6]
theorem pay9_apply (s' : FVec Ideal S1x256 .f32) (r : Fin 224) (l : Fin 128) : k0_pay9 g u s' a (ix3 0 r l) = k0_pay5 g u s' a (ix2 r ⟨128 + l.val, by omega⟩) := by
  pointwise [k0_pay9, k0_pay7]
theorem pay64_apply (k : FVec Ideal S224x256 .f32) (r : Fin 224) (l : Fin 128) : k0_pay64 g u k (ix3 0 r l) = k0_pay61 g u k (ix2 r ⟨l.val, by omega⟩) := by
  pointwise [k0_pay64, k0_pay62]
theorem pay65_apply (k : FVec Ideal S224x256 .f32) (r : Fin 224) (l : Fin 128) : k0_pay65 g u k (ix3 0 r l) = k0_pay61 g u k (ix2 r ⟨128 + l.val, by omega⟩) := by
  pointwise [k0_pay65, k0_pay63]
/-- and the running maximum after each block. -/
theorem pay10_apply (s' : FVec Ideal S1x256 .f32) (r : Fin 224) (l : Fin 128) : k0_pay10 g u s' a t (ix2 r l)
    = max (t (ix2 r l)) (max (mag (k0_pay5 g u s' a (ix2 r ⟨l.val, by omega⟩))) (mag (k0_pay5 g u s' a (ix2 r ⟨128 + l.val, by omega⟩)))) := by
  pointwise [k0_pay10, k0_pay6, k0_pay7]
  rfl
theorem pay66_apply (k : FVec Ideal S224x256 .f32) (r : Fin 224) (l : Fin 128) : k0_pay66 g u k t (ix2 r l)
    = max (t (ix2 r l)) (max (mag (k0_pay61 g u k (ix2 r ⟨l.val, by omega⟩))) (mag (k0_pay61 g u k (ix2 r ⟨128 + l.val, by omega⟩)))) := by
  pointwise [k0_pay66, k0_pay62, k0_pay63]
  rfl
end Loop

/-! ### The quantiser -/

/-- A row's maximum over the 128 lanes. -/
def laneMax (t : Vec Ideal S224x128 .f32) (r : Fin 224) : EReal := Finset.univ.fold max (Ideal.ofBits .f32 0xFF800000#32) fun l : Fin 128 => t (ix2 r l)

theorem pay67_apply (t : Vec Ideal S224x128 .f32) (r : Fin 224) (l : Fin 128) : k0_pay67 t (ix2 r l) = expo (laneMax t r) := by
  pointwise [k0_pay67]
  rfl
theorem pay68_apply (t : Vec Ideal S224x128 .f32) (r : Fin 224) (l : Fin 128) : k0_pay68 t (ix2 r l) = Ideal.exp2 (expo (laneMax t r)) := by
  pointwise [k0_pay68, pay67_apply]
  rfl
theorem pay69_apply (t : Vec Ideal S224x128 .f32) (r : Fin 224) (l : Fin 128) : k0_pay69 t (ix2 r l) = Ideal.exp2 (0 - expo (laneMax t r)) := by
  pointwise [k0_pay69, pay67_apply]
  rfl

/-- A code over the row's inverse scale. -/
def code' (v i : EReal) : EReal := min (Ideal.ofBits .f32 0x43E00000#32) (max (Ideal.ofBits .f32 0xC3E00000#32) (v * i))

/-- A chunk's codes from its four planes, and the inverse scales. -/
theorem z4_apply (p0 p1 p2 p3 : Vec Ideal S1x224x128 .f32) (t : Vec Ideal S224x128 .f32) (v : Mat 224 512)
    (h0 : ∀ r (l : Fin 128), p0 (ix3 0 r l) = v r ⟨l.val, by omega⟩) (h1 : ∀ r (l : Fin 128), p1 (ix3 0 r l) = v r ⟨128 + l.val, by omega⟩)
    (h2 : ∀ r (l : Fin 128), p2 (ix3 0 r l) = v r ⟨256 + l.val, by omega⟩) (h3 : ∀ r (l : Fin 128), p3 (ix3 0 r l) = v r ⟨384 + l.val, by omega⟩)
    (i : Fin 224 → EReal) (ht : ∀ r l, t (ix2 r l) = i r) (g : Fin 28) (s : Fin 8) (y : Fin 512) :
    z4 p0 p1 p2 p3 t (ix3 g s y) = code' (v ⟨g.val * 8 + s.val, by omega⟩ y) (i ⟨g.val * 8 + s.val, by omega⟩) := by
  pointwise [z4, k0_pay26, k0_pay24, k0_pay21, k0_pay22, k0_pay23, h0, h1, h2, h3, ht]
  unfold code'
  have := y.isLt
  have key : ∀ z : Fin 512, z.val = y.val → v ⟨g.val * 8 + s.val, by omega⟩ z = v ⟨g.val * 8 + s.val, by omega⟩ y := fun z h => by rw [Fin.ext h]
  split_ifs <;> first | rfl | (rw [key _ (by dsimp only; omega)])

/-- The sum down a column of the diagonal alone is the diagonal's entry. -/
theorem diag_sum (f : Fin 112 → EReal) (y : Fin 112) :
    ∑ x : Fin 112, Scalar.select (IntOp.cmpi CmpIPredicate.eq (BitVec.ofNat 32 x.val) (BitVec.ofNat 32 y.val)) (f x) 0 = f y := by
  rw [Finset.sum_eq_single y]
  · simp [IntOp.cmpi, Scalar.select]
  · intro x _ h
    have : BitVec.ofNat 32 x.val ≠ BitVec.ofNat 32 y.val := fun e => h (Fin.ext (by
      have := congrArg BitVec.toNat e
      simp only [BitVec.toNat_ofNat] at this
      omega))
    simp [IntOp.cmpi, Scalar.select, beq_eq_false_iff_ne.2 this]
  · simp

theorem pay71_apply (b : Vec Ideal S112x128 .f32) (y : Fin 112) :
    k0_pay71 k0_pay57 (k0_pay70 b) (Scalar.ofBits .f32 0x00000000#32) (ix2 0 y) = b (ix2 y ⟨y.val, by omega⟩) := by
  pointwise [k0_pay71, k0_pay57, k0_pay70]
  exact diag_sum (fun x => b (ix2 x ⟨y.val, by omega⟩)) y
theorem pay72_apply (b : Vec Ideal S112x128 .f32) (y : Fin 112) :
    k0_pay72 k0_pay57 b (ix2 0 y) = b (ix2 y ⟨y.val, by omega⟩) := by
  pointwise [k0_pay72, k0_pay57]
  exact diag_sum (fun x => b (ix2 x ⟨y.val, by omega⟩)) y

end Cert.Proof.KI

end
-- ==== Proof.KerLoop.lean ====
/- What the gate/up loop leaves: every plane of `act` holds its 128 columns of the activations, and `tmp` the running maxima. -/
module

public import proofs.«01_k».proof.Proof.KerPay
public import proofs.«01_k».proof.Proof.FfLoop
public import Idealize.ShloMosaic.Lib.VecWindow
public import Idealize.ShloMosaic.Lib.WritesUnit

@[expose] public section

noncomputable section

namespace Cert.Proof.KI

open Cert.KernelIdeal Cert.KernelIdeal.Gen
open Idealize.ShloMosaic Idealize.ShloMosaic.TcCoe
open Cert.Proof.Spec

set_option maxRecDepth 16384

theorem idx2 {n0 n1 : ℕ} (a : Fin n0) (b : Fin n1) : ValueIdx.ix2 a b = ix2 a b := by funext d; match d with | ⟨0, _⟩ => rfl | ⟨1, _⟩ => rfl

/-- A load of a unit-stride box of a view of rank 2, entry by entry; -/
theorem readAt2 {sp : _} {n0 n1 m0 m1 : ℕ} {e : EltTy} (v : View sig .tc sp ⟨2, ![n0, n1]⟩ e) (f : v.ty.Contents (Elt Ideal)) {off : Fin 2 → ℕ}
    (p q : ℕ) (ho : off = ![p, q]) (inb) (a : Fin m0) (b : Fin m1) (h0 : p + a.val < n0) (h1 : q + b.val < n1) :
    v.readAt (Elt Ideal) (Rect.unit (s := ⟨2, ![n0, n1]⟩) off ![m0, m1] inb).toLoadRect f (ix2 a b) = v.read (Elt Ideal) f (ix2 ⟨p + a.val, h0⟩ ⟨q + b.val, h1⟩) := by
  subst ho
  rw [View.readAt_apply]
  congr 1; funext d
  match d with
  | ⟨0, _⟩ => exact Fin.ext (by show p + 1 * a.val = p + a.val; omega)
  | ⟨1, _⟩ => exact Fin.ext (by show q + 1 * b.val = q + b.val; omega)
/-- of rank 3. -/
theorem readAt3 {sp : _} {n0 n1 n2 m0 m1 m2 : ℕ} {e : EltTy} (v : View sig .tc sp ⟨3, ![n0, n1, n2]⟩ e) (f : v.ty.Contents (Elt Ideal)) {off : Fin 3 → ℕ}
    (p q s : ℕ) (ho : off = ![p, q, s]) (inb) (a : Fin m0) (b : Fin m1) (c : Fin m2) (h0 : p + a.val < n0) (h1 : q + b.val < n1) (h2 : s + c.val < n2) :
    v.readAt (Elt Ideal) (Rect.unit (s := ⟨3, ![n0, n1, n2]⟩) off ![m0, m1, m2] inb).toLoadRect f (ix3 a b c)
      = v.read (Elt Ideal) f (ix3 ⟨p + a.val, h0⟩ ⟨q + b.val, h1⟩ ⟨s + c.val, h2⟩) := by
  subst ho
  rw [View.readAt_apply]
  congr 1; funext d
  match d with
  | ⟨0, _⟩ => exact Fin.ext (by show p + 1 * a.val = p + a.val; omega)
  | ⟨1, _⟩ => exact Fin.ext (by show q + 1 * b.val = q + b.val; omega)
  | ⟨2, _⟩ => exact Fin.ext (by show s + 1 * c.val = s + c.val; omega)

section Loop
variable (c : Dev nD) (XG : Buf (Elt Ideal) (wgM.view.loc (c : Thread nD τ))) (XU : Buf (Elt Ideal) (wuM.view.loc (c : Thread nD τ)))
  (arg0 : Memref sig .tc .vmem S224x4096 .fp8e4m3) (arg3 : Memref sig .tc .vmem S1x14336 .f32) (arg5 : Memref sig .tc .vmem S1x14336 .f32)
  (x0 : Buf (Elt Ideal) (arg0.view.loc (c : Thread nD τ))) (x3 : Buf (Elt Ideal) (arg3.view.loc (c : Thread nD τ)))
  (x5 : Buf (Elt Ideal) (arg5.view.loc (c : Thread nD τ))) (xr : Buf (Elt Ideal) (arepM.view.loc (c : Thread nD τ)))
  (X : Mat 224 4096) (A : Fin 224 → EReal) (G U : Mat 4096 14336) (sg su : Fin 14336 → EReal)

/-- What the loop's operands hold. -/
structure Reads : Prop where
  x : ∀ r j, arg0.view.read (Elt Ideal) x0 (ix2 r j) = X r j
  a : ∀ r l, arepM.view.read (Elt Ideal) xr (ix2 r l) = A r
  g : ∀ j k, XG (ix2 (n0 := 4096) (n1 := 14336) j k) = G j k
  u : ∀ j k, XU (ix2 (n0 := 4096) (n1 := 14336) j k) = U j k
  sg : ∀ k, arg3.view.read (Elt Ideal) x3 (ix2 0 k) = sg k
  su : ∀ k, arg5.view.read (Elt Ideal) x5 (ix2 0 k) = su k

variable (H : Reads c XG XU arg0 arg3 arg5 x0 x3 x5 xr X A G U sg su)

include H

theorem xR_apply (r : Fin 224) (j : Fin 4096) : xR c arg0 x0 (ix2 r j) = X r j := by
  unfold xR; rw [View.readAt_full]; exact H.x r j
theorem aR_apply (r : Fin 224) (l : Fin 128) : aR c xr (ix2 r l) = A r := by
  unfold aR; rw [View.readAt_full]; exact H.a r l

theorem chunk_g (b : Fin 56) (s : Fin 16) (j : Fin 4096) (y : Fin 512) (hy : y.val < 256) : chunk c XG XU b (ix3 (n0 := 16) (n1 := 4096) (n2 := 512) s j y) = G j ⟨256 * b.val + y.val, by omega⟩ := by
  unfold chunk
  exact (dif_pos (show ((ix3 (n0 := 16) (n1 := 4096) (n2 := 512) s j y) 2).val < 256 from hy)).trans ((congrArg XG (idx2 (n0 := 4096) (n1 := 14336) j _)).trans (H.g _ _))
theorem chunk_u (b : Fin 56) (s : Fin 16) (j : Fin 4096) (y : Fin 512) (hy : 256 ≤ y.val) : chunk c XG XU b (ix3 (n0 := 16) (n1 := 4096) (n2 := 512) s j y) = U j ⟨256 * b.val + (y.val - 256), by omega⟩ := by
  unfold chunk
  exact (dif_neg (show ¬ ((ix3 (n0 := 16) (n1 := 4096) (n2 := 512) s j y) 2).val < 256 by show ¬ y.val < 256; omega)).trans
    ((congrArg XU (idx2 (n0 := 4096) (n1 := 14336) j _)).trans (H.u _ _))

omit H in
theorem wR0_apply (k : T1) (j : Fin 4096) (y : Fin 512) :
    wR0 c XG XU k (ix3 0 j y) = chunk c XG XU (Ring.bk 56 (2 * k.val)) (ix3 (n0 := 16) (n1 := 4096) (n2 := 512) (Ring.sl 16 (2 * k.val + 5)) j y) := by
  unfold wR0
  refine (readAt3 (m0 := 1) (m1 := 4096) (m2 := 512) ringM.view _ _ 0 0 (off67a k) _ 0 j y (Ring.sl 16 (2 * k.val + 5)).isLt (by simp) (by simp)).trans ?_
  show chunk c XG XU _ _ = _
  congr 1; funext d
  match d with
  | ⟨0, _⟩ => exact Fin.ext (Nat.add_zero _)
  | ⟨1, _⟩ => exact Fin.ext (Nat.zero_add _)
  | ⟨2, _⟩ => exact Fin.ext (Nat.zero_add _)
omit H in
theorem wR1_apply (k : T1) (j : Fin 4096) (y : Fin 512) :
    wR1 c XG XU k (ix3 0 j y) = chunk c XG XU (Ring.bk 56 (2 * k.val + 1)) (ix3 (n0 := 16) (n1 := 4096) (n2 := 512) (Ring.sl 16 (2 * k.val + 6)) j y) := by
  unfold wR1
  refine (readAt3 (m0 := 1) (m1 := 4096) (m2 := 512) ringM.view _ _ 0 0 (off67b k) _ 0 j y (Ring.sl 16 (2 * k.val + 6)).isLt (by simp) (by simp)).trans ?_
  show chunk c XG XU _ _ = _
  congr 1; funext d
  match d with
  | ⟨0, _⟩ => exact Fin.ext (Nat.add_zero _)
  | ⟨1, _⟩ => exact Fin.ext (Nat.zero_add _)
  | ⟨2, _⟩ => exact Fin.ext (Nat.zero_add _)

omit H in
theorem sR0_apply (M : Memref sig .tc .vmem S1x14336 .f32) (x : Buf (Elt Ideal) (M.view.loc (c : Thread nD τ))) (s : Fin 14336 → EReal)
    (h : ∀ k, M.view.read (Elt Ideal) x (ix2 0 k) = s k) (k : T1) (y : Fin 256) (hk : k.val < 28) : sR0 c M k x (ix2 0 y) = s ⟨512 * k.val + y.val, by omega⟩ := by
  unfold sR0
  refine (readAt2 (m0 := 1) (m1 := 256) M.view x _ _ (off68a k) _ 0 y (by simp) (by omega)).trans ?_
  rw [← h]; congr 1; exact congrArg (ix2 0) (Fin.ext (by dsimp only; omega))
omit H in
theorem sR1_apply (M : Memref sig .tc .vmem S1x14336 .f32) (x : Buf (Elt Ideal) (M.view.loc (c : Thread nD τ))) (s : Fin 14336 → EReal)
    (h : ∀ k, M.view.read (Elt Ideal) x (ix2 0 k) = s k) (k : T1) (y : Fin 256) (hk : k.val < 28) : sR1 c M k x (ix2 0 y) = s ⟨512 * k.val + 256 + y.val, by omega⟩ := by
  unfold sR1
  refine (readAt2 (m0 := 1) (m1 := 256) M.view x _ _ (off68b k) _ 0 y (by simp) (by omega)).trans ?_
  rw [← h]; congr 1; exact congrArg (ix2 0) (Fin.ext (by dsimp only; omega))

/-- The activations of a trip's first block, -/
theorem first_apply (k : T1) (hk : k.val < 28) (r : Fin 224) (y : Fin 256) :
    k0_pay5 (g0 c XG XU arg0 arg3 x0 x3 xr k) (u0 c XG XU arg0 x0 k) (su0 c arg5 x5 k) (aR c xr) (ix2 r y)
      = act X A G sg U su r ⟨512 * k.val + y.val, by omega⟩ := by
  unfold su0
  rw [pay5_apply _ _ A (aR_apply _ _ _ _ _ _ _ _ _ _ _ _ _ _ _ _ H)]
  unfold act scaled g0 u0
  rw [pay2_apply _ _ _ _ A (aR_apply _ _ _ _ _ _ _ _ _ _ _ _ _ _ _ _ H), pay3_apply, sR0_apply c arg3 x3 sg H.sg k y hk, sR0_apply c arg5 x5 su H.su k y hk]
  have hb : (Ring.bk 56 (2 * k.val)).val = 2 * k.val := Ring.bk_val (by omega)
  congr 3 <;> refine Finset.sum_congr rfl fun j _ => ?_
  · rw [xR_apply _ _ _ _ _ _ _ _ _ _ _ _ _ _ _ _ H, wR0_apply, chunk_g _ _ _ _ _ _ _ _ _ _ _ _ _ _ _ _ H _ _ _ _ (by simp)]
    congr 2; exact Fin.ext (by dsimp only; omega)
  · rw [xR_apply _ _ _ _ _ _ _ _ _ _ _ _ _ _ _ _ H, wR0_apply, chunk_u _ _ _ _ _ _ _ _ _ _ _ _ _ _ _ _ H _ _ _ _ (by simp)]
    congr 2; exact Fin.ext (by dsimp only; omega)
/-- and of its second. -/
theorem second_apply (k : T1) (hk : k.val < 28) (r : Fin 224) (y : Fin 256) :
    k0_pay61 (g1 c XG XU arg0 arg3 x0 x3 xr k) (u1 c XG XU arg0 arg5 x0 x5 xr k) k0_pay14 (ix2 r y)
      = act X A G sg U su r ⟨512 * k.val + 256 + y.val, by omega⟩ := by
  rw [pay61_apply]
  unfold act scaled g1 u1
  rw [pay12_apply _ _ _ _ A (aR_apply _ _ _ _ _ _ _ _ _ _ _ _ _ _ _ _ H), pay13_apply _ _ _ _ A (aR_apply _ _ _ _ _ _ _ _ _ _ _ _ _ _ _ _ H),
    sR1_apply c arg3 x3 sg H.sg k y hk, sR1_apply c arg5 x5 su H.su k y hk]
  have hb : (Ring.bk 56 (2 * k.val + 1)).val = 2 * k.val + 1 := Ring.bk_val (by omega)
  congr 3 <;> refine Finset.sum_congr rfl fun j _ => ?_
  · rw [xR_apply _ _ _ _ _ _ _ _ _ _ _ _ _ _ _ _ H, wR1_apply, chunk_g _ _ _ _ _ _ _ _ _ _ _ _ _ _ _ _ H _ _ _ _ (by simp)]
    congr 2; exact Fin.ext (by dsimp only; omega)
  · rw [xR_apply _ _ _ _ _ _ _ _ _ _ _ _ _ _ _ _ H, wR1_apply, chunk_u _ _ _ _ _ _ _ _ _ _ _ _ _ _ _ _ H _ _ _ _ (by simp)]
    congr 2; exact Fin.ext (by dsimp only; omega)

omit H in
/-- Past the store of another plane. -/
theorem skip_plane (f) (L : List (View.Piece (Elt Ideal) S112x224x128 .f32)) {off : Fin 3 → ℕ} (n : ℕ) (ho : off = ![n, 0, 0]) (inb) (w) (p : Fin 112) (r : Fin 224) (l : Fin 128)
    (hp : p.val ≠ n) :
    actM.view.read (Elt Ideal) (actM.view.writes (Elt Ideal) f (⟨Rect.unit (s := S112x224x128) off S1x224x128.size inb, w⟩ :: L)) (ix3 p r l)
      = actM.view.read (Elt Ideal) (actM.view.writes (Elt Ideal) f L) (ix3 p r l) :=
  View.read_writes_cons_unit_of_not_mem actM.view f inb w L (ix3 p r l) ho 0 (by show p.val < n ∨ n + 1 ≤ p.val; omega)
omit H in
/-- At the store of the plane. -/
theorem take_plane (f) (L : List (View.Piece (Elt Ideal) S112x224x128 .f32)) {off : Fin 3 → ℕ} (n : ℕ) (ho : off = ![n, 0, 0]) (inb) (w) (p : Fin 112) (r : Fin 224) (l : Fin 128)
    (hp : p.val = n) :
    actM.view.read (Elt Ideal) (actM.view.writes (Elt Ideal) f (⟨Rect.unit (s := S112x224x128) off S1x224x128.size inb, w⟩ :: L)) (ix3 p r l) = w (ix3 0 r l) :=
  View.read_writes_cons_unit_of_mem actM.view f inb w L (ix3 p r l) (ix3 0 r l) ho (fun a => by
    match a with
    | ⟨0, _⟩ => show p.val = n + 0; omega
    | ⟨1, _⟩ => show r.val = 0 + r.val; omega
    | ⟨2, _⟩ => show l.val = 0 + l.val; omega)

/-- The planes stored so far. -/
theorem actAcc_apply (xa) (n : ℕ) (hn : n ≤ 28) (p : Fin 112) (hp : p.val < 4 * n) (r : Fin 224) (l : Fin 128) :
    actM.view.read (Elt Ideal) (actAcc c XG XU arg0 arg3 arg5 x0 x3 x5 xr xa n) (ix3 p r l) = act X A G sg U su r ⟨128 * p.val + l.val, by omega⟩ := by
  induction n with
  | zero => omega
  | succ n ih =>
    have hk : n < k0_t1_loop.trips := by show n < 28; omega
    refine (congrArg (fun f => actM.view.read (Elt Ideal) f (ix3 p r l)) (actAcc_succ c XG XU arg0 arg3 arg5 x0 x3 x5 xr xa ⟨n, hk⟩)).trans ?_
    unfold actPieces
    dsimp only
    by_cases h3 : p.val = 2 * (2 * n + 1) + 1
    · rw [take_plane _ _ _ (off70b ⟨n, hk⟩) _ _ _ _ _ h3, pay65_apply, second_apply _ _ _ _ _ _ _ _ _ _ _ _ _ _ _ _ H _ (by dsimp only; omega)]
      congr 1; exact Fin.ext (by dsimp only; omega)
    rw [skip_plane _ _ _ (off70b ⟨n, hk⟩) _ _ _ _ _ h3]
    by_cases h2 : p.val = 2 * (2 * n + 1)
    · rw [take_plane _ _ _ (off69b ⟨n, hk⟩) _ _ _ _ _ h2, pay64_apply, second_apply _ _ _ _ _ _ _ _ _ _ _ _ _ _ _ _ H _ (by dsimp only; omega)]
      congr 1; exact Fin.ext (by dsimp only; omega)
    rw [skip_plane _ _ _ (off69b ⟨n, hk⟩) _ _ _ _ _ h2]
    by_cases h1 : p.val = 2 * (2 * n) + 1
    · rw [take_plane _ _ _ (off70a ⟨n, hk⟩) _ _ _ _ _ h1, pay9_apply, first_apply _ _ _ _ _ _ _ _ _ _ _ _ _ _ _ _ H _ (by dsimp only; omega)]
      congr 1; exact Fin.ext (by dsimp only; omega)
    rw [skip_plane _ _ _ (off70a ⟨n, hk⟩) _ _ _ _ _ h1]
    by_cases h0 : p.val = 2 * (2 * n)
    · rw [take_plane _ _ _ (off69a ⟨n, hk⟩) _ _ _ _ _ h0, pay8_apply, first_apply _ _ _ _ _ _ _ _ _ _ _ _ _ _ _ _ H _ (by dsimp only; omega)]
      congr 1; exact Fin.ext (by dsimp only; omega)
    rw [skip_plane _ _ _ (off69a ⟨n, hk⟩) _ _ _ _ _ h0]
    exact ih (by omega) (by omega)

/-- A plane of `act` after the loop, whatever `act` held before it. -/
theorem planeAt_apply (xa) (p : Fin 112) (r : Fin 224) (l : Fin 128) :
    planeAt c (actAcc c XG XU arg0 arg3 arg5 x0 x3 x5 xr xa 28) p (ix3 0 r l) = act X A G sg U su r ⟨128 * p.val + l.val, by omega⟩ := by
  unfold planeAt
  refine (readAt3 (m0 := 1) (m1 := 224) (m2 := 128) actM.view _ _ 0 0 rfl _ 0 r l (by simp) (by simp) (by simp)).trans ?_
  rw [← actAcc_apply _ _ _ _ _ _ _ _ _ _ _ _ _ _ _ _ H xa 28 le_rfl p (by omega) r l]
  congr 1; funext d
  match d with
  | ⟨0, _⟩ => exact Fin.ext (Nat.add_zero _)
  | ⟨1, _⟩ => exact Fin.ext (Nat.zero_add _)
  | ⟨2, _⟩ => exact Fin.ext (Nat.zero_add _)

/-- One trip's step of the running maximum. -/
theorem tmp_step (k : T1) (hk : k.val < 28) (xt) (r : Fin 224) (l : Fin 128) :
    tmpM.view.read (Elt Ideal) (tmpM.view.writes (Elt Ideal) xt (tmpPieces c XG XU arg0 arg3 arg5 x0 x3 x5 xr k xt)) (ix2 r l)
      = max (max (tmpM.view.read (Elt Ideal) xt (ix2 r l)) (max (mag (act X A G sg U su r ⟨512 * k.val + l.val, by omega⟩)) (mag (act X A G sg U su r ⟨512 * k.val + (128 + l.val), by omega⟩))))
        (max (mag (act X A G sg U su r ⟨512 * k.val + 256 + l.val, by omega⟩)) (mag (act X A G sg U su r ⟨512 * k.val + 256 + (128 + l.val), by omega⟩))) := by
  unfold tmpPieces
  rw [View.read_writes_full, pay66_apply]
  unfold tmp0
  rw [View.readCov_full, pay10_apply]
  simp only [first_apply _ _ _ _ _ _ _ _ _ _ _ _ _ _ _ _ H k hk, second_apply _ _ _ _ _ _ _ _ _ _ _ _ _ _ _ _ H k hk]
  unfold tR; rw [View.readAt_full]

/-- The running maximum is the least bound of what was stored so far and of what it began at. -/
theorem tmpAcc_le (xt) (n : ℕ) (hn : n ≤ 28) (r : Fin 224) (l : Fin 128) (z : EReal) :
    tmpM.view.read (Elt Ideal) (tmpAcc c XG XU arg0 arg3 arg5 x0 x3 x5 xr xt n) (ix2 r l) ≤ z
      ↔ tmpM.view.read (Elt Ideal) xt (ix2 r l) ≤ z ∧ ∀ p : Fin 112, p.val < 4 * n → mag (act X A G sg U su r ⟨128 * p.val + l.val, by omega⟩) ≤ z := by
  induction n with
  | zero => exact ⟨fun h => ⟨h, fun p hp => absurd hp (by omega)⟩, fun h => h.1⟩
  | succ n ih =>
    have hk : n < k0_t1_loop.trips := by show n < 28; omega
    rw [show tmpAcc c XG XU arg0 arg3 arg5 x0 x3 x5 xr xt (n + 1) = _ from tmpAcc_succ c XG XU arg0 arg3 arg5 x0 x3 x5 xr xt ⟨n, hk⟩,
      tmp_step _ _ _ _ _ _ _ _ _ _ _ _ _ _ _ _ H ⟨n, hk⟩ (by dsimp only; omega)]
    simp only [max_le_iff]
    rw [ih (by omega)]
    have key : ∀ {k : Fin 14336} {p : Fin 112}, k.val = 128 * p.val + l.val → mag (act X A G sg U su r k) ≤ z → mag (act X A G sg U su r ⟨128 * p.val + l.val, by omega⟩) ≤ z :=
      fun {k p} e h => by rwa [show (⟨128 * p.val + l.val, by omega⟩ : Fin 14336) = k from Fin.ext e.symm]
    have key' : ∀ (p : Fin 112) {k : Fin 14336}, k.val = 128 * p.val + l.val → mag (act X A G sg U su r ⟨128 * p.val + l.val, by omega⟩) ≤ z → mag (act X A G sg U su r k) ≤ z :=
      fun p k e h => by rwa [show k = ⟨128 * p.val + l.val, by omega⟩ from Fin.ext e]
    constructor
    · rintro ⟨⟨⟨h0, h⟩, ha, hb⟩, hc, hd⟩
      refine ⟨h0, fun p hp => ?_⟩
      by_cases q : p.val < 4 * n
      · exact h p q
      by_cases q0 : p.val = 4 * n
      · exact key (by dsimp only; omega) ha
      by_cases q1 : p.val = 4 * n + 1
      · exact key (by dsimp only; omega) hb
      by_cases q2 : p.val = 4 * n + 2
      · exact key (by dsimp only; omega) hc
      · exact key (by dsimp only; omega) hd
    · rintro ⟨h0, h⟩
      exact ⟨⟨⟨h0, fun p hp => h p (by omega)⟩, key' ⟨4 * n, by omega⟩ (by dsimp only; omega) (h _ (by dsimp only; omega)),
          key' ⟨4 * n + 1, by omega⟩ (by dsimp only; omega) (h _ (by dsimp only; omega))⟩,
        key' ⟨4 * n + 2, by omega⟩ (by dsimp only; omega) (h _ (by dsimp only; omega)), key' ⟨4 * n + 3, by omega⟩ (by dsimp only; omega) (h _ (by dsimp only; omega))⟩

/-- Over all lanes, a running maximum that began at zero ends at the row's largest magnitude. -/
theorem laneMax_eq (xt) (hxt : ∀ r l, tmpM.view.read (Elt Ideal) xt (ix2 r l) = 0) (r : Fin 224) :
    laneMax (tmpM.view.read (Elt Ideal) (tmpAcc c XG XU arg0 arg3 arg5 x0 x3 x5 xr xt 28)) r = rowMax (act X A G sg U su) r := by
  refine eq_of_forall_ge_iff fun z => ?_
  rw [rowMax_le]
  unfold laneMax
  rw [Finset.fold_max_le, neg_inf]
  simp only [bot_le, true_and, Finset.mem_univ, forall_const]
  simp only [tmpAcc_le _ _ _ _ _ _ _ _ _ _ _ _ _ _ _ _ H xt 28 le_rfl, hxt]
  constructor
  · intro h k
    have := (h ⟨k.val % 128, by omega⟩).2 ⟨k.val / 128, by omega⟩ (by dsimp only; omega)
    rwa [show (⟨128 * (k.val / 128) + k.val % 128, by omega⟩ : Fin 14336) = k from Fin.ext (by dsimp only; omega)] at this
  · exact fun h l => ⟨(mag_nonneg _).trans (h 0), fun p _ => h _⟩
end Loop

end Cert.Proof.KI

end
-- ==== Proof.KerOut.lean ====
/- What the kernel's body leaves in its two results: the codes of the activations, and the rows' scales. -/
module

public import proofs.«01_k».proof.Proof.KerLoop
public import proofs.«01_k».proof.Proof.Body

@[expose] public section

noncomputable section

namespace Cert.Proof.KI

open Cert.KernelIdeal Cert.KernelIdeal.Gen
open Idealize.ShloMosaic Idealize.ShloMosaic.TcCoe
open Cert.Proof.Spec

set_option maxRecDepth 16384

theorem pay58_apply (x : Vec Ideal S224x128 .f32) (r : Fin 224) (l : Fin 128) : k0_pay58 x (ix2 r l) = x (ix2 r l) := by
  pointwise [k0_pay58]
theorem pay60_apply (r : Fin 224) (l : Fin 128) : k0_pay60 (F := Ideal) k0_pay59 (ix2 r l) = 0 := by
  pointwise [k0_pay60, k0_pay59]

section Body
variable (c : Dev nD) (XG : Buf (Elt Ideal) (wgM.view.loc (c : Thread nD τ))) (XU : Buf (Elt Ideal) (wuM.view.loc (c : Thread nD τ)))
  (arg0 : Memref sig .tc .vmem S224x4096 .fp8e4m3) (arg1 : Memref sig .tc .vmem S224x128 .f32)
  (arg3 : Memref sig .tc .vmem S1x14336 .f32) (arg5 : Memref sig .tc .vmem S1x14336 .f32) (arg7 : Memref sig .tc .vmem S2x112 .f32)
  (x0 : Buf (Elt Ideal) (arg0.view.loc (c : Thread nD τ))) (x1 : Buf (Elt Ideal) (arg1.view.loc (c : Thread nD τ)))
  (x3 : Buf (Elt Ideal) (arg3.view.loc (c : Thread nD τ))) (x5 : Buf (Elt Ideal) (arg5.view.loc (c : Thread nD τ)))
  (X : Mat 224 4096) (A : Fin 224 → EReal) (G U : Mat 4096 14336) (sg su : Fin 14336 → EReal)

/-- What the body's operands hold. -/
structure Ins : Prop where
  x : ∀ r j, arg0.view.read (Elt Ideal) x0 (ix2 r j) = X r j
  a : ∀ r l, arg1.view.read (Elt Ideal) x1 (ix2 r l) = A r
  g : ∀ j k, XG (ix2 (n0 := 4096) (n1 := 14336) j k) = G j k
  u : ∀ j k, XU (ix2 (n0 := 4096) (n1 := 14336) j k) = U j k
  sg : ∀ k, arg3.view.read (Elt Ideal) x3 (ix2 0 k) = sg k
  su : ∀ k, arg5.view.read (Elt Ideal) x5 (ix2 0 k) = su k

variable (H : Ins c XG XU arg0 arg1 arg3 arg5 x0 x1 x3 x5 X A G U sg su)

include H

theorem reads : Reads c XG XU arg0 arg3 arg5 x0 x3 x5 (arep1 c arg1 x1) X A G U sg su where
  x := H.x
  a r l := by unfold arep1; rw [View.read_writes_full, pay58_apply, View.readAt_full]; exact H.a r l
  g := H.g
  u := H.u
  sg := H.sg
  su := H.su

omit H in
theorem tmp1_apply (r : Fin 224) (l : Fin 128) : tmpM.view.read (Elt Ideal) (tmp1 c) (ix2 r l) = 0 := by
  unfold tmp1; rw [View.read_writes_full, pay60_apply]

/-- The row maximum the quantiser starts from. -/
theorem maxV_apply (r : Fin 224) : laneMax (maxV c XG XU arg0 arg1 arg3 arg5 x0 x1 x3 x5) r = rowMax (act X A G sg U su) r := by
  unfold maxV; rw [View.readAt_full]
  exact laneMax_eq _ _ _ _ _ _ _ _ _ _ _ _ _ _ _ _ (reads _ _ _ _ _ _ _ _ _ _ _ _ _ _ _ _ _ H) (tmp1 c) (tmp1_apply c) r

/-- The inverse scales. -/
theorem invAt_apply (r : Fin 224) (l : Fin 128) : invAt c (tmp2 c XG XU arg0 arg1 arg3 arg5 x0 x1 x3 x5) (ix2 r l)
    = Ideal.exp2 (0 - expo (rowMax (act X A G sg U su) r)) := by
  unfold invAt tmp2
  rw [View.readAt_writes_full, pay69_apply, maxV_apply _ _ _ _ _ _ _ _ _ _ _ _ _ _ _ _ _ H]

/-- A chunk of the codes, whatever `act` first held. -/
theorem zBody_apply (xa) (j : Fin 28) (g : Fin 28) (s : Fin 8) (y : Fin 512) :
    zBody c XG XU arg0 arg1 arg3 arg5 x0 x1 x3 x5 xa j (ix3 g s y)
      = code (act X A G sg U su ⟨g.val * 8 + s.val, by omega⟩ ⟨512 * j.val + y.val, by omega⟩) (expo (rowMax (act X A G sg U su) ⟨g.val * 8 + s.val, by omega⟩)) := by
  unfold zBody zOf
  refine (z4_apply _ _ _ _ _ (fun r y => act X A G sg U su r ⟨512 * j.val + y.val, by omega⟩) ?_ ?_ ?_ ?_
    (fun r => Ideal.exp2 (0 - expo (rowMax (act X A G sg U su) r))) (invAt_apply _ _ _ _ _ _ _ _ _ _ _ _ _ _ _ _ _ H) g s y).trans rfl
  all_goals
    intro r l
    rw [planeAt_apply _ _ _ _ _ _ _ _ _ _ _ _ _ _ _ _ (reads _ _ _ _ _ _ _ _ _ _ _ _ _ _ _ _ _ H)]
    have := j.isLt
    have e0 := Ring.bk_val (NB := 112) (k := 4 * j.val + 0) (by omega)
    have e1 := Ring.bk_val (NB := 112) (k := 4 * j.val + 1) (by omega)
    have e2 := Ring.bk_val (NB := 112) (k := 4 * j.val + 2) (by omega)
    have e3 := Ring.bk_val (NB := 112) (k := 4 * j.val + 3) (by omega)
    congr 1; exact Fin.ext (by dsimp only; omega)

/-- The first result. -/
theorem c4_apply (xa) (g : Fin 28) (s : Fin 8) (k : Fin 14336) :
    c4full c (zBody c XG XU arg0 arg1 arg3 arg5 x0 x1 x3 x5 xa) (ix3 (n0 := 28) (n1 := 8) (n2 := 14336) g s k)
      = code (act X A G sg U su ⟨g.val * 8 + s.val, by omega⟩ k) (expo (rowMax (act X A G sg U su) ⟨g.val * 8 + s.val, by omega⟩)) := by
  unfold c4full
  have e : ValueIdx.ix3 g s (⟨k.val % 512, by omega⟩ : Fin 512) = ix3 g s ⟨k.val % 512, by omega⟩ := by
    funext d; match d with | ⟨0, _⟩ => rfl | ⟨1, _⟩ => rfl | ⟨2, _⟩ => rfl
  refine (congrArg (zBody c XG XU arg0 arg1 arg3 arg5 x0 x1 x3 x5 xa ⟨k.val / 512, by omega⟩) e).trans ?_
  rw [zBody_apply _ _ _ _ _ _ _ _ _ _ _ _ _ _ _ _ _ H,
    show (⟨512 * (k.val / 512) + k.val % 512, by omega⟩ : Fin 14336) = k from Fin.ext (by dsimp only; omega)]

/-- A row of the scales as the second result's stores load it. -/
theorem scale_apply {m0 : ℕ} {off : Fin 2 → ℕ} (p : ℕ) (ho : off = ![p, 0]) (inb) (y : Fin m0) (l : Fin 128) (hp : p + y.val < 224) :
    arepM.view.readCov [pieceA c XG XU arg0 arg1 arg3 arg5 x0 x1 x3 x5] (Rect.unit (s := S224x128) off ![m0, 128] inb).toLoadRect (ix2 y l)
      = Ideal.exp2 (expo (rowMax (act X A G sg U su) ⟨p + y.val, hp⟩)) := by
  unfold View.readCov
  refine (readAt2 arepM.view _ p 0 ho inb y l hp (by omega)).trans ?_
  unfold pieceA
  rw [View.read_writes_full, pay68_apply, maxV_apply _ _ _ _ _ _ _ _ _ _ _ _ _ _ _ _ _ H]

/-- The second result. -/
theorem a4_apply (b : Fin 2) (y : Fin 112) :
    arg7.view.read (Elt Ideal) (a4out c XG XU arg0 arg1 arg3 arg5 arg7 x0 x1 x3 x5) (ix2 b y)
      = Ideal.exp2 (expo (rowMax (act X A G sg U su) ⟨b.val * 112 + y.val, by omega⟩)) := by
  unfold a4out
  rcases (show b = 0 ∨ b = 1 by omega) with rfl | rfl
  · refine (View.read_writes_cons_unit_of_not_mem (off' := ![1, 0]) arg7.view _ _ _ _ (ix2 0 y) rfl 0 (Or.inl (by show 0 < 1; exact Nat.one_pos))).trans ?_
    refine (View.read_writes_cons_unit_of_mem (off' := ![0, 0]) arg7.view _ _ _ _ (ix2 0 y) (ix2 0 y) rfl (fun a => by
        match a with
        | ⟨0, _⟩ => rfl
        | ⟨1, _⟩ => show y.val = 0 + y.val; omega)).trans ?_
    refine (pay71_apply _ y).trans ((scale_apply _ _ _ _ _ _ _ _ _ _ _ _ _ _ _ _ _ H 0 rfl _ y _ (by omega)).trans ?_)
    congr 3
  · refine (View.read_writes_cons_unit_of_mem (off' := ![1, 0]) arg7.view _ _ _ _ (ix2 1 y) (ix2 0 y) rfl (fun a => by
        match a with
        | ⟨0, _⟩ => rfl
        | ⟨1, _⟩ => show y.val = 0 + y.val; omega)).trans ?_
    refine (pay72_apply _ y).trans ((scale_apply _ _ _ _ _ _ _ _ _ _ _ _ _ _ _ _ _ H 112 rfl _ y _ (by omega)).trans ?_)
    congr 3
end Body

end Cert.Proof.KI

end
-- ==== Proof.HostKer.lean ====
/- What the kernel's region is handed and what its two results end at, as functions of the arguments. -/
module

public import proofs.«01_k».proof.Proof.KerOut
public import proofs.«01_k».proof.Proof.Launch
public import Idealize.ShloMosaic.Lib.Pipeline.ValueKit
public import Idealize.ShloMosaic.Lib.Claim

@[expose] public section

noncomputable section

namespace Cert.Proof.KI

open Cert.KernelIdeal Cert.KernelIdeal.Gen
open Idealize.ShloMosaic Idealize.ShloMosaic.TcCoe
open Cert.Proof.Spec

set_option maxRecDepth 16384

section Host
variable (m : (ℓ : Loc nD τ sig) → Buf (Elt Ideal) ℓ) (c : Dev nD)

/-- The row scales, spread over the lanes; -/
theorem V_v2_apply (r : Fin 224) (l : Fin 128) :
    V m c main_v2 (ix2 (n0 := 224) (n1 := 128) r l) = m ((c.tc : Thread nD τ).loc main_arg1) (ix2 (n0 := 2) (n1 := 112) ⟨r.val / 112, by omega⟩ ⟨r.val % 112, by omega⟩) := by
  have e : V m c main_v2 = broadcastInDim S224x128 ![0, 1] bcast_S224x1_S224x128_0_1 (broadcastInDim S224x1 ![0] bcast_S224_S224x1_0
      (shapeCast S224 (show FVec Ideal S2x112 .f32 from m ((c.tc : Thread nD τ).loc main_arg1)) shapeCasts_S2x112_S224)) := by
    unfold_abbrev_sides
    after_results
    rfl
  rw [e]
  generalize m ((c.tc : Thread nD τ).loc main_arg1) = v
  pointwise
/-- the gate's column scales as a row, -/
theorem V_v3_apply (k : Fin 14336) :
    V m c main_v3 (ix2 (n0 := 1) (n1 := 14336) 0 k) = m ((c.tc : Thread nD τ).loc main_arg3) (ix1 (n0 := 14336) k) := by
  have e : V m c main_v3 = broadcastInDim S1x14336 ![1] bcast_S14336_S1x14336_1 (show FVec Ideal S14336 .f32 from m ((c.tc : Thread nD τ).loc main_arg3)) := by
    unfold_abbrev_sides
    after_results
  rw [e]
  generalize m ((c.tc : Thread nD τ).loc main_arg3) = v
  pointwise
/-- and the up product's. -/
theorem V_v4_apply (k : Fin 14336) :
    V m c main_v4 (ix2 (n0 := 1) (n1 := 14336) 0 k) = m ((c.tc : Thread nD τ).loc main_arg5) (ix1 (n0 := 14336) k) := by
  have e : V m c main_v4 = broadcastInDim S1x14336 ![1] bcast_S14336_S1x14336_1 (show FVec Ideal S14336 .f32 from m ((c.tc : Thread nD τ).loc main_arg5)) := by
    unfold_abbrev_sides
    after_results
  rw [e]
  generalize m ((c.tc : Thread nD τ).loc main_arg5) = v
  pointwise

/-! ### Every window stages its whole array -/

theorem emb0 (x : S224x4096.Idx) : ((cfg0.win 0).blk t0_0).view.emb x = x := funext fun a => Fin.ext (Pipeline.Window.rect_emb_val_of_index_zero win0_0 t0_0 a (by revert a; decide +kernel) x)
theorem emb1 (x : S224x128.Idx) : ((cfg0.win 1).blk t0_0).view.emb x = x := funext fun a => Fin.ext (Pipeline.Window.rect_emb_val_of_index_zero win0_1 t0_0 a (by revert a; decide +kernel) x)
theorem emb2 (x : S1x14336.Idx) : ((cfg0.win 2).blk t0_0).view.emb x = x := funext fun a => Fin.ext (Pipeline.Window.rect_emb_val_of_index_zero win0_2 t0_0 a (by revert a; decide +kernel) x)
theorem emb3 (x : S1x14336.Idx) : ((cfg0.win 3).blk t0_0).view.emb x = x := funext fun a => Fin.ext (Pipeline.Window.rect_emb_val_of_index_zero win0_3 t0_0 a (by revert a; decide +kernel) x)
theorem emb4 (x : S2x112.Idx) : ((cfg0.win 4).blk t0_0).view.emb x = x := funext fun a => Fin.ext (Pipeline.Window.rect_emb_val_of_index_zero win0_4 t0_0 a (by revert a; decide +kernel) x)

theorem iblk0_apply (x : S224x4096.Idx) : iblk m c 0 t0_0 x = V m c main_arg0 x := congrArg (V m c main_arg0) (emb0 x)
theorem iblk1_apply (x : S224x128.Idx) : iblk m c 1 t0_0 x = V m c main_v2 x := congrArg (V m c main_v2) (emb1 x)
theorem iblk2_apply (x : S1x14336.Idx) : iblk m c 2 t0_0 x = V m c main_v3 x := congrArg (V m c main_v3) (emb2 x)
theorem iblk3_apply (x : S1x14336.Idx) : iblk m c 3 t0_0 x = V m c main_v4 x := congrArg (V m c main_v4) (emb3 x)

/-! ### The arguments as matrices -/

def mX : Mat 224 4096 := fun r j => m ((c.tc : Thread nD τ).loc main_arg0) (ix2 (n0 := 224) (n1 := 4096) r j)
def mA : Fin 224 → EReal := fun r => m ((c.tc : Thread nD τ).loc main_arg1) (ix2 (n0 := 2) (n1 := 112) ⟨r.val / 112, by omega⟩ ⟨r.val % 112, by omega⟩)
def mG : Mat 4096 14336 := fun j k => m ((c.tc : Thread nD τ).loc main_arg2) (ix2 (n0 := 4096) (n1 := 14336) j k)
def mSg : Fin 14336 → EReal := fun k => m ((c.tc : Thread nD τ).loc main_arg3) (ix1 (n0 := 14336) k)
def mU : Mat 4096 14336 := fun j k => m ((c.tc : Thread nD τ).loc main_arg4) (ix2 (n0 := 4096) (n1 := 14336) j k)
def mSu : Fin 14336 → EReal := fun k => m ((c.tc : Thread nD τ).loc main_arg5) (ix1 (n0 := 14336) k)

/-- What the body is handed. -/
theorem ins : Ins c (V m c main_arg2) (V m c main_arg4) (st0_0 t0_0) (st0_1 t0_0) (st0_2 t0_0) (st0_3 t0_0) (in0 m c t0_0) (in1 m c t0_0) (in2 m c t0_0) (in3 m c t0_0)
    (mX m c) (mA m c) (mG m c) (mU m c) (mSg m c) (mSu m c) where
  x r j := (congrFun (View.read_rep _ _) _).trans ((iblk0_apply m c _).trans (congrFun (V_main_arg0 m c) _))
  a r l := (congrFun (View.read_rep _ _) _).trans ((iblk1_apply m c _).trans (V_v2_apply m c r l))
  g j k := congrFun (V_main_arg2 m c) _
  u j k := congrFun (V_main_arg4 m c) _
  sg k := (congrFun (View.read_rep _ _) _).trans ((iblk2_apply m c _).trans (V_v3_apply m c k))
  su k := (congrFun (View.read_rep _ _) _).trans ((iblk3_apply m c _).trans (V_v4_apply m c k))

/-- The activations of the arguments. -/
def mAct : Mat 224 14336 := act (mX m c) (mA m c) (mG m c) (mSg m c) (mU m c) (mSu m c)

/-- The codes. -/
def codes : Buf (Elt Ideal) ((c.tc : Thread nD τ).loc main_v5_0) := fun i : S28x8x14336.Idx =>
  code (mAct m c ⟨(i 0).val * 8 + (i 1).val, by have : (i 0).val < 28 := (i 0).isLt; have : (i 1).val < 8 := (i 1).isLt; omega⟩ (i 2))
    (expo (rowMax (mAct m c) ⟨(i 0).val * 8 + (i 1).val, by have : (i 0).val < 28 := (i 0).isLt; have : (i 1).val < 8 := (i 1).isLt; omega⟩))
/-- The scales. -/
def scales : Buf (Elt Ideal) ((c.tc : Thread nD τ).loc main_v5_1) := fun i : S2x112.Idx =>
  Ideal.exp2 (expo (rowMax (mAct m c) ⟨(i 0).val * 112 + (i 1).val, by have : (i 0).val < 2 := (i 0).isLt; have : (i 1).val < 112 := (i 1).isLt; omega⟩))

theorem c4_final (xa) : c4full c (zAt m c t0_0 xa) = codes m c := by
  funext i
  obtain ⟨g, s, k, rfl⟩ : ∃ (g : Fin 28) (s : Fin 8) (k : Fin 14336), i = ix3 g s k := ⟨i 0, i 1, i 2, by funext a; match a with | ⟨0, _⟩ => rfl | ⟨1, _⟩ => rfl | ⟨2, _⟩ => rfl⟩
  exact c4_apply _ _ _ _ _ _ _ _ _ _ _ _ _ _ _ _ _ (ins m c) xa g s k

theorem a4_final : finalA m c 4 = scales m c := by
  unfold finalA
  refine (dats m 0 c).arrAt_eq_of_cover 4 (scales m c) (fun t _ => ?_) fun i => ⟨t0_0, flush0_4 _, ?_⟩
  · obtain rfl : t = t0_0 := fin_N0 t
    funext x
    obtain ⟨b, y, rfl⟩ : ∃ (b : Fin 2) (y : Fin 112), x = ix2 b y := ⟨x 0, x 1, by funext a; match a with | ⟨0, _⟩ => rfl | ⟨1, _⟩ => rfl⟩
    refine Eq.trans ?_ (congrArg (scales m c) (emb4 (ix2 b y))).symm
    refine Eq.trans (?_ : _ = (st0_4 t0_0).view.read (Elt Ideal) (a4At m c t0_0) (ix2 b y)) ?_
    · show (dats m 0 c).after 4 t0_0 (ix2 b y) = _
      rw [after_w4]
    · exact a4_apply _ _ _ _ _ _ _ _ _ _ _ _ _ _ _ _ _ _ (ins m c) b y
  · have := View.emb_mem_set ((cfg0.win 4).blk t0_0).view i
    rwa [emb4] at this
end Host

/-- The kernel's run: both results, and the arguments unchanged. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5_0) = codes m c
      ∧ r.2.mem ((c.tc : Thread nD τ).loc main_v5_1) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨hw, -, -, -, -, -, xa, hc⟩ := h.1 c
    exact ⟨hc.trans (c4_final m c xa), (hw 4).trans (a4_final m c), args_of m r h.1 c⟩) (run_main m ρ)

end Cert.Proof.KI

end
-- ==== Proof.RefValue.lean ====
/- The reference's two results, entry by entry. -/
module

public import proofs.«01_k».proof.Proof.Spec
public import proofs.«01_k».proof.Proof.Gen.ReferenceIdeal.Frame
public import Idealize.ShloMosaic.Lib.Pipeline.ValueKit.Basic

@[expose] public section

noncomputable section

namespace Cert.Proof.RI

open Cert.ReferenceIdeal Cert.ReferenceIdeal.Gen
open Idealize.ShloMosaic Idealize.ShloMosaic.TcCoe
open Cert.Proof.Spec
open Idealize.ShloMosaic.View

set_option maxRecDepth 16384

variable (x0 : Vec Ideal S224x4096 .fp8e4m3) (x1 : Vec Ideal S2x112 .f32) (x2 : Vec Ideal S4096x14336 .fp8e4m3) (x3 : Vec Ideal S1x14336 .f32)
  (x4 : Vec Ideal S4096x14336 .fp8e4m3) (x5 : Vec Ideal S1x14336 .f32)

/-- The activations of the blocks that the body reads. -/
abbrev actOf : Mat 224 14336 :=
  act (fun r j => x0 (ix2 r j)) (fun r => x1 (ix2 ⟨r.val / 112, by omega⟩ ⟨r.val % 112, by omega⟩)) (fun j k => x2 (ix2 j k)) (fun k => x3 (ix2 0 k))
    (fun j k => x4 (ix2 j k)) (fun k => x5 (ix2 0 k))

theorem pay3_apply (r : Fin 224) (k : Fin 14336) : k0_pay3 x1 x0 x2 x3 x0 x4 x5 (ix2 r k) = actOf x0 x1 x2 x3 x4 x5 r k := by
  pointwise [k0_pay3]
  rfl

/-- The exponents from the rows' maxima, -/
def expoV (m : FVec Ideal S224 .f32) : FVec Ideal S224 .f32 :=
  select (cmpf .oeq m (broadcast S224 (Scalar.ofBits .f32 0x00000000#32))) (broadcast S224 (Scalar.ofBits .f32 0x00000000#32))
    (addf (floor (divf (log (mulf m (broadcast S224 (Scalar.ofBits .f32 0x3B124925#32)))) (log (broadcast S224 (Scalar.ofBits .f32 0x40000000#32)))))
      (broadcast S224 (Scalar.ofBits .f32 0x3F800000#32)))
/-- and the maxima. -/
def maxRow (v : FVec Ideal S224x14336 .f32) : FVec Ideal S224 .f32 := multiReduction .maximumf [1] S224 v 0xFF800000#32 Gen.reduces_S224x14336_S224 (.inl rfl) rfl

theorem expoV_apply (m : FVec Ideal S224 .f32) (r : Fin 224) : expoV m (ix1 r) = expo (m (ix1 r)) := by
  pointwise [expoV]
  rfl
theorem maxRow_apply (v : FVec Ideal S224x14336 .f32) (r : Fin 224) :
    maxRow v (ix1 r) = Finset.univ.fold max (Ideal.ofBits .f32 0xFF800000#32) fun k : Fin 14336 => v (ix2 r k) :=
  rowMax_apply (R := 224) (N := 14336) v _ _ _ r

theorem pay4_eq : k0_pay4 x1 x0 x2 x3 x0 x4 x5 = expoV (maxRow (absf (k0_pay3 x1 x0 x2 x3 x0 x4 x5))) := rfl

theorem pay4_apply (r : Fin 224) : k0_pay4 x1 x0 x2 x3 x0 x4 x5 (ix1 r) = expo (rowMax (actOf x0 x1 x2 x3 x4 x5) r) := by
  rw [pay4_eq, expoV_apply, maxRow_apply]
  unfold rowMax
  congr 2
  funext k
  show mag (k0_pay3 x1 x0 x2 x3 x0 x4 x5 (ix2 r k)) = _
  rw [pay3_apply]

theorem codes_apply (v : FVec Ideal S224x14336 .f32) (e : FVec Ideal S224 .f32) (g : Fin 28) (s : Fin 8) (k : Fin 14336) :
    k0_pay1 v e (ix3 g s k) = code (v (ix2 ⟨g.val * 8 + s.val, by omega⟩ k)) (e (ix1 ⟨g.val * 8 + s.val, by omega⟩)) := by
  pointwise [k0_pay1]
  rfl
theorem scales_apply (e : FVec Ideal S224 .f32) (b : Fin 2) (y : Fin 112) :
    k0_pay2 e (ix2 b y) = Ideal.exp2 (e (ix1 ⟨b.val * 112 + y.val, by omega⟩)) := by
  pointwise [k0_pay2]
  rfl

theorem zero2 : ∀ a, (![0, 0] : Fin 2 → ℕ) a = 0 := by decide
theorem zero3 : ∀ a, (![0, 0, 0] : Fin 3 → ℕ) a = 0 := by decide
theorem ld0 : View.ld x0 r0_1 = x0 := ld_unit_lit _ _ zero2
theorem ld1 : View.ld x1 r0_0 = x1 := ld_unit_lit _ _ zero2
theorem ld2 : View.ld x2 r0_2 = x2 := ld_unit_lit _ _ zero2
theorem ld3 : View.ld x3 r0_3 = x3 := ld_unit_lit _ _ zero2
theorem canon6 (w : Vec Ideal S28x8x14336 .fp8e4m3) : View.canon (Val := Elt Ideal) [⟨r0_4, w⟩] = w := canon_cons_unit_lit _ _ _ zero3
theorem canon7 (w : Vec Ideal S2x112 .f32) : View.canon (Val := Elt Ideal) [⟨r0_0, w⟩] = w := canon_cons_unit_lit _ _ _ zero2

/-- The codes that the reference's body leaves. -/
theorem out6_apply (g : Fin 28) (s : Fin 8) (k : Fin 14336) : out0_6 x0 x1 x2 x3 x4 x5 (ix3 g s k)
    = code (actOf x0 x1 x2 x3 x4 x5 ⟨g.val * 8 + s.val, by omega⟩ k) (expo (rowMax (actOf x0 x1 x2 x3 x4 x5) ⟨g.val * 8 + s.val, by omega⟩)) := by
  have h : out0_6 x0 x1 x2 x3 x4 x5 = k0_pay1 (k0_pay3 x1 x0 x2 x3 x0 x4 x5) (k0_pay4 x1 x0 x2 x3 x0 x4 x5) := by
    unfold out0_6 k0_pay5
    rw [ld0, ld1, ld2, ld3, ld2, ld3]
    exact canon6 _
  rw [h, codes_apply, pay3_apply, pay4_apply]
/-- The scales that it leaves. -/
theorem out7_apply (b : Fin 2) (y : Fin 112) : out0_7 x0 x1 x2 x3 x4 x5 (ix2 b y)
    = Ideal.exp2 (expo (rowMax (actOf x0 x1 x2 x3 x4 x5) ⟨b.val * 112 + y.val, by omega⟩)) := by
  have h : out0_7 x0 x1 x2 x3 x4 x5 = k0_pay2 (k0_pay4 x1 x0 x2 x3 x0 x4 x5) := by
    unfold out0_7 k0_pay5
    rw [ld0, ld1, ld2, ld3, ld2, ld3]
    exact canon7 _
  rw [h, scales_apply, pay4_apply]

end Cert.Proof.RI

end
-- ==== Proof.HostRef.lean ====
/- What the reference's region is handed and what its two results end at, as functions of the arguments. -/
module

public import proofs.«01_k».proof.Proof.RefValue
public import Idealize.ShloMosaic.Lib.Pipeline.ValueKit
public import Idealize.ShloMosaic.Lib.Claim

@[expose] public section

noncomputable section

namespace Cert.Proof.RI

open Cert.ReferenceIdeal Cert.ReferenceIdeal.Gen
open Idealize.ShloMosaic Idealize.ShloMosaic.TcCoe
open Cert.Proof.Spec

set_option maxRecDepth 16384

section Host
variable (m : (ℓ : Loc nD τ sig) → Buf (Elt Ideal) ℓ) (c : Dev nD)

/-- The gate's column scales as a row, -/
theorem V_v0_apply (k : Fin 14336) :
    V m c main_v0 (ix2 (n0 := 1) (n1 := 14336) 0 k) = m ((c.tc : Thread nD τ).loc main_arg3) (ix1 (n0 := 14336) k) := by
  have e : V m c main_v0 = broadcastInDim S1x14336 ![1] bcast_S14336_S1x14336_1 (show FVec Ideal S14336 .f32 from m ((c.tc : Thread nD τ).loc main_arg3)) := by
    unfold_abbrev_sides
    after_results
  rw [e]
  generalize m ((c.tc : Thread nD τ).loc main_arg3) = v
  pointwise
/-- and the up product's. -/
theorem V_v1_apply (k : Fin 14336) :
    V m c main_v1 (ix2 (n0 := 1) (n1 := 14336) 0 k) = m ((c.tc : Thread nD τ).loc main_arg5) (ix1 (n0 := 14336) k) := by
  have e : V m c main_v1 = broadcastInDim S1x14336 ![1] bcast_S14336_S1x14336_1 (show FVec Ideal S14336 .f32 from m ((c.tc : Thread nD τ).loc main_arg5)) := by
    unfold_abbrev_sides
    after_results
  rw [e]
  generalize m ((c.tc : Thread nD τ).loc main_arg5) = v
  pointwise

/-! ### Every window stages its whole array -/

theorem emb0 (x : S224x4096.Idx) : ((cfg0.win 0).blk t0_0).view.emb x = x := funext fun a => Fin.ext (Pipeline.Window.rect_emb_val_of_index_zero win0_0 t0_0 a (by revert a; decide +kernel) x)
theorem emb1 (x : S2x112.Idx) : ((cfg0.win 1).blk t0_0).view.emb x = x := funext fun a => Fin.ext (Pipeline.Window.rect_emb_val_of_index_zero win0_1 t0_0 a (by revert a; decide +kernel) x)
theorem emb2 (x : S4096x14336.Idx) : ((cfg0.win 2).blk t0_0).view.emb x = x := funext fun a => Fin.ext (Pipeline.Window.rect_emb_val_of_index_zero win0_2 t0_0 a (by revert a; decide +kernel) x)
theorem emb3 (x : S1x14336.Idx) : ((cfg0.win 3).blk t0_0).view.emb x = x := funext fun a => Fin.ext (Pipeline.Window.rect_emb_val_of_index_zero win0_3 t0_0 a (by revert a; decide +kernel) x)
theorem emb4 (x : S4096x14336.Idx) : ((cfg0.win 4).blk t0_0).view.emb x = x := funext fun a => Fin.ext (Pipeline.Window.rect_emb_val_of_index_zero win0_4 t0_0 a (by revert a; decide +kernel) x)
theorem emb5 (x : S1x14336.Idx) : ((cfg0.win 5).blk t0_0).view.emb x = x := funext fun a => Fin.ext (Pipeline.Window.rect_emb_val_of_index_zero win0_5 t0_0 a (by revert a; decide +kernel) x)
theorem emb6 (x : S28x8x14336.Idx) : ((cfg0.win 6).blk t0_0).view.emb x = x := funext fun a => Fin.ext (Pipeline.Window.rect_emb_val_of_index_zero win0_6 t0_0 a (by revert a; decide +kernel) x)
theorem emb7 (x : S2x112.Idx) : ((cfg0.win 7).blk t0_0).view.emb x = x := funext fun a => Fin.ext (Pipeline.Window.rect_emb_val_of_index_zero win0_7 t0_0 a (by revert a; decide +kernel) x)

theorem iblk0_apply (x : S224x4096.Idx) : iblk m c 0 t0_0 x = V m c main_arg0 x := congrArg (V m c main_arg0) (emb0 x)
theorem iblk1_apply (x : S2x112.Idx) : iblk m c 1 t0_0 x = V m c main_arg1 x := congrArg (V m c main_arg1) (emb1 x)
theorem iblk2_apply (x : S4096x14336.Idx) : iblk m c 2 t0_0 x = V m c main_arg2 x := congrArg (V m c main_arg2) (emb2 x)
theorem iblk3_apply (x : S1x14336.Idx) : iblk m c 3 t0_0 x = V m c main_v0 x := congrArg (V m c main_v0) (emb3 x)
theorem iblk4_apply (x : S4096x14336.Idx) : iblk m c 4 t0_0 x = V m c main_arg4 x := congrArg (V m c main_arg4) (emb4 x)
theorem iblk5_apply (x : S1x14336.Idx) : iblk m c 5 t0_0 x = V m c main_v1 x := congrArg (V m c main_v1) (emb5 x)

/-! ### The arguments as matrices -/

def mX : Mat 224 4096 := fun r j => m ((c.tc : Thread nD τ).loc main_arg0) (ix2 (n0 := 224) (n1 := 4096) r j)
def mA : Fin 224 → EReal := fun r => m ((c.tc : Thread nD τ).loc main_arg1) (ix2 (n0 := 2) (n1 := 112) ⟨r.val / 112, by omega⟩ ⟨r.val % 112, by omega⟩)
def mG : Mat 4096 14336 := fun j k => m ((c.tc : Thread nD τ).loc main_arg2) (ix2 (n0 := 4096) (n1 := 14336) j k)
def mSg : Fin 14336 → EReal := fun k => m ((c.tc : Thread nD τ).loc main_arg3) (ix1 (n0 := 14336) k)
def mU : Mat 4096 14336 := fun j k => m ((c.tc : Thread nD τ).loc main_arg4) (ix2 (n0 := 4096) (n1 := 14336) j k)
def mSu : Fin 14336 → EReal := fun k => m ((c.tc : Thread nD τ).loc main_arg5) (ix1 (n0 := 14336) k)

/-- The activations of the arguments, -/
def mAct : Mat 224 14336 := act (mX m c) (mA m c) (mG m c) (mSg m c) (mU m c) (mSu m c)
/-- which are those of the staged blocks. -/
theorem actOf_eq : actOf (iblk m c 0 t0_0) (iblk m c 1 t0_0) (iblk m c 2 t0_0) (iblk m c 3 t0_0) (iblk m c 4 t0_0) (iblk m c 5 t0_0) = mAct m c := by
  have e0 : iblk m c 0 t0_0 = m ((c.tc : Thread nD τ).loc main_arg0) := (funext (iblk0_apply m c)).trans (V_main_arg0 m c)
  have e1 : iblk m c 1 t0_0 = m ((c.tc : Thread nD τ).loc main_arg1) := (funext (iblk1_apply m c)).trans (V_main_arg1 m c)
  have e2 : iblk m c 2 t0_0 = m ((c.tc : Thread nD τ).loc main_arg2) := (funext (iblk2_apply m c)).trans (V_main_arg2 m c)
  have e4 : iblk m c 4 t0_0 = m ((c.tc : Thread nD τ).loc main_arg4) := (funext (iblk4_apply m c)).trans (V_main_arg4 m c)
  have e3 : (fun k => iblk m c 3 t0_0 (ix2 (n0 := 1) (n1 := 14336) 0 k)) = mSg m c := funext fun k => (iblk3_apply m c _).trans (V_v0_apply m c k)
  have e5 : (fun k => iblk m c 5 t0_0 (ix2 (n0 := 1) (n1 := 14336) 0 k)) = mSu m c := funext fun k => (iblk5_apply m c _).trans (V_v1_apply m c k)
  unfold actOf mAct
  rw [e0, e1, e2, e4]
  exact congrArg₂ (fun p q => act (mX m c) (mA m c) (mG m c) p (mU m c) q) e3 e5

/-- The codes. -/
def codes : Buf (Elt Ideal) ((c.tc : Thread nD τ).loc main_v2_0) := fun i : S28x8x14336.Idx =>
  code (mAct m c ⟨(i 0).val * 8 + (i 1).val, by have : (i 0).val < 28 := (i 0).isLt; have : (i 1).val < 8 := (i 1).isLt; omega⟩ (i 2))
    (expo (rowMax (mAct m c) ⟨(i 0).val * 8 + (i 1).val, by have : (i 0).val < 28 := (i 0).isLt; have : (i 1).val < 8 := (i 1).isLt; omega⟩))
/-- The scales. -/
def scales : Buf (Elt Ideal) ((c.tc : Thread nD τ).loc main_v2_1) := fun i : S2x112.Idx =>
  Ideal.exp2 (expo (rowMax (mAct m c) ⟨(i 0).val * 112 + (i 1).val, by have : (i 0).val < 2 := (i 0).isLt; have : (i 1).val < 112 := (i 1).isLt; omega⟩))

theorem c4_final : (dats m 0 c).arrAt 6 cfg0.N = codes m c := by
  refine (dats m 0 c).arrAt_eq_of_cover 6 (codes m c) (fun t _ => ?_) fun i => ⟨t0_0, flush0_6 _, ?_⟩
  · obtain rfl : t = t0_0 := fin_N0 t
    funext x
    obtain ⟨g, s, k, rfl⟩ : ∃ (g : Fin 28) (s : Fin 8) (k : Fin 14336), x = ix3 g s k := ⟨x 0, x 1, x 2, by funext a; match a with | ⟨0, _⟩ => rfl | ⟨1, _⟩ => rfl | ⟨2, _⟩ => rfl⟩
    refine Eq.trans ?_ (congrArg (codes m c) (emb6 (ix3 g s k))).symm
    show (dats m 0 c).after 6 t0_0 (ix3 g s k) = _
    rw [after0_6]
    refine (out6_apply _ _ _ _ _ _ g s k).trans ?_
    rw [actOf_eq]
    rfl
  · have := View.emb_mem_set ((cfg0.win 6).blk t0_0).view i
    rwa [emb6] at this

theorem a4_final : (dats m 0 c).arrAt 7 cfg0.N = scales m c := by
  refine (dats m 0 c).arrAt_eq_of_cover 7 (scales m c) (fun t _ => ?_) fun i => ⟨t0_0, flush0_7 _, ?_⟩
  · obtain rfl : t = t0_0 := fin_N0 t
    funext x
    obtain ⟨b, y, rfl⟩ : ∃ (b : Fin 2) (y : Fin 112), x = ix2 b y := ⟨x 0, x 1, by funext a; match a with | ⟨0, _⟩ => rfl | ⟨1, _⟩ => rfl⟩
    refine Eq.trans ?_ (congrArg (scales m c) (emb7 (ix2 b y))).symm
    show (dats m 0 c).after 7 t0_0 (ix2 b y) = _
    rw [after0_7]
    refine (out7_apply _ _ _ _ _ _ b y).trans ?_
    rw [actOf_eq]
    rfl
  · have := View.emb_mem_set ((cfg0.win 7).blk t0_0).view i
    rwa [emb7] at this
end Host

/-- The reference's run: both results, and the arguments unchanged. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2_0) = codes m c
      ∧ r.2.mem ((c.tc : Thread nD τ).loc main_v2_1) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 6).trans (c4_final m c), ((h.1 c).1 7).trans (a4_final m c), h.2 c⟩) (θ_run_and (run_main m ρ) (unchanged m ρ))

end Cert.Proof.RI

end
-- ==== Proof.AlgValue.lean ====
/- The kernel's two results and the reference's are equal: both are the codes and the scales of the activations. -/
module

public import proofs.«01_k».proof.Proof.HostKer
public import proofs.«01_k».proof.Proof.HostRef
public import proofs.«01_k».proof.Defs

@[expose] public section

noncomputable section

namespace Cert.Proof

open Idealize.ShloMosaic Idealize.ShloMosaic.TcCoe
open Cert.Proof.Spec

set_option maxRecDepth 16384

instance : Cert.KernelIdeal.Facts := Cert.KernelIdeal.Gen.facts
instance : Cert.ReferenceIdeal.Facts := Cert.ReferenceIdeal.Gen.facts

theorem algebraic_ideal : Cert.algebraic_KernelIdeal_ReferenceIdeal := by
  intro m g m' g' _ hargs
  refine ⟨KI.codes m, KI.scales m, KI.run_values m g, ?_⟩
  refine (θ_run Cert.ReferenceIdeal.defs _ _).mono (fun r h c => ?_) (RI.run_values m' g')
  obtain ⟨h0, h1, h2, h3, h4, h5⟩ := hargs c
  have hX : RI.mX m' c = KI.mX m c := funext fun r => funext fun j => congrFun h0 _
  have hA : RI.mA m' c = KI.mA m c := funext fun r => congrFun h1 _
  have hG : RI.mG m' c = KI.mG m c := funext fun j => funext fun k => congrFun h2 _
  have hSg : RI.mSg m' c = KI.mSg m c := funext fun k => congrFun h3 _
  have hU : RI.mU m' c = KI.mU m c := funext fun j => funext fun k => congrFun h4 _
  have hSu : RI.mSu m' c = KI.mSu m c := funext fun k => congrFun h5 _
  have hact : RI.mAct m' c = KI.mAct m c := by
    unfold RI.mAct KI.mAct
    rw [hX, hA, hG, hSg, hU, hSu]
  obtain ⟨p, q, rest⟩ := h c
  refine ⟨p.trans ?_, q.trans ?_, rest⟩
  · unfold RI.codes KI.codes
    rw [hact]
  · unfold RI.scales KI.scales
    rw [hact]

end Cert.Proof

end
-- ==== Proof.DownNames.lean ====
/- The names of the down product's loop: a block of the down weights, a ring slot's part where it lands, the ring's
   cells, the column lanes and blocks of the accumulator and of the result, and the equations that bring every slice the
   kernel body spells to one of them. -/
module

public import proofs.«01_k».proof.Proof.Gen.DownIdeal.Launch
public import proofs.«01_k».proof.Proof.Gen.DownIdeal.Skeleton
public import proofs.«01_k».proof.Proof.Gen.DownIdeal.Loops
public import proofs.«01_k».proof.Proof.Gen.DownIdeal.Points
public import Idealize.ShloMosaic.Lib.Pipeline.KitQuiescent
public import Idealize.ShloMosaic.Lib.Ring
public import Idealize.ShloMosaic.Lib.Batch
public import Idealize.ShloMosaic.Lib.Affine
public import Idealize.ShloMosaic.Lib.Tactic

@[expose] public section

set_option maxRecDepth 8192

noncomputable section

namespace Cert.Proof.DI

open Cert.DownIdeal Cert.DownIdeal.Gen
open Idealize.ShloMosaic
open Idealize.ShloMosaic.TcCoe Idealize.ShloMosaic.Tactic

/-! ## The buffers, whole -/

abbrev wdM : Memref sig .tc .hbm S14336x4096 .fp8e4m3 := Memref.whole main_arg3
abbrev deltaM : Memref sig .tc .hbm S224x4096 .f32 := Memref.whole main_v4
abbrev ringM : Memref sig .tc .vmem S16x4096x512 .fp8e4m3 := Memref.whole cc0_scratch0
abbrev attnM : Memref sig .tc .vmem S224x4096 .f32 := Memref.whole cc0_scratch1
abbrev lhs4M : Memref sig .tc .vmem S4x224x3584 .fp8e4m3 := Memref.whole cc0_scratch2
abbrev actM : Memref sig .tc .vmem S112x224x128 .f32 := Memref.whole cc0_scratch3
abbrev arepM : Memref sig .tc .vmem S224x128 .f32 := Memref.whole cc0_scratch4

/-! ## Canonical offsets

Chunk `d` of the thirty-two is rows `3584 (d % 4) ..`, columns `512 (d / 4) ..` of the weights. -/

abbrev wdOff (d : Fin 32) : Fin 2 → Nat := ![3584 * (d.val % 4), 512 * (d.val / 4)]
theorem wdOff_inb (d : Fin 32) : ∀ a, wdOff d a + S3584x512.size a ≤ S14336x4096.size a := by
  have := d.isLt; intro a; fin_cases a
  · show 3584 * (d.val % 4) + 3584 ≤ 14336; omega
  · show 512 * (d.val / 4) + 512 ≤ 4096; omega
abbrev partOff (s : Fin 16) : Fin 3 → Nat := ![s.val, 0, 0]
theorem partOff_inb (s : Fin 16) : ∀ a, partOff s a + S1x3584x512.size a ≤ S16x4096x512.size a := by
  have := s.isLt; intro a; fin_cases a
  · show s.val + 1 ≤ 16; omega
  · show 0 + 3584 ≤ 4096; omega
  · show 0 + 512 ≤ 512; omega
abbrev semOff (s : Fin 16) : Fin 1 → Nat := ![s.val]
theorem semOff_inb (s : Fin 16) : ∀ a, semOff s a + S1.size a ≤ S16.size a := by
  have := s.isLt; intro a; fin_cases a; show s.val + 1 ≤ 16; omega
abbrev laneOff (p : Fin 32) : Fin 2 → Nat := ![0, 128 * p.val]
theorem laneOff_inb (p : Fin 32) : ∀ a, laneOff p a + S224x128.size a ≤ S224x4096.size a := by
  have := p.isLt; intro a; fin_cases a
  · show 0 + 224 ≤ 224; omega
  · show 128 * p.val + 128 ≤ 4096; omega
abbrev blkOff (n : Fin 8) : Fin 2 → Nat := ![0, 512 * n.val]
theorem blkOff_inb (n : Fin 8) : ∀ a, blkOff n a + S224x512.size a ≤ S224x4096.size a := by
  have := n.isLt; intro a; fin_cases a
  · show 0 + 224 ≤ 224; omega
  · show 512 * n.val + 512 ≤ 4096; omega

/-- Chunk `d` of the down weights; -/
def wd (d : Fin 32) : Memref sig .tc .hbm S3584x512 .fp8e4m3 :=
  wdM.slice (Rect.unit (s := S14336x4096) (wdOff d) S3584x512.size (wdOff_inb d)) (fun _ => rfl)
/-- the part of ring slot `s` where a chunk lands; -/
def part (s : Fin 16) : Memref sig .tc .vmem S3584x512 .fp8e4m3 :=
  (ringM.slice (Rect.unit (s := S16x4096x512) (partOff s) S1x3584x512.size (partOff_inb s)) (fun _ => rfl)).squeeze S3584x512 squeezes_S1x3584x512_S3584x512
/-- slot `s`'s cell; -/
def csm (s : Fin 16) : DmaSems sig S_ := (cc0_scratch5.slice (Rect.unit (s := S16) (semOff s) S1.size (semOff_inb s))).squeeze S_ squeezes_S1_S_
/-- lane `p`, 128 columns of the accumulator; -/
def lane (p : Fin 32) : Memref sig .tc .vmem S224x128 .f32 :=
  attnM.slice (Rect.unit (s := S224x4096) (laneOff p) S224x128.size (laneOff_inb p)) (fun _ => rfl)
/-- block `n`, 512 columns of it; -/
def ab (n : Fin 8) : Memref sig .tc .vmem S224x512 .f32 :=
  attnM.slice (Rect.unit (s := S224x4096) (blkOff n) S224x512.size (blkOff_inb n)) (fun _ => rfl)
/-- block `n` of the result. -/
def dl (n : Fin 8) : Memref sig .tc .hbm S224x512 .f32 :=
  deltaM.slice (Rect.unit (s := S224x4096) (blkOff n) S224x512.size (blkOff_inb n)) (fun _ => rfl)

instance (s : Fin 16) : ClosedOff (partOff s) := ⟨partOff s, rfl⟩
instance (d : Fin 32) : ClosedOff (wdOff d) := ⟨wdOff d, rfl⟩
instance (p : Fin 32) : ClosedOff (laneOff p) := ⟨laneOff p, rfl⟩
instance (n : Fin 8) : ClosedOff (blkOff n) := ⟨blkOff n, rfl⟩

theorem csm_congr {off : Fin 1 → Nat} {s : Fin 16} (e : off = semOff s) (hh) :
    (cc0_scratch5.slice (Rect.unit (s := S16) off S1.size hh)).squeeze S_ squeezes_S1_S_ = csm s :=
  congrArg (fun A : DmaSems sig S1 => A.squeeze S_ squeezes_S1_S_) (SemArray.slice_unit_congr _ e _ _)
theorem part_congr {off : Fin 3 → Nat} {s : Fin 16} (e : off = partOff s) (hh hs) :
    (ringM.slice (Rect.unit (s := S16x4096x512) off S1x3584x512.size hh) hs).squeeze S3584x512 squeezes_S1x3584x512_S3584x512 = part s :=
  congrArg (fun M : Memref sig .tc .vmem S1x3584x512 .fp8e4m3 => M.squeeze S3584x512 squeezes_S1x3584x512_S3584x512) (Memref.slice_unit_congr _ e _ _ _ _)
theorem wd_congr {off : Fin 2 → Nat} {d : Fin 32} (e : off = wdOff d) (hh hs) :
    wdM.slice (Rect.unit (s := S14336x4096) off S3584x512.size hh) hs = wd d := Memref.slice_unit_congr _ e _ _ _ (fun _ => rfl)
theorem ab_congr {off : Fin 2 → Nat} {n : Fin 8} (e : off = blkOff n) (hh hs) :
    attnM.slice (Rect.unit (s := S224x4096) off S224x512.size hh) hs = ab n := Memref.slice_unit_congr _ e _ _ _ (fun _ => rfl)
theorem dl_congr {off : Fin 2 → Nat} {n : Fin 8} (e : off = blkOff n) (hh hs) :
    deltaM.slice (Rect.unit (s := S224x4096) off S224x512.size hh) hs = dl n := Memref.slice_unit_congr _ e _ _ _ (fun _ => rfl)

/-! ## The loop's offsets and conditions at trip `k` (8 trips)

Trip `k` takes chunks `4 k` to `4 k + 3` and issues chunks `4 k + 15` to `4 k + 18` while they exist; chunk `d` lies in
slot `d + 13` of the sixteen. -/

abbrev T1 := Fin k0_t1_loop.trips

theorem k_lt (k : T1) : k.val < 8 := k.isLt
/-- Trip `k`'s block. -/
abbrev blk (k : T1) : Fin 8 := ⟨k.val, k.isLt⟩
theorem cond16 : ∀ k : T1, k0_cond16 k = 1#1 := by decide +kernel
theorem cond17 : ∀ k : T1, k0_cond17 k = 1#1 ↔ k.val ≤ 4 := by decide +kernel
theorem cond18 : ∀ k : T1, k0_cond18 k = 1#1 := by decide +kernel
theorem cond19 : ∀ k : T1, k0_cond19 k = 1#1 ↔ k.val ≤ 3 := by decide +kernel
theorem cond20 : ∀ k : T1, k0_cond20 k = 1#1 := by decide +kernel
theorem cond21 : ∀ k : T1, k0_cond21 k = 1#1 ↔ k.val ≤ 3 := by decide +kernel
theorem cond22 : ∀ k : T1, k0_cond22 k = 1#1 := by decide +kernel
theorem cond23 : ∀ k : T1, k0_cond23 k = 1#1 ↔ k.val ≤ 3 := by decide +kernel
theorem off46 : ∀ k : T1, k0_off46 k = semOff (Ring.sl 16 (4 * k.val + 12)) := by decide +kernel
theorem off47 : ∀ k : T1, k0_off47 k = partOff (Ring.sl 16 (4 * k.val + 12)) := by decide +kernel
theorem off48 : ∀ k : T1, k.val ≤ 4 → k0_off48 k = wdOff (Ring.bk 32 (4 * k.val + 15)) := by decide +kernel
theorem off49_0 : ∀ k : T1, k0_off49 k 0#32 = semOff (Ring.sl 16 (4 * k.val + 13)) := by decide +kernel
theorem off50_0 : ∀ k : T1, k0_off50 k 0#32 = partOff (Ring.sl 16 (4 * k.val + 13)) := by decide +kernel
theorem off51_0 : ∀ k : T1, k0_off51 k 0#32 = partOff (Ring.sl 16 (4 * k.val + 13)) := by decide +kernel
theorem off61_0 : ∀ k : T1, k0_off61 k 0#32 = laneOff (Ring.bk 32 (4 * k.val + 0)) := by decide +kernel
theorem off62_0 : ∀ k : T1, k0_off62 k 0#32 = ![0, 128 * (4 * k.val + 0)] := by decide +kernel
instance (k : T1) : ClosedOff (k0_off51 k 0#32) := ⟨_, off51_0 k⟩
instance (k : T1) : ClosedOff (k0_off61 k 0#32) := ⟨_, off61_0 k⟩
instance (k : T1) : ClosedOff (k0_off62 k 0#32) := ⟨_, off62_0 k⟩
theorem off52 : ∀ k : T1, k0_off52 k = semOff (Ring.sl 16 (4 * k.val + 13)) := by decide +kernel
theorem off53 : ∀ k : T1, k0_off53 k = partOff (Ring.sl 16 (4 * k.val + 13)) := by decide +kernel
theorem off54 : ∀ k : T1, k.val ≤ 3 → k0_off54 k = wdOff (Ring.bk 32 (4 * k.val + 16)) := by decide +kernel
theorem off49_1 : ∀ k : T1, k0_off49 k 1#32 = semOff (Ring.sl 16 (4 * k.val + 14)) := by decide +kernel
theorem off50_1 : ∀ k : T1, k0_off50 k 1#32 = partOff (Ring.sl 16 (4 * k.val + 14)) := by decide +kernel
theorem off51_1 : ∀ k : T1, k0_off51 k 1#32 = partOff (Ring.sl 16 (4 * k.val + 14)) := by decide +kernel
theorem off61_1 : ∀ k : T1, k0_off61 k 128#32 = laneOff (Ring.bk 32 (4 * k.val + 1)) := by decide +kernel
theorem off62_1 : ∀ k : T1, k0_off62 k 128#32 = ![0, 128 * (4 * k.val + 1)] := by decide +kernel
instance (k : T1) : ClosedOff (k0_off51 k 1#32) := ⟨_, off51_1 k⟩
instance (k : T1) : ClosedOff (k0_off61 k 128#32) := ⟨_, off61_1 k⟩
instance (k : T1) : ClosedOff (k0_off62 k 128#32) := ⟨_, off62_1 k⟩
theorem off55 : ∀ k : T1, k0_off55 k = semOff (Ring.sl 16 (4 * k.val + 14)) := by decide +kernel
theorem off56 : ∀ k : T1, k0_off56 k = partOff (Ring.sl 16 (4 * k.val + 14)) := by decide +kernel
theorem off57 : ∀ k : T1, k.val ≤ 3 → k0_off57 k = wdOff (Ring.bk 32 (4 * k.val + 17)) := by decide +kernel
theorem off49_2 : ∀ k : T1, k0_off49 k 2#32 = semOff (Ring.sl 16 (4 * k.val + 15)) := by decide +kernel
theorem off50_2 : ∀ k : T1, k0_off50 k 2#32 = partOff (Ring.sl 16 (4 * k.val + 15)) := by decide +kernel
theorem off51_2 : ∀ k : T1, k0_off51 k 2#32 = partOff (Ring.sl 16 (4 * k.val + 15)) := by decide +kernel
theorem off61_2 : ∀ k : T1, k0_off61 k 256#32 = laneOff (Ring.bk 32 (4 * k.val + 2)) := by decide +kernel
theorem off62_2 : ∀ k : T1, k0_off62 k 256#32 = ![0, 128 * (4 * k.val + 2)] := by decide +kernel
instance (k : T1) : ClosedOff (k0_off51 k 2#32) := ⟨_, off51_2 k⟩
instance (k : T1) : ClosedOff (k0_off61 k 256#32) := ⟨_, off61_2 k⟩
instance (k : T1) : ClosedOff (k0_off62 k 256#32) := ⟨_, off62_2 k⟩
theorem off58 : ∀ k : T1, k0_off58 k = semOff (Ring.sl 16 (4 * k.val + 15)) := by decide +kernel
theorem off59 : ∀ k : T1, k0_off59 k = partOff (Ring.sl 16 (4 * k.val + 15)) := by decide +kernel
theorem off60 : ∀ k : T1, k.val ≤ 3 → k0_off60 k = wdOff (Ring.bk 32 (4 * k.val + 18)) := by decide +kernel
theorem off49_3 : ∀ k : T1, k0_off49 k 3#32 = semOff (Ring.sl 16 (4 * k.val + 16)) := by decide +kernel
theorem off50_3 : ∀ k : T1, k0_off50 k 3#32 = partOff (Ring.sl 16 (4 * k.val + 16)) := by decide +kernel
theorem off51_3 : ∀ k : T1, k0_off51 k 3#32 = partOff (Ring.sl 16 (4 * k.val + 16)) := by decide +kernel
theorem off61_3 : ∀ k : T1, k0_off61 k 384#32 = laneOff (Ring.bk 32 (4 * k.val + 3)) := by decide +kernel
theorem off62_3 : ∀ k : T1, k0_off62 k 384#32 = ![0, 128 * (4 * k.val + 3)] := by decide +kernel
instance (k : T1) : ClosedOff (k0_off51 k 3#32) := ⟨_, off51_3 k⟩
instance (k : T1) : ClosedOff (k0_off61 k 384#32) := ⟨_, off61_3 k⟩
instance (k : T1) : ClosedOff (k0_off62 k 384#32) := ⟨_, off62_3 k⟩
theorem off63 : ∀ k : T1, k0_off63 k = blkOff (blk k) := by decide +kernel

/-! ## The canonical-name equations -/

section Canon
variable (k : T1)

@[sl_canon] theorem semF_0 (hh) : (cc0_scratch5.slice (Rect.unit (s := S16) (k0_off46 k) S1.size hh)).squeeze S_ squeezes_S1_S_ = csm (Ring.sl 16 (4 * k.val + 12)) := csm_congr (off46 k) _
@[sl_canon] theorem partF_0 (hh hs) : (ringM.slice (Rect.unit (s := S16x4096x512) (k0_off47 k) S1x3584x512.size hh) hs).squeeze S3584x512 squeezes_S1x3584x512_S3584x512 = part (Ring.sl 16 (4 * k.val + 12)) := part_congr (off47 k) _ _
@[sl_canon] theorem wdF_0 (hk : k.val ≤ 4) (hh hs) : wdM.slice (Rect.unit (s := S14336x4096) (k0_off48 k) S3584x512.size hh) hs = wd (Ring.bk 32 (4 * k.val + 15)) := wd_congr (off48 k hk) _ _
@[sl_canon] theorem semW_0 (hh) : (cc0_scratch5.slice (Rect.unit (s := S16) (k0_off49 k 0#32) S1.size hh)).squeeze S_ squeezes_S1_S_ = csm (Ring.sl 16 (4 * k.val + 13)) := csm_congr (off49_0 k) _
@[sl_canon] theorem partW_0 (hh hs) : (ringM.slice (Rect.unit (s := S16x4096x512) (k0_off50 k 0#32) S1x3584x512.size hh) hs).squeeze S3584x512 squeezes_S1x3584x512_S3584x512 = part (Ring.sl 16 (4 * k.val + 13)) := part_congr (off50_0 k) _ _
@[sl_canon] theorem semF_1 (hh) : (cc0_scratch5.slice (Rect.unit (s := S16) (k0_off52 k) S1.size hh)).squeeze S_ squeezes_S1_S_ = csm (Ring.sl 16 (4 * k.val + 13)) := csm_congr (off52 k) _
@[sl_canon] theorem partF_1 (hh hs) : (ringM.slice (Rect.unit (s := S16x4096x512) (k0_off53 k) S1x3584x512.size hh) hs).squeeze S3584x512 squeezes_S1x3584x512_S3584x512 = part (Ring.sl 16 (4 * k.val + 13)) := part_congr (off53 k) _ _
@[sl_canon] theorem wdF_1 (hk : k.val ≤ 3) (hh hs) : wdM.slice (Rect.unit (s := S14336x4096) (k0_off54 k) S3584x512.size hh) hs = wd (Ring.bk 32 (4 * k.val + 16)) := wd_congr (off54 k hk) _ _
@[sl_canon] theorem semW_1 (hh) : (cc0_scratch5.slice (Rect.unit (s := S16) (k0_off49 k 1#32) S1.size hh)).squeeze S_ squeezes_S1_S_ = csm (Ring.sl 16 (4 * k.val + 14)) := csm_congr (off49_1 k) _
@[sl_canon] theorem partW_1 (hh hs) : (ringM.slice (Rect.unit (s := S16x4096x512) (k0_off50 k 1#32) S1x3584x512.size hh) hs).squeeze S3584x512 squeezes_S1x3584x512_S3584x512 = part (Ring.sl 16 (4 * k.val + 14)) := part_congr (off50_1 k) _ _
@[sl_canon] theorem semF_2 (hh) : (cc0_scratch5.slice (Rect.unit (s := S16) (k0_off55 k) S1.size hh)).squeeze S_ squeezes_S1_S_ = csm (Ring.sl 16 (4 * k.val + 14)) := csm_congr (off55 k) _
@[sl_canon] theorem partF_2 (hh hs) : (ringM.slice (Rect.unit (s := S16x4096x512) (k0_off56 k) S1x3584x512.size hh) hs).squeeze S3584x512 squeezes_S1x3584x512_S3584x512 = part (Ring.sl 16 (4 * k.val + 14)) := part_congr (off56 k) _ _
@[sl_canon] theorem wdF_2 (hk : k.val ≤ 3) (hh hs) : wdM.slice (Rect.unit (s := S14336x4096) (k0_off57 k) S3584x512.size hh) hs = wd (Ring.bk 32 (4 * k.val + 17)) := wd_congr (off57 k hk) _ _
@[sl_canon] theorem semW_2 (hh) : (cc0_scratch5.slice (Rect.unit (s := S16) (k0_off49 k 2#32) S1.size hh)).squeeze S_ squeezes_S1_S_ = csm (Ring.sl 16 (4 * k.val + 15)) := csm_congr (off49_2 k) _
@[sl_canon] theorem partW_2 (hh hs) : (ringM.slice (Rect.unit (s := S16x4096x512) (k0_off50 k 2#32) S1x3584x512.size hh) hs).squeeze S3584x512 squeezes_S1x3584x512_S3584x512 = part (Ring.sl 16 (4 * k.val + 15)) := part_congr (off50_2 k) _ _
@[sl_canon] theorem semF_3 (hh) : (cc0_scratch5.slice (Rect.unit (s := S16) (k0_off58 k) S1.size hh)).squeeze S_ squeezes_S1_S_ = csm (Ring.sl 16 (4 * k.val + 15)) := csm_congr (off58 k) _
@[sl_canon] theorem partF_3 (hh hs) : (ringM.slice (Rect.unit (s := S16x4096x512) (k0_off59 k) S1x3584x512.size hh) hs).squeeze S3584x512 squeezes_S1x3584x512_S3584x512 = part (Ring.sl 16 (4 * k.val + 15)) := part_congr (off59 k) _ _
@[sl_canon] theorem wdF_3 (hk : k.val ≤ 3) (hh hs) : wdM.slice (Rect.unit (s := S14336x4096) (k0_off60 k) S3584x512.size hh) hs = wd (Ring.bk 32 (4 * k.val + 18)) := wd_congr (off60 k hk) _ _
@[sl_canon] theorem semW_3 (hh) : (cc0_scratch5.slice (Rect.unit (s := S16) (k0_off49 k 3#32) S1.size hh)).squeeze S_ squeezes_S1_S_ = csm (Ring.sl 16 (4 * k.val + 16)) := csm_congr (off49_3 k) _
@[sl_canon] theorem partW_3 (hh hs) : (ringM.slice (Rect.unit (s := S16x4096x512) (k0_off50 k 3#32) S1x3584x512.size hh) hs).squeeze S3584x512 squeezes_S1x3584x512_S3584x512 = part (Ring.sl 16 (4 * k.val + 16)) := part_congr (off50_3 k) _ _
@[sl_canon] theorem abK (hh hs) : attnM.slice (Rect.unit (s := S224x4096) (k0_off63 k) S224x512.size hh) hs = ab (blk k) := ab_congr (off63 k) _ _
@[sl_canon] theorem dlK (hh hs) : deltaM.slice (Rect.unit (s := S224x4096) (k0_off63 k) S224x512.size hh) hs = dl (blk k) := dl_congr (off63 k) _ _

end Canon

/-! ## The waits after the loop -/

@[sl_canon] theorem abE0 (hh hs) : attnM.slice (Rect.unit (s := S224x4096) ![0, 0] S224x512.size hh) hs = ab 0 := ab_congr (n := 0) (by decide +kernel) _ _
@[sl_canon] theorem dlE0 (hh hs) : deltaM.slice (Rect.unit (s := S224x4096) ![0, 0] S224x512.size hh) hs = dl 0 := dl_congr (n := 0) (by decide +kernel) _ _
@[sl_canon] theorem abE1 (hh hs) : attnM.slice (Rect.unit (s := S224x4096) ![0, 512] S224x512.size hh) hs = ab 1 := ab_congr (n := 1) (by decide +kernel) _ _
@[sl_canon] theorem dlE1 (hh hs) : deltaM.slice (Rect.unit (s := S224x4096) ![0, 512] S224x512.size hh) hs = dl 1 := dl_congr (n := 1) (by decide +kernel) _ _
@[sl_canon] theorem abE2 (hh hs) : attnM.slice (Rect.unit (s := S224x4096) ![0, 1024] S224x512.size hh) hs = ab 2 := ab_congr (n := 2) (by decide +kernel) _ _
@[sl_canon] theorem dlE2 (hh hs) : deltaM.slice (Rect.unit (s := S224x4096) ![0, 1024] S224x512.size hh) hs = dl 2 := dl_congr (n := 2) (by decide +kernel) _ _
@[sl_canon] theorem abE3 (hh hs) : attnM.slice (Rect.unit (s := S224x4096) ![0, 1536] S224x512.size hh) hs = ab 3 := ab_congr (n := 3) (by decide +kernel) _ _
@[sl_canon] theorem dlE3 (hh hs) : deltaM.slice (Rect.unit (s := S224x4096) ![0, 1536] S224x512.size hh) hs = dl 3 := dl_congr (n := 3) (by decide +kernel) _ _
@[sl_canon] theorem abE4 (hh hs) : attnM.slice (Rect.unit (s := S224x4096) ![0, 2048] S224x512.size hh) hs = ab 4 := ab_congr (n := 4) (by decide +kernel) _ _
@[sl_canon] theorem dlE4 (hh hs) : deltaM.slice (Rect.unit (s := S224x4096) ![0, 2048] S224x512.size hh) hs = dl 4 := dl_congr (n := 4) (by decide +kernel) _ _
@[sl_canon] theorem abE5 (hh hs) : attnM.slice (Rect.unit (s := S224x4096) ![0, 2560] S224x512.size hh) hs = ab 5 := ab_congr (n := 5) (by decide +kernel) _ _
@[sl_canon] theorem dlE5 (hh hs) : deltaM.slice (Rect.unit (s := S224x4096) ![0, 2560] S224x512.size hh) hs = dl 5 := dl_congr (n := 5) (by decide +kernel) _ _
@[sl_canon] theorem abE6 (hh hs) : attnM.slice (Rect.unit (s := S224x4096) ![0, 3072] S224x512.size hh) hs = ab 6 := ab_congr (n := 6) (by decide +kernel) _ _
@[sl_canon] theorem dlE6 (hh hs) : deltaM.slice (Rect.unit (s := S224x4096) ![0, 3072] S224x512.size hh) hs = dl 6 := dl_congr (n := 6) (by decide +kernel) _ _
@[sl_canon] theorem abE7 (hh hs) : attnM.slice (Rect.unit (s := S224x4096) ![0, 3584] S224x512.size hh) hs = ab 7 := ab_congr (n := 7) (by decide +kernel) _ _
@[sl_canon] theorem dlE7 (hh hs) : deltaM.slice (Rect.unit (s := S224x4096) ![0, 3584] S224x512.size hh) hs = dl 7 := dl_congr (n := 7) (by decide +kernel) _ _

/-! ## The first fifteen fetches: chunks 0 to 14 into slots 13 to 15 and 0 to 11 -/

theorem cond1 : k0_cond1 = 1#1 := by decide +kernel
@[sl_canon] theorem semP0 (hh) : (cc0_scratch5.slice (Rect.unit (s := S16) k0_off1 S1.size hh)).squeeze S_ squeezes_S1_S_ = csm 13 := csm_congr (by decide +kernel) _
@[sl_canon] theorem partP0 (hh hs) : (ringM.slice (Rect.unit (s := S16x4096x512) k0_off2 S1x3584x512.size hh) hs).squeeze S3584x512 squeezes_S1x3584x512_S3584x512 = part 13 := part_congr (by decide +kernel) _ _
@[sl_canon] theorem wdP0 (hh hs) : wdM.slice (Rect.unit (s := S14336x4096) k0_off3 S3584x512.size hh) hs = wd 0 := wd_congr (by decide +kernel) _ _
theorem cond2 : k0_cond2 = 1#1 := by decide +kernel
@[sl_canon] theorem semP1 (hh) : (cc0_scratch5.slice (Rect.unit (s := S16) k0_off4 S1.size hh)).squeeze S_ squeezes_S1_S_ = csm 14 := csm_congr (by decide +kernel) _
@[sl_canon] theorem partP1 (hh hs) : (ringM.slice (Rect.unit (s := S16x4096x512) k0_off5 S1x3584x512.size hh) hs).squeeze S3584x512 squeezes_S1x3584x512_S3584x512 = part 14 := part_congr (by decide +kernel) _ _
@[sl_canon] theorem wdP1 (hh hs) : wdM.slice (Rect.unit (s := S14336x4096) k0_off6 S3584x512.size hh) hs = wd 1 := wd_congr (by decide +kernel) _ _
theorem cond3 : k0_cond3 = 1#1 := by decide +kernel
@[sl_canon] theorem semP2 (hh) : (cc0_scratch5.slice (Rect.unit (s := S16) k0_off7 S1.size hh)).squeeze S_ squeezes_S1_S_ = csm 15 := csm_congr (by decide +kernel) _
@[sl_canon] theorem partP2 (hh hs) : (ringM.slice (Rect.unit (s := S16x4096x512) k0_off8 S1x3584x512.size hh) hs).squeeze S3584x512 squeezes_S1x3584x512_S3584x512 = part 15 := part_congr (by decide +kernel) _ _
@[sl_canon] theorem wdP2 (hh hs) : wdM.slice (Rect.unit (s := S14336x4096) k0_off9 S3584x512.size hh) hs = wd 2 := wd_congr (by decide +kernel) _ _
theorem cond4 : k0_cond4 = 1#1 := by decide +kernel
@[sl_canon] theorem semP3 (hh) : (cc0_scratch5.slice (Rect.unit (s := S16) k0_off10 S1.size hh)).squeeze S_ squeezes_S1_S_ = csm 0 := csm_congr (by decide +kernel) _
@[sl_canon] theorem partP3 (hh hs) : (ringM.slice (Rect.unit (s := S16x4096x512) k0_off11 S1x3584x512.size hh) hs).squeeze S3584x512 squeezes_S1x3584x512_S3584x512 = part 0 := part_congr (by decide +kernel) _ _
@[sl_canon] theorem wdP3 (hh hs) : wdM.slice (Rect.unit (s := S14336x4096) k0_off12 S3584x512.size hh) hs = wd 3 := wd_congr (by decide +kernel) _ _
theorem cond5 : k0_cond5 = 1#1 := by decide +kernel
@[sl_canon] theorem semP4 (hh) : (cc0_scratch5.slice (Rect.unit (s := S16) k0_off13 S1.size hh)).squeeze S_ squeezes_S1_S_ = csm 1 := csm_congr (by decide +kernel) _
@[sl_canon] theorem partP4 (hh hs) : (ringM.slice (Rect.unit (s := S16x4096x512) k0_off14 S1x3584x512.size hh) hs).squeeze S3584x512 squeezes_S1x3584x512_S3584x512 = part 1 := part_congr (by decide +kernel) _ _
@[sl_canon] theorem wdP4 (hh hs) : wdM.slice (Rect.unit (s := S14336x4096) k0_off15 S3584x512.size hh) hs = wd 4 := wd_congr (by decide +kernel) _ _
theorem cond6 : k0_cond6 = 1#1 := by decide +kernel
@[sl_canon] theorem semP5 (hh) : (cc0_scratch5.slice (Rect.unit (s := S16) k0_off16 S1.size hh)).squeeze S_ squeezes_S1_S_ = csm 2 := csm_congr (by decide +kernel) _
@[sl_canon] theorem partP5 (hh hs) : (ringM.slice (Rect.unit (s := S16x4096x512) k0_off17 S1x3584x512.size hh) hs).squeeze S3584x512 squeezes_S1x3584x512_S3584x512 = part 2 := part_congr (by decide +kernel) _ _
@[sl_canon] theorem wdP5 (hh hs) : wdM.slice (Rect.unit (s := S14336x4096) k0_off18 S3584x512.size hh) hs = wd 5 := wd_congr (by decide +kernel) _ _
theorem cond7 : k0_cond7 = 1#1 := by decide +kernel
@[sl_canon] theorem semP6 (hh) : (cc0_scratch5.slice (Rect.unit (s := S16) k0_off19 S1.size hh)).squeeze S_ squeezes_S1_S_ = csm 3 := csm_congr (by decide +kernel) _
@[sl_canon] theorem partP6 (hh hs) : (ringM.slice (Rect.unit (s := S16x4096x512) k0_off20 S1x3584x512.size hh) hs).squeeze S3584x512 squeezes_S1x3584x512_S3584x512 = part 3 := part_congr (by decide +kernel) _ _
@[sl_canon] theorem wdP6 (hh hs) : wdM.slice (Rect.unit (s := S14336x4096) k0_off21 S3584x512.size hh) hs = wd 6 := wd_congr (by decide +kernel) _ _
theorem cond8 : k0_cond8 = 1#1 := by decide +kernel
@[sl_canon] theorem semP7 (hh) : (cc0_scratch5.slice (Rect.unit (s := S16) k0_off22 S1.size hh)).squeeze S_ squeezes_S1_S_ = csm 4 := csm_congr (by decide +kernel) _
@[sl_canon] theorem partP7 (hh hs) : (ringM.slice (Rect.unit (s := S16x4096x512) k0_off23 S1x3584x512.size hh) hs).squeeze S3584x512 squeezes_S1x3584x512_S3584x512 = part 4 := part_congr (by decide +kernel) _ _
@[sl_canon] theorem wdP7 (hh hs) : wdM.slice (Rect.unit (s := S14336x4096) k0_off24 S3584x512.size hh) hs = wd 7 := wd_congr (by decide +kernel) _ _
theorem cond9 : k0_cond9 = 1#1 := by decide +kernel
@[sl_canon] theorem semP8 (hh) : (cc0_scratch5.slice (Rect.unit (s := S16) k0_off25 S1.size hh)).squeeze S_ squeezes_S1_S_ = csm 5 := csm_congr (by decide +kernel) _
@[sl_canon] theorem partP8 (hh hs) : (ringM.slice (Rect.unit (s := S16x4096x512) k0_off26 S1x3584x512.size hh) hs).squeeze S3584x512 squeezes_S1x3584x512_S3584x512 = part 5 := part_congr (by decide +kernel) _ _
@[sl_canon] theorem wdP8 (hh hs) : wdM.slice (Rect.unit (s := S14336x4096) k0_off27 S3584x512.size hh) hs = wd 8 := wd_congr (by decide +kernel) _ _
theorem cond10 : k0_cond10 = 1#1 := by decide +kernel
@[sl_canon] theorem semP9 (hh) : (cc0_scratch5.slice (Rect.unit (s := S16) k0_off28 S1.size hh)).squeeze S_ squeezes_S1_S_ = csm 6 := csm_congr (by decide +kernel) _
@[sl_canon] theorem partP9 (hh hs) : (ringM.slice (Rect.unit (s := S16x4096x512) k0_off29 S1x3584x512.size hh) hs).squeeze S3584x512 squeezes_S1x3584x512_S3584x512 = part 6 := part_congr (by decide +kernel) _ _
@[sl_canon] theorem wdP9 (hh hs) : wdM.slice (Rect.unit (s := S14336x4096) k0_off30 S3584x512.size hh) hs = wd 9 := wd_congr (by decide +kernel) _ _
theorem cond11 : k0_cond11 = 1#1 := by decide +kernel
@[sl_canon] theorem semP10 (hh) : (cc0_scratch5.slice (Rect.unit (s := S16) k0_off31 S1.size hh)).squeeze S_ squeezes_S1_S_ = csm 7 := csm_congr (by decide +kernel) _
@[sl_canon] theorem partP10 (hh hs) : (ringM.slice (Rect.unit (s := S16x4096x512) k0_off32 S1x3584x512.size hh) hs).squeeze S3584x512 squeezes_S1x3584x512_S3584x512 = part 7 := part_congr (by decide +kernel) _ _
@[sl_canon] theorem wdP10 (hh hs) : wdM.slice (Rect.unit (s := S14336x4096) k0_off33 S3584x512.size hh) hs = wd 10 := wd_congr (by decide +kernel) _ _
theorem cond12 : k0_cond12 = 1#1 := by decide +kernel
@[sl_canon] theorem semP11 (hh) : (cc0_scratch5.slice (Rect.unit (s := S16) k0_off34 S1.size hh)).squeeze S_ squeezes_S1_S_ = csm 8 := csm_congr (by decide +kernel) _
@[sl_canon] theorem partP11 (hh hs) : (ringM.slice (Rect.unit (s := S16x4096x512) k0_off35 S1x3584x512.size hh) hs).squeeze S3584x512 squeezes_S1x3584x512_S3584x512 = part 8 := part_congr (by decide +kernel) _ _
@[sl_canon] theorem wdP11 (hh hs) : wdM.slice (Rect.unit (s := S14336x4096) k0_off36 S3584x512.size hh) hs = wd 11 := wd_congr (by decide +kernel) _ _
theorem cond13 : k0_cond13 = 1#1 := by decide +kernel
@[sl_canon] theorem semP12 (hh) : (cc0_scratch5.slice (Rect.unit (s := S16) k0_off37 S1.size hh)).squeeze S_ squeezes_S1_S_ = csm 9 := csm_congr (by decide +kernel) _
@[sl_canon] theorem partP12 (hh hs) : (ringM.slice (Rect.unit (s := S16x4096x512) k0_off38 S1x3584x512.size hh) hs).squeeze S3584x512 squeezes_S1x3584x512_S3584x512 = part 9 := part_congr (by decide +kernel) _ _
@[sl_canon] theorem wdP12 (hh hs) : wdM.slice (Rect.unit (s := S14336x4096) k0_off39 S3584x512.size hh) hs = wd 12 := wd_congr (by decide +kernel) _ _
theorem cond14 : k0_cond14 = 1#1 := by decide +kernel
@[sl_canon] theorem semP13 (hh) : (cc0_scratch5.slice (Rect.unit (s := S16) k0_off40 S1.size hh)).squeeze S_ squeezes_S1_S_ = csm 10 := csm_congr (by decide +kernel) _
@[sl_canon] theorem partP13 (hh hs) : (ringM.slice (Rect.unit (s := S16x4096x512) k0_off41 S1x3584x512.size hh) hs).squeeze S3584x512 squeezes_S1x3584x512_S3584x512 = part 10 := part_congr (by decide +kernel) _ _
@[sl_canon] theorem wdP13 (hh hs) : wdM.slice (Rect.unit (s := S14336x4096) k0_off42 S3584x512.size hh) hs = wd 13 := wd_congr (by decide +kernel) _ _
theorem cond15 : k0_cond15 = 1#1 := by decide +kernel
@[sl_canon] theorem semP14 (hh) : (cc0_scratch5.slice (Rect.unit (s := S16) k0_off43 S1.size hh)).squeeze S_ squeezes_S1_S_ = csm 11 := csm_congr (by decide +kernel) _
@[sl_canon] theorem partP14 (hh hs) : (ringM.slice (Rect.unit (s := S16x4096x512) k0_off44 S1x3584x512.size hh) hs).squeeze S3584x512 squeezes_S1x3584x512_S3584x512 = part 11 := part_congr (by decide +kernel) _ _
@[sl_canon] theorem wdP14 (hh hs) : wdM.slice (Rect.unit (s := S14336x4096) k0_off45 S3584x512.size hh) hs = wd 14 := wd_congr (by decide +kernel) _ _

end Cert.Proof.DI

end
-- ==== Proof.DownPieces.lean ====
/- The pieces the down loop moves: a chunk of the weights home, in flight, landed in its slot; the accumulator's blocks and
   their lanes; the result's blocks. -/
module

public import proofs.«01_k».proof.Proof.DownNames
public import Idealize.ShloMosaic.Lib.ValueLayout

@[expose] public section

noncomputable section

namespace Cert.Proof.DI

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section Pieces
variable (c : Dev nD) (XW : Buf (Elt F) (wdM.view.loc (c : Thread nD τ)))

/-- A memref held on its own elements. -/
abbrev own {sp : _} {S : Shape} {e : EltTy} (M : Memref sig .tc sp S e) (f : Buf (Elt F) (M.view.loc (c : Thread nD τ))) : sProp 𝕄 :=
  M.view.loc (c : Thread nD τ) ↦[M.view.set]{fullShare} f
abbrev cellP (s : Fin 16) : sProp 𝕄 := semVal ((c : Thread nD τ), SemLoc.dma (csm s).sem) 0
/-- One chunk's credit on a cell. -/
abbrev NN : ℕ := (part 0).view.amount (SemLoc.dma (sig := sig) (csm 0).sem)
/-- Chunk `d` landed in slot `s`. -/
abbrev land (s : Fin 16) (d : Fin 32) : Buf (Elt F) ((part s).view.loc (c : Thread nD τ)) :=
  (part s).view.writes (Elt F) (part s).view.junk [⟨Rect.whole S3584x512, ReadAs.same.apply ((wd d).view.read (Elt F) XW)⟩]
/-- What the copy of chunk `d` into slot `s` delivers. -/
def deliv (s : Fin 16) (d : Fin 32) : Fin 1 → sProp 𝕄
  | 0 => iprop(own c (part s) (land c XW s d) ∗ own c (wd d) XW)
theorem storable_pair {sp sp' : _} {S S' : Shape} {e e' : EltTy} (M : Memref sig .tc sp S e) (M' : Memref sig .tc sp' S' e')
    (f : Buf (Elt F) (M.view.loc (c : Thread nD τ))) (g : Buf (Elt F) (M'.view.loc (c : Thread nD τ))) :
    BI.Storable (upEmb : UEmb _ 𝕄) (iprop(own c M f ∗ own c M' g)) := by infer_instance
instance (s : Fin 16) (d : Fin 32) (t : Fin 1) : BI.Storable (upEmb : UEmb _ 𝕄) (deliv c XW s d t) := by
  match t with
  | 0 => exact storable_pair c (part s) (wd d) _ _
/-- Chunk `d` in flight into slot `s`. -/
abbrev flight (s : Fin 16) (d : Fin 32) : sProp 𝕄 :=
  Transfers.Batch countersEmb (c : Thread nD τ) (SemLoc.dma (csm s).sem) () NN (deliv c XW s d) 1 0
/-- Slot `s` free: its part at anything, its cell at zero. -/
abbrev freeS (s : Fin 16) : sProp 𝕄 := iprop((∃ f, own c (part s) f) ∗ cellP c s)
abbrev homeB (d : Fin 32) : sProp 𝕄 := own c (wd d) XW

/-- What slot `s` holds once chunk `d` has landed. -/
def chunk (d : Fin 32) : Buf (Elt F) (ringM.view.loc (c : Thread nD τ)) := fun y =>
  if h : (y 1).val < 3584 then XW (ix2 (n0 := 14336) (n1 := 4096) ⟨3584 * (d.val % 4) + (y 1).val, by omega⟩
    ⟨512 * (d.val / 4) + (y 2).val, by have := d.isLt; have : (y 2).val < 512 := (y 2).isLt; omega⟩)
  else XW (ix2 (n0 := 14336) (n1 := 4096) ⟨0, by omega⟩ ⟨0, by omega⟩)

theorem part_emb (s : Fin 16) (x : Fin 3584) (y : Fin 512) :
    (part s).view.emb (ix2 x y) = ix3 (n0 := 16) (n1 := 4096) (n2 := 512) s ⟨x.val, by omega⟩ y := by
  show (Rect.unit (s := S16x4096x512) (partOff s) S1x3584x512.size (partOff_inb s)).emb (Shape.reshapeEquiv _ (ix2 x y)) = _
  rw [ValueIdx.reshapeEquiv_ix2_1ab]
  funext a; fin_cases a <;> apply Fin.ext <;> simp [Rect.emb_apply]
theorem wd_emb (d : Fin 32) (x : Fin 3584) (y : Fin 512) :
    (wd d).view.emb (ix2 x y) = ix2 (n0 := 14336) (n1 := 4096) ⟨3584 * (d.val % 4) + x.val, by omega⟩ ⟨512 * (d.val / 4) + y.val, by have := d.isLt; omega⟩ := by
  show (Rect.unit (s := S14336x4096) (wdOff d) S3584x512.size (wdOff_inb d)).emb (ix2 x y) = _
  funext a; fin_cases a <;> apply Fin.ext <;> simp [Rect.emb_apply]

omit [FloatOps F] in
/-- Two contents that a view reads alike agree on its elements. -/
theorem eq_on_set {κ : Kind} {sp : Space} {S : Shape} {e : EltTy} (v : View sig κ sp S e) (f g : v.ty.Contents (Elt F))
    (h : v.read (Elt F) f = v.read (Elt F) g) : ∀ i ∈ v.set, f i = g i := by
  intro i hi
  obtain ⟨j, -, rfl⟩ := Finset.mem_map.1 hi
  have hj := congrFun h j
  unfold View.read at hj
  exact eq_of_heq ((cast_heq _ _).symm.trans ((heq_of_eq hj).trans (cast_heq _ _)))

theorem read_chunk (s : Fin 16) (d : Fin 32) : (part s).view.read (Elt F) (chunk c XW d) = (wd d).view.read (Elt F) XW := by
  funext j
  obtain ⟨x, y, rfl⟩ : ∃ (x : Fin 3584) (y : Fin 512), j = ix2 x y := ⟨j 0, j 1, by funext a; fin_cases a <;> rfl⟩
  show chunk c XW d ((part s).view.emb (ix2 x y)) = XW ((wd d).view.emb (ix2 x y))
  rw [part_emb, wd_emb]; unfold chunk; exact dif_pos x.isLt
theorem land_eq (s : Fin 16) (d : Fin 32) : ∀ i ∈ (part s).view.set, land c XW s d i = chunk c XW d i :=
  eq_on_set _ _ _ ((View.read_writes_whole _ _ _).trans (read_chunk c XW s d).symm)

/-! ## Elements -/

abbrev laneR (p : Fin 32) : Finset S224x4096.Idx := (Rect.unit (s := S224x4096) (laneOff p) S224x128.size (laneOff_inb p)).set
abbrev blkR (n : Fin 8) : Finset S224x4096.Idx := (Rect.unit (s := S224x4096) (blkOff n) S224x512.size (blkOff_inb n)).set
theorem lane_set (p : Fin 32) : (lane p).view.set = laneR p := View.set_slice_whole _ _
theorem ab_set (n : Fin 8) : (ab n).view.set = blkR n := View.set_slice_whole _ _
theorem dl_set (n : Fin 8) : (dl n).view.set = blkR n := View.set_slice_whole _ _
theorem mem_laneR (p : Fin 32) (y : S224x4096.Idx) : y ∈ laneR p ↔ (y 1).val / 128 = p.val := by
  rw [Rect.mem_set_unit]
  have h0 : (y 0).val < 224 := (y 0).isLt
  constructor
  · intro H; have a1 : 128 * p.val ≤ (y 1).val ∧ (y 1).val < 128 * p.val + 128 := H 1; omega
  · intro H i; fin_cases i
    · show 0 ≤ (y 0).val ∧ (y 0).val < 0 + 224; omega
    · show 128 * p.val ≤ (y 1).val ∧ (y 1).val < 128 * p.val + 128; omega
theorem mem_blkR (n : Fin 8) (y : S224x4096.Idx) : y ∈ blkR n ↔ (y 1).val / 512 = n.val := by
  rw [Rect.mem_set_unit]
  have h0 : (y 0).val < 224 := (y 0).isLt
  constructor
  · intro H; have a1 : 512 * n.val ≤ (y 1).val ∧ (y 1).val < 512 * n.val + 512 := H 1; omega
  · intro H i; fin_cases i
    · show 0 ≤ (y 0).val ∧ (y 0).val < 0 + 224; omega
    · show 512 * n.val ≤ (y 1).val ∧ (y 1).val < 512 * n.val + 512; omega

/-- Lane `p`, block `n` of the accumulator and block `n` of the result, at a content of the whole array. -/
abbrev laneP (p : Fin 32) (f : Buf (Elt F) (attnM.view.loc (c : Thread nD τ))) : sProp 𝕄 := own c (lane p) f
@[inherit_doc laneP]
abbrev abP (n : Fin 8) (f : Buf (Elt F) (attnM.view.loc (c : Thread nD τ))) : sProp 𝕄 := own c (ab n) f
@[inherit_doc laneP]
abbrev dlP (n : Fin 8) (f : Buf (Elt F) (deltaM.view.loc (c : Thread nD τ))) : sProp 𝕄 := own c (dl n) f

/-- A block of the accumulator is its four lanes. -/
theorem ab_lanes (n : Fin 8) (p0 p1 p2 p3 : Fin 32) (v0 : p0.val = 4 * n.val) (v1 : p1.val = 4 * n.val + 1) (v2 : p2.val = 4 * n.val + 2)
    (v3 : p3.val = 4 * n.val + 3) (f : Buf (Elt F) (attnM.view.loc (c : Thread nD τ))) :
    (abP c n f : sProp 𝕄) ⊣⊢ iprop(laneP c p0 f ∗ laneP c p1 f ∗ laneP c p2 f ∗ laneP c p3 f) := by
  have e : blkR n = laneR p0 ∪ (laneR p1 ∪ (laneR p2 ∪ laneR p3)) := by
    ext y; simp only [Finset.mem_union]
    rw [mem_blkR, mem_laneR, mem_laneR, mem_laneR, mem_laneR, v0, v1, v2, v3]; omega
  have d : ∀ p q : Fin 32, p.val ≠ q.val → Disjoint (laneR p) (laneR q) := fun p q hne =>
    Finset.disjoint_left.2 fun y h h' => by rw [mem_laneR] at h h'; omega
  show ((attnM.view.loc (c : Thread nD τ)) ↦[(ab n).view.set]{fullShare} f : sProp 𝕄) ⊣⊢
    iprop(((attnM.view.loc (c : Thread nD τ)) ↦[(lane p0).view.set]{fullShare} f) ∗ ((attnM.view.loc (c : Thread nD τ)) ↦[(lane p1).view.set]{fullShare} f)
      ∗ ((attnM.view.loc (c : Thread nD τ)) ↦[(lane p2).view.set]{fullShare} f) ∗ ((attnM.view.loc (c : Thread nD τ)) ↦[(lane p3).view.set]{fullShare} f))
  have E : ∀ {P Q : sProp 𝕄}, P ⊣⊢ Q → P = Q := fun h => equiv_iff.mp ⟨h.1, h.2⟩
  rw [ab_set, lane_set, lane_set, lane_set, lane_set, e,
    E (pointsTo_union (Finset.disjoint_union_right.2 ⟨d p0 p1 (by omega), Finset.disjoint_union_right.2 ⟨d p0 p2 (by omega), d p0 p3 (by omega)⟩⟩)),
    E (pointsTo_union (Finset.disjoint_union_right.2 ⟨d p1 p2 (by omega), d p1 p3 (by omega)⟩)),
    E (pointsTo_union (d p2 p3 (by omega)))]

end Pieces

end Cert.Proof.DI

end
-- ==== Proof.DownTrip.lean ====
/- One trip of the down loop. A trip waits for the four chunks of one block of columns, adds up the four partial products
in planes 0 to 3 of `act`, adds them, scaled, to the block's four lanes of the accumulator, and starts the copy of the block
into the result. The three theorems are the three kinds of trip: every arrival issues a further chunk, only the first does,
none does. -/
module

public import proofs.«01_k».proof.Proof.DownPieces

@[expose] public section

noncomputable section

namespace Cert.Proof.DI

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ (UU nD τ) ℕ

section Trip
variable (c : Dev nD) (XW : Buf (Elt F) (wdM.view.loc (c : Thread nD τ)))
  (arg0 : Memref sig .tc .vmem S224x14336 .fp8e4m3) (harg0 : arg0.IsWhole)
  (arg1 : Memref sig .tc .vmem S224x128 .f32) (harg1 : arg1.IsWhole)
  (arg2 : Memref sig .tc .vmem S224x4096 .f32) (harg2 : arg2.IsWhole)
  (arg4 : Memref sig .tc .vmem S1x4096 .f32) (harg4 : arg4.IsWhole)
  (v95 : Vec F S224x4096 .f32)

abbrev trip1 (k : T1) : Prog (TpuEff nD τ sig (Elt F) Λ₀ .tc) Unit :=
  k0_t1_body (F := F) arg0 harg0 arg1 harg1 arg2 harg2 wdM (Memref.isWhole_whole _) arg4 harg4 deltaM (Memref.isWhole_whole _)
    ringM (Memref.isWhole_whole _) attnM (Memref.isWhole_whole _) lhs4M (Memref.isWhole_whole _) actM (Memref.isWhole_whole _)
    arepM (Memref.isWhole_whole _) cc0_scratch5 cc0_scratch6 v95 k ()

/-! ## What a trip computes -/

section Values
variable (XA : Buf (Elt F) (attnM.view.loc (c : Thread nD τ))) (x4 : Buf (Elt F) (arg4.view.loc (c : Thread nD τ)))
  (xr : Buf (Elt F) (arepM.view.loc (c : Thread nD τ))) (xl : Buf (Elt F) (lhs4M.view.loc (c : Thread nD τ))) (k : T1)

/-- The four chunks of the trip, as loaded from their slots; -/
def w0 : Vec F S1x3584x512 .fp8e4m3 :=
  ringM.view.readAt (Elt F) (Rect.unit (s := S16x4096x512) (k0_off51 k 0#32) S1x3584x512.size (k0_off51_inb k 0)).toLoadRect
    (land c XW (Ring.sl 16 (4 * k.val + 13)) (Ring.bk 32 (4 * k.val)))
def w1 : Vec F S1x3584x512 .fp8e4m3 :=
  ringM.view.readAt (Elt F) (Rect.unit (s := S16x4096x512) (k0_off51 k 1#32) S1x3584x512.size (k0_off51_inb k 1)).toLoadRect
    (land c XW (Ring.sl 16 (4 * k.val + 14)) (Ring.bk 32 (4 * k.val + 1)))
def w2 : Vec F S1x3584x512 .fp8e4m3 :=
  ringM.view.readAt (Elt F) (Rect.unit (s := S16x4096x512) (k0_off51 k 2#32) S1x3584x512.size (k0_off51_inb k 2)).toLoadRect
    (land c XW (Ring.sl 16 (4 * k.val + 15)) (Ring.bk 32 (4 * k.val + 2)))
def w3 : Vec F S1x3584x512 .fp8e4m3 :=
  ringM.view.readAt (Elt F) (Rect.unit (s := S16x4096x512) (k0_off51 k 3#32) S1x3584x512.size (k0_off51_inb k 3)).toLoadRect
    (land c XW (Ring.sl 16 (4 * k.val + 16)) (Ring.bk 32 (4 * k.val + 3)))
/-- the four column blocks of the activations; -/
def l0 : Vec F S1x224x3584 .fp8e4m3 :=
  lhs4M.view.readAt (Elt F) (Rect.unit (s := S4x224x3584) ![0, 0, 0] S1x224x3584.size inb_S4x224x3584_S1x224x3584_0_0_0).toLoadRect xl
def l1 : Vec F S1x224x3584 .fp8e4m3 :=
  lhs4M.view.readAt (Elt F) (Rect.unit (s := S4x224x3584) ![1, 0, 0] S1x224x3584.size inb_S4x224x3584_S1x224x3584_1_0_0).toLoadRect xl
def l2 : Vec F S1x224x3584 .fp8e4m3 :=
  lhs4M.view.readAt (Elt F) (Rect.unit (s := S4x224x3584) ![2, 0, 0] S1x224x3584.size inb_S4x224x3584_S1x224x3584_2_0_0).toLoadRect xl
def l3 : Vec F S1x224x3584 .fp8e4m3 :=
  lhs4M.view.readAt (Elt F) (Rect.unit (s := S4x224x3584) ![3, 0, 0] S1x224x3584.size inb_S4x224x3584_S1x224x3584_3_0_0).toLoadRect xl
/-- planes 0 to 3 of `act`. -/
abbrev pl0 : Rect S112x224x128 := Rect.unit (s := S112x224x128) ![0, 0, 0] S1x224x128.size inb_S112x224x128_S1x224x128_0_0_0
abbrev pl1 : Rect S112x224x128 := Rect.unit (s := S112x224x128) ![1, 0, 0] S1x224x128.size inb_S112x224x128_S1x224x128_1_0_0
abbrev pl2 : Rect S112x224x128 := Rect.unit (s := S112x224x128) ![2, 0, 0] S1x224x128.size inb_S112x224x128_S1x224x128_2_0_0
abbrev pl3 : Rect S112x224x128 := Rect.unit (s := S112x224x128) ![3, 0, 0] S1x224x128.size inb_S112x224x128_S1x224x128_3_0_0

/-- What the trip has stored into `act` after the first chunk, the last store first, and after each store that follows. -/
def h4 : List (View.Piece (Elt F) S112x224x128 .f32) :=
  [⟨pl3, k0_pay7 (k0_pay3 (l0 c xl) (w0 c XW k))⟩, ⟨pl2, k0_pay6 (k0_pay2 (l0 c xl) (w0 c XW k))⟩, ⟨pl1, k0_pay5 (l0 c xl) (w0 c XW k)⟩, ⟨pl0, k0_pay4 (l0 c xl) (w0 c XW k)⟩]
@[inherit_doc h4]
def h5 : List (View.Piece (Elt F) S112x224x128 .f32) := ⟨pl0, k0_pay13 (k0_pay12 (l1 c xl) (w1 c XW k) (actM.view.readCov (h4 c XW xl k) pl0.toLoadRect))⟩ :: h4 c XW xl k
@[inherit_doc h4]
def h6 : List (View.Piece (Elt F) S112x224x128 .f32) := ⟨pl1, k0_pay14 (k0_pay9 (l1 c xl) (w1 c XW k)) (actM.view.readCov (h5 c XW xl k) pl1.toLoadRect)⟩ :: h5 c XW xl k
@[inherit_doc h4]
def h7 : List (View.Piece (Elt F) S112x224x128 .f32) := ⟨pl2, k0_pay15 (k0_pay10 (l1 c xl) (w1 c XW k)) (actM.view.readCov (h6 c XW xl k) pl2.toLoadRect)⟩ :: h6 c XW xl k
@[inherit_doc h4]
def h8 : List (View.Piece (Elt F) S112x224x128 .f32) := ⟨pl3, k0_pay16 (k0_pay11 (l1 c xl) (w1 c XW k)) (actM.view.readCov (h7 c XW xl k) pl3.toLoadRect)⟩ :: h7 c XW xl k
@[inherit_doc h4]
def h9 : List (View.Piece (Elt F) S112x224x128 .f32) := ⟨pl0, k0_pay19 (l2 c xl) (w2 c XW k) (actM.view.readCov (h8 c XW xl k) pl0.toLoadRect)⟩ :: h8 c XW xl k
@[inherit_doc h4]
def h10 : List (View.Piece (Elt F) S112x224x128 .f32) := ⟨pl1, k0_pay20 (l2 c xl) (w2 c XW k) (actM.view.readCov (h9 c XW xl k) pl1.toLoadRect)⟩ :: h9 c XW xl k
@[inherit_doc h4]
def h11 : List (View.Piece (Elt F) S112x224x128 .f32) := ⟨pl2, k0_pay22 (k0_pay21 (l2 c xl) (w2 c XW k) (actM.view.readCov (h10 c XW xl k) pl2.toLoadRect))⟩ :: h10 c XW xl k
@[inherit_doc h4]
def h12 : List (View.Piece (Elt F) S112x224x128 .f32) := ⟨pl3, k0_pay23 (k0_pay18 (l2 c xl) (w2 c XW k)) (actM.view.readCov (h11 c XW xl k) pl3.toLoadRect)⟩ :: h11 c XW xl k
@[inherit_doc h4]
def h13 : List (View.Piece (Elt F) S112x224x128 .f32) := ⟨pl0, k0_pay29 (k0_pay25 (l3 c xl) (w3 c XW k)) (actM.view.readCov (h12 c XW xl k) pl0.toLoadRect)⟩ :: h12 c XW xl k
@[inherit_doc h4]
def h14 : List (View.Piece (Elt F) S112x224x128 .f32) := ⟨pl1, k0_pay30 (k0_pay26 (l3 c xl) (w3 c XW k)) (actM.view.readCov (h13 c XW xl k) pl1.toLoadRect)⟩ :: h13 c XW xl k
@[inherit_doc h4]
def h15 : List (View.Piece (Elt F) S112x224x128 .f32) := ⟨pl2, k0_pay31 (k0_pay27 (l3 c xl) (w3 c XW k)) (actM.view.readCov (h14 c XW xl k) pl2.toLoadRect)⟩ :: h14 c XW xl k
@[inherit_doc h4]
def h16 : List (View.Piece (Elt F) S112x224x128 .f32) := ⟨pl3, k0_pay32 (k0_pay28 (l3 c xl) (w3 c XW k)) (actM.view.readCov (h15 c XW xl k) pl3.toLoadRect)⟩ :: h15 c XW xl k

/-- The new contents of the trip's four lanes. -/
def z0 : FVec F S224x128 .f32 :=
  k0_pay33 (attnM.view.readAt (Elt F) (Rect.unit (s := S224x4096) (k0_off61 k 0#32) S224x128.size (k0_off61_inb k 0)).toLoadRect XA)
    (actM.view.readCov (h16 c XW xl k) pl0.toLoadRect)
    (arepM.view.readAt (Elt F) (Rect.unit (s := S224x128) ![0, 0] S224x128.size inb_S224x128_S224x128_0_0).toLoadRect xr)
    (arg4.view.readAt (Elt F) (Rect.unit (s := S1x4096) (k0_off62 k 0#32) S1x128.size (k0_off62_inb k 0)).toLoadRect x4)
def z1 : FVec F S224x128 .f32 :=
  k0_pay34 (attnM.view.readAt (Elt F) (Rect.unit (s := S224x4096) (k0_off61 k 128#32) S224x128.size (k0_off61_inb k 1)).toLoadRect XA)
    (actM.view.readCov (h16 c XW xl k) pl1.toLoadRect)
    (arepM.view.readAt (Elt F) (Rect.unit (s := S224x128) ![0, 0] S224x128.size inb_S224x128_S224x128_0_0).toLoadRect xr)
    (arg4.view.readAt (Elt F) (Rect.unit (s := S1x4096) (k0_off62 k 128#32) S1x128.size (k0_off62_inb k 1)).toLoadRect x4)
def z2 : FVec F S224x128 .f32 :=
  k0_pay35 (attnM.view.readAt (Elt F) (Rect.unit (s := S224x4096) (k0_off61 k 256#32) S224x128.size (k0_off61_inb k 2)).toLoadRect XA)
    (actM.view.readCov (h16 c XW xl k) pl2.toLoadRect)
    (arepM.view.readAt (Elt F) (Rect.unit (s := S224x128) ![0, 0] S224x128.size inb_S224x128_S224x128_0_0).toLoadRect xr)
    (arg4.view.readAt (Elt F) (Rect.unit (s := S1x4096) (k0_off62 k 256#32) S1x128.size (k0_off62_inb k 2)).toLoadRect x4)
def z3 : FVec F S224x128 .f32 :=
  k0_pay36 (attnM.view.readAt (Elt F) (Rect.unit (s := S224x4096) (k0_off61 k 384#32) S224x128.size (k0_off61_inb k 3)).toLoadRect XA)
    (actM.view.readCov (h16 c XW xl k) pl3.toLoadRect)
    (arepM.view.readAt (Elt F) (Rect.unit (s := S224x128) ![0, 0] S224x128.size inb_S224x128_S224x128_0_0).toLoadRect xr)
    (arg4.view.readAt (Elt F) (Rect.unit (s := S1x4096) (k0_off62 k 384#32) S1x128.size (k0_off62_inb k 3)).toLoadRect x4)
/-- Lane `j` of them. -/
def zz (j : Fin 4) : FVec F S224x128 .f32 :=
  match j with
  | 0 => z0 c XW arg4 XA x4 xr xl k
  | 1 => z1 c XW arg4 XA x4 xr xl k
  | 2 => z2 c XW arg4 XA x4 xr xl k
  | 3 => z3 c XW arg4 XA x4 xr xl k

/-- The accumulator when all is done: column `y` is in lane `y % 512 / 128` of trip `y / 512`. -/
def fin : Buf (Elt F) (attnM.view.loc (c : Thread nD τ)) := fun y =>
  zz c XW arg4 XA x4 xr xl (⟨(y 1).val / 512, Nat.div_lt_of_lt_mul (show (y 1).val < 512 * 8 from (y 1).isLt)⟩ : Fin 8) ⟨(y 1).val % 512 / 128, by omega⟩
    (ix2 (n0 := 224) (n1 := 128) (y 0) ⟨(y 1).val % 128, by omega⟩)

theorem lane_emb (p : Fin 32) (x : Fin 224) (y : Fin 128) :
    (lane p).view.emb (ix2 x y) = ix2 (n0 := 224) (n1 := 4096) x ⟨128 * p.val + y.val, by have := p.isLt; omega⟩ := by
  show (Rect.unit (s := S224x4096) (laneOff p) S224x128.size (laneOff_inb p)).emb (ix2 x y) = _
  funext a; fin_cases a <;> apply Fin.ext <;> simp [Rect.emb_apply]

theorem read_fin (p : Fin 32) (j : Fin 4) (hp : p.val = 4 * k.val + j.val) :
    (lane p).view.read (Elt F) (fin c XW arg4 XA x4 xr xl) = zz c XW arg4 XA x4 xr xl k j := by
  funext i
  obtain ⟨x, y, rfl⟩ : ∃ (x : Fin 224) (y : Fin 128), i = ix2 x y := ⟨i 0, i 1, by funext a; fin_cases a <;> rfl⟩
  show fin c XW arg4 XA x4 xr xl ((lane p).view.emb (ix2 x y)) = _
  rw [lane_emb]
  have hj := j.isLt
  have hk := k_lt k
  have hy := y.isLt
  show zz c XW arg4 XA x4 xr xl (⟨(128 * p.val + y.val) / 512, _⟩ : Fin 8) ⟨(128 * p.val + y.val) % 512 / 128, _⟩ (ix2 x ⟨(128 * p.val + y.val) % 128, _⟩) = _
  rw [show (⟨(128 * p.val + y.val) / 512, Nat.div_lt_of_lt_mul (by omega)⟩ : Fin 8) = (⟨k.val, hk⟩ : Fin 8) from Fin.ext (by show (128 * p.val + y.val) / 512 = k.val; omega),
    show (⟨(128 * p.val + y.val) % 512 / 128, by omega⟩ : Fin 4) = j from Fin.ext (by show (128 * p.val + y.val) % 512 / 128 = j.val; omega),
    show (⟨(128 * p.val + y.val) % 128, by omega⟩ : Fin 128) = y from Fin.ext (by show (128 * p.val + y.val) % 128 = y.val; omega)]
  rfl

/-- A lane just stored holds what it holds in the end. -/
theorem lane_stored (p : Fin 32) (j : Fin 4) (hp : p.val = 4 * k.val + j.val) {off : Fin 2 → Nat} (e : off = laneOff p) (hh) (V : FVec F S224x128 .f32)
    (hV : V = zz c XW arg4 XA x4 xr xl k j) :
    (own c (lane p) (View.write (Elt F) (attnM.access (Rect.unit (s := S224x4096) off S224x128.size hh)) XA V Finset.univ) : sProp 𝕄)
      ⊢ laneP c p (fin c XW arg4 XA x4 xr xl) := by
  subst e
  exact Entails.of_eq (pointsTo_congr (eq_on_set (lane p).view _ _
    ((View.read_write_univ (v := (lane p).view) XA V).trans (hV.trans (read_fin c XW arg4 XA x4 xr xl k p j hp).symm))))

/-- What the copy of block `n` into the result delivers. -/
def dD (n : Fin 8) : sProp 𝕄 :=
  iprop(own c (dl n) ((dl n).view.writes (Elt F) (dl n).view.junk [⟨Rect.whole S224x512, ReadAs.same.apply ((ab n).view.read (Elt F) (fin c XW arg4 XA x4 xr xl))⟩])
    ∗ own c (ab n) (fin c XW arg4 XA x4 xr xl))
instance (n : Fin 8) : BI.Storable (upEmb : UEmb _ 𝕄) (dD c XW arg4 XA x4 xr xl n) := storable_pair c (dl n) (ab n) _ _
/-- One copy's credit. -/
abbrev ND : ℕ := (dl 0).view.amount (SemLoc.dma (sig := sig) cc0_scratch6.sem)
/-- The eight copies of the blocks, `n` of them started. -/
abbrev copies (n : ℕ) : sProp 𝕄 :=
  Transfers.Batch countersEmb (c : Thread nD τ) (SemLoc.dma cc0_scratch6.sem) () ND (dD c XW arg4 XA x4 xr xl) n 0
/-- A holding that the run is not to use yet. -/
def held (P : sProp 𝕄) : sProp 𝕄 := P
omit [FloatOps F] in
theorem held_out (P : sProp 𝕄) : held P ⊢ P := .rfl
omit [FloatOps F] in
theorem held_in (P : sProp 𝕄) : P ⊢ held P := .rfl

/-- A part of the ring whose contents no longer matter. -/
theorem forget (s : Fin 16) (f : Buf (Elt F) (ringM.view.loc (c : Thread nD τ))) : (own c (part s) f : sProp 𝕄) ⊢ ∃ f, own c (part s) f := exists_intro f

/-- The buffers a trip reads or overwrites, besides the ring, the weights and the accumulator. -/
abbrev bufs : sProp 𝕄 := iprop(own c arg4 x4 ∗ own c arepM xr ∗ own c lhs4M xl ∗ (∃ xa, own c actM xa))

end Values

section Runs
variable (XA : Buf (Elt F) (attnM.view.loc (c : Thread nD τ))) (x4 : Buf (Elt F) (arg4.view.loc (c : Thread nD τ)))
  (xr : Buf (Elt F) (arepM.view.loc (c : Thread nD τ))) (xl : Buf (Elt F) (lhs4M.view.loc (c : Thread nD τ)))

/-- A trip whose four arrivals each issue a further chunk. -/
theorem tripA (k : T1) (hk : k.val ≤ 3) :
    iprop(bufs c arg4 x4 xr xl ∗ (∃ W, owes (c : Thread nD τ) 0 W) ∗ abP c (blk k) XA ∗ (∃ f, dlP c (blk k) f) ∗ copies c XW arg4 XA x4 xr xl k.val
      ∗ flight c XW (Ring.sl 16 (4 * k.val + 13)) (Ring.bk 32 (4 * k.val))
      ∗ flight c XW (Ring.sl 16 (4 * k.val + 14)) (Ring.bk 32 (4 * k.val + 1))
      ∗ flight c XW (Ring.sl 16 (4 * k.val + 15)) (Ring.bk 32 (4 * k.val + 2))
      ∗ flight c XW (Ring.sl 16 (4 * k.val + 16)) (Ring.bk 32 (4 * k.val + 3))
      ∗ freeS c (Ring.sl 16 (4 * k.val + 12)) ∗ homeB c XW (Ring.bk 32 (4 * k.val + 15)) ∗ homeB c XW (Ring.bk 32 (4 * k.val + 16)) ∗ homeB c XW (Ring.bk 32 (4 * k.val + 17)) ∗ homeB c XW (Ring.bk 32 (4 * k.val + 18)))
    ⊢ wp frame (wpE (defs₀ (F := F)) 𝒱₀ (c : Thread nD τ) none) Set.univ (trip1 arg0 harg0 arg1 harg1 arg2 harg2 arg4 harg4 v95 k)
        (fun _ => iprop(bufs c arg4 x4 xr xl ∗ (∃ W, owes (c : Thread nD τ) 0 W) ∗ copies c XW arg4 XA x4 xr xl (k.val + 1)
          ∗ homeB c XW (Ring.bk 32 (4 * k.val)) ∗ homeB c XW (Ring.bk 32 (4 * k.val + 1)) ∗ homeB c XW (Ring.bk 32 (4 * k.val + 2)) ∗ homeB c XW (Ring.bk 32 (4 * k.val + 3))
          ∗ flight c XW (Ring.sl 16 (4 * k.val + 12)) (Ring.bk 32 (4 * k.val + 15))
          ∗ flight c XW (Ring.sl 16 (4 * k.val + 13)) (Ring.bk 32 (4 * k.val + 16))
          ∗ flight c XW (Ring.sl 16 (4 * k.val + 14)) (Ring.bk 32 (4 * k.val + 17))
          ∗ flight c XW (Ring.sl 16 (4 * k.val + 15)) (Ring.bk 32 (4 * k.val + 18))
          ∗ freeS c (Ring.sl 16 (4 * k.val + 16)))) := by
  have hk8 := k_lt k
  have h16 := cond16 k
  have h18 := cond18 k
  have h20 := cond20 k
  have h22 := cond22 k
  have h17 := (cond17 k).2 (by omega)
  have h19 := (cond19 k).2 (by omega)
  have h21 := (cond21 k).2 (by omega)
  have h23 := (cond23 k).2 (by omega)
  have hk4 : k.val ≤ 4 := by omega
  iintro ⟨⟨H4, HR, HL, ⟨%xa, HA⟩⟩, ⟨%W, HW⟩, HZ, ⟨%fd, HD⟩, HC, HF0, HF1, HF2, HF3, ⟨⟨%f, Hp⟩, Hc⟩, G0, G1, G2, G3⟩
  ihave HC := (held_in _) $$ HC
  ihave G1 := (held_in _) $$ G1
  ihave G2 := (held_in _) $$ G2
  ihave G3 := (held_in _) $$ G3
  ihave HZ' := (ab_lanes c (blk k) (Ring.bk 32 (4 * k.val + 0)) (Ring.bk 32 (4 * k.val + 1)) (Ring.bk 32 (4 * k.val + 2)) (Ring.bk 32 (4 * k.val + 3)) (Ring.bk_val (by omega)) (Ring.bk_val (by omega)) (Ring.bk_val (by omega)) (Ring.bk_val (by omega)) XA).1 $$ HZ
  icases HZ' with ⟨Z0, Z1, Z2, Z3⟩
  dsimp only [trip1]
  sl_unfold [k0_t1_body]
  imod (Transfers.batch_alloc' (Lvl := ℕ) (countersEmb (U := UU nD τ)) (c : Thread nD τ) () NN (deliv c XW (Ring.sl 16 (4 * k.val + 12)) (Ring.bk 32 (4 * k.val + 15))) (sm := .dma (csm (Ring.sl 16 (4 * k.val + 12))).sem) (E := Set.univ)) $$ Hc with HB0
  sl_exec
  ihave HP1 := (forget c (Ring.sl 16 (4 * k.val + 13)) (land c XW (Ring.sl 16 (4 * k.val + 13)) (Ring.bk 32 (4 * k.val)))) $$ HF0_dst0
  icases HP1 with ⟨%f1, HP1⟩
  ihave G1 := (held_out _) $$ G1
  imod (Transfers.batch_alloc' (Lvl := ℕ) (countersEmb (U := UU nD τ)) (c : Thread nD τ) () NN (deliv c XW (Ring.sl 16 (4 * k.val + 13)) (Ring.bk 32 (4 * k.val + 16))) (sm := .dma (csm (Ring.sl 16 (4 * k.val + 13))).sem) (E := Set.univ)) $$ HF0 with HB1
  sl_exec
  ihave HP2 := (forget c (Ring.sl 16 (4 * k.val + 14)) (land c XW (Ring.sl 16 (4 * k.val + 14)) (Ring.bk 32 (4 * k.val + 1)))) $$ HF1_dst0
  icases HP2 with ⟨%f2, HP2⟩
  ihave G2 := (held_out _) $$ G2
  imod (Transfers.batch_alloc' (Lvl := ℕ) (countersEmb (U := UU nD τ)) (c : Thread nD τ) () NN (deliv c XW (Ring.sl 16 (4 * k.val + 14)) (Ring.bk 32 (4 * k.val + 17))) (sm := .dma (csm (Ring.sl 16 (4 * k.val + 14))).sem) (E := Set.univ)) $$ HF1 with HB2
  sl_exec
  ihave HP3 := (forget c (Ring.sl 16 (4 * k.val + 15)) (land c XW (Ring.sl 16 (4 * k.val + 15)) (Ring.bk 32 (4 * k.val + 2)))) $$ HF2_dst0
  icases HP3 with ⟨%f3, HP3⟩
  ihave G3 := (held_out _) $$ G3
  imod (Transfers.batch_alloc' (Lvl := ℕ) (countersEmb (U := UU nD τ)) (c : Thread nD τ) () NN (deliv c XW (Ring.sl 16 (4 * k.val + 15)) (Ring.bk 32 (4 * k.val + 18))) (sm := .dma (csm (Ring.sl 16 (4 * k.val + 15))).sem) (E := Set.univ)) $$ HF2 with HB3
  sl_exec
  ihave Y0 : laneP c (Ring.bk 32 (4 * k.val + 0)) (fin c XW arg4 XA x4 xr xl) $$ [Z0]
  · iapply (lane_stored c XW arg4 XA x4 xr xl k (Ring.bk 32 (4 * k.val + 0)) 0 (Ring.bk_val (by omega)) (off61_0 k) (k0_off61_inb k 0) (z0 c XW arg4 XA x4 xr xl k) rfl); iexact Z0
  ihave Y1 : laneP c (Ring.bk 32 (4 * k.val + 1)) (fin c XW arg4 XA x4 xr xl) $$ [Z1]
  · iapply (lane_stored c XW arg4 XA x4 xr xl k (Ring.bk 32 (4 * k.val + 1)) 1 (Ring.bk_val (by omega)) (off61_1 k) (k0_off61_inb k 1) (z1 c XW arg4 XA x4 xr xl k) rfl); iexact Z1
  ihave Y2 : laneP c (Ring.bk 32 (4 * k.val + 2)) (fin c XW arg4 XA x4 xr xl) $$ [Z2]
  · iapply (lane_stored c XW arg4 XA x4 xr xl k (Ring.bk 32 (4 * k.val + 2)) 2 (Ring.bk_val (by omega)) (off61_2 k) (k0_off61_inb k 2) (z2 c XW arg4 XA x4 xr xl k) rfl); iexact Z2
  ihave Y3 : laneP c (Ring.bk 32 (4 * k.val + 3)) (fin c XW arg4 XA x4 xr xl) $$ [Z3]
  · iapply (lane_stored c XW arg4 XA x4 xr xl k (Ring.bk 32 (4 * k.val + 3)) 3 (Ring.bk_val (by omega)) (off61_3 k) (k0_off61_inb k 3) (z3 c XW arg4 XA x4 xr xl k) rfl); iexact Z3
  ihave HZ := (ab_lanes c (blk k) (Ring.bk 32 (4 * k.val + 0)) (Ring.bk 32 (4 * k.val + 1)) (Ring.bk 32 (4 * k.val + 2)) (Ring.bk 32 (4 * k.val + 3)) (Ring.bk_val (by omega)) (Ring.bk_val (by omega)) (Ring.bk_val (by omega)) (Ring.bk_val (by omega)) (fin c XW arg4 XA x4 xr xl)).2 $$ [Y0 Y1 Y2 Y3]
  · isplitl [Y0]; · iexact Y0
    isplitl [Y1]; · iexact Y1
    isplitl [Y2]; · iexact Y2
    iexact Y3
  ihave HC := (held_out _) $$ HC
  sl_exec
  sl_step
  isplitl [H4 HR HL HA]
  · isplitl [H4]; · iexact H4
    isplitl [HR]; · iexact HR
    isplitl [HL]; · iexact HL
    iexists _; iexact HA
  isplitl [HW]; · iexists _; iexact HW
  isplitl [HC]; · iexact HC
  isplitl [HF0_src0]
  · iexact HF0_src0
  isplitl [HF1_src0]
  · iexact HF1_src0
  isplitl [HF2_src0]
  · iexact HF2_src0
  isplitl [HF3_src0]
  · iexact HF3_src0
  isplitl [HB0]
  · iexact HB0
  isplitl [HB1]
  · iexact HB1
  isplitl [HB2]
  · iexact HB2
  isplitl [HB3]
  · iexact HB3
  isplitl [HF3_dst0]; · iexists _; iexact HF3_dst0
  iexact HF3

/-- The trip whose first arrival issues the last chunk. -/
theorem tripB (k : T1) (hk : k.val = 4) :
    iprop(bufs c arg4 x4 xr xl ∗ (∃ W, owes (c : Thread nD τ) 0 W) ∗ abP c (blk k) XA ∗ (∃ f, dlP c (blk k) f) ∗ copies c XW arg4 XA x4 xr xl k.val
      ∗ flight c XW (Ring.sl 16 (4 * k.val + 13)) (Ring.bk 32 (4 * k.val))
      ∗ flight c XW (Ring.sl 16 (4 * k.val + 14)) (Ring.bk 32 (4 * k.val + 1))
      ∗ flight c XW (Ring.sl 16 (4 * k.val + 15)) (Ring.bk 32 (4 * k.val + 2))
      ∗ flight c XW (Ring.sl 16 (4 * k.val + 16)) (Ring.bk 32 (4 * k.val + 3))
      ∗ freeS c (Ring.sl 16 (4 * k.val + 12)) ∗ homeB c XW (Ring.bk 32 (4 * k.val + 15)))
    ⊢ wp frame (wpE (defs₀ (F := F)) 𝒱₀ (c : Thread nD τ) none) Set.univ (trip1 arg0 harg0 arg1 harg1 arg2 harg2 arg4 harg4 v95 k)
        (fun _ => iprop(bufs c arg4 x4 xr xl ∗ (∃ W, owes (c : Thread nD τ) 0 W) ∗ copies c XW arg4 XA x4 xr xl (k.val + 1)
          ∗ homeB c XW (Ring.bk 32 (4 * k.val)) ∗ homeB c XW (Ring.bk 32 (4 * k.val + 1)) ∗ homeB c XW (Ring.bk 32 (4 * k.val + 2)) ∗ homeB c XW (Ring.bk 32 (4 * k.val + 3))
          ∗ flight c XW (Ring.sl 16 (4 * k.val + 12)) (Ring.bk 32 (4 * k.val + 15))
          ∗ freeS c (Ring.sl 16 (4 * k.val + 13))
          ∗ freeS c (Ring.sl 16 (4 * k.val + 14))
          ∗ freeS c (Ring.sl 16 (4 * k.val + 15))
          ∗ freeS c (Ring.sl 16 (4 * k.val + 16)))) := by
  have hk8 := k_lt k
  have h16 := cond16 k
  have h18 := cond18 k
  have h20 := cond20 k
  have h22 := cond22 k
  have h17 := (cond17 k).2 (by omega)
  have h19 : ¬ k0_cond19 k = 1#1 := fun h => by have := (cond19 k).1 h; omega
  have h21 : ¬ k0_cond21 k = 1#1 := fun h => by have := (cond21 k).1 h; omega
  have h23 : ¬ k0_cond23 k = 1#1 := fun h => by have := (cond23 k).1 h; omega
  have hk4 : k.val ≤ 4 := by omega
  iintro ⟨⟨H4, HR, HL, ⟨%xa, HA⟩⟩, ⟨%W, HW⟩, HZ, ⟨%fd, HD⟩, HC, HF0, HF1, HF2, HF3, ⟨⟨%f, Hp⟩, Hc⟩, G0⟩
  ihave HC := (held_in _) $$ HC
  ihave HZ' := (ab_lanes c (blk k) (Ring.bk 32 (4 * k.val + 0)) (Ring.bk 32 (4 * k.val + 1)) (Ring.bk 32 (4 * k.val + 2)) (Ring.bk 32 (4 * k.val + 3)) (Ring.bk_val (by omega)) (Ring.bk_val (by omega)) (Ring.bk_val (by omega)) (Ring.bk_val (by omega)) XA).1 $$ HZ
  icases HZ' with ⟨Z0, Z1, Z2, Z3⟩
  dsimp only [trip1]
  sl_unfold [k0_t1_body]
  imod (Transfers.batch_alloc' (Lvl := ℕ) (countersEmb (U := UU nD τ)) (c : Thread nD τ) () NN (deliv c XW (Ring.sl 16 (4 * k.val + 12)) (Ring.bk 32 (4 * k.val + 15))) (sm := .dma (csm (Ring.sl 16 (4 * k.val + 12))).sem) (E := Set.univ)) $$ Hc with HB0
  sl_exec
  ihave Y0 : laneP c (Ring.bk 32 (4 * k.val + 0)) (fin c XW arg4 XA x4 xr xl) $$ [Z0]
  · iapply (lane_stored c XW arg4 XA x4 xr xl k (Ring.bk 32 (4 * k.val + 0)) 0 (Ring.bk_val (by omega)) (off61_0 k) (k0_off61_inb k 0) (z0 c XW arg4 XA x4 xr xl k) rfl); iexact Z0
  ihave Y1 : laneP c (Ring.bk 32 (4 * k.val + 1)) (fin c XW arg4 XA x4 xr xl) $$ [Z1]
  · iapply (lane_stored c XW arg4 XA x4 xr xl k (Ring.bk 32 (4 * k.val + 1)) 1 (Ring.bk_val (by omega)) (off61_1 k) (k0_off61_inb k 1) (z1 c XW arg4 XA x4 xr xl k) rfl); iexact Z1
  ihave Y2 : laneP c (Ring.bk 32 (4 * k.val + 2)) (fin c XW arg4 XA x4 xr xl) $$ [Z2]
  · iapply (lane_stored c XW arg4 XA x4 xr xl k (Ring.bk 32 (4 * k.val + 2)) 2 (Ring.bk_val (by omega)) (off61_2 k) (k0_off61_inb k 2) (z2 c XW arg4 XA x4 xr xl k) rfl); iexact Z2
  ihave Y3 : laneP c (Ring.bk 32 (4 * k.val + 3)) (fin c XW arg4 XA x4 xr xl) $$ [Z3]
  · iapply (lane_stored c XW arg4 XA x4 xr xl k (Ring.bk 32 (4 * k.val + 3)) 3 (Ring.bk_val (by omega)) (off61_3 k) (k0_off61_inb k 3) (z3 c XW arg4 XA x4 xr xl k) rfl); iexact Z3
  ihave HZ := (ab_lanes c (blk k) (Ring.bk 32 (4 * k.val + 0)) (Ring.bk 32 (4 * k.val + 1)) (Ring.bk 32 (4 * k.val + 2)) (Ring.bk 32 (4 * k.val + 3)) (Ring.bk_val (by omega)) (Ring.bk_val (by omega)) (Ring.bk_val (by omega)) (Ring.bk_val (by omega)) (fin c XW arg4 XA x4 xr xl)).2 $$ [Y0 Y1 Y2 Y3]
  · isplitl [Y0]; · iexact Y0
    isplitl [Y1]; · iexact Y1
    isplitl [Y2]; · iexact Y2
    iexact Y3
  ihave HC := (held_out _) $$ HC
  sl_exec
  sl_step
  isplitl [H4 HR HL HA]
  · isplitl [H4]; · iexact H4
    isplitl [HR]; · iexact HR
    isplitl [HL]; · iexact HL
    iexists _; iexact HA
  isplitl [HW]; · iexists _; iexact HW
  isplitl [HC]; · iexact HC
  isplitl [HF0_src0]
  · iexact HF0_src0
  isplitl [HF1_src0]
  · iexact HF1_src0
  isplitl [HF2_src0]
  · iexact HF2_src0
  isplitl [HF3_src0]
  · iexact HF3_src0
  isplitl [HB0]
  · iexact HB0
  isplitl [HF0_dst0 HF0]
  · isplitl [HF0_dst0]; · iexists _; iexact HF0_dst0
    iexact HF0
  isplitl [HF1_dst0 HF1]
  · isplitl [HF1_dst0]; · iexists _; iexact HF1_dst0
    iexact HF1
  isplitl [HF2_dst0 HF2]
  · isplitl [HF2_dst0]; · iexists _; iexact HF2_dst0
    iexact HF2
  isplitl [HF3_dst0]; · iexists _; iexact HF3_dst0
  iexact HF3

/-- A trip that issues nothing. -/
theorem tripC (k : T1) (hk : 5 ≤ k.val) :
    iprop(bufs c arg4 x4 xr xl ∗ (∃ W, owes (c : Thread nD τ) 0 W) ∗ abP c (blk k) XA ∗ (∃ f, dlP c (blk k) f) ∗ copies c XW arg4 XA x4 xr xl k.val
      ∗ flight c XW (Ring.sl 16 (4 * k.val + 13)) (Ring.bk 32 (4 * k.val))
      ∗ flight c XW (Ring.sl 16 (4 * k.val + 14)) (Ring.bk 32 (4 * k.val + 1))
      ∗ flight c XW (Ring.sl 16 (4 * k.val + 15)) (Ring.bk 32 (4 * k.val + 2))
      ∗ flight c XW (Ring.sl 16 (4 * k.val + 16)) (Ring.bk 32 (4 * k.val + 3)))
    ⊢ wp frame (wpE (defs₀ (F := F)) 𝒱₀ (c : Thread nD τ) none) Set.univ (trip1 arg0 harg0 arg1 harg1 arg2 harg2 arg4 harg4 v95 k)
        (fun _ => iprop(bufs c arg4 x4 xr xl ∗ (∃ W, owes (c : Thread nD τ) 0 W) ∗ copies c XW arg4 XA x4 xr xl (k.val + 1)
          ∗ homeB c XW (Ring.bk 32 (4 * k.val)) ∗ homeB c XW (Ring.bk 32 (4 * k.val + 1)) ∗ homeB c XW (Ring.bk 32 (4 * k.val + 2)) ∗ homeB c XW (Ring.bk 32 (4 * k.val + 3))
          ∗ freeS c (Ring.sl 16 (4 * k.val + 13))
          ∗ freeS c (Ring.sl 16 (4 * k.val + 14))
          ∗ freeS c (Ring.sl 16 (4 * k.val + 15))
          ∗ freeS c (Ring.sl 16 (4 * k.val + 16)))) := by
  have hk8 := k_lt k
  have h16 := cond16 k
  have h18 := cond18 k
  have h20 := cond20 k
  have h22 := cond22 k
  have h17 : ¬ k0_cond17 k = 1#1 := fun h => by have := (cond17 k).1 h; omega
  have h19 : ¬ k0_cond19 k = 1#1 := fun h => by have := (cond19 k).1 h; omega
  have h21 : ¬ k0_cond21 k = 1#1 := fun h => by have := (cond21 k).1 h; omega
  have h23 : ¬ k0_cond23 k = 1#1 := fun h => by have := (cond23 k).1 h; omega
  iintro ⟨⟨H4, HR, HL, ⟨%xa, HA⟩⟩, ⟨%W, HW⟩, HZ, ⟨%fd, HD⟩, HC, HF0, HF1, HF2, HF3⟩
  ihave HC := (held_in _) $$ HC
  ihave HZ' := (ab_lanes c (blk k) (Ring.bk 32 (4 * k.val + 0)) (Ring.bk 32 (4 * k.val + 1)) (Ring.bk 32 (4 * k.val + 2)) (Ring.bk 32 (4 * k.val + 3)) (Ring.bk_val (by omega)) (Ring.bk_val (by omega)) (Ring.bk_val (by omega)) (Ring.bk_val (by omega)) XA).1 $$ HZ
  icases HZ' with ⟨Z0, Z1, Z2, Z3⟩
  dsimp only [trip1]
  sl_unfold [k0_t1_body]
  sl_exec
  ihave Y0 : laneP c (Ring.bk 32 (4 * k.val + 0)) (fin c XW arg4 XA x4 xr xl) $$ [Z0]
  · iapply (lane_stored c XW arg4 XA x4 xr xl k (Ring.bk 32 (4 * k.val + 0)) 0 (Ring.bk_val (by omega)) (off61_0 k) (k0_off61_inb k 0) (z0 c XW arg4 XA x4 xr xl k) rfl); iexact Z0
  ihave Y1 : laneP c (Ring.bk 32 (4 * k.val + 1)) (fin c XW arg4 XA x4 xr xl) $$ [Z1]
  · iapply (lane_stored c XW arg4 XA x4 xr xl k (Ring.bk 32 (4 * k.val + 1)) 1 (Ring.bk_val (by omega)) (off61_1 k) (k0_off61_inb k 1) (z1 c XW arg4 XA x4 xr xl k) rfl); iexact Z1
  ihave Y2 : laneP c (Ring.bk 32 (4 * k.val + 2)) (fin c XW arg4 XA x4 xr xl) $$ [Z2]
  · iapply (lane_stored c XW arg4 XA x4 xr xl k (Ring.bk 32 (4 * k.val + 2)) 2 (Ring.bk_val (by omega)) (off61_2 k) (k0_off61_inb k 2) (z2 c XW arg4 XA x4 xr xl k) rfl); iexact Z2
  ihave Y3 : laneP c (Ring.bk 32 (4 * k.val + 3)) (fin c XW arg4 XA x4 xr xl) $$ [Z3]
  · iapply (lane_stored c XW arg4 XA x4 xr xl k (Ring.bk 32 (4 * k.val + 3)) 3 (Ring.bk_val (by omega)) (off61_3 k) (k0_off61_inb k 3) (z3 c XW arg4 XA x4 xr xl k) rfl); iexact Z3
  ihave HZ := (ab_lanes c (blk k) (Ring.bk 32 (4 * k.val + 0)) (Ring.bk 32 (4 * k.val + 1)) (Ring.bk 32 (4 * k.val + 2)) (Ring.bk 32 (4 * k.val + 3)) (Ring.bk_val (by omega)) (Ring.bk_val (by omega)) (Ring.bk_val (by omega)) (Ring.bk_val (by omega)) (fin c XW arg4 XA x4 xr xl)).2 $$ [Y0 Y1 Y2 Y3]
  · isplitl [Y0]; · iexact Y0
    isplitl [Y1]; · iexact Y1
    isplitl [Y2]; · iexact Y2
    iexact Y3
  ihave HC := (held_out _) $$ HC
  sl_exec
  sl_step
  isplitl [H4 HR HL HA]
  · isplitl [H4]; · iexact H4
    isplitl [HR]; · iexact HR
    isplitl [HL]; · iexact HL
    iexists _; iexact HA
  isplitl [HW]; · iexists _; iexact HW
  isplitl [HC]; · iexact HC
  isplitl [HF0_src0]
  · iexact HF0_src0
  isplitl [HF1_src0]
  · iexact HF1_src0
  isplitl [HF2_src0]
  · iexact HF2_src0
  isplitl [HF3_src0]
  · iexact HF3_src0
  isplitl [HF0_dst0 HF0]
  · isplitl [HF0_dst0]; · iexists _; iexact HF0_dst0
    iexact HF0
  isplitl [HF1_dst0 HF1]
  · isplitl [HF1_dst0]; · iexists _; iexact HF1_dst0
    iexact HF1
  isplitl [HF2_dst0 HF2]
  · isplitl [HF2_dst0]; · iexists _; iexact HF2_dst0
    iexact HF2
  isplitl [HF3_dst0]; · iexists _; iexact HF3_dst0
  iexact HF3

end Runs
end Trip

end Cert.Proof.DI

end
-- ==== Proof.DownLoop.lean ====
/- The down loop's invariant: which chunks are in flight before each trip, which slots are free, which blocks are done. -/
module

public import proofs.«01_k».proof.Proof.DownTrip
public import Idealize.SL.BI.BigOpNat

@[expose] public section

noncomputable section

namespace Cert.Proof.DI

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ (UU nD τ) ℕ

/-! ## Taking members out of a big separating conjunction -/

omit [FloatOps F] in
theorem bigSep_list {I : Type} [DecidableEq I] {Φ : I → sProp 𝕄} (l : List I) :
    ∀ s : Finset I, l.Nodup → (∀ i ∈ l, i ∈ s) → bigSep s Φ = l.foldr (fun i P => iprop(Φ i ∗ P)) (bigSep (s \ l.toFinset) Φ) := by
  induction l with
  | nil => intro s _ _; simp
  | cons i l ih =>
    intro s hn hs
    have hi := List.nodup_cons.1 hn
    rw [bigSep_erase (hs i (by simp)), ih (s.erase i) hi.2 (fun j hj => Finset.mem_erase.2 ⟨fun e => hi.1 (e ▸ hj), hs j (by simp [hj])⟩)]
    have e : s.erase i \ l.toFinset = s \ (i :: l).toFinset := by
      ext j; simp only [Finset.mem_sdiff, Finset.mem_erase, List.toFinset_cons, Finset.mem_insert, List.mem_toFinset]; tauto
    rw [e]; rfl

section Ring
variable (c : Dev nD) (XW : Buf (Elt F) (wdM.view.loc (c : Thread nD τ)))

/-- Chunk `b` before trip `k`: in flight, or at home. -/
def stB (k : ℕ) (b : Fin 32) : sProp 𝕄 :=
  if 4 * k ≤ b.val ∧ b.val < 4 * k + 15 then flight c XW (Ring.sl 16 (b.val + 13)) b else homeB c XW b

/-- The slots that are free before trip `k`: one while chunks are still fetched, then four more each trip. -/
def freeAt (k : ℕ) : sProp 𝕄 :=
  if k ≤ 4 then freeS c (Ring.sl 16 (4 * k + 12)) else bigSep (Finset.range (4 * k - 16)) fun i => freeS c (Ring.sl 16 (29 + i))

def ringAt (k : ℕ) : sProp 𝕄 := iprop(bigSep Finset.univ (stB c XW k) ∗ freeAt c k)

theorem stB_fly (k n : ℕ) (hn : n < 32) (h : 4 * k ≤ n ∧ n < 4 * k + 15) :
    stB c XW k (Ring.bk 32 n) = flight c XW (Ring.sl 16 (n + 13)) (Ring.bk 32 n) := by
  unfold stB; rw [Ring.bk_val hn, if_pos h]
theorem stB_home (k n : ℕ) (hn : n < 32) (h : ¬ (4 * k ≤ n ∧ n < 4 * k + 15)) :
    stB c XW k (Ring.bk 32 n) = homeB c XW (Ring.bk 32 n) := by
  unfold stB; rw [Ring.bk_val hn, if_neg h]

/-- The chunks no trip touches, for a list. -/
abbrev rest (k : ℕ) (ns : List ℕ) : sProp 𝕄 := bigSep (Finset.univ \ (ns.map (Ring.bk 32)).toFinset) (stB c XW k)

/-- They are where they were. -/
theorem stB_rest (k : ℕ) (ns : List ℕ)
    (h : ∀ b : Fin 32, b ∉ ns.map (Ring.bk 32) → ((4 * k ≤ b.val ∧ b.val < 4 * k + 15) ↔ (4 * (k + 1) ≤ b.val ∧ b.val < 4 * (k + 1) + 15))) :
    rest c XW k ns = rest c XW (k + 1) ns := by
  refine bigSep_congr fun b hb => ?_
  have hb' := h b (by simpa using hb)
  unfold stB
  simp only [hb']

theorem bks_nodup (ns : List ℕ) (h : ns.Nodup) (hl : ∀ n ∈ ns, n < 32) : (ns.map (Ring.bk 32)).Nodup :=
  List.Nodup.map_on (fun a ha b hb e => by have := congrArg Fin.val e; rwa [Ring.bk_val (hl a ha), Ring.bk_val (hl b hb)] at this) h

theorem ne_of_not_mem {b : Fin 32} {n : ℕ} {ns : List ℕ} (h : b ∉ ns.map (Ring.bk 32)) (hm : n ∈ ns) : b.val ≠ n := fun e =>
  h (List.mem_map.2 ⟨n, hm, Fin.ext (by rw [Ring.bk_val (e ▸ b.isLt), e])⟩)

/-- The chunks of a list, and the others. -/
theorem ring_list (k : ℕ) (ns : List ℕ) (h : ns.Nodup) (hl : ∀ n ∈ ns, n < 32) :
    bigSep Finset.univ (stB c XW k) = (ns.map (Ring.bk 32)).foldr (fun i P => iprop(stB c XW k i ∗ P)) (rest c XW k ns) :=
  bigSep_list _ _ (bks_nodup ns h hl) (fun _ _ => Finset.mem_univ _)

theorem ringA (k : ℕ) (hk : k ≤ 3) : ∃ R : sProp 𝕄,
    ringAt c XW k = iprop((flight c XW (Ring.sl 16 (4 * k + 13)) (Ring.bk 32 (4 * k)) ∗ flight c XW (Ring.sl 16 (4 * k + 14)) (Ring.bk 32 (4 * k + 1)) ∗ flight c XW (Ring.sl 16 (4 * k + 15)) (Ring.bk 32 (4 * k + 2)) ∗ flight c XW (Ring.sl 16 (4 * k + 16)) (Ring.bk 32 (4 * k + 3)) ∗ homeB c XW (Ring.bk 32 (4 * k + 15)) ∗ homeB c XW (Ring.bk 32 (4 * k + 16)) ∗ homeB c XW (Ring.bk 32 (4 * k + 17)) ∗ homeB c XW (Ring.bk 32 (4 * k + 18)) ∗ R) ∗ freeS c (Ring.sl 16 (4 * k + 12)))
    ∧ ringAt c XW (k + 1) = iprop((homeB c XW (Ring.bk 32 (4 * k)) ∗ homeB c XW (Ring.bk 32 (4 * k + 1)) ∗ homeB c XW (Ring.bk 32 (4 * k + 2)) ∗ homeB c XW (Ring.bk 32 (4 * k + 3)) ∗ flight c XW (Ring.sl 16 (4 * k + 12)) (Ring.bk 32 (4 * k + 15)) ∗ flight c XW (Ring.sl 16 (4 * k + 13)) (Ring.bk 32 (4 * k + 16)) ∗ flight c XW (Ring.sl 16 (4 * k + 14)) (Ring.bk 32 (4 * k + 17)) ∗ flight c XW (Ring.sl 16 (4 * k + 15)) (Ring.bk 32 (4 * k + 18)) ∗ R)
        ∗ freeS c (Ring.sl 16 (4 * k + 16))) := by
  have hn : ([4 * k, 4 * k + 1, 4 * k + 2, 4 * k + 3, 4 * k + 15, 4 * k + 16, 4 * k + 17, 4 * k + 18] : List ℕ).Nodup := by simp
  have hl : ∀ n ∈ ([4 * k, 4 * k + 1, 4 * k + 2, 4 * k + 3, 4 * k + 15, 4 * k + 16, 4 * k + 17, 4 * k + 18] : List ℕ), n < 32 := by simp only [List.mem_cons, List.not_mem_nil, or_false]; omega
  refine ⟨rest c XW (k + 1) [4 * k, 4 * k + 1, 4 * k + 2, 4 * k + 3, 4 * k + 15, 4 * k + 16, 4 * k + 17, 4 * k + 18], ?_, ?_⟩
  · have hr := stB_rest c XW k [4 * k, 4 * k + 1, 4 * k + 2, 4 * k + 3, 4 * k + 15, 4 * k + 16, 4 * k + 17, 4 * k + 18] fun b hb => by
      have hb32 := b.isLt
      have := ne_of_not_mem (n := 4 * k) hb (by simp)
      have := ne_of_not_mem (n := 4 * k + 1) hb (by simp)
      have := ne_of_not_mem (n := 4 * k + 2) hb (by simp)
      have := ne_of_not_mem (n := 4 * k + 3) hb (by simp)
      have := ne_of_not_mem (n := 4 * k + 15) hb (by simp)
      have := ne_of_not_mem (n := 4 * k + 16) hb (by simp)
      have := ne_of_not_mem (n := 4 * k + 17) hb (by simp)
      have := ne_of_not_mem (n := 4 * k + 18) hb (by simp)
      omega
    unfold ringAt freeAt
    rw [if_pos (by omega), ring_list c XW k _ hn hl, hr]
    simp only [List.map_cons, List.map_nil, List.foldr_cons, List.foldr_nil]
    rw [stB_fly c XW k (4 * k) (by omega) (by omega), stB_fly c XW k (4 * k + 1) (by omega) (by omega), stB_fly c XW k (4 * k + 2) (by omega) (by omega), stB_fly c XW k (4 * k + 3) (by omega) (by omega), stB_home c XW k (4 * k + 15) (by omega) (by omega), stB_home c XW k (4 * k + 16) (by omega) (by omega), stB_home c XW k (4 * k + 17) (by omega) (by omega), stB_home c XW k (4 * k + 18) (by omega) (by omega)]
  · unfold ringAt freeAt
    rw [if_pos (by omega), ring_list c XW (k + 1) _ hn hl]
    simp only [List.map_cons, List.map_nil, List.foldr_cons, List.foldr_nil]
    rw [stB_home c XW (k + 1) (4 * k) (by omega) (by omega), stB_home c XW (k + 1) (4 * k + 1) (by omega) (by omega), stB_home c XW (k + 1) (4 * k + 2) (by omega) (by omega), stB_home c XW (k + 1) (4 * k + 3) (by omega) (by omega), stB_fly c XW (k + 1) (4 * k + 15) (by omega) (by omega), stB_fly c XW (k + 1) (4 * k + 16) (by omega) (by omega), stB_fly c XW (k + 1) (4 * k + 17) (by omega) (by omega), stB_fly c XW (k + 1) (4 * k + 18) (by omega) (by omega), show 4 * k + 15 + 13 = (4 * k + 12) + 16 by omega, show 4 * k + 16 + 13 = (4 * k + 13) + 16 by omega, show 4 * k + 17 + 13 = (4 * k + 14) + 16 by omega, show 4 * k + 18 + 13 = (4 * k + 15) + 16 by omega, Ring.sl_add, Ring.sl_add, Ring.sl_add, Ring.sl_add]
    rfl

theorem ringB (k : ℕ) (hk : k = 4) : ∃ R : sProp 𝕄,
    ringAt c XW k = iprop((flight c XW (Ring.sl 16 (4 * k + 13)) (Ring.bk 32 (4 * k)) ∗ flight c XW (Ring.sl 16 (4 * k + 14)) (Ring.bk 32 (4 * k + 1)) ∗ flight c XW (Ring.sl 16 (4 * k + 15)) (Ring.bk 32 (4 * k + 2)) ∗ flight c XW (Ring.sl 16 (4 * k + 16)) (Ring.bk 32 (4 * k + 3)) ∗ homeB c XW (Ring.bk 32 (4 * k + 15)) ∗ R) ∗ freeS c (Ring.sl 16 (4 * k + 12)))
    ∧ ringAt c XW (k + 1) = iprop((homeB c XW (Ring.bk 32 (4 * k)) ∗ homeB c XW (Ring.bk 32 (4 * k + 1)) ∗ homeB c XW (Ring.bk 32 (4 * k + 2)) ∗ homeB c XW (Ring.bk 32 (4 * k + 3)) ∗ flight c XW (Ring.sl 16 (4 * k + 12)) (Ring.bk 32 (4 * k + 15)) ∗ R)
        ∗ freeS c (Ring.sl 16 (4 * k + 16)) ∗ freeS c (Ring.sl 16 (4 * k + 15)) ∗ freeS c (Ring.sl 16 (4 * k + 14)) ∗ freeS c (Ring.sl 16 (4 * k + 13))) := by
  have hn : ([4 * k, 4 * k + 1, 4 * k + 2, 4 * k + 3, 4 * k + 15] : List ℕ).Nodup := by simp
  have hl : ∀ n ∈ ([4 * k, 4 * k + 1, 4 * k + 2, 4 * k + 3, 4 * k + 15] : List ℕ), n < 32 := by simp only [List.mem_cons, List.not_mem_nil, or_false]; omega
  refine ⟨rest c XW (k + 1) [4 * k, 4 * k + 1, 4 * k + 2, 4 * k + 3, 4 * k + 15], ?_, ?_⟩
  · have hr := stB_rest c XW k [4 * k, 4 * k + 1, 4 * k + 2, 4 * k + 3, 4 * k + 15] fun b hb => by
      have hb32 := b.isLt
      have := ne_of_not_mem (n := 4 * k) hb (by simp)
      have := ne_of_not_mem (n := 4 * k + 1) hb (by simp)
      have := ne_of_not_mem (n := 4 * k + 2) hb (by simp)
      have := ne_of_not_mem (n := 4 * k + 3) hb (by simp)
      have := ne_of_not_mem (n := 4 * k + 15) hb (by simp)
      omega
    unfold ringAt freeAt
    rw [if_pos (by omega), ring_list c XW k _ hn hl, hr]
    simp only [List.map_cons, List.map_nil, List.foldr_cons, List.foldr_nil]
    rw [stB_fly c XW k (4 * k) (by omega) (by omega), stB_fly c XW k (4 * k + 1) (by omega) (by omega), stB_fly c XW k (4 * k + 2) (by omega) (by omega), stB_fly c XW k (4 * k + 3) (by omega) (by omega), stB_home c XW k (4 * k + 15) (by omega) (by omega)]
  · unfold ringAt freeAt
    rw [if_neg (by omega), ring_list c XW (k + 1) _ hn hl]
    simp only [List.map_cons, List.map_nil, List.foldr_cons, List.foldr_nil]
    rw [stB_home c XW (k + 1) (4 * k) (by omega) (by omega), stB_home c XW (k + 1) (4 * k + 1) (by omega) (by omega), stB_home c XW (k + 1) (4 * k + 2) (by omega) (by omega), stB_home c XW (k + 1) (4 * k + 3) (by omega) (by omega), stB_fly c XW (k + 1) (4 * k + 15) (by omega) (by omega), show 4 * k + 15 + 13 = (4 * k + 12) + 16 by omega, Ring.sl_add]
    subst hk
    rw [show 4 * (4 + 1) - 16 = 0 + 1 + 1 + 1 + 1 by rfl, bigSep_range_succ, bigSep_range_succ, bigSep_range_succ, bigSep_range_succ, Finset.range_zero, bigSep_empty]
    exact congrArg (fun P : sProp 𝕄 => iprop(_ ∗ _ ∗ _ ∗ _ ∗ P)) (equiv_iff.mp sep_emp)

theorem ringC (k : ℕ) (hk : 5 ≤ k) (hk' : k < 8) : ∃ R : sProp 𝕄,
    ringAt c XW k = iprop((flight c XW (Ring.sl 16 (4 * k + 13)) (Ring.bk 32 (4 * k)) ∗ flight c XW (Ring.sl 16 (4 * k + 14)) (Ring.bk 32 (4 * k + 1)) ∗ flight c XW (Ring.sl 16 (4 * k + 15)) (Ring.bk 32 (4 * k + 2)) ∗ flight c XW (Ring.sl 16 (4 * k + 16)) (Ring.bk 32 (4 * k + 3)) ∗ R) ∗ freeAt c k)
    ∧ ringAt c XW (k + 1) = iprop((homeB c XW (Ring.bk 32 (4 * k)) ∗ homeB c XW (Ring.bk 32 (4 * k + 1)) ∗ homeB c XW (Ring.bk 32 (4 * k + 2)) ∗ homeB c XW (Ring.bk 32 (4 * k + 3)) ∗ R)
        ∗ freeS c (Ring.sl 16 (4 * k + 16)) ∗ freeS c (Ring.sl 16 (4 * k + 15)) ∗ freeS c (Ring.sl 16 (4 * k + 14)) ∗ freeS c (Ring.sl 16 (4 * k + 13)) ∗ freeAt c k) := by
  have hn : ([4 * k, 4 * k + 1, 4 * k + 2, 4 * k + 3] : List ℕ).Nodup := by simp
  have hl : ∀ n ∈ ([4 * k, 4 * k + 1, 4 * k + 2, 4 * k + 3] : List ℕ), n < 32 := by simp only [List.mem_cons, List.not_mem_nil, or_false]; omega
  refine ⟨rest c XW (k + 1) [4 * k, 4 * k + 1, 4 * k + 2, 4 * k + 3], ?_, ?_⟩
  · have hr := stB_rest c XW k [4 * k, 4 * k + 1, 4 * k + 2, 4 * k + 3] fun b hb => by
      have hb32 := b.isLt
      have := ne_of_not_mem (n := 4 * k) hb (by simp)
      have := ne_of_not_mem (n := 4 * k + 1) hb (by simp)
      have := ne_of_not_mem (n := 4 * k + 2) hb (by simp)
      have := ne_of_not_mem (n := 4 * k + 3) hb (by simp)
      omega
    unfold ringAt
    rw [ring_list c XW k _ hn hl, hr]
    simp only [List.map_cons, List.map_nil, List.foldr_cons, List.foldr_nil]
    rw [stB_fly c XW k (4 * k) (by omega) (by omega), stB_fly c XW k (4 * k + 1) (by omega) (by omega), stB_fly c XW k (4 * k + 2) (by omega) (by omega), stB_fly c XW k (4 * k + 3) (by omega) (by omega)]
  · unfold ringAt freeAt
    rw [if_neg (by omega), if_neg (by omega), ring_list c XW (k + 1) _ hn hl]
    simp only [List.map_cons, List.map_nil, List.foldr_cons, List.foldr_nil]
    rw [stB_home c XW (k + 1) (4 * k) (by omega) (by omega), stB_home c XW (k + 1) (4 * k + 1) (by omega) (by omega), stB_home c XW (k + 1) (4 * k + 2) (by omega) (by omega), stB_home c XW (k + 1) (4 * k + 3) (by omega) (by omega)]
    rw [show 4 * (k + 1) - 16 = (4 * k - 16) + 1 + 1 + 1 + 1 by omega, bigSep_range_succ, bigSep_range_succ, bigSep_range_succ, bigSep_range_succ]
    rw [show 29 + (4 * k - 16 + 1 + 1 + 1) = 4 * k + 16 by omega, show 29 + (4 * k - 16 + 1 + 1) = 4 * k + 15 by omega, show 29 + (4 * k - 16 + 1) = 4 * k + 14 by omega,
      show 29 + (4 * k - 16) = 4 * k + 13 by omega]

end Ring

section Trip
variable (c : Dev nD) (XW : Buf (Elt F) (wdM.view.loc (c : Thread nD τ)))
  (arg0 : Memref sig .tc .vmem S224x14336 .fp8e4m3) (harg0 : arg0.IsWhole)
  (arg1 : Memref sig .tc .vmem S224x128 .f32) (harg1 : arg1.IsWhole)
  (arg2 : Memref sig .tc .vmem S224x4096 .f32) (harg2 : arg2.IsWhole)
  (arg4 : Memref sig .tc .vmem S1x4096 .f32) (harg4 : arg4.IsWhole)
  (v95 : Vec F S224x4096 .f32)
  (XA : Buf (Elt F) (attnM.view.loc (c : Thread nD τ))) (x4 : Buf (Elt F) (arg4.view.loc (c : Thread nD τ)))
  (xr : Buf (Elt F) (arepM.view.loc (c : Thread nD τ))) (xl : Buf (Elt F) (lhs4M.view.loc (c : Thread nD τ)))

/-- Block `n` before its trip: the accumulator's at what it first held, the result's at anything. -/
abbrev blockP (n : Fin 8) : sProp 𝕄 := iprop(abP c n XA ∗ ∃ f, dlP c n f)
/-- The blocks not yet copied out before trip `k`. -/
def blocksAt (k : ℕ) : sProp 𝕄 := bigSep Finset.univ fun n : Fin 8 => if n.val < k then iprop(emp) else blockP c XA n

theorem blocks_step (k : T1) : ∃ R : sProp 𝕄, blocksAt c XA k.val = iprop(blockP c XA (blk k) ∗ R) ∧ (R ⊢ blocksAt c XA (k.val + 1)) := by
  refine ⟨bigSep (Finset.univ.erase (blk k)) (fun n : Fin 8 => if n.val < k.val then iprop(emp) else blockP c XA n), ?_, ?_⟩
  · unfold blocksAt
    rw [bigSep_erase (Finset.mem_univ (blk k)), if_neg (show ¬ (blk k).val < k.val from Nat.lt_irrefl _)]
    rfl
  · unfold blocksAt
    rw [bigSep_erase (s := Finset.univ) (Finset.mem_univ (blk k)), if_pos (show (blk k).val < k.val + 1 from Nat.lt_succ_self _)]
    have e : bigSep (Finset.univ.erase (blk k)) (fun n : Fin 8 => if n.val < k.val then iprop(emp) else blockP c XA n)
        = bigSep (Finset.univ.erase (blk k)) (fun n : Fin 8 => if n.val < k.val + 1 then iprop(emp) else blockP c XA n) :=
      bigSep_congr fun n hn => by
        have h1 : n.val ≠ k.val := fun h => (Finset.mem_erase.1 hn).1 (Fin.ext h)
        have h2 : n.val < k.val ↔ n.val < k.val + 1 := by omega
        simp only [h2]
    rw [e]
    refine show _ ⊢ iprop(emp ∗ _) from ?_
    iintro H
    isplitr; · iempintro
    iexact H

/-- What the loop holds before trip `k`. -/
def inv1 (k : ℕ) : sProp 𝕄 :=
  iprop(bufs c arg4 x4 xr xl ∗ (∃ W, owes (c : Thread nD τ) 0 W) ∗ copies c XW arg4 XA x4 xr xl k ∗ blocksAt c XA k ∗ ringAt c XW k)

/-- One trip takes the invariant to the next. -/
theorem step1 (k : T1) : inv1 c XW arg4 XA x4 xr xl k.val
    ⊢ wp frame (wpE (defs₀ (F := F)) 𝒱₀ (c : Thread nD τ) none) Set.univ (trip1 arg0 harg0 arg1 harg1 arg2 harg2 arg4 harg4 v95 k)
        (fun _ => inv1 c XW arg4 XA x4 xr xl (k.val + 1)) := by
  have hk8 := k_lt k
  obtain ⟨RB, eb, eb'⟩ := blocks_step c XA k
  unfold inv1
  rw [eb]
  rcases (by omega : k.val ≤ 3 ∨ k.val = 4 ∨ 5 ≤ k.val) with h | h | h
  · obtain ⟨R, e, e'⟩ := ringA c XW k.val h
    rw [e, e']
    iintro ⟨H, HW, HC, ⟨⟨HA, HD⟩, HB⟩, ⟨F0, F1, F2, F3, G0, G1, G2, G3, HR⟩, Hf⟩
    iapply (wp_wand_r frame (wpE (defs₀ (F := F)) 𝒱₀ (c : Thread nD τ) none) Set.univ)
    isplitl [H HW HC HA HD F0 F1 F2 F3 G0 G1 G2 G3 Hf]
    · iapply (tripA c XW arg0 harg0 arg1 harg1 arg2 harg2 arg4 harg4 v95 XA x4 xr xl k h)
      isplitl [H]; · iexact H
      isplitl [HW]; · iexact HW
      isplitl [HA]; · iexact HA
      isplitl [HD]; · iexact HD
      isplitl [HC]; · iexact HC
      isplitl [F0]; · iexact F0
      isplitl [F1]; · iexact F1
      isplitl [F2]; · iexact F2
      isplitl [F3]; · iexact F3
      isplitl [Hf]; · iexact Hf
      isplitl [G0]; · iexact G0
      isplitl [G1]; · iexact G1
      isplitl [G2]; · iexact G2
      iexact G3
    · iintro %_ ⟨H, HW, HC, G0, G1, G2, G3, F0, F1, F2, F3, S16⟩
      isplitl [H]; · iexact H
      isplitl [HW]; · iexact HW
      isplitl [HC]; · iexact HC
      isplitl [HB]; · iapply eb'; iexact HB
      isplitl [G0 G1 G2 G3 F0 F1 F2 F3 HR]
      · isplitl [G0]; · iexact G0
        isplitl [G1]; · iexact G1
        isplitl [G2]; · iexact G2
        isplitl [G3]; · iexact G3
        isplitl [F0]; · iexact F0
        isplitl [F1]; · iexact F1
        isplitl [F2]; · iexact F2
        isplitl [F3]; · iexact F3
        iexact HR
      iexact S16
  · obtain ⟨R, e, e'⟩ := ringB c XW k.val h
    rw [e, e']
    iintro ⟨H, HW, HC, ⟨⟨HA, HD⟩, HB⟩, ⟨F0, F1, F2, F3, G0, HR⟩, Hf⟩
    iapply (wp_wand_r frame (wpE (defs₀ (F := F)) 𝒱₀ (c : Thread nD τ) none) Set.univ)
    isplitl [H HW HC HA HD F0 F1 F2 F3 G0 Hf]
    · iapply (tripB c XW arg0 harg0 arg1 harg1 arg2 harg2 arg4 harg4 v95 XA x4 xr xl k h)
      isplitl [H]; · iexact H
      isplitl [HW]; · iexact HW
      isplitl [HA]; · iexact HA
      isplitl [HD]; · iexact HD
      isplitl [HC]; · iexact HC
      isplitl [F0]; · iexact F0
      isplitl [F1]; · iexact F1
      isplitl [F2]; · iexact F2
      isplitl [F3]; · iexact F3
      isplitl [Hf]; · iexact Hf
      iexact G0
    · iintro %_ ⟨H, HW, HC, G0, G1, G2, G3, F0, S13, S14, S15, S16⟩
      isplitl [H]; · iexact H
      isplitl [HW]; · iexact HW
      isplitl [HC]; · iexact HC
      isplitl [HB]; · iapply eb'; iexact HB
      isplitl [G0 G1 G2 G3 F0 HR]
      · isplitl [G0]; · iexact G0
        isplitl [G1]; · iexact G1
        isplitl [G2]; · iexact G2
        isplitl [G3]; · iexact G3
        isplitl [F0]; · iexact F0
        iexact HR
      isplitl [S16]; · iexact S16
      isplitl [S15]; · iexact S15
      isplitl [S14]; · iexact S14
      iexact S13
  · obtain ⟨R, e, e'⟩ := ringC c XW k.val h hk8
    rw [e, e']
    iintro ⟨H, HW, HC, ⟨⟨HA, HD⟩, HB⟩, ⟨F0, F1, F2, F3, HR⟩, Hf⟩
    iapply (wp_wand_r frame (wpE (defs₀ (F := F)) 𝒱₀ (c : Thread nD τ) none) Set.univ)
    isplitl [H HW HC HA HD F0 F1 F2 F3]
    · iapply (tripC c XW arg0 harg0 arg1 harg1 arg2 harg2 arg4 harg4 v95 XA x4 xr xl k h)
      isplitl [H]; · iexact H
      isplitl [HW]; · iexact HW
      isplitl [HA]; · iexact HA
      isplitl [HD]; · iexact HD
      isplitl [HC]; · iexact HC
      isplitl [F0]; · iexact F0
      isplitl [F1]; · iexact F1
      isplitl [F2]; · iexact F2
      iexact F3
    · iintro %_ ⟨H, HW, HC, G0, G1, G2, G3, S13, S14, S15, S16⟩
      isplitl [H]; · iexact H
      isplitl [HW]; · iexact HW
      isplitl [HC]; · iexact HC
      isplitl [HB]; · iapply eb'; iexact HB
      isplitl [G0 G1 G2 G3 HR]
      · isplitl [G0]; · iexact G0
        isplitl [G1]; · iexact G1
        isplitl [G2]; · iexact G2
        isplitl [G3]; · iexact G3
        iexact HR
      isplitl [S16]; · iexact S16
      isplitl [S15]; · iexact S15
      isplitl [S14]; · iexact S14
      isplitl [S13]; · iexact S13
      iexact Hf

end Trip

end Cert.Proof.DI

end
-- ==== Proof.DownBody.lean ====
/- The kernel's body: the first fifteen chunks issued, the operands copied in, the loop, and the copies out awaited. -/
module

public import proofs.«01_k».proof.Proof.DownLoop

@[expose] public section

noncomputable section

namespace Cert.Proof.DI

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ (UU nD τ) ℕ

section Ends
variable (c : Dev nD) (XW : Buf (Elt F) (wdM.view.loc (c : Thread nD τ)))

/-- The chunks the prologue issues, and the others, before and after. -/
theorem ring_start : ∃ R : sProp 𝕄,
    bigSep Finset.univ (homeB c XW) = iprop(homeB c XW 0 ∗ homeB c XW 1 ∗ homeB c XW 2 ∗ homeB c XW 3 ∗ homeB c XW 4 ∗ homeB c XW 5 ∗ homeB c XW 6 ∗ homeB c XW 7 ∗ homeB c XW 8 ∗ homeB c XW 9 ∗ homeB c XW 10 ∗ homeB c XW 11 ∗ homeB c XW 12 ∗ homeB c XW 13 ∗ homeB c XW 14 ∗ R)
    ∧ ringAt c XW 0 = iprop((flight c XW 13 0 ∗ flight c XW 14 1 ∗ flight c XW 15 2 ∗ flight c XW 0 3 ∗ flight c XW 1 4 ∗ flight c XW 2 5 ∗ flight c XW 3 6 ∗ flight c XW 4 7 ∗ flight c XW 5 8 ∗ flight c XW 6 9 ∗ flight c XW 7 10 ∗ flight c XW 8 11 ∗ flight c XW 9 12 ∗ flight c XW 10 13 ∗ flight c XW 11 14 ∗ R) ∗ freeS c 12) := by
  refine ⟨bigSep (Finset.univ \ ([0, 1, 2, 3, 4, 5, 6, 7, 8, 9, 10, 11, 12, 13, 14] : List (Fin 32)).toFinset) (homeB c XW), ?_, ?_⟩
  · exact bigSep_list [0, 1, 2, 3, 4, 5, 6, 7, 8, 9, 10, 11, 12, 13, 14] Finset.univ (by decide) (fun _ _ => Finset.mem_univ _)
  · unfold ringAt
    rw [bigSep_list [0, 1, 2, 3, 4, 5, 6, 7, 8, 9, 10, 11, 12, 13, 14] Finset.univ (by decide) (fun _ _ => Finset.mem_univ _)]
    have e : bigSep (Finset.univ \ ([0, 1, 2, 3, 4, 5, 6, 7, 8, 9, 10, 11, 12, 13, 14] : List (Fin 32)).toFinset) (stB c XW 0) = bigSep (Finset.univ \ ([0, 1, 2, 3, 4, 5, 6, 7, 8, 9, 10, 11, 12, 13, 14] : List (Fin 32)).toFinset) (homeB c XW) := by
      refine bigSep_congr fun b hb => ?_
      rw [Finset.mem_sdiff, List.mem_toFinset] at hb
      have hb' : ∀ b : Fin 32, b ∉ ([0, 1, 2, 3, 4, 5, 6, 7, 8, 9, 10, 11, 12, 13, 14] : List (Fin 32)) → 15 ≤ b.val := by decide
      have := hb' b hb.2
      unfold stB; rw [if_neg (by omega)]
    rw [e]
    simp only [List.foldr_cons, List.foldr_nil]
    rw [show stB c XW 0 0 = flight c XW 13 0 from stB_fly c XW 0 0 (by omega) (by omega),
      show stB c XW 0 1 = flight c XW 14 1 from stB_fly c XW 0 1 (by omega) (by omega),
      show stB c XW 0 2 = flight c XW 15 2 from stB_fly c XW 0 2 (by omega) (by omega),
      show stB c XW 0 3 = flight c XW 0 3 from stB_fly c XW 0 3 (by omega) (by omega),
      show stB c XW 0 4 = flight c XW 1 4 from stB_fly c XW 0 4 (by omega) (by omega),
      show stB c XW 0 5 = flight c XW 2 5 from stB_fly c XW 0 5 (by omega) (by omega),
      show stB c XW 0 6 = flight c XW 3 6 from stB_fly c XW 0 6 (by omega) (by omega),
      show stB c XW 0 7 = flight c XW 4 7 from stB_fly c XW 0 7 (by omega) (by omega),
      show stB c XW 0 8 = flight c XW 5 8 from stB_fly c XW 0 8 (by omega) (by omega),
      show stB c XW 0 9 = flight c XW 6 9 from stB_fly c XW 0 9 (by omega) (by omega),
      show stB c XW 0 10 = flight c XW 7 10 from stB_fly c XW 0 10 (by omega) (by omega),
      show stB c XW 0 11 = flight c XW 8 11 from stB_fly c XW 0 11 (by omega) (by omega),
      show stB c XW 0 12 = flight c XW 9 12 from stB_fly c XW 0 12 (by omega) (by omega),
      show stB c XW 0 13 = flight c XW 10 13 from stB_fly c XW 0 13 (by omega) (by omega),
      show stB c XW 0 14 = flight c XW 11 14 from stB_fly c XW 0 14 (by omega) (by omega)]
    rfl

/-- The slots in the order the prologue takes them. -/
theorem slots_start : bigSep Finset.univ (freeS (F := F) c) = iprop(freeS c 13 ∗ freeS c 14 ∗ freeS c 15 ∗ freeS c 0 ∗ freeS c 1 ∗ freeS c 2 ∗ freeS c 3 ∗ freeS c 4 ∗ freeS c 5 ∗ freeS c 6 ∗ freeS c 7 ∗ freeS c 8 ∗ freeS c 9 ∗ freeS c 10 ∗ freeS c 11 ∗ freeS c 12 ∗ bigSep ∅ (freeS (F := F) c)) := by
  have e : Finset.univ \ ([13, 14, 15, 0, 1, 2, 3, 4, 5, 6, 7, 8, 9, 10, 11, 12] : List (Fin 16)).toFinset = ∅ := by decide
  rw [bigSep_list [13, 14, 15, 0, 1, 2, 3, 4, 5, 6, 7, 8, 9, 10, 11, 12] Finset.univ (by decide) (fun _ _ => Finset.mem_univ _), e]
  rfl

/-- After the loop every chunk is home and every slot free. -/
theorem ring_end : ringAt c XW 8 = iprop(bigSep Finset.univ (homeB c XW) ∗ bigSep Finset.univ (freeS (F := F) c)) := by
  unfold ringAt freeAt
  have e1 : bigSep Finset.univ (stB c XW 8) = bigSep Finset.univ (homeB c XW) := bigSep_congr fun b _ => by
    unfold stB; rw [if_neg (by omega)]
  have e : Finset.univ \ ([12, 11, 10, 9, 8, 7, 6, 5, 4, 3, 2, 1, 0, 15, 14, 13] : List (Fin 16)).toFinset = ∅ := by decide
  rw [if_neg (by omega), e1, bigSep_list (Φ := freeS (F := F) c) [12, 11, 10, 9, 8, 7, 6, 5, 4, 3, 2, 1, 0, 15, 14, 13] Finset.univ (by decide) (fun _ _ => Finset.mem_univ _), e]
  simp only [show 4 * 8 - 16 = 0 + 1 + 1 + 1 + 1 + 1 + 1 + 1 + 1 + 1 + 1 + 1 + 1 + 1 + 1 + 1 + 1 by rfl, bigSep_range_succ, Finset.range_zero, bigSep_empty, List.foldr_cons, List.foldr_nil]
  rfl

/-- The blocks of the accumulator are the accumulator. -/
theorem ab_disjoint : ∀ n n' : Fin 8, n ≠ n' → Disjoint (blkR n) (blkR n') := by
  intro n n' hne; rw [Finset.disjoint_left]; intro y hy hy'; rw [mem_blkR] at hy hy'; exact hne (Fin.ext (hy.symm.trans hy'))
theorem ab_cover : (Finset.univ : Finset (Fin 8)).biUnion blkR = Finset.univ := by
  ext y; simp only [Finset.mem_biUnion, Finset.mem_univ, true_and, iff_true]
  exact ⟨⟨(y 1).val / 512, by have : (y 1).val < 4096 := (y 1).isLt; omega⟩, (mem_blkR _ _).2 rfl⟩
theorem attn_eq (f : Buf (Elt F) (attnM.view.loc (c : Thread nD τ))) : (own c attnM f : sProp 𝕄) = bigSep Finset.univ (fun n => abP c n f) := by
  have h : attnM.view.set = Finset.univ := View.set_whole cc0_scratch1
  unfold own; rw [h]
  refine (Ring.pointsTo_blocks (ℓ := (c : Thread nD τ).loc cc0_scratch1) blkR ab_disjoint ab_cover f).trans ?_
  exact bigSep_congr fun n _ => by rw [← ab_set]; rfl
/-- So are the blocks of the result. -/
theorem delta_eq (f : Buf (Elt F) (deltaM.view.loc (c : Thread nD τ))) : (own c deltaM f : sProp 𝕄) = bigSep Finset.univ (fun n => dlP c n f) := by
  have h : deltaM.view.set = Finset.univ := View.set_whole main_v4
  unfold own; rw [h]
  refine (Ring.pointsTo_blocks (ℓ := (c : Thread nD τ).loc main_v4) blkR ab_disjoint ab_cover f).trans ?_
  exact bigSep_congr fun n _ => by rw [← dl_set]; rfl
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- Block `n` of the result, just copied, holds the accumulator's. -/
theorem dl_done (n : Fin 8) (f : Buf (Elt F) (attnM.view.loc (c : Thread nD τ))) (g : Buf (Elt F) (deltaM.view.loc (c : Thread nD τ))) (hg : g = f) :
    (own c (dl n) ((dl n).view.writes (Elt F) (dl n).view.junk [⟨Rect.whole S224x512, ReadAs.same.apply ((ab n).view.read (Elt F) f)⟩]) : sProp 𝕄) ⊢ dlP c n g := by
  subst hg
  refine Entails.of_eq (pointsTo_congr (eq_on_set (dl n).view _ _ ((View.read_writes_whole _ _ _).trans ?_)))
  rfl
end Ends

section Body
variable (c : Dev nD) (XW : Buf (Elt F) (wdM.view.loc (c : Thread nD τ)))
  (arg0 : Memref sig .tc .vmem S224x14336 .fp8e4m3) (harg0 : arg0.IsWhole)
  (arg1 : Memref sig .tc .vmem S224x128 .f32) (harg1 : arg1.IsWhole)
  (arg2 : Memref sig .tc .vmem S224x4096 .f32) (harg2 : arg2.IsWhole)
  (arg4 : Memref sig .tc .vmem S1x4096 .f32) (harg4 : arg4.IsWhole)
  (x0 : Buf (Elt F) (arg0.view.loc (c : Thread nD τ))) (x1 : Buf (Elt F) (arg1.view.loc (c : Thread nD τ)))
  (x2 : Buf (Elt F) (arg2.view.loc (c : Thread nD τ))) (x4 : Buf (Elt F) (arg4.view.loc (c : Thread nD τ)))

/-- The body on given staging memrefs. -/
abbrev bodyG : Prog (TpuEff nD τ sig (Elt F) Λ₀ .tc) PUnit :=
  cc0_mod_block_down arg0 harg0 arg1 harg1 arg2 harg2 wdM (Memref.isWhole_whole _) arg4 harg4 deltaM (Memref.isWhole_whole _)
    ringM (Memref.isWhole_whole _) attnM (Memref.isWhole_whole _) lhs4M (Memref.isWhole_whole _) actM (Memref.isWhole_whole _)
    arepM (Memref.isWhole_whole _) cc0_scratch5 cc0_scratch6

/-- `arep` when the loop starts: the rows' scales; -/
def arep1 : Buf (Elt F) (arepM.view.loc (c : Thread nD τ)) :=
  arepM.view.writes (Elt F) arepM.view.junk [⟨Rect.unit (s := S224x128) ![0, 0] S224x128.size inb_S224x128_S224x128_0_0, k0_pay37 (arg1.view.readAt (Elt F) (Rect.unit (s := S224x128) ![0, 0] S224x128.size inb_S224x128_S224x128_0_0).toLoadRect x1)⟩]
/-- the accumulator: the attention's product; -/
def attn1 : Buf (Elt F) (attnM.view.loc (c : Thread nD τ)) :=
  attnM.view.writes (Elt F) attnM.view.junk [⟨Rect.unit (s := S224x4096) ![0, 0] S224x4096.size inb_S224x4096_S224x4096_0_0, k0_pay38 (arg2.view.readAt (Elt F) (Rect.unit (s := S224x4096) ![0, 0] S224x4096.size inb_S224x4096_S224x4096_0_0).toLoadRect x2)⟩]
/-- and the activations' four column blocks. -/
def lhs1 : Buf (Elt F) (lhs4M.view.loc (c : Thread nD τ)) :=
  lhs4M.view.writes (Elt F) lhs4M.view.junk
    [⟨Rect.unit (s := S4x224x3584) ![3, 0, 0] S1x224x3584.size inb_S4x224x3584_S1x224x3584_3_0_0, k0_pay42 (arg0.view.readAt (Elt F) (Rect.unit (s := S224x14336) ![0, 10752] S224x3584.size inb_S224x14336_S224x3584_0_10752).toLoadRect x0)⟩,
     ⟨Rect.unit (s := S4x224x3584) ![2, 0, 0] S1x224x3584.size inb_S4x224x3584_S1x224x3584_2_0_0, k0_pay41 (arg0.view.readAt (Elt F) (Rect.unit (s := S224x14336) ![0, 7168] S224x3584.size inb_S224x14336_S224x3584_0_7168).toLoadRect x0)⟩,
     ⟨Rect.unit (s := S4x224x3584) ![1, 0, 0] S1x224x3584.size inb_S4x224x3584_S1x224x3584_1_0_0, k0_pay40 (arg0.view.readAt (Elt F) (Rect.unit (s := S224x14336) ![0, 3584] S224x3584.size inb_S224x14336_S224x3584_0_3584).toLoadRect x0)⟩,
     ⟨Rect.unit (s := S4x224x3584) ![0, 0, 0] S1x224x3584.size inb_S4x224x3584_S1x224x3584_0_0_0, k0_pay39 (arg0.view.readAt (Elt F) (Rect.unit (s := S224x14336) ![0, 0] S224x3584.size inb_S224x14336_S224x3584_0_0).toLoadRect x0)⟩]
/-- What the accumulator, and so the result, holds in the end. -/
abbrev finB : Buf (Elt F) (attnM.view.loc (c : Thread nD τ)) :=
  fin c XW arg4 (attn1 c arg2 x2) x4 (arep1 c arg1 x1) (lhs1 c arg0 x0)

/-- The cell of the copies out. -/
abbrev cellD : sProp 𝕄 := semVal ((c : Thread nD τ), SemLoc.dma (sig := sig) cc0_scratch6.sem) 0
/-- What the body is handed. -/
abbrev PRE : sProp 𝕄 :=
  iprop(own c arg0 x0 ∗ own c arg1 x1 ∗ own c arg2 x2 ∗ own c arg4 x4
    ∗ (∃ f, own (F := F) c actM f) ∗ (∃ f, own (F := F) c attnM f) ∗ (∃ f, own (F := F) c arepM f) ∗ (∃ f, own (F := F) c lhs4M f)
    ∗ bigSep Finset.univ (homeB c XW) ∗ bigSep Finset.univ (freeS (F := F) c) ∗ cellD (F := F) c ∗ (∃ f, own (F := F) c deltaM f) ∗ ∃ W, owes (c : Thread nD τ) 0 W)
/-- What the body hands back. -/
abbrev POST : sProp 𝕄 :=
  iprop(own c arg0 x0 ∗ own c arg1 x1 ∗ own c arg2 x2 ∗ own c arg4 x4
    ∗ (∃ f, own (F := F) c actM f) ∗ (∃ f, own (F := F) c attnM f) ∗ (∃ f, own (F := F) c arepM f) ∗ (∃ f, own (F := F) c lhs4M f)
    ∗ bigSep Finset.univ (homeB c XW) ∗ bigSep Finset.univ (freeS (F := F) c) ∗ cellD (F := F) c
    ∗ own c deltaM (finB c XW arg0 arg1 arg2 arg4 x0 x1 x2 x4) ∗ ∃ W, owes (c : Thread nD τ) 0 W)

/-- Before the loop; -/
theorem blocks_start (XA : Buf (Elt F) (attnM.view.loc (c : Thread nD τ))) (f : Buf (Elt F) (deltaM.view.loc (c : Thread nD τ))) :
    iprop(own c attnM XA ∗ own c deltaM f) ⊢ blocksAt c XA 0 := by
  refine (Entails.of_eq ((congrArg₂ (fun P Q : sProp 𝕄 => iprop(P ∗ Q)) (attn_eq c XA) (delta_eq c f)).trans (bigSep_sep _ _ _).symm)).trans ?_
  unfold blocksAt
  refine bigSep_mono fun n _ => ?_
  rw [if_neg (Nat.not_lt_zero _)]
  show iprop(abP c n XA ∗ dlP c n f) ⊢ iprop(abP c n XA ∗ ∃ f, dlP c n f)
  iintro ⟨HA, HD⟩
  isplitl [HA]; · iexact HA
  iexists f; iexact HD
/-- after it. -/
theorem inv1_end (XA xr xl) : inv1 c XW arg4 XA x4 xr xl k0_t1_loop.trips
    ⊢ iprop(bufs c arg4 x4 xr xl ∗ (∃ W, owes (c : Thread nD τ) 0 W) ∗ copies c XW arg4 XA x4 xr xl 8
      ∗ bigSep Finset.univ (homeB c XW) ∗ bigSep Finset.univ (freeS (F := F) c)) := by
  show inv1 c XW arg4 XA x4 xr xl 8 ⊢ _
  unfold inv1; rw [ring_end]
  iintro ⟨H, HW, HC, -, HR⟩
  isplitl [H]; · iexact H
  isplitl [HW]; · iexact HW
  isplitl [HC]; · iexact HC
  iexact HR

set_option maxHeartbeats 1600000 in
/-- The body runs from `PRE` to `POST`. -/
theorem bodyRun (Q : PUnit → sProp 𝕄) :
    iprop(PRE c XW arg0 arg1 arg2 arg4 x0 x1 x2 x4 ∗ (POST c XW arg0 arg1 arg2 arg4 x0 x1 x2 x4 -∗ Q ⟨⟩))
      ⊢ wp frame (wpE (defs₀ (F := F)) 𝒱₀ (c : Thread nD τ) none) Set.univ (bodyG arg0 harg0 arg1 harg1 arg2 harg2 arg4 harg4) Q := by
  obtain ⟨R, eh, er⟩ := ring_start c XW
  dsimp only [PRE]
  rw [eh, slots_start]
  have hc1 := cond1
  have hc2 := cond2
  have hc3 := cond3
  have hc4 := cond4
  have hc5 := cond5
  have hc6 := cond6
  have hc7 := cond7
  have hc8 := cond8
  have hc9 := cond9
  have hc10 := cond10
  have hc11 := cond11
  have hc12 := cond12
  have hc13 := cond13
  have hc14 := cond14
  have hc15 := cond15
  iintro ⟨⟨H0, H1, H2, H4, ⟨%xa, HA⟩, ⟨%xt, HT⟩, ⟨%xr, HR⟩, ⟨%xl, HL⟩, ⟨Hb0, Hb1, Hb2, Hb3, Hb4, Hb5, Hb6, Hb7, Hb8, Hb9, Hb10, Hb11, Hb12, Hb13, Hb14, Hhome⟩, ⟨Hs13, Hs14, Hs15, Hs0, Hs1, Hs2, Hs3, Hs4, Hs5, Hs6, Hs7, Hs8, Hs9, Hs10, Hs11, Hs12, -⟩, HD, ⟨%fd, Hd⟩, ⟨%W, HW⟩⟩, Hk⟩
  icases Hs13 with ⟨⟨%fl13, Hl13⟩, Hc13⟩
  imod (Transfers.batch_alloc' (Lvl := ℕ) (countersEmb (U := UU nD τ)) (c : Thread nD τ) () NN (deliv c XW 13 0) (sm := .dma (csm 13).sem) (E := Set.univ)) $$ Hc13 with HB0
  icases Hs14 with ⟨⟨%fl14, Hl14⟩, Hc14⟩
  imod (Transfers.batch_alloc' (Lvl := ℕ) (countersEmb (U := UU nD τ)) (c : Thread nD τ) () NN (deliv c XW 14 1) (sm := .dma (csm 14).sem) (E := Set.univ)) $$ Hc14 with HB1
  icases Hs15 with ⟨⟨%fl15, Hl15⟩, Hc15⟩
  imod (Transfers.batch_alloc' (Lvl := ℕ) (countersEmb (U := UU nD τ)) (c : Thread nD τ) () NN (deliv c XW 15 2) (sm := .dma (csm 15).sem) (E := Set.univ)) $$ Hc15 with HB2
  icases Hs0 with ⟨⟨%fl0, Hl0⟩, Hc0⟩
  imod (Transfers.batch_alloc' (Lvl := ℕ) (countersEmb (U := UU nD τ)) (c : Thread nD τ) () NN (deliv c XW 0 3) (sm := .dma (csm 0).sem) (E := Set.univ)) $$ Hc0 with HB3
  icases Hs1 with ⟨⟨%fl1, Hl1⟩, Hc1⟩
  imod (Transfers.batch_alloc' (Lvl := ℕ) (countersEmb (U := UU nD τ)) (c : Thread nD τ) () NN (deliv c XW 1 4) (sm := .dma (csm 1).sem) (E := Set.univ)) $$ Hc1 with HB4
  icases Hs2 with ⟨⟨%fl2, Hl2⟩, Hc2⟩
  imod (Transfers.batch_alloc' (Lvl := ℕ) (countersEmb (U := UU nD τ)) (c : Thread nD τ) () NN (deliv c XW 2 5) (sm := .dma (csm 2).sem) (E := Set.univ)) $$ Hc2 with HB5
  icases Hs3 with ⟨⟨%fl3, Hl3⟩, Hc3⟩
  imod (Transfers.batch_alloc' (Lvl := ℕ) (countersEmb (U := UU nD τ)) (c : Thread nD τ) () NN (deliv c XW 3 6) (sm := .dma (csm 3).sem) (E := Set.univ)) $$ Hc3 with HB6
  icases Hs4 with ⟨⟨%fl4, Hl4⟩, Hc4⟩
  imod (Transfers.batch_alloc' (Lvl := ℕ) (countersEmb (U := UU nD τ)) (c : Thread nD τ) () NN (deliv c XW 4 7) (sm := .dma (csm 4).sem) (E := Set.univ)) $$ Hc4 with HB7
  icases Hs5 with ⟨⟨%fl5, Hl5⟩, Hc5⟩
  imod (Transfers.batch_alloc' (Lvl := ℕ) (countersEmb (U := UU nD τ)) (c : Thread nD τ) () NN (deliv c XW 5 8) (sm := .dma (csm 5).sem) (E := Set.univ)) $$ Hc5 with HB8
  icases Hs6 with ⟨⟨%fl6, Hl6⟩, Hc6⟩
  imod (Transfers.batch_alloc' (Lvl := ℕ) (countersEmb (U := UU nD τ)) (c : Thread nD τ) () NN (deliv c XW 6 9) (sm := .dma (csm 6).sem) (E := Set.univ)) $$ Hc6 with HB9
  icases Hs7 with ⟨⟨%fl7, Hl7⟩, Hc7⟩
  imod (Transfers.batch_alloc' (Lvl := ℕ) (countersEmb (U := UU nD τ)) (c : Thread nD τ) () NN (deliv c XW 7 10) (sm := .dma (csm 7).sem) (E := Set.univ)) $$ Hc7 with HB10
  icases Hs8 with ⟨⟨%fl8, Hl8⟩, Hc8⟩
  imod (Transfers.batch_alloc' (Lvl := ℕ) (countersEmb (U := UU nD τ)) (c : Thread nD τ) () NN (deliv c XW 8 11) (sm := .dma (csm 8).sem) (E := Set.univ)) $$ Hc8 with HB11
  icases Hs9 with ⟨⟨%fl9, Hl9⟩, Hc9⟩
  imod (Transfers.batch_alloc' (Lvl := ℕ) (countersEmb (U := UU nD τ)) (c : Thread nD τ) () NN (deliv c XW 9 12) (sm := .dma (csm 9).sem) (E := Set.univ)) $$ Hc9 with HB12
  icases Hs10 with ⟨⟨%fl10, Hl10⟩, Hc10⟩
  imod (Transfers.batch_alloc' (Lvl := ℕ) (countersEmb (U := UU nD τ)) (c : Thread nD τ) () NN (deliv c XW 10 13) (sm := .dma (csm 10).sem) (E := Set.univ)) $$ Hc10 with HB13
  icases Hs11 with ⟨⟨%fl11, Hl11⟩, Hc11⟩
  imod (Transfers.batch_alloc' (Lvl := ℕ) (countersEmb (U := UU nD τ)) (c : Thread nD τ) () NN (deliv c XW 11 14) (sm := .dma (csm 11).sem) (E := Set.univ)) $$ Hc11 with HB14
  imod (Transfers.batch_alloc' (Lvl := ℕ) (countersEmb (U := UU nD τ)) (c : Thread nD τ) () ND (dD c XW arg4 (attn1 c arg2 x2) x4 (arep1 c arg1 x1) (lhs1 c arg0 x0)) (sm := .dma cc0_scratch6.sem) (E := Set.univ)) $$ HD with HC
  dsimp only [bodyG]
  sl_unfold [cc0_mod_block_down]
  sl_exec
  ihave Hring := (Entails.of_eq er.symm) $$ [Hs12 Hhome HB0 HB1 HB2 HB3 HB4 HB5 HB6 HB7 HB8 HB9 HB10 HB11 HB12 HB13 HB14]
  · isplitr [Hs12]
    · isplitl [HB0]; · iexact HB0
      isplitl [HB1]; · iexact HB1
      isplitl [HB2]; · iexact HB2
      isplitl [HB3]; · iexact HB3
      isplitl [HB4]; · iexact HB4
      isplitl [HB5]; · iexact HB5
      isplitl [HB6]; · iexact HB6
      isplitl [HB7]; · iexact HB7
      isplitl [HB8]; · iexact HB8
      isplitl [HB9]; · iexact HB9
      isplitl [HB10]; · iexact HB10
      isplitl [HB11]; · iexact HB11
      isplitl [HB12]; · iexact HB12
      isplitl [HB13]; · iexact HB13
      isplitl [HB14]; · iexact HB14
      iexact Hhome
    · iexact Hs12
  ihave HK := (blocks_start c (attn1 c arg2 x2) fd) $$ [HT Hd]
  · isplitl [HT]; · iexact HT
    iexact Hd
  sl_for (fun k _ => inv1 c XW arg4 (attn1 c arg2 x2) x4 (arep1 c arg1 x1) (lhs1 c arg0 x0) k) $$ [H4 HR HL HA HW HC HK Hring]
  · intro k _; exact step1 c XW arg0 harg0 arg1 harg1 arg2 harg2 arg4 harg4 _ (attn1 c arg2 x2) x4 (arep1 c arg1 x1) (lhs1 c arg0 x0) k
  · dsimp only [inv1]
    isplitl [H4 HR HL HA]
    · isplitl [H4]; · iexact H4
      isplitl [HR]; · iexact HR
      isplitl [HL]; · iexact HL
      iexists _; iexact HA
    isplitl [HW]; · iexists _; iexact HW
    isplitl [HC]; · iexact HC
    isplitl [HK]; · iexact HK
    iexact Hring
  iintro %_ HI1
  ihave HI1' := (inv1_end c XW arg4 x4 (attn1 c arg2 x2) (arep1 c arg1 x1) (lhs1 c arg0 x0)) $$ HI1
  icases HI1' with ⟨⟨H4, HR, HL, HA⟩, ⟨%W1, HW⟩, HC, Hhome, Hs⟩
  sl_exec
  sl_step
  iapply Hk
  isplitl [H0]; · iexact H0
  isplitl [H1]; · iexact H1
  isplitl [H2]; · iexact H2
  isplitl [H4]; · iexact H4
  isplitl [HA]; · iexact HA
  isplitl [HC_src0 HC_src1 HC_src2 HC_src3 HC_src4 HC_src5 HC_src6 HC_src7]
  · iexists (finB c XW arg0 arg1 arg2 arg4 x0 x1 x2 x4)
    rw [attn_eq, bigSep_fin8]
    isplitl [HC_src0]; · iexact HC_src0
    isplitl [HC_src1]; · iexact HC_src1
    isplitl [HC_src2]; · iexact HC_src2
    isplitl [HC_src3]; · iexact HC_src3
    isplitl [HC_src4]; · iexact HC_src4
    isplitl [HC_src5]; · iexact HC_src5
    isplitl [HC_src6]; · iexact HC_src6
    iexact HC_src7
  isplitl [HR]; · iexists _; iexact HR
  isplitl [HL]; · iexists _; iexact HL
  isplitl [Hhome]; · iexact Hhome
  isplitl [Hs]; · iexact Hs
  isplitl [HC]; · iexact HC
  isplitl [HC_dst0 HC_dst1 HC_dst2 HC_dst3 HC_dst4 HC_dst5 HC_dst6 HC_dst7]
  · rw [delta_eq, bigSep_fin8]
    isplitl [HC_dst0]; · iapply (dl_done c 0 (finB c XW arg0 arg1 arg2 arg4 x0 x1 x2 x4) _ rfl); iexact HC_dst0
    isplitl [HC_dst1]; · iapply (dl_done c 1 (finB c XW arg0 arg1 arg2 arg4 x0 x1 x2 x4) _ rfl); iexact HC_dst1
    isplitl [HC_dst2]; · iapply (dl_done c 2 (finB c XW arg0 arg1 arg2 arg4 x0 x1 x2 x4) _ rfl); iexact HC_dst2
    isplitl [HC_dst3]; · iapply (dl_done c 3 (finB c XW arg0 arg1 arg2 arg4 x0 x1 x2 x4) _ rfl); iexact HC_dst3
    isplitl [HC_dst4]; · iapply (dl_done c 4 (finB c XW arg0 arg1 arg2 arg4 x0 x1 x2 x4) _ rfl); iexact HC_dst4
    isplitl [HC_dst5]; · iapply (dl_done c 5 (finB c XW arg0 arg1 arg2 arg4 x0 x1 x2 x4) _ rfl); iexact HC_dst5
    isplitl [HC_dst6]; · iapply (dl_done c 6 (finB c XW arg0 arg1 arg2 arg4 x0 x1 x2 x4) _ rfl); iexact HC_dst6
    iapply (dl_done c 7 (finB c XW arg0 arg1 arg2 arg4 x0 x1 x2 x4) _ rfl); iexact HC_dst7
  iexists _; iexact HW
end Body

end Cert.Proof.DI

end
-- ==== Proof.DownBlocks.lean ====
/- The buffers whole against the parts the body speaks of: the weights and their thirty-two chunks, the ring and its
sixteen slots, the semaphores. -/
module

public import proofs.«01_k».proof.Proof.DownBody

@[expose] public section

noncomputable section

namespace Cert.Proof.DI

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ (UU nD τ) ℕ

/-! ## Element sets -/

abbrev wdR (d : Fin 32) : Finset S14336x4096.Idx := (Rect.unit (s := S14336x4096) (wdOff d) S3584x512.size (wdOff_inb d)).set
abbrev partR (s : Fin 16) : Finset S16x4096x512.Idx := (Rect.unit (s := S16x4096x512) (partOff s) S1x3584x512.size (partOff_inb s)).set
/-- Slot `s` of the ring, and what no chunk of this loop covers of it. -/
def slotR (s : Fin 16) : Finset S16x4096x512.Idx := Finset.univ.filter fun y => (y 0).val = s.val
def tailR (s : Fin 16) : Finset S16x4096x512.Idx := slotR s \ partR s
theorem wd_set (d : Fin 32) : (wd d).view.set = wdR d := View.set_slice_whole _ _
theorem part_set (s : Fin 16) : (part s).view.set = partR s := (View.set_reshape _ _).trans (View.set_slice_whole _ _)

theorem mem_wdR (d : Fin 32) (y : S14336x4096.Idx) : y ∈ wdR d ↔ 4 * ((y 1).val / 512) + (y 0).val / 3584 = d.val := by
  rw [Rect.mem_set_unit]
  have h0 : (y 0).val < 14336 := (y 0).isLt
  have h1 : (y 1).val < 4096 := (y 1).isLt
  constructor
  · intro H
    have a0 : 3584 * (d.val % 4) ≤ (y 0).val ∧ (y 0).val < 3584 * (d.val % 4) + 3584 := H 0
    have a1 : 512 * (d.val / 4) ≤ (y 1).val ∧ (y 1).val < 512 * (d.val / 4) + 512 := H 1
    omega
  · intro H i; fin_cases i
    · show 3584 * (d.val % 4) ≤ (y 0).val ∧ (y 0).val < 3584 * (d.val % 4) + 3584; omega
    · show 512 * (d.val / 4) ≤ (y 1).val ∧ (y 1).val < 512 * (d.val / 4) + 512; omega
theorem mem_slotR (s : Fin 16) (y : S16x4096x512.Idx) : y ∈ slotR s ↔ (y 0).val = s.val := by simp [slotR]
theorem part_sub (s : Fin 16) : partR s ⊆ slotR s := fun y hy => by
  rw [mem_slotR]
  have a : s.val ≤ (y 0).val ∧ (y 0).val < s.val + 1 := (Rect.mem_set_unit.1 hy) 0
  omega
theorem halves_disjoint (s : Fin 16) : Disjoint (partR s) (tailR s) := Finset.disjoint_sdiff
theorem halves_union (s : Fin 16) : partR s ∪ tailR s = slotR s := Finset.union_sdiff_of_subset (part_sub s)

/-- Sets told apart by one number are disjoint; -/
theorem sets_disjoint {n : ℕ} {X : Type} [DecidableEq X] (S : Fin n → Finset X) (g : X → ℕ) (h : ∀ b y, y ∈ S b ↔ g y = b.val) :
    ∀ b b', b ≠ b' → Disjoint (S b) (S b') := by
  intro b b' hne; rw [Finset.disjoint_left]; intro y hy hy'; rw [h] at hy hy'; exact hne (Fin.ext (hy.symm.trans hy'))
/-- when the number is always in range, they cover. -/
theorem sets_cover {n : ℕ} {X : Type} [Fintype X] [DecidableEq X] (S : Fin n → Finset X) (g : X → ℕ) (h : ∀ b y, y ∈ S b ↔ g y = b.val)
    (hg : ∀ y, g y < n) : (Finset.univ : Finset (Fin n)).biUnion S = Finset.univ := by
  ext y; simp only [Finset.mem_biUnion, Finset.mem_univ, true_and, iff_true]; exact ⟨⟨g y, hg y⟩, (h _ _).2 rfl⟩

theorem wd_disjoint : ∀ b b' : Fin 32, b ≠ b' → Disjoint (wdR b) (wdR b') := sets_disjoint wdR (fun y => 4 * ((y 1).val / 512) + (y 0).val / 3584) mem_wdR
theorem wd_cover : (Finset.univ : Finset (Fin 32)).biUnion wdR = Finset.univ :=
  sets_cover wdR (fun y => 4 * ((y 1).val / 512) + (y 0).val / 3584) mem_wdR (fun y => by
    have : (y 0).val < 14336 := (y 0).isLt
    have : (y 1).val < 4096 := (y 1).isLt
    show 4 * ((y 1).val / 512) + (y 0).val / 3584 < 32; omega)
theorem slot_disjoint : ∀ b b' : Fin 16, b ≠ b' → Disjoint (slotR b) (slotR b') := sets_disjoint slotR (fun y => (y 0).val) mem_slotR
theorem slot_cover : (Finset.univ : Finset (Fin 16)).biUnion slotR = Finset.univ := sets_cover slotR (fun y => (y 0).val) mem_slotR (fun y => (y 0).isLt)

/-! ## Whole and in parts -/

section Parts
variable (c : Dev nD)

/-- The weights. -/
theorem home_eq (XW : Buf (Elt F) ((c : Thread nD τ).loc main_arg3)) :
    bigSep Finset.univ (homeB c XW) = (((c : Thread nD τ).loc main_arg3) ↦{fullShare} XW : sProp 𝕄) := by
  rw [Ring.pointsTo_blocks (ℓ := (c : Thread nD τ).loc main_arg3) wdR wd_disjoint wd_cover]
  exact bigSep_congr fun b _ => by rw [← wd_set]; rfl

/-- The part of a slot that no chunk covers. -/
abbrev tailP (s : Fin 16) : sProp 𝕄 :=
  iprop(∃ f : Buf (Elt F) ((c : Thread nD τ).loc cc0_scratch0), ((c : Thread nD τ).loc cc0_scratch0) ↦[tailR s]{fullShare} f)

/-- The ring in its slots, -/
theorem ring_split :
    iprop(∃ f : Buf (Elt F) ((c : Thread nD τ).loc cc0_scratch0), ((c : Thread nD τ).loc cc0_scratch0) ↦{fullShare} f)
      ⊢ (bigSep Finset.univ (fun s => iprop((∃ f, own (F := F) c (part s) f) ∗ tailP (F := F) c s)) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch0) slotR slot_disjoint slot_cover f))) $$ H
  iapply (show bigSep Finset.univ (fun u => (((c : Thread nD τ).loc cc0_scratch0) ↦[slotR u]{fullShare} f : sProp 𝕄))
      ⊢ bigSep Finset.univ (fun s => iprop((∃ f, own (F := F) c (part s) f) ∗ tailP (F := F) c s)) from bigSep_mono fun u _ => by
    rw [← halves_union]
    refine (pointsTo_union (halves_disjoint u)).1.trans ?_
    rw [← part_set]
    show iprop(own c (part u) f ∗ (((c : Thread nD τ).loc cc0_scratch0) ↦[tailR u]{fullShare} f)) ⊢ iprop((∃ f, own (F := F) c (part u) f) ∗ tailP (F := F) c u)
    iintro ⟨HL, HR⟩
    isplitl [HL]
    · iexists f; iexact HL
    · iexists f; iexact HR)
  iexact H2
/-- and back. -/
theorem ring_join :
    (bigSep Finset.univ (fun s => iprop((∃ f, own (F := F) c (part s) f) ∗ tailP (F := F) c s)) : sProp 𝕄)
      ⊢ iprop(∃ f : Buf (Elt F) ((c : Thread nD τ).loc cc0_scratch0), ((c : Thread nD τ).loc cc0_scratch0) ↦{fullShare} f) := by
  refine BIBase.Entails.trans (bigSep_mono fun s _ => ?_) (Ring.pointsTo_blocks_join_exists (ℓ := (c : Thread nD τ).loc cc0_scratch0) slotR slot_disjoint slot_cover ringM.view.junk)
  show iprop((∃ f, own (F := F) c (part s) f) ∗ tailP (F := F) c s)
    ⊢ (iprop(∃ f : Buf (Elt F) ((c : Thread nD τ).loc cc0_scratch0), ((c : Thread nD τ).loc cc0_scratch0) ↦[slotR s]{fullShare} f) : sProp 𝕄)
  rw [← halves_union]
  iintro ⟨⟨%f, HL⟩, ⟨%g, HR⟩⟩
  ihave HL' := (show (own c (part s) f : sProp 𝕄) ⊢ (((c : Thread nD τ).loc cc0_scratch0) ↦[partR s]{fullShare} f) from by rw [← part_set]; exact Entails.rfl) $$ HL
  ihave H := (pointsTo_join (halves_disjoint s) (f := f) (g := g)) $$ [HL' HR]
  · isplitl [HL']; · iexact HL'
    iexact HR
  iexists _; iexact H

/-- The other buffers held on their elements are the buffers whole. -/
theorem act_eq : (iprop(∃ f, own (F := F) c actM f) : sProp 𝕄) = iprop(∃ f : Buf (Elt F) ((c : Thread nD τ).loc cc0_scratch3), ((c : Thread nD τ).loc cc0_scratch3) ↦{fullShare} f) := by
  have h : actM.view.set = Finset.univ := View.set_whole cc0_scratch3
  unfold own; rw [h]
theorem attnW_eq : (iprop(∃ f, own (F := F) c attnM f) : sProp 𝕄) = iprop(∃ f : Buf (Elt F) ((c : Thread nD τ).loc cc0_scratch1), ((c : Thread nD τ).loc cc0_scratch1) ↦{fullShare} f) := by
  have h : attnM.view.set = Finset.univ := View.set_whole cc0_scratch1
  unfold own; rw [h]
theorem arep_eq : (iprop(∃ f, own (F := F) c arepM f) : sProp 𝕄) = iprop(∃ f : Buf (Elt F) ((c : Thread nD τ).loc cc0_scratch4), ((c : Thread nD τ).loc cc0_scratch4) ↦{fullShare} f) := by
  have h : arepM.view.set = Finset.univ := View.set_whole cc0_scratch4
  unfold own; rw [h]
theorem lhs4_eq : (iprop(∃ f, own (F := F) c lhs4M f) : sProp 𝕄) = iprop(∃ f : Buf (Elt F) ((c : Thread nD τ).loc cc0_scratch2), ((c : Thread nD τ).loc cc0_scratch2) ↦{fullShare} f) := by
  have h : lhs4M.view.set = Finset.univ := View.set_whole cc0_scratch2
  unfold own; rw [h]
theorem deltaW_eq : (iprop(∃ f, own (F := F) c deltaM f) : sProp 𝕄) = iprop(∃ f : Buf (Elt F) ((c : Thread nD τ).loc main_v4), ((c : Thread nD τ).loc main_v4) ↦{fullShare} f) := by
  have h : deltaM.view.set = Finset.univ := View.set_whole main_v4
  unfold own; rw [h]
theorem delta_whole (f : Buf (Elt F) ((c : Thread nD τ).loc main_v4)) : (own c deltaM f : sProp 𝕄) = (((c : Thread nD τ).loc main_v4) ↦{fullShare} f) := by
  have h : deltaM.view.set = Finset.univ := View.set_whole main_v4
  unfold own; rw [h]

/-! ## The semaphores -/

/-- The kernel's own semaphores: the ring's sixteen cells, then the copies'. -/
abbrev osem : Fin 17 → SemLoc sig := fun i => if h : i.val < 16 then .dma (csm ⟨i.val, h⟩).sem else .dma cc0_scratch6.sem
theorem ownSemFacts : Pipeline.OwnSemFacts spec0 osem := by decide

theorem sep_assoc_bi (P Q R : sProp 𝕄) : Idealize.SL.BI.sep (Idealize.SL.BI.sep P Q) R = Idealize.SL.BI.sep P (Idealize.SL.BI.sep Q R) :=
  Idealize.SL.BI.sep_assoc.antisymm Idealize.SL.BI.sep_assoc'

theorem ownSems0_eq : (Pipeline.ownSems0 (Ix := Unit) (Name := ℕ) (U := UU nD τ) (Lvl := ℕ) (Val := Elt F) (τ := τ) osem c : sProp 𝕄)
    = iprop(bigSep Finset.univ (cellP (F := F) c) ∗ cellD (F := F) c) := by
  unfold Pipeline.ownSems0
  rw [bigSep_univ_eq_bigSepL [(0 : Fin 17), 1, 2, 3, 4, 5, 6, 7, 8, 9, 10, 11, 12, 13, 14, 15, 16] (by decide) (by decide),
    bigSep_univ_eq_bigSepL [(0 : Fin 16), 1, 2, 3, 4, 5, 6, 7, 8, 9, 10, 11, 12, 13, 14, 15] (by decide) (by decide)]
  simp only [bigSepL]
  show _ = Idealize.SL.BI.sep _ _
  simp only [sep_assoc_bi]
  rfl

/-- The slots free are the ring's parts and its cells. -/
theorem free_eq : bigSep Finset.univ (freeS (F := F) c)
    = (iprop(bigSep Finset.univ (fun s => iprop(∃ f, own (F := F) c (part s) f)) ∗ bigSep Finset.univ (cellP (F := F) c)) : sProp 𝕄) := bigSep_sep _ _ _
theorem slots_eq : bigSep Finset.univ (fun s => iprop((∃ f, own (F := F) c (part s) f) ∗ tailP (F := F) c s))
    = (iprop(bigSep Finset.univ (fun s => iprop(∃ f, own (F := F) c (part s) f)) ∗ bigSep Finset.univ (tailP (F := F) c)) : sProp 𝕄) := bigSep_sep _ _ _

end Parts

end Cert.Proof.DI

end
-- ==== Proof.DownLaunch.lean ====
/- The run of @main: what the kernel is handed and hands back, the pipeline's proof data, and every final state. -/
module

public import proofs.«01_k».proof.Proof.DownBlocks
public import proofs.«01_k».proof.Proof.Gen.DownIdeal.Frame

@[expose] public section

noncomputable section

namespace Cert.Proof.DI

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Launch
variable (m : (ℓ : Loc nD τ sig) → Buf (Elt F) ℓ) (ρ : Dev nD → PrngReg)

/-! ## The pipeline's proof data -/

/-- What a staging buffer of an input holds. -/
abbrev in0 (c : Dev nD) (t : Fin cfg0.N) : Buf (Elt F) ((st0_0 t).view.loc (c : Thread nD τ)) := (st0_0 t).view.rep (iblk m c 0 t)
abbrev in1 (c : Dev nD) (t : Fin cfg0.N) : Buf (Elt F) ((st0_1 t).view.loc (c : Thread nD τ)) := (st0_1 t).view.rep (iblk m c 1 t)
abbrev in2 (c : Dev nD) (t : Fin cfg0.N) : Buf (Elt F) ((st0_2 t).view.loc (c : Thread nD τ)) := (st0_2 t).view.rep (iblk m c 2 t)
abbrev in3 (c : Dev nD) (t : Fin cfg0.N) : Buf (Elt F) ((st0_3 t).view.loc (c : Thread nD τ)) := (st0_3 t).view.rep (iblk m c 3 t)
/-- What the body leaves in the result. -/
def finAt (c : Dev nD) (t : Fin cfg0.N) : Buf (Elt F) (deltaM.view.loc (c : Thread nD τ)) :=
  finB c (V m c main_arg3) (st0_0 t) (st0_1 t) (st0_2 t) (st0_3 t) (in0 m c t) (in1 m c t) (in2 m c t) (in3 m c t)

/-- What the region keeps beside the result: the scratch whole, the weights' chunks home, the ring free. -/
def keepΦ (c : Dev nD) : sProp 𝕄 :=
  iprop((∃ f, own (F := F) c actM f) ∗ (∃ f, own (F := F) c attnM f) ∗ (∃ f, own (F := F) c arepM f) ∗ (∃ f, own (F := F) c lhs4M f)
    ∗ bigSep Finset.univ (homeB c (V m c main_arg3)) ∗ bigSep Finset.univ (freeS (F := F) c) ∗ cellD (F := F) c
    ∗ bigSep Finset.univ (tailP (F := F) c))
/-- The result before the point, and after it. -/
def resΦ (c : Dev nD) (k : ℕ) : sProp 𝕄 :=
  if k = 0 then iprop(∃ f, own (F := F) c deltaM f) else own c deltaM (finAt m c t0_0)
def Φ (c : Dev nD) (k : ℕ) : sProp 𝕄 := iprop(keepΦ m c ∗ resΦ m c k)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := Φ m c t.val
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w1 (c : Dev nD) (t : Fin cfg0.N) : (dats m 0 c).after 1 t = iblk m c 1 t := by dsimp only [dats]
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w2 (c : Dev nD) (t : Fin cfg0.N) : (dats m 0 c).after 2 t = iblk m c 2 t := by dsimp only [dats]
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w3 (c : Dev nD) (t : Fin cfg0.N) : (dats m 0 c).after 3 t = iblk m c 3 t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) :=
  (congrFun defs_tc _).trans rfl

set_option backward.isDefEq.respectTransparency.types false in
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, before_w1, before_w2, before_w3, after_w0, after_w1, after_w2, after_w3]
  rw [show (dats m 0 c).Φ (Fin.castSucc t0_0) = iprop(keepΦ m c ∗ ∃ f, own (F := F) c deltaM f) from rfl,
    show (dats m 0 c).Φ (Fin.succ t0_0) = iprop(keepΦ m c ∗ own c deltaM (finAt m c t0_0)) from rfl]
  unfold Dat.owesAt Pipeline.owesWithin
  rw [show (dats m 0 c).owed (Fin.castSucc t0_0) = 0 from rfl, show (dats m 0 c).owed (Fin.succ t0_0) = 0 from rfl]
  unfold owns keepΦ
  iintro ⟨⟨⟨HA, HT, HR, HL, Hh, Hs, Hc, H7⟩, Hd⟩, ⟨%W, -, HW⟩, ⟨%d0, %g0, %hg0, H0⟩, ⟨%d1, %g1, %hg1, H1⟩, ⟨%d2, %g2, %hg2, H2⟩, ⟨%d3, %g3, %hg3, H3⟩⟩
  ihave H0' := (pointsTo_rep_entails (c : Thread nD τ) (st0_0 t0_0) g0 fullShare) $$ H0
  ihave H1' := (pointsTo_rep_entails (c : Thread nD τ) (st0_1 t0_0) g1 fullShare) $$ H1
  ihave H2' := (pointsTo_rep_entails (c : Thread nD τ) (st0_2 t0_0) g2 fullShare) $$ H2
  ihave H3' := (pointsTo_rep_entails (c : Thread nD τ) (st0_3 t0_0) g3 fullShare) $$ H3
  rw [hg0, hg1, hg2, hg3]
  sl_rw [prog_eq t0_0]
  iapply (bodyRun c (V m c main_arg3) (st0_0 t0_0) (hstage0_0 0) (st0_1 t0_0) (hstage0_1 0) (st0_2 t0_0) (hstage0_2 0)
    (st0_3 t0_0) (hstage0_3 0) (in0 m c t0_0) (in1 m c t0_0) (in2 m c t0_0) (in3 m c t0_0))
  isplitl [H0' H1' H2' H3' HA HT HR HL Hh Hs Hc Hd HW]
  · isplitl [H0']; · iexact H0'
    isplitl [H1']; · iexact H1'
    isplitl [H2']; · iexact H2'
    isplitl [H3']; · iexact H3'
    isplitl [HA]; · iexact HA
    isplitl [HT]; · iexact HT
    isplitl [HR]; · iexact HR
    isplitl [HL]; · iexact HL
    isplitl [Hh]; · iexact Hh
    isplitl [Hs]; · iexact Hs
    isplitl [Hc]; · iexact Hc
    isplitl [Hd]; · iexact Hd
    iexists W; iexact HW
  · iintro ⟨H0, H1, H2, H3, HA, HT, HR, HL, Hh, Hs, Hc, Hd, ⟨%W', HW⟩⟩
    isplitl [HA HT HR HL Hh Hs Hc H7 Hd]
    · isplitr [Hd]
      · isplitl [HA]; · iexact HA
        isplitl [HT]; · iexact HT
        isplitl [HR]; · iexact HR
        isplitl [HL]; · iexact HL
        isplitl [Hh]; · iexact Hh
        isplitl [Hs]; · iexact Hs
        isplitl [Hc]; · iexact Hc
        iexact H7
      iexact Hd
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    iexists _; isplitr; · ipureintro; exact View.read_rep _ _
    iexact H3

/-! ## The run -/

theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The arguments that no window stages, as the region finds them. -/
def bypass (c : Dev nD) : sProp 𝕄 :=
  iprop((((c : Thread nD τ).loc main_arg1) ↦{fullShare} V m c main_arg1) ∗ (((c : Thread nD τ).loc main_arg4) ↦{fullShare} V m c main_arg4))
def intoΦ (c : Dev nD) : sProp 𝕄 :=
  iprop(bigSep Finset.univ (homeB c (V m c main_arg3)) ∗ (∃ f, own (F := F) c deltaM f) ∗ Pipeline.ownSems0 osem c)
def outOfΦ (c : Dev nD) : sProp 𝕄 :=
  iprop((((c : Thread nD τ).loc main_arg3) ↦{fullShare} V m c main_arg3) ∗ (((c : Thread nD τ).loc main_v4) ↦{fullShare} finAt m c t0_0))
def u₀ : UU nD τ := (initOf (Pipeline.cells cfgs Cert.DownIdeal.Gen.cellOf_inj) (Pipeline.launchToks cfgs Cert.DownIdeal.Gen.cellOf_inj), 1)
def finalA (c : Dev nD) (w : Fin cfg0.W) : Buf (Elt F) ((cfg0.win w).arr.view.loc (c : Thread nD τ)) := (dats m 0 c).arrAt w cfg0.N
/-- What is read off the final memory beside the windows' arrays. -/
def QY (c : Dev nD) (s : MemSt nD τ sig (Elt F)) : Prop :=
  s.mem ((c : Thread nD τ).loc main_arg1) = V m c main_arg1 ∧ s.mem ((c : Thread nD τ).loc main_arg3) = V m c main_arg3
  ∧ s.mem ((c : Thread nD τ).loc main_arg4) = V m c main_arg4 ∧ s.mem ((c : Thread nD τ).loc main_v4) = finAt m c t0_0
def QC : PUnit × MemSt nD τ sig (Elt F) → Prop := fun r =>
  ∀ c : Dev nD, (∀ w : Fin cfg0.W, r.2.mem ((cfg0.win w).arr.view.loc (c : Thread nD τ)) = finalA m c w) ∧ QY m c r.2

set_option maxHeartbeats 1600000 in
set_option backward.isDefEq.respectTransparency.types false in
/-- From any memory with zero counters every weakly fair execution of @main terminates, and every final state has the
    result at the computed contents, the arguments unchanged and every semaphore at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := outOfΦ m) (Z := bypass m)
    (hX := fun c => by
      rw [unscopedRest0_eq]
      unfold intoΦ bypass; rw [home_eq, deltaW_eq]
      iintro ⟨⟨H1, H3, H4, -, -, Hd⟩, HS, -, -, -⟩; imodintro
      isplitl [H3 HS Hd]
      · isplitl [H3]; · iexact H3
        isplitl [Hd]; · iexists _; iexact Hd
        iexact HS
      isplitl [H1]; · iexact H1
      iexact H4)
    (hin := fun c => by
      rw [scopedRest0_eq, show (dats m 0 c).Φ 0 = iprop(keepΦ m c ∗ ∃ f, own (F := F) c deltaM f) from rfl]
      unfold intoΦ keepΦ; rw [ownSems0_eq, free_eq, act_eq, attnW_eq, arep_eq, lhs4_eq]
      iintro ⟨⟨Hh, Hd, Hc, HD⟩, ⟨B0, B1, B2, B3, B4⟩⟩
      ihave Hr := (ring_split c) $$ B0
      ihave Hr' := (Entails.of_eq (slots_eq c)) $$ Hr
      icases Hr' with ⟨Hr, Ht⟩
      isplitr [Hd]
      · isplitl [B3]; · iexact B3
        isplitl [B1]; · iexact B1
        isplitl [B4]; · iexact B4
        isplitl [B2]; · iexact B2
        isplitl [Hh]; · iexact Hh
        isplitl [Hr Hc]
        · isplitl [Hr]; · iexact Hr
          iexact Hc
        isplitl [HD]; · iexact HD
        iexact Ht
      iexact Hd)
    (hout := fun c => by
      rw [scopedRest0_eq, show (dats m 0 c).Φ (Fin.last cfg0.N) = iprop(keepΦ m c ∗ own c deltaM (finAt m c t0_0)) from rfl, ownSems0_eq]
      unfold keepΦ outOfΦ; rw [free_eq, home_eq, act_eq, attnW_eq, arep_eq, lhs4_eq, delta_whole]
      iintro ⟨⟨B3, B1, B4, B2, H3, ⟨Hr, Hc⟩, HD, Ht⟩, Hd⟩
      ihave Hr' := (Entails.of_eq (slots_eq c).symm) $$ [Hr Ht]
      · isplitl [Hr]; · iexact Hr
        iexact Ht
      ihave B0 := (ring_join c) $$ Hr'
      isplitl [H3 Hd]
      · isplitl [H3]; · iexact H3
        iexact Hd
      isplitl [Hc HD]
      · isplitl [Hc]; · iexact Hc
        iexact HD
      isplitl [B0]; · iexact B0
      isplitl [B1]; · iexact B1
      isplitl [B2]; · iexact B2
      isplitl [B3]; · iexact B3
      iexact B4)
    (QY := QY m)
    (hY := fun c s' => by
      unfold outOfΦ bypass
      iintro ⟨⟨H3, Hd⟩, ⟨H1, H4⟩, HSI⟩
      icombine HSI H1 gives %h1
      icombine HSI H3 gives %h3
      icombine HSI H4 gives %h4
      icombine HSI Hd gives %hd
      imodintro
      isplitr
      · ipureintro
        exact ⟨Buf.eq_of_forall_mem_univ h1, Buf.eq_of_forall_mem_univ h3, Buf.eq_of_forall_mem_univ h4, Buf.eq_of_forall_mem_univ hd⟩
      iexact HSI)
    (hQ := fun _ hh hz => ⟨hh, hz⟩)

theorem finalA_in (c : Dev nD) (w : Fin cfg0.W) (hw : (cfg0.win w).isOut = false) :
    finalA m c w = V m c (Pipeline.arrRef spec0 w) :=
  (dats (F := F) m 0 c).arrAt_in w hw _

/-- The arguments at a final state. -/
theorem args_of (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  obtain ⟨hw, h1, h3, h4, -⟩ := h c
  exact ⟨(hw 0).trans ((finalA_in m c 0 rfl).trans (V_main_arg0 m c)), h1.trans (V_main_arg1 m c),
    (hw 2).trans ((finalA_in m c 2 rfl).trans (V_main_arg2 m c)), h3.trans (V_main_arg3 m c), h4.trans (V_main_arg4 m c)⟩

end Launch

end Cert.Proof.DI

end
-- ==== Proof.DownFrame.lean ====
/- The frames of the down product's two programs. `run_main` of DownLaunch.lean is proved of the idealized program at any float
values; the word-level program is the same text in another namespace, so at the words the two are definitionally equal,
and the one run serves both. -/
module

public import proofs.«01_k».proof.Proof.DownLaunch
public import proofs.«01_k».proof.Proof.Gen.Down
public import proofs.«01_k».proof.Defs

@[expose] public section

noncomputable section

namespace Cert.Proof.DI

open Idealize.ShloMosaic Idealize.SL.Sem
open Idealize.ShloMosaic.TcCoe

attribute [local instance] Cert.Down.Gen.facts Cert.DownIdeal.Gen.facts

set_option maxRecDepth 100000 in
set_option maxHeartbeats 0 in
/-- The two bodies are one text. -/
theorem body_same : Cert.Down.cc0_mod_block_down (F := Bits) = Cert.DownIdeal.cc0_mod_block_down (F := Bits) := rfl

set_option maxRecDepth 100000 in
set_option maxHeartbeats 0 in
/-- So are the two body tables. -/
theorem bodies_same : Cert.Down.defs₀ (F := Bits) = Cert.DownIdeal.defs₀ (F := Bits) := by
  unfold Cert.Down.defs₀ Cert.DownIdeal.defs₀
  congr 1
  funext l a
  match l, a with
  | 0, (t, s) =>
    dsimp only
    rw [body_same]
  | ⟨n + 1, h⟩, _ => exact absurd h (Nat.not_lt.2 (Nat.le_add_left _ _))

/-- And so the two tables with the call's pipeline. -/
theorem defs_same : Cert.Down.defs (F := Bits) = Cert.DownIdeal.defs (F := Bits) := by
  unfold Cert.Down.defs Cert.DownIdeal.defs
  rw [bodies_same]
  rfl

/-- The word-level kernel's frame. -/
theorem frame_kernel : Cert.quiescent_Down := fun m ρ _ => by
  rw [defs_same]
  exact (θ_run Cert.DownIdeal.defs (onTc (τ := Cert.DownIdeal.τ) (Cert.DownIdeal.main (F := Bits))) _).mono
    (fun _ hh => ⟨fun c => args_of m _ hh.1 c, hh.2⟩) (run_main (F := Bits) m ρ)

/-- The idealized kernel's frame. -/
theorem frame_ideal : Cert.quiescent_DownIdeal := fun m ρ _ =>
  (θ_run Cert.DownIdeal.defs (onTc (τ := Cert.DownIdeal.τ) (Cert.DownIdeal.main (F := Ideal))) _).mono
    (fun _ hh => ⟨fun c => args_of m _ hh.1 c, hh.2⟩) (run_main (F := Ideal) m ρ)

end Cert.Proof.DI

end
-- ==== Proof.DownPay.lean ====
/- The down product's mathematics, and the values of the kernel's vector expressions entry by entry. -/
module

public import proofs.«01_k».proof.Proof.Spec
public import proofs.«01_k».proof.Proof.DownBody

@[expose] public section

noncomputable section

namespace Cert.Proof.Spec

/-- The attention's product plus the scaled down product. -/
def down (C : Mat 224 14336) (A : Fin 224 → EReal) (T : Mat 224 4096) (W : Mat 14336 4096) (s : Fin 4096 → EReal) : Mat 224 4096 := fun r j =>
  T r j + (∑ k, C r k * W k j) * A r * s j

/-- A sum over the 14336 in four blocks. -/
theorem sum_blocks (f : Fin 14336 → EReal) :
    (∑ k, f k) = (((∑ x : Fin 3584, f ⟨x.val, by omega⟩) + ∑ x : Fin 3584, f ⟨3584 + x.val, by omega⟩) + ∑ x : Fin 3584, f ⟨7168 + x.val, by omega⟩)
      + ∑ x : Fin 3584, f ⟨10752 + x.val, by omega⟩ := by
  rw [Fin.sum_univ_add (a := 10752) (b := 3584) f, Fin.sum_univ_add (a := 7168) (b := 3584) (fun i : Fin 10752 => f (Fin.castAdd 3584 i)),
    Fin.sum_univ_add (a := 3584) (b := 3584) (fun i : Fin 7168 => f (Fin.castAdd 3584 (Fin.castAdd 3584 i)))]
  rfl

end Cert.Proof.Spec

namespace Cert.Proof.DI

open Cert.DownIdeal Cert.DownIdeal.Gen
open Idealize.ShloMosaic Idealize.ShloMosaic.TcCoe
open Cert.Proof.Spec

set_option maxRecDepth 16384

/-! ### Vector expressions -/

section Pay
variable (L : Vec Ideal S1x224x3584 .fp8e4m3) (W : Vec Ideal S1x3584x512 .fp8e4m3) (v : Vec Ideal S1x224x128 .f32)

/-- A block's product. -/
def mm : Mat 224 512 := fun r y => ∑ j : Fin 3584, L (ix3 0 r j) * W (ix3 0 j y)

theorem pay1_apply (r : Fin 224) (y : Fin 512) : k0_pay1 L W (ix2 r y) = mm L W r y := by
  pointwise [k0_pay1]
  rfl
theorem pay8_apply (r : Fin 224) (y : Fin 512) : k0_pay8 L W (ix2 r y) = mm L W r y := by
  pointwise [k0_pay8]
  rfl
theorem pay17_apply (r : Fin 224) (y : Fin 512) : k0_pay17 L W (ix2 r y) = mm L W r y := by
  pointwise [k0_pay17]
  rfl
theorem pay24_apply (r : Fin 224) (y : Fin 512) : k0_pay24 L W (ix2 r y) = mm L W r y := by
  pointwise [k0_pay24]
  rfl
/-- The first arrival's four planes, -/
theorem first0 (r : Fin 224) (l : Fin 128) : k0_pay4 L W (ix3 0 r l) = mm L W r ⟨128 * 0 + l.val, by omega⟩ := by
  pointwise [k0_pay4, pay1_apply]
theorem first1 (r : Fin 224) (l : Fin 128) : k0_pay5 L W (ix3 0 r l) = mm L W r ⟨128 * 1 + l.val, by omega⟩ := by
  pointwise [k0_pay5, pay1_apply]
theorem first2 (r : Fin 224) (l : Fin 128) : k0_pay6 (k0_pay2 L W) (ix3 0 r l) = mm L W r ⟨128 * 2 + l.val, by omega⟩ := by
  pointwise [k0_pay6, k0_pay2, pay1_apply]
theorem first3 (r : Fin 224) (l : Fin 128) : k0_pay7 (k0_pay3 L W) (ix3 0 r l) = mm L W r ⟨128 * 3 + l.val, by omega⟩ := by
  pointwise [k0_pay7, k0_pay3, pay1_apply]
/-- the second arrival's, over what the planes held: as functions of the plane, -/
def second (p : Fin 4) : FVec Ideal S1x224x128 .f32 :=
  match p with
  | 0 => k0_pay13 (k0_pay12 L W v)
  | 1 => k0_pay14 (k0_pay9 L W) v
  | 2 => k0_pay15 (k0_pay10 L W) v
  | 3 => k0_pay16 (k0_pay11 L W) v
/-- and entry by entry; -/
theorem second_apply (p : Fin 4) (r : Fin 224) (l : Fin 128) : second L W v p (ix3 0 r l) = v (ix3 0 r l) + mm L W r ⟨128 * p.val + l.val, by omega⟩ := by
  fin_cases p
  · show k0_pay13 (k0_pay12 L W v) (ix3 0 r l) = v (ix3 0 r l) + mm L W r ⟨128 * 0 + l.val, _⟩
    pointwise [k0_pay13, k0_pay12, pay8_apply]
  · show k0_pay14 (k0_pay9 L W) v (ix3 0 r l) = v (ix3 0 r l) + mm L W r ⟨128 * 1 + l.val, _⟩
    pointwise [k0_pay14, k0_pay9, pay8_apply]
  · show k0_pay15 (k0_pay10 L W) v (ix3 0 r l) = v (ix3 0 r l) + mm L W r ⟨128 * 2 + l.val, _⟩
    pointwise [k0_pay15, k0_pay10, pay8_apply]
  · show k0_pay16 (k0_pay11 L W) v (ix3 0 r l) = v (ix3 0 r l) + mm L W r ⟨128 * 3 + l.val, _⟩
    pointwise [k0_pay16, k0_pay11, pay8_apply]
/-- the third arrival's, over what the planes held: as functions of the plane, -/
def third (p : Fin 4) : FVec Ideal S1x224x128 .f32 :=
  match p with
  | 0 => k0_pay19 L W v
  | 1 => k0_pay20 L W v
  | 2 => k0_pay22 (k0_pay21 L W v)
  | 3 => k0_pay23 (k0_pay18 L W) v
/-- and entry by entry; -/
theorem third_apply (p : Fin 4) (r : Fin 224) (l : Fin 128) : third L W v p (ix3 0 r l) = v (ix3 0 r l) + mm L W r ⟨128 * p.val + l.val, by omega⟩ := by
  fin_cases p
  · show k0_pay19 L W v (ix3 0 r l) = v (ix3 0 r l) + mm L W r ⟨128 * 0 + l.val, _⟩
    pointwise [k0_pay19, pay17_apply]
  · show k0_pay20 L W v (ix3 0 r l) = v (ix3 0 r l) + mm L W r ⟨128 * 1 + l.val, _⟩
    pointwise [k0_pay20, pay17_apply]
  · show k0_pay22 (k0_pay21 L W v) (ix3 0 r l) = v (ix3 0 r l) + mm L W r ⟨128 * 2 + l.val, _⟩
    pointwise [k0_pay22, k0_pay21, pay17_apply]
  · show k0_pay23 (k0_pay18 L W) v (ix3 0 r l) = v (ix3 0 r l) + mm L W r ⟨128 * 3 + l.val, _⟩
    pointwise [k0_pay23, k0_pay18, pay17_apply]
/-- the fourth arrival's, over what the planes held: as functions of the plane, -/
def fourth (p : Fin 4) : FVec Ideal S1x224x128 .f32 :=
  match p with
  | 0 => k0_pay29 (k0_pay25 L W) v
  | 1 => k0_pay30 (k0_pay26 L W) v
  | 2 => k0_pay31 (k0_pay27 L W) v
  | 3 => k0_pay32 (k0_pay28 L W) v
/-- and entry by entry; -/
theorem fourth_apply (p : Fin 4) (r : Fin 224) (l : Fin 128) : fourth L W v p (ix3 0 r l) = v (ix3 0 r l) + mm L W r ⟨128 * p.val + l.val, by omega⟩ := by
  fin_cases p
  · show k0_pay29 (k0_pay25 L W) v (ix3 0 r l) = v (ix3 0 r l) + mm L W r ⟨128 * 0 + l.val, _⟩
    pointwise [k0_pay29, k0_pay25, pay24_apply]
  · show k0_pay30 (k0_pay26 L W) v (ix3 0 r l) = v (ix3 0 r l) + mm L W r ⟨128 * 1 + l.val, _⟩
    pointwise [k0_pay30, k0_pay26, pay24_apply]
  · show k0_pay31 (k0_pay27 L W) v (ix3 0 r l) = v (ix3 0 r l) + mm L W r ⟨128 * 2 + l.val, _⟩
    pointwise [k0_pay31, k0_pay27, pay24_apply]
  · show k0_pay32 (k0_pay28 L W) v (ix3 0 r l) = v (ix3 0 r l) + mm L W r ⟨128 * 3 + l.val, _⟩
    pointwise [k0_pay32, k0_pay28, pay24_apply]

variable (t : Vec Ideal S224x128 .f32) (a : Vec Ideal S224x128 .f32) (sd : Vec Ideal S1x128 .f32)
theorem pay33_apply (r : Fin 224) (l : Fin 128) : k0_pay33 t v a sd (ix2 r l) = t (ix2 r l) + v (ix3 0 r l) * a (ix2 r l) * sd (ix2 0 l) := by
  pointwise [k0_pay33]
theorem pay34_apply (r : Fin 224) (l : Fin 128) : k0_pay34 t v a sd (ix2 r l) = t (ix2 r l) + v (ix3 0 r l) * a (ix2 r l) * sd (ix2 0 l) := by
  pointwise [k0_pay34]
theorem pay35_apply (r : Fin 224) (l : Fin 128) : k0_pay35 t v a sd (ix2 r l) = t (ix2 r l) + v (ix3 0 r l) * a (ix2 r l) * sd (ix2 0 l) := by
  pointwise [k0_pay35]
theorem pay36_apply (r : Fin 224) (l : Fin 128) : k0_pay36 t v a sd (ix2 r l) = t (ix2 r l) + v (ix3 0 r l) * a (ix2 r l) * sd (ix2 0 l) := by
  pointwise [k0_pay36]
theorem pay37_apply (r : Fin 224) (l : Fin 128) : k0_pay37 a (ix2 r l) = a (ix2 r l) := by
  pointwise [k0_pay37]
theorem pay38_apply (b : Vec Ideal S224x4096 .f32) (r : Fin 224) (j : Fin 4096) : k0_pay38 b (ix2 r j) = b (ix2 r j) := by
  pointwise [k0_pay38]
theorem pay39_apply (b : Vec Ideal S224x3584 .fp8e4m3) (r : Fin 224) (j : Fin 3584) : k0_pay39 b (ix3 0 r j) = b (ix2 r j) := by
  pointwise [k0_pay39]
theorem pay40_apply (b : Vec Ideal S224x3584 .fp8e4m3) (r : Fin 224) (j : Fin 3584) : k0_pay40 b (ix3 0 r j) = b (ix2 r j) := by
  pointwise [k0_pay40]
theorem pay41_apply (b : Vec Ideal S224x3584 .fp8e4m3) (r : Fin 224) (j : Fin 3584) : k0_pay41 b (ix3 0 r j) = b (ix2 r j) := by
  pointwise [k0_pay41]
theorem pay42_apply (b : Vec Ideal S224x3584 .fp8e4m3) (r : Fin 224) (j : Fin 3584) : k0_pay42 b (ix3 0 r j) = b (ix2 r j) := by
  pointwise [k0_pay42]
end Pay

end Cert.Proof.DI

end
-- ==== Proof.DownValue.lean ====
/- What the body leaves in the result, entry by entry. -/
module

public import proofs.«01_k».proof.Proof.DownPay
public import Idealize.ShloMosaic.Lib.VecWindow
public import Idealize.ShloMosaic.Lib.WritesUnit

@[expose] public section

noncomputable section

namespace Cert.Proof.DI

open Cert.DownIdeal Cert.DownIdeal.Gen
open Idealize.ShloMosaic Idealize.ShloMosaic.TcCoe
open Cert.Proof.Spec

set_option maxRecDepth 16384

/-! ### Loads -/

theorem readAt2 {sp : _} {n0 n1 m0 m1 : ℕ} {e : EltTy} (v : View sig .tc sp ⟨2, ![n0, n1]⟩ e) (f : v.ty.Contents (Elt Ideal)) {off : Fin 2 → ℕ}
    (p q : ℕ) (ho : off = ![p, q]) (inb) (a : Fin m0) (b : Fin m1) (h0 : p + a.val < n0) (h1 : q + b.val < n1) :
    v.readAt (Elt Ideal) (Rect.unit (s := ⟨2, ![n0, n1]⟩) off ![m0, m1] inb).toLoadRect f (ix2 a b) = v.read (Elt Ideal) f (ix2 ⟨p + a.val, h0⟩ ⟨q + b.val, h1⟩) := by
  subst ho
  rw [View.readAt_apply]
  congr 1; funext d
  match d with
  | ⟨0, _⟩ => exact Fin.ext (by simp [Rect.emb_apply])
  | ⟨1, _⟩ => exact Fin.ext (by simp [Rect.emb_apply])
theorem readAt3 {sp : _} {n0 n1 n2 m0 m1 m2 : ℕ} {e : EltTy} (v : View sig .tc sp ⟨3, ![n0, n1, n2]⟩ e) (f : v.ty.Contents (Elt Ideal)) {off : Fin 3 → ℕ}
    (p q s : ℕ) (ho : off = ![p, q, s]) (inb) (a : Fin m0) (b : Fin m1) (c : Fin m2) (h0 : p + a.val < n0) (h1 : q + b.val < n1) (h2 : s + c.val < n2) :
    v.readAt (Elt Ideal) (Rect.unit (s := ⟨3, ![n0, n1, n2]⟩) off ![m0, m1, m2] inb).toLoadRect f (ix3 a b c)
      = v.read (Elt Ideal) f (ix3 ⟨p + a.val, h0⟩ ⟨q + b.val, h1⟩ ⟨s + c.val, h2⟩) := by
  subst ho
  rw [View.readAt_apply]
  congr 1; funext d
  match d with
  | ⟨0, _⟩ => exact Fin.ext (by simp [Rect.emb_apply])
  | ⟨1, _⟩ => exact Fin.ext (by simp [Rect.emb_apply])
  | ⟨2, _⟩ => exact Fin.ext (by simp [Rect.emb_apply])

/-! ### The planes of `act` through the four arrivals -/

/-- A plane after the stores `L`. -/
def plane (L : List (View.Piece (Elt Ideal) S112x224x128 .f32)) (p : ℕ) (hp : p < 112) (r : Fin 224) (l : Fin 128) : EReal :=
  actM.view.read (Elt Ideal) (actM.view.writes (Elt Ideal) actM.view.junk L) (ix3 ⟨p, hp⟩ r l)

theorem plane_load (L) (n : ℕ) (hn : n < 112) (inb) (r : Fin 224) (l : Fin 128) :
    actM.view.readCov L (Rect.unit (s := S112x224x128) ![n, 0, 0] S1x224x128.size inb).toLoadRect (ix3 0 r l) = plane L n hn r l := by
  unfold View.readCov plane
  refine (readAt3 (m0 := 1) (m1 := 224) (m2 := 128) actM.view _ n 0 0 rfl _ 0 r l (by simpa using hn) (by omega) (by omega)).trans ?_
  congr 1; funext d
  match d with
  | ⟨0, _⟩ => exact Fin.ext (Nat.add_zero _)
  | ⟨1, _⟩ => exact Fin.ext (Nat.zero_add _)
  | ⟨2, _⟩ => exact Fin.ext (Nat.zero_add _)
/-- Past the store of another plane. -/
theorem skip_plane (L) (n : ℕ) (inb) (w) (p : ℕ) (hp : p < 112) (r : Fin 224) (l : Fin 128) (h : p ≠ n) :
    plane (⟨Rect.unit (s := S112x224x128) ![n, 0, 0] S1x224x128.size inb, w⟩ :: L) p hp r l = plane L p hp r l := by
  unfold plane
  exact View.read_writes_cons_unit_of_not_mem (off' := ![n, 0, 0]) actM.view _ inb w L (ix3 ⟨p, hp⟩ r l) rfl 0 (by show p < n ∨ n + 1 ≤ p; omega)
/-- At the store of the plane. -/
theorem take_plane (L) (n : ℕ) (hn : n < 112) (inb) (w) (r : Fin 224) (l : Fin 128) :
    plane (⟨Rect.unit (s := S112x224x128) ![n, 0, 0] S1x224x128.size inb, w⟩ :: L) n hn r l = w (ix3 0 r l) := by
  unfold plane
  exact View.read_writes_cons_unit_of_mem (off' := ![n, 0, 0]) actM.view _ inb w L (ix3 ⟨n, hn⟩ r l) (ix3 0 r l) rfl (fun a => by
    match a with
    | ⟨0, _⟩ => rfl
    | ⟨1, _⟩ => show r.val = 0 + r.val; omega
    | ⟨2, _⟩ => show l.val = 0 + l.val; omega)

/-- One arrival's four stores: each plane loaded, added to, stored. -/
def pass (L : List (View.Piece (Elt Ideal) S112x224x128 .f32)) (f : Fin 4 → Vec Ideal S1x224x128 .f32 → FVec Ideal S1x224x128 .f32) : List (View.Piece (Elt Ideal) S112x224x128 .f32) :=
  let g0 : List (View.Piece (Elt Ideal) S112x224x128 .f32) := ⟨pl0, f 0 (actM.view.readCov L pl0.toLoadRect)⟩ :: L
  let g1 : List (View.Piece (Elt Ideal) S112x224x128 .f32) := ⟨pl1, f 1 (actM.view.readCov g0 pl1.toLoadRect)⟩ :: g0
  let g2 : List (View.Piece (Elt Ideal) S112x224x128 .f32) := ⟨pl2, f 2 (actM.view.readCov g1 pl2.toLoadRect)⟩ :: g1
  ⟨pl3, f 3 (actM.view.readCov g2 pl3.toLoadRect)⟩ :: g2
/-- If what is stored is what was loaded and a product's entry, so are the planes after. -/
theorem pass_plane (L f) (S : Mat 224 512) (hf : ∀ p v r (l : Fin 128), f p v (ix3 0 r l) = v (ix3 0 r l) + S r ⟨128 * p.val + l.val, by omega⟩)
    (p : Fin 4) (r : Fin 224) (l : Fin 128) :
    plane (pass L f) p.val (by omega) r l = plane L p.val (by omega) r l + S r ⟨128 * p.val + l.val, by omega⟩ := by
  unfold pass
  fin_cases p
  · refine (skip_plane _ 3 _ _ 0 (by omega) r l (by omega)).trans ((skip_plane _ 2 _ _ 0 (by omega) r l (by omega)).trans
      ((skip_plane _ 1 _ _ 0 (by omega) r l (by omega)).trans ((take_plane _ 0 (by omega) _ _ r l).trans ((hf 0 _ r l).trans ?_))))
    rw [plane_load _ 0 (by omega)]; rfl
  · refine (skip_plane _ 3 _ _ 1 (by omega) r l (by omega)).trans ((skip_plane _ 2 _ _ 1 (by omega) r l (by omega)).trans
      ((take_plane _ 1 (by omega) _ _ r l).trans ((hf 1 _ r l).trans ?_)))
    rw [plane_load _ 1 (by omega), skip_plane _ 0 _ _ 1 _ r l (by omega)]; rfl
  · refine (skip_plane _ 3 _ _ 2 (by omega) r l (by omega)).trans ((take_plane _ 2 (by omega) _ _ r l).trans ((hf 2 _ r l).trans ?_))
    rw [plane_load _ 2 (by omega), skip_plane _ 1 _ _ 2 _ r l (by omega), skip_plane _ 0 _ _ 2 _ r l (by omega)]; rfl
  · refine (take_plane _ 3 (by omega) _ _ r l).trans ((hf 3 _ r l).trans ?_)
    rw [plane_load _ 3 (by omega), skip_plane _ 2 _ _ 3 _ r l (by omega), skip_plane _ 1 _ _ 3 _ r l (by omega), skip_plane _ 0 _ _ 3 _ r l (by omega)]; rfl

/-! ### A trip -/

section Trip
variable (c : Dev nD) (XW : Buf (Elt Ideal) (wdM.view.loc (c : Thread nD τ))) (arg4 : Memref sig .tc .vmem S1x4096 .f32)
  (XA : Buf (Elt Ideal) (attnM.view.loc (c : Thread nD τ))) (x4 : Buf (Elt Ideal) (arg4.view.loc (c : Thread nD τ)))
  (xr : Buf (Elt Ideal) (arepM.view.loc (c : Thread nD τ))) (xl : Buf (Elt Ideal) (lhs4M.view.loc (c : Thread nD τ))) (k : T1)

theorem h8_eq : h8 c XW xl k = pass (h4 c XW xl k) (fun p v => second (l1 c xl) (w1 c XW k) v p) := rfl
theorem h12_eq : h12 c XW xl k = pass (h8 c XW xl k) (fun p v => third (l2 c xl) (w2 c XW k) v p) := rfl
theorem h16_eq : h16 c XW xl k = pass (h12 c XW xl k) (fun p v => fourth (l3 c xl) (w3 c XW k) v p) := rfl

theorem h4_plane (p : Fin 4) (r : Fin 224) (l : Fin 128) : plane (h4 c XW xl k) p.val (by omega) r l = mm (l0 c xl) (w0 c XW k) r ⟨128 * p.val + l.val, by omega⟩ := by
  unfold h4
  fin_cases p
  · exact (skip_plane _ 3 _ _ 0 (by omega) r l (by omega)).trans ((skip_plane _ 2 _ _ 0 (by omega) r l (by omega)).trans
      ((skip_plane _ 1 _ _ 0 (by omega) r l (by omega)).trans ((take_plane _ 0 (by omega) _ _ r l).trans (first0 _ _ r l))))
  · exact (skip_plane _ 3 _ _ 1 (by omega) r l (by omega)).trans ((skip_plane _ 2 _ _ 1 (by omega) r l (by omega)).trans
      ((take_plane _ 1 (by omega) _ _ r l).trans (first1 _ _ r l)))
  · exact (skip_plane _ 3 _ _ 2 (by omega) r l (by omega)).trans ((take_plane _ 2 (by omega) _ _ r l).trans (first2 _ _ r l))
  · exact (take_plane _ 3 (by omega) _ _ r l).trans (first3 _ _ r l)

/-- The planes after the four arrivals. -/
theorem h16_plane (p : Fin 4) (r : Fin 224) (l : Fin 128) : plane (h16 c XW xl k) p.val (by omega) r l
    = ((mm (l0 c xl) (w0 c XW k) r ⟨128 * p.val + l.val, by omega⟩ + mm (l1 c xl) (w1 c XW k) r ⟨128 * p.val + l.val, by omega⟩)
      + mm (l2 c xl) (w2 c XW k) r ⟨128 * p.val + l.val, by omega⟩) + mm (l3 c xl) (w3 c XW k) r ⟨128 * p.val + l.val, by omega⟩ := by
  rw [h16_eq, pass_plane _ _ _ (fun p v r l => fourth_apply _ _ v p r l), h12_eq, pass_plane _ _ _ (fun p v r l => third_apply _ _ v p r l), h8_eq,
    pass_plane _ _ _ (fun p v r l => second_apply _ _ v p r l), h4_plane]

/-- An entry of a chunk. -/
theorem chunk_apply (s : Fin 16) (d : Fin 32) (j : Fin 4096) (y : Fin 512) (h : j.val < 3584) : chunk c XW d (ix3 (n0 := 16) (n1 := 4096) (n2 := 512) s j y)
    = XW (ix2 (n0 := 14336) (n1 := 4096) ⟨3584 * (d.val % 4) + j.val, by omega⟩ ⟨512 * (d.val / 4) + y.val, by have := d.isLt; omega⟩) := by
  have e : ∀ (p : Fin 14336) (q : Fin 4096), ValueIdx.ix2 (n0 := 14336) (n1 := 4096) p q = ix2 p q := fun p q => by
    funext d; match d with | ⟨0, _⟩ => rfl | ⟨1, _⟩ => rfl
  rw [← e]
  exact dif_pos h

variable (C : Mat 224 14336) (A : Fin 224 → EReal) (T : Mat 224 4096) (W : Mat 14336 4096) (s : Fin 4096 → EReal)

/-- What a trip's operands hold. -/
structure Reads : Prop where
  x : ∀ (b : Fin 4) r (j : Fin 3584), lhs4M.view.read (Elt Ideal) xl (ix3 b r j) = C r ⟨3584 * b.val + j.val, by omega⟩
  a : ∀ r l, arepM.view.read (Elt Ideal) xr (ix2 r l) = A r
  t : ∀ r j, attnM.view.read (Elt Ideal) XA (ix2 r j) = T r j
  w : ∀ j l, XW (ix2 (n0 := 14336) (n1 := 4096) j l) = W j l
  s : ∀ l, arg4.view.read (Elt Ideal) x4 (ix2 0 l) = s l

variable (H : Reads c XW arg4 XA x4 xr xl C A T W s)

include H

/-- A slot that agrees with a chunk on the chunk's part, as it is loaded; -/
theorem slot_load (f : Buf (Elt Ideal) (ringM.view.loc (c : Thread nD τ))) (sl : Fin 16) (d : Fin 32) (hf : ∀ i ∈ (part sl).view.set, f i = chunk c XW d i)
    {off : Fin 3 → ℕ} (ho : off = partOff sl) (inb) (j : Fin 3584) (y : Fin 512) :
    ringM.view.readAt (Elt Ideal) (Rect.unit (s := S16x4096x512) off S1x3584x512.size inb).toLoadRect f (ix3 0 j y)
      = W ⟨3584 * (d.val % 4) + j.val, by omega⟩ ⟨512 * (d.val / 4) + y.val, by have := d.isLt; omega⟩ := by
  refine (readAt3 (m0 := 1) (m1 := 3584) (m2 := 512) ringM.view f sl.val 0 0 ho inb 0 j y (by simp) (by omega) (by omega)).trans ?_
  have e : (ix3 (n0 := 16) (n1 := 4096) (n2 := 512) ⟨sl.val + (0 : Fin 1).val, by simp⟩ ⟨0 + j.val, by omega⟩ ⟨0 + y.val, by omega⟩)
      = (part sl).view.emb (ValueIdx.ix2 j y) := by
    refine Eq.trans ?_ (part_emb sl j y).symm
    funext d
    match d with
    | ⟨0, _⟩ => exact Fin.ext (Nat.add_zero _)
    | ⟨1, _⟩ => exact Fin.ext (Nat.zero_add _)
    | ⟨2, _⟩ => exact Fin.ext (Nat.zero_add _)
  show f (ix3 (n0 := 16) (n1 := 4096) (n2 := 512) _ _ _) = _
  refine (hf _ (by rw [e]; exact View.emb_mem_set (part sl).view (ValueIdx.ix2 j y))).trans ?_
  refine (chunk_apply c XW _ d ⟨0 + j.val, by omega⟩ ⟨0 + y.val, by omega⟩ (by show 0 + j.val < 3584; omega)).trans ?_
  refine (H.w _ _).trans ?_
  congr 1 <;> exact Fin.ext (by dsimp only; omega)
/-- a slot just landed does. -/
theorem slot_apply (sl : Fin 16) (d : Fin 32) {off : Fin 3 → ℕ} (ho : off = partOff sl) (inb) (j : Fin 3584) (y : Fin 512) :
    ringM.view.readAt (Elt Ideal) (Rect.unit (s := S16x4096x512) off S1x3584x512.size inb).toLoadRect (land c XW sl d) (ix3 0 j y)
      = W ⟨3584 * (d.val % 4) + j.val, by omega⟩ ⟨512 * (d.val / 4) + y.val, by have := d.isLt; omega⟩ :=
  slot_load _ _ _ _ _ _ _ _ _ _ _ _ H (land c XW sl d) sl d (land_eq c XW sl d) ho inb j y

theorem mm0 (hk : k.val < 8) (r : Fin 224) (y : Fin 512) : mm (l0 c xl) (w0 c XW k) r y
    = ∑ x : Fin 3584, C r ⟨x.val, by omega⟩ * W ⟨x.val, by omega⟩ ⟨512 * k.val + y.val, by omega⟩ := by
  refine Finset.sum_congr rfl fun x _ => ?_
  have hb : (Ring.bk 32 (4 * k.val)).val = 4 * k.val := Ring.bk_val (by omega)
  have el : l0 c xl (ix3 0 r x) = C r ⟨x.val, by omega⟩ := by
    unfold l0
    refine (readAt3 (m0 := 1) (m1 := 224) (m2 := 3584) lhs4M.view _ 0 0 0 rfl _ 0 r x (by simp) (by omega) (by omega)).trans ?_
    refine Eq.trans (congrArg _ ?_) ((H.x 0 r x).trans (congrArg (C r) (Fin.ext ?_)))
    · funext d
      match d with
      | ⟨0, _⟩ => exact Fin.ext (Nat.add_zero _)
      | ⟨1, _⟩ => exact Fin.ext (Nat.zero_add _)
      | ⟨2, _⟩ => exact Fin.ext (Nat.zero_add _)
    · show 3584 * 0 + x.val = x.val; omega
  have ew : w0 c XW k (ix3 0 x y) = W ⟨x.val, by omega⟩ ⟨512 * k.val + y.val, by omega⟩ := by
    unfold w0
    refine (slot_apply _ _ _ _ _ _ _ _ _ _ _ _ H _ _ (off51_0 k) _ x y).trans ?_
    congr 1 <;> exact Fin.ext (by dsimp only; omega)
  rw [el, ew]

theorem mm1 (hk : k.val < 8) (r : Fin 224) (y : Fin 512) : mm (l1 c xl) (w1 c XW k) r y
    = ∑ x : Fin 3584, C r ⟨3584 + x.val, by omega⟩ * W ⟨3584 + x.val, by omega⟩ ⟨512 * k.val + y.val, by omega⟩ := by
  refine Finset.sum_congr rfl fun x _ => ?_
  have hb : (Ring.bk 32 (4 * k.val + 1)).val = 4 * k.val + 1 := Ring.bk_val (by omega)
  have el : l1 c xl (ix3 0 r x) = C r ⟨3584 + x.val, by omega⟩ := by
    unfold l1
    refine (readAt3 (m0 := 1) (m1 := 224) (m2 := 3584) lhs4M.view _ 1 0 0 rfl _ 0 r x (by simp) (by omega) (by omega)).trans ?_
    refine Eq.trans (congrArg _ ?_) ((H.x 1 r x).trans (congrArg (C r) (Fin.ext ?_)))
    · funext d
      match d with
      | ⟨0, _⟩ => exact Fin.ext (Nat.add_zero _)
      | ⟨1, _⟩ => exact Fin.ext (Nat.zero_add _)
      | ⟨2, _⟩ => exact Fin.ext (Nat.zero_add _)
    · show 3584 * 1 + x.val = 3584 + x.val; omega
  have ew : w1 c XW k (ix3 0 x y) = W ⟨3584 + x.val, by omega⟩ ⟨512 * k.val + y.val, by omega⟩ := by
    unfold w1
    refine (slot_apply _ _ _ _ _ _ _ _ _ _ _ _ H _ _ (off51_1 k) _ x y).trans ?_
    congr 1 <;> exact Fin.ext (by dsimp only; omega)
  rw [el, ew]

theorem mm2 (hk : k.val < 8) (r : Fin 224) (y : Fin 512) : mm (l2 c xl) (w2 c XW k) r y
    = ∑ x : Fin 3584, C r ⟨7168 + x.val, by omega⟩ * W ⟨7168 + x.val, by omega⟩ ⟨512 * k.val + y.val, by omega⟩ := by
  refine Finset.sum_congr rfl fun x _ => ?_
  have hb : (Ring.bk 32 (4 * k.val + 2)).val = 4 * k.val + 2 := Ring.bk_val (by omega)
  have el : l2 c xl (ix3 0 r x) = C r ⟨7168 + x.val, by omega⟩ := by
    unfold l2
    refine (readAt3 (m0 := 1) (m1 := 224) (m2 := 3584) lhs4M.view _ 2 0 0 rfl _ 0 r x (by simp) (by omega) (by omega)).trans ?_
    refine Eq.trans (congrArg _ ?_) ((H.x 2 r x).trans (congrArg (C r) (Fin.ext ?_)))
    · funext d
      match d with
      | ⟨0, _⟩ => exact Fin.ext (Nat.add_zero _)
      | ⟨1, _⟩ => exact Fin.ext (Nat.zero_add _)
      | ⟨2, _⟩ => exact Fin.ext (Nat.zero_add _)
    · show 3584 * 2 + x.val = 7168 + x.val; omega
  have ew : w2 c XW k (ix3 0 x y) = W ⟨7168 + x.val, by omega⟩ ⟨512 * k.val + y.val, by omega⟩ := by
    unfold w2
    refine (slot_apply _ _ _ _ _ _ _ _ _ _ _ _ H _ _ (off51_2 k) _ x y).trans ?_
    congr 1 <;> exact Fin.ext (by dsimp only; omega)
  rw [el, ew]

theorem mm3 (hk : k.val < 8) (r : Fin 224) (y : Fin 512) : mm (l3 c xl) (w3 c XW k) r y
    = ∑ x : Fin 3584, C r ⟨10752 + x.val, by omega⟩ * W ⟨10752 + x.val, by omega⟩ ⟨512 * k.val + y.val, by omega⟩ := by
  refine Finset.sum_congr rfl fun x _ => ?_
  have hb : (Ring.bk 32 (4 * k.val + 3)).val = 4 * k.val + 3 := Ring.bk_val (by omega)
  have el : l3 c xl (ix3 0 r x) = C r ⟨10752 + x.val, by omega⟩ := by
    unfold l3
    refine (readAt3 (m0 := 1) (m1 := 224) (m2 := 3584) lhs4M.view _ 3 0 0 rfl _ 0 r x (by simp) (by omega) (by omega)).trans ?_
    refine Eq.trans (congrArg _ ?_) ((H.x 3 r x).trans (congrArg (C r) (Fin.ext ?_)))
    · funext d
      match d with
      | ⟨0, _⟩ => exact Fin.ext (Nat.add_zero _)
      | ⟨1, _⟩ => exact Fin.ext (Nat.zero_add _)
      | ⟨2, _⟩ => exact Fin.ext (Nat.zero_add _)
    · show 3584 * 3 + x.val = 10752 + x.val; omega
  have ew : w3 c XW k (ix3 0 x y) = W ⟨10752 + x.val, by omega⟩ ⟨512 * k.val + y.val, by omega⟩ := by
    unfold w3
    refine (slot_apply _ _ _ _ _ _ _ _ _ _ _ _ H _ _ (off51_3 k) _ x y).trans ?_
    congr 1 <;> exact Fin.ext (by dsimp only; omega)
  rw [el, ew]

/-- A column of the chunk group, all its blocks. -/
theorem h16_sum (hk : k.val < 8) (p : Fin 4) (r : Fin 224) (l : Fin 128) :
    plane (h16 c XW xl k) p.val (by omega) r l = ∑ x, C r x * W x ⟨512 * k.val + 128 * p.val + l.val, by omega⟩ := by
  rw [h16_plane, mm0 _ _ _ _ _ _ _ k _ _ _ _ _ H hk, mm1 _ _ _ _ _ _ _ k _ _ _ _ _ H hk, mm2 _ _ _ _ _ _ _ k _ _ _ _ _ H hk,
    mm3 _ _ _ _ _ _ _ k _ _ _ _ _ H hk, sum_blocks]
  have e : (⟨512 * k.val + (128 * p.val + l.val), by omega⟩ : Fin 4096) = ⟨512 * k.val + 128 * p.val + l.val, by omega⟩ := Fin.ext (by dsimp only; omega)
  rw [← e]

theorem arep_load (r : Fin 224) (l : Fin 128) :
    arepM.view.readAt (Elt Ideal) (Rect.unit (s := S224x128) ![0, 0] S224x128.size inb_S224x128_S224x128_0_0).toLoadRect xr (ix2 r l) = A r := by
  refine (readAt2 (m0 := 224) (m1 := 128) arepM.view _ 0 0 rfl _ r l (by omega) (by omega)).trans ?_
  rw [← H.a r l]; congr 1; funext d
  match d with
  | ⟨0, _⟩ => exact Fin.ext (Nat.zero_add _)
  | ⟨1, _⟩ => exact Fin.ext (Nat.zero_add _)
theorem attn_load (q : ℕ) (hq : q + 128 ≤ 4096) {off : Fin 2 → ℕ} (ho : off = ![0, q]) (inb) (r : Fin 224) (l : Fin 128) :
    attnM.view.readAt (Elt Ideal) (Rect.unit (s := S224x4096) off S224x128.size inb).toLoadRect XA (ix2 r l) = T r ⟨q + l.val, by omega⟩ := by
  refine (readAt2 (m0 := 224) (m1 := 128) attnM.view _ 0 q ho _ r l (by omega) (by omega)).trans ?_
  rw [← H.t]; congr 1; funext d
  match d with
  | ⟨0, _⟩ => exact Fin.ext (Nat.zero_add _)
  | ⟨1, _⟩ => rfl
theorem sd_load (q : ℕ) (hq : q + 128 ≤ 4096) {off : Fin 2 → ℕ} (ho : off = ![0, q]) (inb) (l : Fin 128) :
    arg4.view.readAt (Elt Ideal) (Rect.unit (s := S1x4096) off S1x128.size inb).toLoadRect x4 (ix2 0 l) = s ⟨q + l.val, by omega⟩ := by
  refine (readAt2 (m0 := 1) (m1 := 128) arg4.view _ 0 q ho _ 0 l (by simp) (by omega)).trans ?_
  rw [← H.s]; congr 1

/-- The new contents of a lane. -/
theorem zz_apply (hk : k.val < 8) (p : Fin 4) (r : Fin 224) (l : Fin 128) :
    zz c XW arg4 XA x4 xr xl k p (ix2 r l) = down C A T W s r ⟨512 * k.val + 128 * p.val + l.val, by omega⟩ := by
  have ho : ∀ q : ℕ, q < 4 → (Ring.bk 32 (4 * k.val + q)).val = 4 * k.val + q := fun q hq => Ring.bk_val (by omega)
  have key : ∀ (q : ℕ) (t a : EReal) (v sv : EReal), t = T r ⟨512 * k.val + 128 * p.val + l.val, by omega⟩ → v = plane (h16 c XW xl k) p.val (by omega) r l → a = A r
      → sv = s ⟨512 * k.val + 128 * p.val + l.val, by omega⟩ → t + v * a * sv = down C A T W s r ⟨512 * k.val + 128 * p.val + l.val, by omega⟩ := by
    intro q t a v sv ht hv ha hs
    rw [ht, hv, ha, hs, h16_sum _ _ _ _ _ _ _ k _ _ _ _ _ H hk]; rfl
  fin_cases p
  · show z0 c XW arg4 XA x4 xr xl k (ix2 r l) = _
    unfold z0; rw [pay33_apply]
    refine key 0 _ _ _ _ ?_ (plane_load _ 0 (by omega) _ r l) (arep_load _ _ _ _ _ _ _ _ _ _ _ _ H r l) ?_
    · refine (attn_load _ _ _ _ _ _ _ _ _ _ _ _ H (128 * (4 * k.val + 0)) (by omega) ((off61_0 k).trans (by unfold laneOff; rw [ho 0 (by omega)])) _ r l).trans ?_
      congr 1; exact Fin.ext (by show 128 * (4 * k.val + 0) + l.val = 512 * k.val + 128 * 0 + l.val; omega)
    · refine (sd_load _ _ _ _ _ _ _ _ _ _ _ _ H (128 * (4 * k.val + 0)) (by omega) (off62_0 k) _ l).trans ?_
      congr 1; exact Fin.ext (by show 128 * (4 * k.val + 0) + l.val = 512 * k.val + 128 * 0 + l.val; omega)
  · show z1 c XW arg4 XA x4 xr xl k (ix2 r l) = _
    unfold z1; rw [pay34_apply]
    refine key 1 _ _ _ _ ?_ (plane_load _ 1 (by omega) _ r l) (arep_load _ _ _ _ _ _ _ _ _ _ _ _ H r l) ?_
    · refine (attn_load _ _ _ _ _ _ _ _ _ _ _ _ H (128 * (4 * k.val + 1)) (by omega) ((off61_1 k).trans (by unfold laneOff; rw [ho 1 (by omega)])) _ r l).trans ?_
      congr 1; exact Fin.ext (by show 128 * (4 * k.val + 1) + l.val = 512 * k.val + 128 * 1 + l.val; omega)
    · refine (sd_load _ _ _ _ _ _ _ _ _ _ _ _ H (128 * (4 * k.val + 1)) (by omega) (off62_1 k) _ l).trans ?_
      congr 1; exact Fin.ext (by show 128 * (4 * k.val + 1) + l.val = 512 * k.val + 128 * 1 + l.val; omega)
  · show z2 c XW arg4 XA x4 xr xl k (ix2 r l) = _
    unfold z2; rw [pay35_apply]
    refine key 2 _ _ _ _ ?_ (plane_load _ 2 (by omega) _ r l) (arep_load _ _ _ _ _ _ _ _ _ _ _ _ H r l) ?_
    · refine (attn_load _ _ _ _ _ _ _ _ _ _ _ _ H (128 * (4 * k.val + 2)) (by omega) ((off61_2 k).trans (by unfold laneOff; rw [ho 2 (by omega)])) _ r l).trans ?_
      congr 1; exact Fin.ext (by show 128 * (4 * k.val + 2) + l.val = 512 * k.val + 128 * 2 + l.val; omega)
    · refine (sd_load _ _ _ _ _ _ _ _ _ _ _ _ H (128 * (4 * k.val + 2)) (by omega) (off62_2 k) _ l).trans ?_
      congr 1; exact Fin.ext (by show 128 * (4 * k.val + 2) + l.val = 512 * k.val + 128 * 2 + l.val; omega)
  · show z3 c XW arg4 XA x4 xr xl k (ix2 r l) = _
    unfold z3; rw [pay36_apply]
    refine key 3 _ _ _ _ ?_ (plane_load _ 3 (by omega) _ r l) (arep_load _ _ _ _ _ _ _ _ _ _ _ _ H r l) ?_
    · refine (attn_load _ _ _ _ _ _ _ _ _ _ _ _ H (128 * (4 * k.val + 3)) (by omega) ((off61_3 k).trans (by unfold laneOff; rw [ho 3 (by omega)])) _ r l).trans ?_
      congr 1; exact Fin.ext (by show 128 * (4 * k.val + 3) + l.val = 512 * k.val + 128 * 3 + l.val; omega)
    · refine (sd_load _ _ _ _ _ _ _ _ _ _ _ _ H (128 * (4 * k.val + 3)) (by omega) (off62_3 k) _ l).trans ?_
      congr 1; exact Fin.ext (by show 128 * (4 * k.val + 3) + l.val = 512 * k.val + 128 * 3 + l.val; omega)

/-- The accumulator in the end. -/
theorem fin_apply (r : Fin 224) (j : Fin 4096) : fin c XW arg4 XA x4 xr xl (ix2 (n0 := 224) (n1 := 4096) r j) = down C A T W s r j := by
  unfold fin
  have e : ValueIdx.ix2 r (⟨j.val % 128, by omega⟩ : Fin 128) = ix2 r ⟨j.val % 128, by omega⟩ := by
    funext d; match d with | ⟨0, _⟩ => rfl | ⟨1, _⟩ => rfl
  refine (congrArg (zz c XW arg4 XA x4 xr xl (⟨j.val / 512, by omega⟩ : Fin 8) ⟨j.val % 512 / 128, by omega⟩) e).trans ?_
  refine (zz_apply _ _ _ _ _ _ _ (⟨j.val / 512, by omega⟩ : Fin 8) _ _ _ _ _ H (by show j.val / 512 < 8; omega) ⟨j.val % 512 / 128, by omega⟩ r ⟨j.val % 128, by omega⟩).trans ?_
  congr 1; exact Fin.ext (by show 512 * (j.val / 512) + 128 * (j.val % 512 / 128) + j.val % 128 = j.val; omega)
end Trip

/-! ### The body -/

section Body
variable (c : Dev nD) (XW : Buf (Elt Ideal) (wdM.view.loc (c : Thread nD τ)))
  (arg0 : Memref sig .tc .vmem S224x14336 .fp8e4m3) (arg1 : Memref sig .tc .vmem S224x128 .f32) (arg2 : Memref sig .tc .vmem S224x4096 .f32)
  (arg4 : Memref sig .tc .vmem S1x4096 .f32)
  (x0 : Buf (Elt Ideal) (arg0.view.loc (c : Thread nD τ))) (x1 : Buf (Elt Ideal) (arg1.view.loc (c : Thread nD τ)))
  (x2 : Buf (Elt Ideal) (arg2.view.loc (c : Thread nD τ))) (x4 : Buf (Elt Ideal) (arg4.view.loc (c : Thread nD τ)))
  (C : Mat 224 14336) (A : Fin 224 → EReal) (T : Mat 224 4096) (W : Mat 14336 4096) (s : Fin 4096 → EReal)

/-- What the body's operands hold. -/
structure Ins : Prop where
  x : ∀ r j, arg0.view.read (Elt Ideal) x0 (ix2 r j) = C r j
  a : ∀ r l, arg1.view.read (Elt Ideal) x1 (ix2 r l) = A r
  t : ∀ r j, arg2.view.read (Elt Ideal) x2 (ix2 r j) = T r j
  w : ∀ j l, XW (ix2 (n0 := 14336) (n1 := 4096) j l) = W j l
  s : ∀ l, arg4.view.read (Elt Ideal) x4 (ix2 0 l) = s l

variable (H : Ins c XW arg0 arg1 arg2 arg4 x0 x1 x2 x4 C A T W s)

/-- A column block of the activations as it is first loaded. -/
theorem block_load (q : ℕ) (hq : q + 3584 ≤ 14336) (inb) (r : Fin 224) (j : Fin 3584) :
    arg0.view.readAt (Elt Ideal) (Rect.unit (s := S224x14336) ![0, q] S224x3584.size inb).toLoadRect x0 (ix2 r j)
      = arg0.view.read (Elt Ideal) x0 (ix2 r ⟨q + j.val, by omega⟩) := by
  refine (readAt2 (m0 := 224) (m1 := 3584) arg0.view _ 0 q rfl _ r j (by omega) (by omega)).trans ?_
  congr 1; funext d
  match d with
  | ⟨0, _⟩ => exact Fin.ext (Nat.zero_add _)
  | ⟨1, _⟩ => rfl
/-- Past the store of another block, -/
theorem skip_block (f) (L) (n : ℕ) (inb) (w) (b : Fin 4) (r : Fin 224) (j : Fin 3584) (h : b.val ≠ n) :
    lhs4M.view.read (Elt Ideal) (lhs4M.view.writes (Elt Ideal) f (⟨Rect.unit (s := S4x224x3584) ![n, 0, 0] S1x224x3584.size inb, w⟩ :: L)) (ix3 b r j)
      = lhs4M.view.read (Elt Ideal) (lhs4M.view.writes (Elt Ideal) f L) (ix3 b r j) :=
  View.read_writes_cons_unit_of_not_mem (off' := ![n, 0, 0]) lhs4M.view _ inb w L (ix3 b r j) rfl 0 (by show b.val < n ∨ n + 1 ≤ b.val; omega)
/-- and at the store of the block. -/
theorem take_block (f) (L) (n : ℕ) (inb) (w) (b : Fin 4) (r : Fin 224) (j : Fin 3584) (h : b.val = n) :
    lhs4M.view.read (Elt Ideal) (lhs4M.view.writes (Elt Ideal) f (⟨Rect.unit (s := S4x224x3584) ![n, 0, 0] S1x224x3584.size inb, w⟩ :: L)) (ix3 b r j) = w (ix3 0 r j) :=
  View.read_writes_cons_unit_of_mem (off' := ![n, 0, 0]) lhs4M.view _ inb w L (ix3 b r j) (ix3 0 r j) rfl (fun a => by
    match a with
    | ⟨0, _⟩ => show b.val = n + 0; omega
    | ⟨1, _⟩ => show r.val = 0 + r.val; omega
    | ⟨2, _⟩ => show j.val = 0 + j.val; omega)

theorem lhs_apply (b : Fin 4) (r : Fin 224) (j : Fin 3584) :
    lhs4M.view.read (Elt Ideal) (lhs1 c arg0 x0) (ix3 b r j) = arg0.view.read (Elt Ideal) x0 (ix2 r ⟨3584 * b.val + j.val, by omega⟩) := by
  unfold lhs1
  fin_cases b
  · refine (skip_block _ _ 3 _ _ 0 r j (by decide)).trans ((skip_block _ _ 2 _ _ 0 r j (by decide)).trans ((skip_block _ _ 1 _ _ 0 r j (by decide)).trans ((take_block _ _ 0 _ _ 0 r j rfl).trans ((pay39_apply _ r j).trans ((block_load _ _ _ 0 (by omega) _ r j).trans ?_)))))
    congr 2
  · refine (skip_block _ _ 3 _ _ 1 r j (by decide)).trans ((skip_block _ _ 2 _ _ 1 r j (by decide)).trans ((take_block _ _ 1 _ _ 1 r j rfl).trans ((pay40_apply _ r j).trans ((block_load _ _ _ 3584 (by omega) _ r j).trans ?_))))
    congr 2
  · refine (skip_block _ _ 3 _ _ 2 r j (by decide)).trans ((take_block _ _ 2 _ _ 2 r j rfl).trans ((pay41_apply _ r j).trans ((block_load _ _ _ 7168 (by omega) _ r j).trans ?_)))
    congr 2
  · refine (take_block _ _ 3 _ _ 3 r j rfl).trans ((pay42_apply _ r j).trans ((block_load _ _ _ 10752 (by omega) _ r j).trans ?_))
    congr 2

include H
theorem reads : Reads c XW arg4 (attn1 c arg2 x2) x4 (arep1 c arg1 x1) (lhs1 c arg0 x0) C A T W s where
  x b r j := (lhs_apply c arg0 x0 b r j).trans (H.x _ _)
  a r l := by unfold arep1; rw [View.read_writes_full, pay37_apply, View.readAt_full]; exact H.a r l
  t r j := by unfold attn1; rw [View.read_writes_full, pay38_apply, View.readAt_full]; exact H.t r j
  w := H.w
  s := H.s

/-- The result. -/
theorem finB_apply (r : Fin 224) (j : Fin 4096) :
    finB c XW arg0 arg1 arg2 arg4 x0 x1 x2 x4 (ix2 (n0 := 224) (n1 := 4096) r j) = down C A T W s r j := by
  unfold finB
  exact fin_apply _ _ _ _ _ _ _ _ _ _ _ _ (reads _ _ _ _ _ _ _ _ _ _ _ _ _ _ _ H) r j
end Body

end Cert.Proof.DI

end
-- ==== Proof.DownHost.lean ====
/- What the down product's kernel is handed and what its result ends at, as functions of the arguments. -/
module

public import proofs.«01_k».proof.Proof.DownValue
public import proofs.«01_k».proof.Proof.DownLaunch
public import Idealize.ShloMosaic.Lib.Pipeline.ValueKit
public import Idealize.ShloMosaic.Lib.Claim

@[expose] public section

noncomputable section

namespace Cert.Proof.DI

open Cert.DownIdeal Cert.DownIdeal.Gen
open Idealize.ShloMosaic Idealize.ShloMosaic.TcCoe
open Cert.Proof.Spec

set_option maxRecDepth 16384

section Host
variable (m : (ℓ : Loc nD τ sig) → Buf (Elt Ideal) ℓ) (c : Dev nD)

/-- The row scales, spread over the lanes; -/
theorem V_v2_apply (r : Fin 224) (l : Fin 128) :
    V m c main_v2 (ix2 (n0 := 224) (n1 := 128) r l) = m ((c.tc : Thread nD τ).loc main_arg1) (ix2 (n0 := 2) (n1 := 112) ⟨r.val / 112, by omega⟩ ⟨r.val % 112, by omega⟩) := by
  have e : V m c main_v2 = broadcastInDim S224x128 ![0, 1] bcast_S224x1_S224x128_0_1 (broadcastInDim S224x1 ![0] bcast_S224_S224x1_0
      (shapeCast S224 (show FVec Ideal S2x112 .f32 from m ((c.tc : Thread nD τ).loc main_arg1)) shapeCasts_S2x112_S224)) := by
    unfold_abbrev_sides
    after_results
    rfl
  rw [e]
  generalize m ((c.tc : Thread nD τ).loc main_arg1) = v
  pointwise
/-- and the column scales as a row. -/
theorem V_v3_apply (j : Fin 4096) :
    V m c main_v3 (ix2 (n0 := 1) (n1 := 4096) 0 j) = m ((c.tc : Thread nD τ).loc main_arg4) (ix1 (n0 := 4096) j) := by
  have e : V m c main_v3 = broadcastInDim S1x4096 ![1] bcast_S4096_S1x4096_1 (show FVec Ideal S4096 .f32 from m ((c.tc : Thread nD τ).loc main_arg4)) := by
    unfold_abbrev_sides
    after_results
  rw [e]
  generalize m ((c.tc : Thread nD τ).loc main_arg4) = v
  pointwise

/-! ### Every window stages its whole array -/

theorem emb0 (x : S224x14336.Idx) : ((cfg0.win 0).blk t0_0).view.emb x = x := funext fun a => Fin.ext (Pipeline.Window.rect_emb_val_of_index_zero win0_0 t0_0 a (by revert a; decide +kernel) x)
theorem emb1 (x : S224x128.Idx) : ((cfg0.win 1).blk t0_0).view.emb x = x := funext fun a => Fin.ext (Pipeline.Window.rect_emb_val_of_index_zero win0_1 t0_0 a (by revert a; decide +kernel) x)
theorem emb2 (x : S224x4096.Idx) : ((cfg0.win 2).blk t0_0).view.emb x = x := funext fun a => Fin.ext (Pipeline.Window.rect_emb_val_of_index_zero win0_2 t0_0 a (by revert a; decide +kernel) x)
theorem emb3 (x : S1x4096.Idx) : ((cfg0.win 3).blk t0_0).view.emb x = x := funext fun a => Fin.ext (Pipeline.Window.rect_emb_val_of_index_zero win0_3 t0_0 a (by revert a; decide +kernel) x)

theorem iblk0_apply (x : S224x14336.Idx) : iblk m c 0 t0_0 x = V m c main_arg0 x := congrArg (V m c main_arg0) (emb0 x)
theorem iblk1_apply (x : S224x128.Idx) : iblk m c 1 t0_0 x = V m c main_v2 x := congrArg (V m c main_v2) (emb1 x)
theorem iblk2_apply (x : S224x4096.Idx) : iblk m c 2 t0_0 x = V m c main_arg2 x := congrArg (V m c main_arg2) (emb2 x)
theorem iblk3_apply (x : S1x4096.Idx) : iblk m c 3 t0_0 x = V m c main_v3 x := congrArg (V m c main_v3) (emb3 x)

/-! ### The arguments as matrices -/

def mC : Mat 224 14336 := fun r k => m ((c.tc : Thread nD τ).loc main_arg0) (ix2 (n0 := 224) (n1 := 14336) r k)
def mA : Fin 224 → EReal := fun r => m ((c.tc : Thread nD τ).loc main_arg1) (ix2 (n0 := 2) (n1 := 112) ⟨r.val / 112, by omega⟩ ⟨r.val % 112, by omega⟩)
def mT : Mat 224 4096 := fun r j => m ((c.tc : Thread nD τ).loc main_arg2) (ix2 (n0 := 224) (n1 := 4096) r j)
def mW : Mat 14336 4096 := fun k j => m ((c.tc : Thread nD τ).loc main_arg3) (ix2 (n0 := 14336) (n1 := 4096) k j)
def mS : Fin 4096 → EReal := fun j => m ((c.tc : Thread nD τ).loc main_arg4) (ix1 (n0 := 4096) j)

/-- The result. -/
def sums : Buf (Elt Ideal) ((c.tc : Thread nD τ).loc main_v4) := fun i : S224x4096.Idx => down (mC m c) (mA m c) (mT m c) (mW m c) (mS m c) (i 0) (i 1)

/-- What the body is handed. -/
theorem ins : Ins c (V m c main_arg3) (st0_0 t0_0) (st0_1 t0_0) (st0_2 t0_0) (st0_3 t0_0) (in0 m c t0_0) (in1 m c t0_0) (in2 m c t0_0) (in3 m c t0_0)
    (mC m c) (mA m c) (mT m c) (mW m c) (mS m c) where
  x r j := (congrFun (View.read_rep _ _) _).trans ((iblk0_apply m c _).trans (congrFun (V_main_arg0 m c) _))
  a r l := (congrFun (View.read_rep _ _) _).trans ((iblk1_apply m c _).trans (V_v2_apply m c r l))
  t r j := (congrFun (View.read_rep _ _) _).trans ((iblk2_apply m c _).trans (congrFun (V_main_arg2 m c) _))
  w j l := congrFun (V_main_arg3 m c) _
  s l := (congrFun (View.read_rep _ _) _).trans ((iblk3_apply m c _).trans (V_v3_apply m c l))

theorem sums_final : finAt m c t0_0 = sums m c := by
  funext i
  obtain ⟨r, j, rfl⟩ : ∃ (r : Fin 224) (j : Fin 4096), i = ix2 r j := ⟨i 0, i 1, by funext a; match a with | ⟨0, _⟩ => rfl | ⟨1, _⟩ => rfl⟩
  exact finB_apply _ _ _ _ _ _ _ _ _ _ _ _ _ _ _ (ins m c) r j
end Host

/-- The kernel's run: the result, and the arguments unchanged. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = sums m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).2.2.2.2).trans (sums_final m c), args_of m r h.1 c⟩) (run_main m ρ)

end Cert.Proof.DI

end
-- ==== Proof.DownRef.lean ====
/- The down product's reference: its result, entry by entry, as a function of the arguments. -/
module

public import proofs.«01_k».proof.Proof.DownPay
public import proofs.«01_k».proof.Proof.Gen.DownReferenceIdeal.Frame
public import Idealize.ShloMosaic.Lib.Pipeline.ValueKit
public import Idealize.ShloMosaic.Lib.Claim

@[expose] public section

noncomputable section

namespace Cert.Proof.DRI

open Cert.DownReferenceIdeal Cert.DownReferenceIdeal.Gen
open Idealize.ShloMosaic Idealize.ShloMosaic.TcCoe
open Cert.Proof.Spec
open Idealize.ShloMosaic.View

set_option maxRecDepth 16384

section Block
variable (x0 : Vec Ideal S224x14336 .fp8e4m3) (x1 : Vec Ideal S2x112 .f32) (x2 : Vec Ideal S224x4096 .f32) (x3 : Vec Ideal S14336x4096 .fp8e4m3) (x4 : Vec Ideal S1x4096 .f32)

theorem pay1_apply (r : Fin 224) (j : Fin 4096) : k0_pay1 x1 x0 x3 x4 x2 (ix2 r j)
    = down (fun r k => x0 (ix2 r k)) (fun r => x1 (ix2 ⟨r.val / 112, by omega⟩ ⟨r.val % 112, by omega⟩)) (fun r j => x2 (ix2 r j)) (fun k j => x3 (ix2 k j))
      (fun j => x4 (ix2 0 j)) r j := by
  pointwise [k0_pay1]
  rfl

theorem zero2 : ∀ a, (![0, 0] : Fin 2 → ℕ) a = 0 := by decide
theorem ld0 : View.ld x0 r0_1 = x0 := ld_unit_lit _ _ zero2
theorem ld1 : View.ld x1 r0_0 = x1 := ld_unit_lit _ _ zero2
theorem ld2 : View.ld x2 r0_4 = x2 := ld_unit_lit _ _ zero2
theorem ld3 : View.ld x3 r0_2 = x3 := ld_unit_lit _ _ zero2
theorem ld4 : View.ld x4 r0_3 = x4 := ld_unit_lit _ _ zero2
theorem canon5 (w : Vec Ideal S224x4096 .f32) : View.canon (Val := Elt Ideal) [⟨r0_4, w⟩] = w := canon_cons_unit_lit _ _ _ zero2

/-- What the reference's body leaves. -/
theorem out5_apply (r : Fin 224) (j : Fin 4096) : out0_5 x0 x1 x2 x3 x4 (ix2 r j)
    = down (fun r k => x0 (ix2 r k)) (fun r => x1 (ix2 ⟨r.val / 112, by omega⟩ ⟨r.val % 112, by omega⟩)) (fun r j => x2 (ix2 r j)) (fun k j => x3 (ix2 k j))
      (fun j => x4 (ix2 0 j)) r j := by
  have h : out0_5 x0 x1 x2 x3 x4 = k0_pay1 x1 x0 x3 x4 x2 := by
    unfold out0_5
    rw [ld0, ld1, ld2, ld3, ld4]
    exact canon5 _
  rw [h, pay1_apply]
end Block

section Host
variable (m : (ℓ : Loc nD τ sig) → Buf (Elt Ideal) ℓ) (c : Dev nD)

/-- The column scales as a row. -/
theorem V_v0_apply (j : Fin 4096) :
    V m c main_v0 (ix2 (n0 := 1) (n1 := 4096) 0 j) = m ((c.tc : Thread nD τ).loc main_arg4) (ix1 (n0 := 4096) j) := by
  have e : V m c main_v0 = broadcastInDim S1x4096 ![1] bcast_S4096_S1x4096_1 (show FVec Ideal S4096 .f32 from m ((c.tc : Thread nD τ).loc main_arg4)) := by
    unfold_abbrev_sides
    after_results
  rw [e]
  generalize m ((c.tc : Thread nD τ).loc main_arg4) = v
  pointwise

/-! ### Every window stages its whole array -/

theorem emb0 (x : S224x14336.Idx) : ((cfg0.win 0).blk t0_0).view.emb x = x := funext fun a => Fin.ext (Pipeline.Window.rect_emb_val_of_index_zero win0_0 t0_0 a (by revert a; decide +kernel) x)
theorem emb1 (x : S2x112.Idx) : ((cfg0.win 1).blk t0_0).view.emb x = x := funext fun a => Fin.ext (Pipeline.Window.rect_emb_val_of_index_zero win0_1 t0_0 a (by revert a; decide +kernel) x)
theorem emb2 (x : S224x4096.Idx) : ((cfg0.win 2).blk t0_0).view.emb x = x := funext fun a => Fin.ext (Pipeline.Window.rect_emb_val_of_index_zero win0_2 t0_0 a (by revert a; decide +kernel) x)
theorem emb3 (x : S14336x4096.Idx) : ((cfg0.win 3).blk t0_0).view.emb x = x := funext fun a => Fin.ext (Pipeline.Window.rect_emb_val_of_index_zero win0_3 t0_0 a (by revert a; decide +kernel) x)
theorem emb4 (x : S1x4096.Idx) : ((cfg0.win 4).blk t0_0).view.emb x = x := funext fun a => Fin.ext (Pipeline.Window.rect_emb_val_of_index_zero win0_4 t0_0 a (by revert a; decide +kernel) x)
theorem emb5 (x : S224x4096.Idx) : ((cfg0.win 5).blk t0_0).view.emb x = x := funext fun a => Fin.ext (Pipeline.Window.rect_emb_val_of_index_zero win0_5 t0_0 a (by revert a; decide +kernel) x)

theorem iblk0_apply (x : S224x14336.Idx) : iblk m c 0 t0_0 x = V m c main_arg0 x := congrArg (V m c main_arg0) (emb0 x)
theorem iblk1_apply (x : S2x112.Idx) : iblk m c 1 t0_0 x = V m c main_arg1 x := congrArg (V m c main_arg1) (emb1 x)
theorem iblk2_apply (x : S224x4096.Idx) : iblk m c 2 t0_0 x = V m c main_arg2 x := congrArg (V m c main_arg2) (emb2 x)
theorem iblk3_apply (x : S14336x4096.Idx) : iblk m c 3 t0_0 x = V m c main_arg3 x := congrArg (V m c main_arg3) (emb3 x)
theorem iblk4_apply (x : S1x4096.Idx) : iblk m c 4 t0_0 x = V m c main_v0 x := congrArg (V m c main_v0) (emb4 x)

/-! ### The arguments as matrices -/

def mC : Mat 224 14336 := fun r k => m ((c.tc : Thread nD τ).loc main_arg0) (ix2 (n0 := 224) (n1 := 14336) r k)
def mA : Fin 224 → EReal := fun r => m ((c.tc : Thread nD τ).loc main_arg1) (ix2 (n0 := 2) (n1 := 112) ⟨r.val / 112, by omega⟩ ⟨r.val % 112, by omega⟩)
def mT : Mat 224 4096 := fun r j => m ((c.tc : Thread nD τ).loc main_arg2) (ix2 (n0 := 224) (n1 := 4096) r j)
def mW : Mat 14336 4096 := fun k j => m ((c.tc : Thread nD τ).loc main_arg3) (ix2 (n0 := 14336) (n1 := 4096) k j)
def mS : Fin 4096 → EReal := fun j => m ((c.tc : Thread nD τ).loc main_arg4) (ix1 (n0 := 4096) j)

/-- The result. -/
def sums : Buf (Elt Ideal) ((c.tc : Thread nD τ).loc main_v1) := fun i : S224x4096.Idx => down (mC m c) (mA m c) (mT m c) (mW m c) (mS m c) (i 0) (i 1)

/-- The staged blocks' result is the arguments'. -/
theorem blocks_eq : down (fun r k => iblk m c 0 t0_0 (ix2 (n0 := 224) (n1 := 14336) r k))
      (fun r => iblk m c 1 t0_0 (ix2 (n0 := 2) (n1 := 112) ⟨r.val / 112, by omega⟩ ⟨r.val % 112, by omega⟩)) (fun r j => iblk m c 2 t0_0 (ix2 (n0 := 224) (n1 := 4096) r j))
      (fun k j => iblk m c 3 t0_0 (ix2 (n0 := 14336) (n1 := 4096) k j)) (fun j => iblk m c 4 t0_0 (ix2 (n0 := 1) (n1 := 4096) 0 j))
    = down (mC m c) (mA m c) (mT m c) (mW m c) (mS m c) := by
  have e0 : iblk m c 0 t0_0 = m ((c.tc : Thread nD τ).loc main_arg0) := (funext (iblk0_apply m c)).trans (V_main_arg0 m c)
  have e1 : iblk m c 1 t0_0 = m ((c.tc : Thread nD τ).loc main_arg1) := (funext (iblk1_apply m c)).trans (V_main_arg1 m c)
  have e2 : iblk m c 2 t0_0 = m ((c.tc : Thread nD τ).loc main_arg2) := (funext (iblk2_apply m c)).trans (V_main_arg2 m c)
  have e3 : iblk m c 3 t0_0 = m ((c.tc : Thread nD τ).loc main_arg3) := (funext (iblk3_apply m c)).trans (V_main_arg3 m c)
  have e4 : (fun j => iblk m c 4 t0_0 (ix2 (n0 := 1) (n1 := 4096) 0 j)) = mS m c := funext fun j => (iblk4_apply m c _).trans (V_v0_apply m c j)
  rw [e0, e1, e2, e3]
  exact congrArg (down (mC m c) (mA m c) (mT m c) (mW m c)) e4

theorem sums_final : (dats m 0 c).arrAt 5 cfg0.N = sums m c := by
  refine (dats m 0 c).arrAt_eq_of_cover 5 (sums m c) (fun t _ => ?_) fun i => ⟨t0_0, flush0_5 _, ?_⟩
  · obtain rfl : t = t0_0 := fin_N0 t
    funext x
    obtain ⟨r, j, rfl⟩ : ∃ (r : Fin 224) (j : Fin 4096), x = ix2 r j := ⟨x 0, x 1, by funext a; match a with | ⟨0, _⟩ => rfl | ⟨1, _⟩ => rfl⟩
    refine Eq.trans ?_ (congrArg (sums m c) (emb5 (ix2 r j))).symm
    show (dats m 0 c).after 5 t0_0 (ix2 r j) = _
    rw [after0_5]
    refine (out5_apply _ _ _ _ _ r j).trans ?_
    exact congrFun (congrFun (blocks_eq m c) r) j
  · have := View.emb_mem_set ((cfg0.win 5).blk t0_0).view i
    rwa [emb5] at this
end Host

/-- The reference's run: the result, and the arguments unchanged. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = sums m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 5).trans (sums_final m c), h.2 c⟩) (θ_run_and (run_main m ρ) (unchanged m ρ))

end Cert.Proof.DRI

end
-- ==== Proof.DownAlg.lean ====
/- The down product: the kernel's result and the reference's are equal. -/
module

public import proofs.«01_k».proof.Proof.DownHost
public import proofs.«01_k».proof.Proof.DownRef
public import proofs.«01_k».proof.Defs

@[expose] public section

noncomputable section

namespace Cert.Proof

open Idealize.ShloMosaic Idealize.ShloMosaic.TcCoe
open Cert.Proof.Spec

set_option maxRecDepth 16384

instance downFacts : Cert.DownIdeal.Facts := Cert.DownIdeal.Gen.facts
instance downReferenceFacts : Cert.DownReferenceIdeal.Facts := Cert.DownReferenceIdeal.Gen.facts

theorem algebraic_down : Cert.algebraic_DownIdeal_DownReferenceIdeal := by
  intro m g m' g' _ hargs
  refine ⟨DI.sums m, DI.run_values m g, ?_⟩
  refine (θ_run Cert.DownReferenceIdeal.defs _ _).mono (fun r h c => ?_) (DRI.run_values m' g')
  obtain ⟨h0, h1, h2, h3, h4⟩ := hargs c
  have hC : DRI.mC m' c = DI.mC m c := funext fun r => funext fun j => congrFun h0 _
  have hA : DRI.mA m' c = DI.mA m c := funext fun r => congrFun h1 _
  have hT : DRI.mT m' c = DI.mT m c := funext fun j => funext fun k => congrFun h2 _
  have hW : DRI.mW m' c = DI.mW m c := funext fun j => funext fun k => congrFun h3 _
  have hS : DRI.mS m' c = DI.mS m c := funext fun k => congrFun h4 _
  obtain ⟨p, rest⟩ := h c
  refine ⟨p.trans ?_, rest⟩
  unfold DRI.sums DI.sums
  rw [hC, hA, hT, hW, hS]

end Cert.Proof

end
-- ==== Proof.lean ====
module

public import proofs.«01_k».proof.Defs
public import proofs.«01_k».proof.Proof.FrameKernel
public import proofs.«01_k».proof.Proof.AlgValue
public import proofs.«01_k».proof.Proof.DownFrame
public import proofs.«01_k».proof.Proof.DownAlg
public import proofs.«01_k».proof.Proof.Gen.ReferenceIdeal.Frame
public import proofs.«01_k».proof.Proof.Gen.DownReferenceIdeal.Frame

@[expose] public section

noncomputable section

namespace Cert.Proof

open Idealize.ShloMosaic

theorem claim : Cert.Claim :=
  ⟨Cert.Kernel.Gen.facts, Cert.KernelIdeal.Gen.facts, Cert.ReferenceIdeal.Gen.facts,
    Cert.Down.Gen.facts, Cert.DownIdeal.Gen.facts, Cert.DownReferenceIdeal.Gen.facts,
    KI.frame_kernel, KI.frame_ideal, fun m ρ _ => Cert.ReferenceIdeal.Gen.frame m ρ,
    DI.frame_kernel, DI.frame_ideal, fun m ρ _ => Cert.DownReferenceIdeal.Gen.frame m ρ,
    trivial, algebraic_ideal, trivial, algebraic_down⟩

end Cert.Proof

end
